-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gate [hPre_finite_gate : Cert.Pre_finite_gate.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gate [hPre_finite_gate : Cert.Pre_finite_gate.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_queries [hPre_finite_queries : Cert.Pre_finite_queries.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_queries.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).1 = (fun _ => 1#1)
    ∧ (Cert.Pre_finite_queries.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_queries [hPre_finite_queries : Cert.Pre_finite_queries.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_queries.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))).1 = (fun _ => 1#1)
    ∧ (Cert.Pre_finite_queries.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_gate [hKernel4Ideal : Cert.Kernel4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gate m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_gate [hReference4Ideal : Cert.Reference4Ideal.Facts] [hPre_finite_gate : Cert.Pre_finite_gate.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gate m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite_queries [hKernel12Ideal : Cert.Kernel12Ideal.Facts] [hPre_finite_queries : Cert.Pre_finite_queries.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_queries m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite_queries [hReference12Ideal : Cert.Reference12Ideal.Facts] [hPre_finite_queries : Cert.Pre_finite_queries.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_queries m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_gate [hKernel4Ideal : Cert.Kernel4Ideal.Facts] [hReference4Ideal : Cert.Reference4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gate m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v75) = v1 c
          ∧ r.2.mem ((c.tc : Thread Cert.Reference8Ideal.nD Cert.Reference8Ideal.τ).loc Cert.Reference8Ideal.main_v76) = v2 c
          ∧ r.2.mem ((c.tc : Thread Cert.Reference8Ideal.nD Cert.Reference8Ideal.τ).loc Cert.Reference8Ideal.main_v77) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_queries [hKernel12Ideal : Cert.Kernel12Ideal.Facts] [hReference12Ideal : Cert.Reference12Ideal.Facts] [hPre_finite_queries : Cert.Pre_finite_queries.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_queries m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v11) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)) (v3 : (c : Dev Cert.Kernel24Ideal.nD) → Buf (Elt Ideal) ((c.tc : Thread Cert.Kernel24Ideal.nD Cert.Kernel24Ideal.τ).loc Cert.Kernel24Ideal.main_v1_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_v1_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v26) = v0 c
          ∧ r.2.mem ((c.tc : Thread Cert.Reference24Ideal.nD Cert.Reference24Ideal.τ).loc Cert.Reference24Ideal.main_v32) = v1 c
          ∧ r.2.mem ((c.tc : Thread Cert.Reference24Ideal.nD Cert.Reference24Ideal.τ).loc Cert.Reference24Ideal.main_v53) = v2 c
          ∧ r.2.mem ((c.tc : Thread Cert.Reference24Ideal.nD Cert.Reference24Ideal.τ).loc Cert.Reference24Ideal.main_v54) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v37) = v0 c
          ∧ r.2.mem ((c.tc : Thread Cert.Reference25Ideal.nD Cert.Reference25Ideal.τ).loc Cert.Reference25Ideal.main_v38) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v37) = v0 c
          ∧ r.2.mem ((c.tc : Thread Cert.Reference26Ideal.nD Cert.Reference26Ideal.τ).loc Cert.Reference26Ideal.main_v38) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v2_0)) (v1 : (c : Dev Cert.Kernel30Ideal.nD) → Buf (Elt Ideal) ((c.tc : Thread Cert.Kernel30Ideal.nD Cert.Kernel30Ideal.τ).loc Cert.Kernel30Ideal.main_v2_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2_0) = v0 c
          ∧ r.2.mem ((c.tc : Thread Cert.Kernel30Ideal.nD Cert.Kernel30Ideal.τ).loc Cert.Kernel30Ideal.main_v2_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v27) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v2_0)) (v1 : (c : Dev Cert.Kernel31Ideal.nD) → Buf (Elt Ideal) ((c.tc : Thread Cert.Kernel31Ideal.nD Cert.Kernel31Ideal.τ).loc Cert.Kernel31Ideal.main_v2_1)) (v2 : (c : Dev Cert.Kernel31Ideal.nD) → Buf (Elt Ideal) ((c.tc : Thread Cert.Kernel31Ideal.nD Cert.Kernel31Ideal.τ).loc Cert.Kernel31Ideal.main_v2_2)) (v3 : (c : Dev Cert.Kernel31Ideal.nD) → Buf (Elt Ideal) ((c.tc : Thread Cert.Kernel31Ideal.nD Cert.Kernel31Ideal.τ).loc Cert.Kernel31Ideal.main_v2_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2_0) = v0 c
          ∧ r.2.mem ((c.tc : Thread Cert.Kernel31Ideal.nD Cert.Kernel31Ideal.τ).loc Cert.Kernel31Ideal.main_v2_1) = v1 c
          ∧ r.2.mem ((c.tc : Thread Cert.Kernel31Ideal.nD Cert.Kernel31Ideal.τ).loc Cert.Kernel31Ideal.main_v2_2) = v2 c
          ∧ r.2.mem ((c.tc : Thread Cert.Kernel31Ideal.nD Cert.Kernel31Ideal.τ).loc Cert.Kernel31Ideal.main_v2_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v36) = v0 c
          ∧ r.2.mem ((c.tc : Thread Cert.Reference31Ideal.nD Cert.Reference31Ideal.τ).loc Cert.Reference31Ideal.main_v74) = v1 c
          ∧ r.2.mem ((c.tc : Thread Cert.Reference31Ideal.nD Cert.Reference31Ideal.τ).loc Cert.Reference31Ideal.main_v75) = v2 c
          ∧ r.2.mem ((c.tc : Thread Cert.Reference31Ideal.nD Cert.Reference31Ideal.τ).loc Cert.Reference31Ideal.main_v76) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v5)) (v1 : (c : Dev Cert.Kernel32Ideal.nD) → Buf (Elt Ideal) ((c.tc : Thread Cert.Kernel32Ideal.nD Cert.Kernel32Ideal.τ).loc Cert.Kernel32Ideal.main_v6)) (v2 : (c : Dev Cert.Kernel32Ideal.nD) → Buf (Elt Ideal) ((c.tc : Thread Cert.Kernel32Ideal.nD Cert.Kernel32Ideal.τ).loc Cert.Kernel32Ideal.main_v7)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5) = v0 c
          ∧ r.2.mem ((c.tc : Thread Cert.Kernel32Ideal.nD Cert.Kernel32Ideal.τ).loc Cert.Kernel32Ideal.main_v6) = v1 c
          ∧ r.2.mem ((c.tc : Thread Cert.Kernel32Ideal.nD Cert.Kernel32Ideal.τ).loc Cert.Kernel32Ideal.main_v7) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_scores : Cert.Pre_finite_scores.Facts) (hPre_finite_gate : Cert.Pre_finite_gate.Facts) (hPre_finite_queries : Cert.Pre_finite_queries.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gate (hKernel4Ideal := hKernel4Ideal) (hPre_finite_gate := hPre_finite_gate)
    ∧ quiescent_Reference4Ideal (hReference4Ideal := hReference4Ideal)
    ∧ quiescent_Reference4Ideal_pre_finite_gate (hReference4Ideal := hReference4Ideal) (hPre_finite_gate := hPre_finite_gate)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_queries (hKernel12Ideal := hKernel12Ideal) (hPre_finite_queries := hPre_finite_queries)
    ∧ quiescent_Reference12Ideal (hReference12Ideal := hReference12Ideal)
    ∧ quiescent_Reference12Ideal_pre_finite_queries (hReference12Ideal := hReference12Ideal) (hPre_finite_queries := hPre_finite_queries)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gate (hKernel4Ideal := hKernel4Ideal) (hReference4Ideal := hReference4Ideal) (hPre_finite_gate := hPre_finite_gate)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_queries (hKernel12Ideal := hKernel12Ideal) (hReference12Ideal := hReference12Ideal) (hPre_finite_queries := hPre_finite_queries)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite_gate.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩
abbrev S8192x2816 : Shape := ⟨2, ![8192, 2816]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  slices_S8192x5632_S8192x2816_0_2816 : S8192x5632.Slices ![0, 2816] S8192x2816
  bcast_S_S8192x2816 : S_.BroadcastsInDim S8192x2816 (![] : Fin 0 → Fin S8192x2816.rank)

variable [Facts]

def fn_part1 {F : FTy → Type} [FloatOps F] (main_v6 : IVec S8192x1024 1) (main_v11 : IVec S2816x1024 1) (main_v15 : IVec S8192x2816 1) (main_v16 : FVec F S8192x2816 .f32) (main_v17 : FVec F S8192x2816 .f32) : IVec S8192x1024 1 × IVec S2816x1024 1 × IVec S8192x2816 1 :=
  let main_v18 : IVec S8192x2816 1 := cmpf .olt main_v16 main_v17
  let main_v19 : IVec S8192x2816 1 := andi main_v15 main_v18
  (main_v6, main_v11, main_v19)

def fn {F : FTy → Type} [FloatOps F] (main_arg0 : FVec F S8192x1024 .bf16) (main_arg1 : FVec F S2816x1024 .f32) (main_arg2 : FVec F S8192x5632 .bf16) : IVec S8192x1024 1 × IVec S2816x1024 1 × IVec S8192x2816 1 :=
  let main_v0 : FVec F S8192x1024 .f32 := (extf .f32 · bitsLt_bf16_f32) main_arg0
  let main_cst : FVec F S_ .f32 := constant S_ .f32 0xFF800000#32
  let main_v1 : FVec F S8192x1024 .f32 := broadcastInDim S8192x1024 ![] bcast_S_S8192x1024 main_cst
  let main_v2 : IVec S8192x1024 1 := cmpf .ogt main_v0 main_v1
  let main_v3 : FVec F S8192x1024 .f32 := (extf .f32 · bitsLt_bf16_f32) main_arg0
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_cst_1 : FVec F S_ .f32 := constant S_ .f32 0xFF800000#32
  let main_v7 : FVec F S2816x1024 .f32 := broadcastInDim S2816x1024 ![] bcast_S_S2816x1024 main_cst_1
  let main_v8 : IVec S2816x1024 1 := cmpf .ogt main_arg1 main_v7
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_arg1 main_v9
  let main_v11 : IVec S2816x1024 1 := andi main_v8 main_v10
  let main_v12 : FVec F S8192x2816 .bf16 := (extractStridedSlice S8192x2816 ![0, 2816] · slices_S8192x5632_S8192x2816_0_2816) main_arg2
  let main_v13 : FVec F S8192x2816 .f32 := (extf .f32 · bitsLt_bf16_f32) main_v12
  let main_cst_3 : FVec F S_ .f32 := constant S_ .f32 0xFF800000#32
  let main_v14 : FVec F S8192x2816 .f32 := broadcastInDim S8192x2816 ![] bcast_S_S8192x2816 main_cst_3
  let main_v15 : IVec S8192x2816 1 := cmpf .ogt main_v13 main_v14
  let main_v16 : FVec F S8192x2816 .f32 := (extf .f32 · bitsLt_bf16_f32) main_v12
  let main_cst_4 : FVec F S_ .f32 := constant S_ .f32 0x7F800000#32
  let main_v17 : FVec F S8192x2816 .f32 := broadcastInDim S8192x2816 ![] bcast_S_S8192x2816 main_cst_4
  fn_part1 (F := F) main_v6 main_v11 main_v15 main_v16 main_v17
-- ==== Pre_finite_queries.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bitsLt_bf16_f32 : FTy.bits .bf16 < FTy.bits .f32
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) : IVec S8192x1024 1 × IVec S1024x1024 1 :=
  let main_v0 : FVec F S8192x1024 .f32 := (extf .f32 · bitsLt_bf16_f32) main_arg0
  let main_cst : FVec F S_ .f32 := constant S_ .f32 0xFF800000#32
  let main_v1 : FVec F S8192x1024 .f32 := broadcastInDim S8192x1024 ![] bcast_S_S8192x1024 main_cst
  let main_v2 : IVec S8192x1024 1 := cmpf .ogt main_v0 main_v1
  let main_v3 : FVec F S8192x1024 .f32 := (extf .f32 · bitsLt_bf16_f32) main_arg0
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S1024x1024 .bf16 := (extractStridedSlice S1024x1024 ![0, 0] · slices_S1024x2048_S1024x1024_0_0) main_arg1
  let main_v8 : FVec F S1024x1024 .f32 := (extf .f32 · bitsLt_bf16_f32) main_v7
  let main_cst_1 : FVec F S_ .f32 := constant S_ .f32 0xFF800000#32
  let main_v9 : FVec F S1024x1024 .f32 := broadcastInDim S1024x1024 ![] bcast_S_S1024x1024 main_cst_1
  let main_v10 : IVec S1024x1024 1 := cmpf .ogt main_v8 main_v9
  let main_v11 : FVec F S1024x1024 .f32 := (extf .f32 · bitsLt_bf16_f32) main_v7
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : IVec S1024x1024 1 := andi main_v10 main_v13
  (main_v6, main_v14)
-- ==== Pre_finite_scores.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bitsLt_bf16_f32 : FTy.bits .bf16 < FTy.bits .f32
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x1024 1 :=
  let main_v0 : FVec F S8192x1024 .f32 := (extf .f32 · bitsLt_bf16_f32) main_arg0
  let main_cst : FVec F S_ .f32 := constant S_ .f32 0xFF800000#32
  let main_v1 : FVec F S8192x1024 .f32 := broadcastInDim S8192x1024 ![] bcast_S_S8192x1024 main_cst
  let main_v2 : IVec S8192x1024 1 := cmpf .ogt main_v0 main_v1
  let main_v3 : FVec F S8192x1024 .f32 := (extf .f32 · bitsLt_bf16_f32) main_arg0
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S1024x1024 .bf16 := (extractStridedSlice S1024x1024 ![0, 0] · slices_S1024x2048_S1024x1024_0_0) main_arg1
  let main_v8 : FVec F S1024x1024 .f32 := (extf .f32 · bitsLt_bf16_f32) main_v7
  let main_cst_1 : FVec F S_ .f32 := constant S_ .f32 0xFF800000#32
  let main_v9 : FVec F S1024x1024 .f32 := broadcastInDim S1024x1024 ![] bcast_S_S1024x1024 main_cst_1
  let main_v10 : IVec S1024x1024 1 := cmpf .ogt main_v8 main_v9
  let main_v11 : FVec F S1024x1024 .f32 := (extf .f32 · bitsLt_bf16_f32) main_v7
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : IVec S1024x1024 1 := andi main_v10 main_v13
  (main_v6, main_v14)
-- ==== Kernel.lean ====
abbrev S8192x1024 : Shape := ⟨2, ![8192, 1024]⟩
abbrev S1024x2048 : Shape := ⟨2, ![1024, 2048]⟩
abbrev S512x1024 : Shape := ⟨2, ![512, 1024]⟩
abbrev S256x1024 : Shape := ⟨2, ![256, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S256x2048, .f32⟩
  | .local _ .vmem, ⟨11, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x1024 : Shape := ⟨2, ![8192, 1024]⟩
abbrev S1024x2048 : Shape := ⟨2, ![1024, 2048]⟩
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S4x4x2048x256 : Shape := ⟨4, ![4, 4, 2048, 256]⟩
abbrev S4x256x1024 : Shape := ⟨3, ![4, 256, 1024]⟩
abbrev S4x256x4x256 : Shape := ⟨4, ![4, 256, 4, 256]⟩
abbrev S4x4x256x256 : Shape := ⟨4, ![4, 4, 256, 256]⟩
abbrev S_ : Shape := ⟨0, ![]⟩
abbrev S4x4x2048 : Shape := ⟨3, ![4, 4, 2048]⟩
abbrev S4x4x2048x1 : Shape := ⟨4, ![4, 4, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S1024x2048, .f32⟩
  | .hbm, ⟨6, _⟩ => ⟨S4x256x2048, .f32⟩
  | .hbm, ⟨7, _⟩ => ⟨S4x2048x4x256, .f32⟩
  | .hbm, ⟨8, _⟩ => ⟨S4x4x2048x256, .f32⟩
  | .hbm, ⟨9, _⟩ => ⟨S4x256x1024, .f32⟩
  | .hbm, ⟨10, _⟩ => ⟨S4x256x4x256, .f32⟩
  | .hbm, ⟨11, _⟩ => ⟨S4x4x256x256, .f32⟩
  | .hbm, ⟨12, _⟩ => ⟨S4x256x1024, .f32⟩
  | .hbm, ⟨13, _⟩ => ⟨S4x256x4x256, .f32⟩
  | .hbm, ⟨14, _⟩ => ⟨S4x4x256x256, .f32⟩
  | .hbm, ⟨15, _⟩ => ⟨S4x4x2048x256, .f32⟩
  | .hbm, ⟨16, _⟩ => ⟨S_, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .i1⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S4x4x2048, .f32⟩
  | .hbm, ⟨30, _⟩ => ⟨S_, .f32⟩
  | .hbm, ⟨31, _⟩ => ⟨S4x4x2048, .f32⟩
  | .hbm, ⟨32, _⟩ => ⟨S4x4x2048, .i1⟩
  | .hbm, ⟨33, _⟩ => ⟨S_, .f32⟩
  | .hbm, ⟨34, _⟩ => ⟨S4x4x2048, .f32⟩
  | .hbm, ⟨35, _⟩ => ⟨S4x4x2048, .i1⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S_, .f32⟩
  | .hbm, ⟨41, _⟩ => ⟨S4x4x2048, .f32⟩
  | .hbm, ⟨42, _⟩ => ⟨S4x4x2048, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x256, .f32⟩
  | .hbm, ⟨48, _⟩ => ⟨S_, .f32⟩
  | .hbm, ⟨49, _⟩ => ⟨S4x4x2048, .f32⟩
  | .hbm, ⟨50, _⟩ => ⟨S4x4x2048x1, .f32⟩
  | .hbm, ⟨51, _⟩ => ⟨S4x4x2048x256, .f32⟩
  | .hbm, ⟨52, _⟩ => ⟨S4x4x2048x256, .f32⟩
  | .hbm, ⟨53, _⟩ => ⟨S4x4x2048x1, .f32⟩
  | .hbm, ⟨54, _⟩ => ⟨S_, .f32⟩
  | .hbm, ⟨55, _⟩ => ⟨S4x4x2048x1, .f32⟩
  | .hbm, ⟨56, _⟩ => ⟨S4x4x2048x1, .f32⟩
  | .hbm, ⟨57, _⟩ => ⟨S4x4x2048x256, .f32⟩
  | .hbm, ⟨58, _⟩ => ⟨S4x2048x4x256, .f32⟩
  | .hbm, ⟨59, _⟩ => ⟨S4x2048x1024, .f32⟩
  | .hbm, ⟨60, _⟩ => ⟨S8192x1024, .f32⟩
  | .hbm, ⟨61, _⟩ => ⟨S4x2048x1024, .f32⟩
  | .hbm, ⟨62, _⟩ => ⟨S4x2048x4x256, .f32⟩
  | .hbm, ⟨63, _⟩ => ⟨S4x4x2048x256, .f32⟩
  | .hbm, ⟨64, _⟩ => ⟨S4x4x256x256, .f32⟩
  | .hbm, ⟨65, _⟩ => ⟨S4x4x256x256, .f32⟩
  | .hbm, ⟨66, _⟩ => ⟨S4x4x2048x256, .f32⟩
  | .hbm, ⟨67, _⟩ => ⟨S4x4x2048x256, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x1, .f32⟩
  | .hbm, ⟨73, _⟩ => ⟨S4x4x2048x1, .f32⟩
  | .hbm, ⟨74, _⟩ => ⟨S4x4x2048x256, .f32⟩
  | .hbm, ⟨75, _⟩ => ⟨S4x4x2048x256, .f32⟩
  | .hbm, ⟨76, _⟩ => ⟨S_, .f32⟩
  | .hbm, ⟨77, _⟩ => ⟨S4x4x2048, .f32⟩
  | .hbm, ⟨78, _⟩ => ⟨S4x4x2048x256, .f32⟩
  | .hbm, ⟨79, _⟩ => ⟨S4x4x2048x256, .f32⟩
  | .hbm, ⟨80, _⟩ => ⟨S4x4x2048x256, .f32⟩
  | .hbm, ⟨81, _⟩ => ⟨S_, .f32⟩
  | .hbm, ⟨82, _⟩ => ⟨S4x4x2048x256, .f32⟩
  | .hbm, ⟨83, _⟩ => ⟨S4x4x2048x256, .f32⟩
  | .hbm, ⟨84, _⟩ => ⟨S4x4x256x256, .f32⟩
  | .hbm, ⟨85, _⟩ => ⟨S4x4x2048x256, .f32⟩
  | .hbm, ⟨86, _⟩ => ⟨S4x256x4x256, .f32⟩
  | .hbm, ⟨87, _⟩ => ⟨S4x256x1024, .f32⟩
  | .hbm, ⟨88, _⟩ => ⟨S_, .f32⟩
  | .hbm, ⟨89, _⟩ => ⟨S4x256x2048, .f32⟩
  | .hbm, ⟨90, _⟩ => ⟨S4x256x4x256, .f32⟩
  | .hbm, ⟨91, _⟩ => ⟨S4x256x1024, .f32⟩
  | .hbm, ⟨92, _⟩ => ⟨S_, .f32⟩
  | .hbm, ⟨93, _⟩ => ⟨S4x256x2048, .f32⟩
  | .hbm, ⟨94, _⟩ => ⟨S4x256x2048, .f32⟩
  | .hbm, ⟨95, _⟩ => ⟨S4x2048x4x256, .f32⟩
  | .hbm, ⟨96, _⟩ => ⟨S4x2048x1024, .f32⟩
  | .hbm, ⟨97, _⟩ => ⟨S8192x1024, .f32⟩
  | .hbm, ⟨98, _⟩ => ⟨S8192x1024, .bf16⟩
  | .hbm, ⟨99, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S5632x1024 : Shape := ⟨2, ![5632, 1024]⟩
abbrev S2x2x1408x1024 : Shape := ⟨4, ![2, 2, 1408, 1024]⟩
abbrev S8192x5632 : Shape := ⟨2, ![8192, 5632]⟩
abbrev S8192x2816 : Shape := ⟨2, ![8192, 2816]⟩
abbrev S512x1024 : Shape := ⟨2, ![512, 1024]⟩
abbrev S2816x1024 : Shape := ⟨2, ![2816, 1024]⟩
abbrev S512x2816 : Shape := ⟨2, ![512, 2816]⟩
abbrev S512x1408 : Shape := ⟨2, ![512, 1408]⟩
abbrev S256x1024 : Shape := ⟨2, ![256, 1024]⟩
abbrev S256x2816 : Shape := ⟨2, ![256, 2816]⟩
abbrev S256x1408 : Shape := ⟨2, ![256, 1408]⟩
abbrev S5632x8192 : Shape := ⟨2, ![5632, 8192]⟩
abbrev S2x2x1408x8192 : Shape := ⟨4, ![2, 2, 1408, 8192]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S2x2x1408x1024, .bf16⟩
  | .hbm, ⟨5, _⟩ => ⟨S2x2x1408x1024, .bf16⟩
  | .hbm, ⟨6, _⟩ => ⟨S5632x1024, .bf16⟩
  | .hbm, ⟨7, _⟩ => ⟨S8192x5632, .bf16⟩
  | .hbm, ⟨8, _⟩ => ⟨S8192x2816, .bf16⟩
  | .hbm, ⟨9, _⟩ => ⟨S5632x8192, .bf16⟩
  | .hbm, ⟨10, _⟩ => ⟨S2x2x1408x8192, .bf16⟩
  | .hbm, ⟨11, _⟩ => ⟨S2x2x1408x8192, .bf16⟩
  | .hbm, ⟨12, _⟩ => ⟨S5632x8192, .bf16⟩
  | .hbm, ⟨13, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x5632, .bf16⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S2816x1024, .bf16⟩
  | .hbm, ⟨3, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x2816, .f32⟩
  | .hbm, ⟨3, _⟩ => ⟨S8192x1024, .f32⟩
  | .hbm, ⟨4, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x5632 : Shape := ⟨2, ![8192, 5632]⟩
abbrev S5632x8192 : Shape := ⟨2, ![5632, 8192]⟩
abbrev S2x2x1408x8192 : Shape := ⟨4, ![2, 2, 1408, 8192]⟩
abbrev S512x1024 : Shape := ⟨2, ![512, 1024]⟩
abbrev S1408x1024 : Shape := ⟨2, ![1408, 1024]⟩
abbrev S512x2816 : Shape := ⟨2, ![512, 2816]⟩
abbrev S256x1024 : Shape := ⟨2, ![256, 1024]⟩
abbrev S256x1408 : Shape := ⟨2, ![256, 1408]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x5632, .bf16⟩
  | .hbm, ⟨3, _⟩ => ⟨S5632x8192, .bf16⟩
  | .hbm, ⟨4, _⟩ => ⟨S2x2x1408x8192, .bf16⟩
  | .hbm, ⟨5, _⟩ => ⟨S2x2x1408x8192, .bf16⟩
  | .hbm, ⟨6, _⟩ => ⟨S5632x8192, .bf16⟩
  | .hbm, ⟨7, _⟩ => ⟨S8192x5632, .bf16⟩
  | .hbm, ⟨8, _⟩ => ⟨S2816x1024, .bf16⟩
  | .hbm, ⟨9, _⟩ => ⟨S8192x5632, .bf16⟩
  | .hbm, ⟨10, _⟩ => ⟨S5632x8192, .bf16⟩
  | .hbm, ⟨11, _⟩ => ⟨S2x2x1408x8192, .bf16⟩
  | .hbm, ⟨12, _⟩ => ⟨S2x2x1408x8192, .bf16⟩
  | .hbm, ⟨13, _⟩ => ⟨S5632x8192, .bf16⟩
  | .hbm, ⟨14, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x5632, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x5632 : Shape := ⟨2, ![8192, 5632]⟩
abbrev S5632x8192 : Shape := ⟨2, ![5632, 8192]⟩
abbrev S2x2x1408x8192 : Shape := ⟨4, ![2, 2, 1408, 8192]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2x2x1408x1024 : Shape := ⟨4, ![2, 2, 1408, 1024]⟩
abbrev S1024x5632 : Shape := ⟨2, ![1024, 5632]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S5632x8192, .bf16⟩
  | .hbm, ⟨3, _⟩ => ⟨S2x2x1408x8192, .bf16⟩
  | .hbm, ⟨4, _⟩ => ⟨S2x2x1408x8192, .bf16⟩
  | .hbm, ⟨5, _⟩ => ⟨S5632x8192, .bf16⟩
  | .hbm, ⟨6, _⟩ => ⟨S8192x5632, .bf16⟩
  | .hbm, ⟨7, _⟩ => ⟨S5632x1024, .bf16⟩
  | .hbm, ⟨8, _⟩ => ⟨S2x2x1408x1024, .bf16⟩
  | .hbm, ⟨9, _⟩ => ⟨S2x2x1408x1024, .bf16⟩
  | .hbm, ⟨10, _⟩ => ⟨S5632x1024, .bf16⟩
  | .hbm, ⟨11, _⟩ => ⟨S1024x5632, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S1024x5632 : Shape := ⟨2, ![1024, 5632]⟩
abbrev S8192x5632 : Shape := ⟨2, ![8192, 5632]⟩
abbrev S5632x8192 : Shape := ⟨2, ![5632, 8192]⟩
abbrev S2x2x1408x8192 : Shape := ⟨4, ![2, 2, 1408, 8192]⟩
abbrev S5632x1024 : Shape := ⟨2, ![5632, 1024]⟩
abbrev S2x2x1408x1024 : Shape := ⟨4, ![2, 2, 1408, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x5632, .bf16⟩
  | .hbm, ⟨2, _⟩ => ⟨S5632x8192, .bf16⟩
  | .hbm, ⟨3, _⟩ => ⟨S2x2x1408x8192, .bf16⟩
  | .hbm, ⟨4, _⟩ => ⟨S2x2x1408x8192, .bf16⟩
  | .hbm, ⟨5, _⟩ => ⟨S5632x8192, .bf16⟩
  | .hbm, ⟨6, _⟩ => ⟨S8192x5632, .bf16⟩
  | .hbm, ⟨7, _⟩ => ⟨S5632x1024, .f32⟩
  | .hbm, ⟨8, _⟩ => ⟨S5632x1024, .bf16⟩
  | .hbm, ⟨9, _⟩ => ⟨S2x2x1408x1024, .bf16⟩
  | .hbm, ⟨10, _⟩ => ⟨S2x2x1408x1024, .bf16⟩
  | .hbm, ⟨11, _⟩ => ⟨S5632x1024, .bf16⟩
  | .hbm, ⟨12, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .bf16⟩
  | .hbm, ⟨2, _⟩ => ⟨S8192x5632, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x1024, .f32⟩
  | .hbm, ⟨7, _⟩ => ⟨S8192x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8192x1024, .bf16⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_6 : BitVec 32 := 0#32
  let v18 : BitVec 1 := Scalar.cmpi .ne v17 c0_i32_6
  v18

def k0_cond2 (i : grid0.Coords) : BitVec 1 :=
  let arg0 : BitVec 32 := BitVec.ofNat 32 (i 0).val
  let c0_i32_7 : BitVec 32 := 0#32
  let v19 : BitVec 1 := Scalar.cmpi .sgt arg0 c0_i32_7
  let v20 : BitVec 32 := Scalar.extui v19
  let c0_i32_8 : BitVec 32 := 0#32
  let v21 : BitVec 1 := Scalar.cmpi .ne v20 c0_i32_8
  v21

def k0_cond3 (i : grid0.Coords) : BitVec 1 :=
  let arg0 : BitVec 32 := BitVec.ofNat 32 (i 0).val
  let c0_i32_23 : BitVec 32 := 0#32
  let v54 : BitVec 1 := Scalar.cmpi .eq arg0 c0_i32_23
  let v55 : BitVec 32 := Scalar.extui v54
  let c0_i32_24 : BitVec 32 := 0#32
  let v56 : BitVec 1 := Scalar.cmpi .ne v55 c0_i32_24
  v56

def k0_cond4 (i : grid0.Coords) : BitVec 1 :=
  let arg0 : BitVec 32 := BitVec.ofNat 32 (i 0).val
  let c0_i32_25 : BitVec 32 := 0#32
  let v57 : BitVec 1 := Scalar.cmpi .sgt arg0 c0_i32_25
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S8192x1024, .bf16⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S1024x2048 : Shape := ⟨2, ![1024, 2048]⟩
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S4x4x2048x256 : Shape := ⟨4, ![4, 4, 2048, 256]⟩
abbrev S4x256x1024 : Shape := ⟨3, ![4, 256, 1024]⟩
abbrev S4x256x4x256 : Shape := ⟨4, ![4, 256, 4, 256]⟩
abbrev S4x4x256x256 : Shape := ⟨4, ![4, 4, 256, 256]⟩
abbrev S_ : Shape := ⟨0, ![]⟩
abbrev S4x4x2048 : Shape := ⟨3, ![4, 4, 2048]⟩
abbrev S4x4x2048x1 : Shape := ⟨4, ![4, 4, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S4x2048x1024, .f32⟩
  | .hbm, ⟨4, _⟩ => ⟨S1024x2048, .f32⟩
  | .hbm, ⟨5, _⟩ => ⟨S4x256x2048, .f32⟩
  | .hbm, ⟨6, _⟩ => ⟨S4x2048x4x256, .f32⟩
  | .hbm, ⟨7, _⟩ => ⟨S4x4x2048x256, .f32⟩
  | .hbm, ⟨8, _⟩ => ⟨S4x256x1024, .f32⟩
  | .hbm, ⟨9, _⟩ => ⟨S4x256x4x256, .f32⟩
  | .hbm, ⟨10, _⟩ => ⟨S4x4x256x256, .f32⟩
  | .hbm, ⟨11, _⟩ => ⟨S4x256x1024, .f32⟩
  | .hbm, ⟨12, _⟩ => ⟨S4x256x4x256, .f32⟩
  | .hbm, ⟨13, _⟩ => ⟨S4x4x256x256, .f32⟩
  | .hbm, ⟨14, _⟩ => ⟨S4x4x2048x256, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S_, .f32⟩
  | .hbm, ⟨21, _⟩ => ⟨S4x4x2048, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x2048x256, .f32⟩
  | .hbm, ⟨27, _⟩ => ⟨S_, .f32⟩
  | .hbm, ⟨28, _⟩ => ⟨S4x4x2048, .f32⟩
  | .hbm, ⟨29, _⟩ => ⟨S4x4x2048x1, .f32⟩
  | .hbm, ⟨30, _⟩ => ⟨S4x4x2048x256, .f32⟩
  | .hbm, ⟨31, _⟩ => ⟨S4x4x2048x256, .f32⟩
  | .hbm, ⟨32, _⟩ => ⟨S4x4x2048x256, .f32⟩
  | .hbm, ⟨33, _⟩ => ⟨S4x2048x4x256, .f32⟩
  | .hbm, ⟨34, _⟩ => ⟨S4x2048x1024, .f32⟩
  | .hbm, ⟨35, _⟩ => ⟨S8192x1024, .f32⟩
  | .hbm, ⟨36, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel13.lean ====
abbrev S8192x1024 : Shape := ⟨2, ![8192, 1024]⟩
abbrev S1024x3584 : Shape := ⟨2, ![1024, 3584]⟩
abbrev S3584x1024 : Shape := ⟨2, ![3584, 1024]⟩
abbrev S8192x3584 : Shape := ⟨2, ![8192, 3584]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .f32⟩
  | .hbm, ⟨2, _⟩ => ⟨S8192x1024, .f32⟩
  | .hbm, ⟨3, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S8192x3584 : Shape := ⟨2, ![8192, 3584]⟩
abbrev S3584x1024 : Shape := ⟨2, ![3584, 1024]⟩
abbrev S2048x896 : Shape := ⟨2, ![2048, 896]⟩
abbrev S2048x1024 : Shape := ⟨2, ![2048, 1024]⟩
abbrev S896x1024 : Shape := ⟨2, ![896, 1024]⟩
abbrev S1024x3584 : Shape := ⟨2, ![1024, 3584]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S3584x1024, .bf16⟩
  | .hbm, ⟨3, _⟩ => ⟨S1024x3584, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S8192x1024, .f32⟩
  | .hbm, ⟨3, _⟩ => ⟨S8192x3584, .f32⟩
  | .hbm, ⟨4, _⟩ => ⟨S_, .f32⟩
  | .hbm, ⟨5, _⟩ => ⟨S1024x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S1024x3584, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x3584 : Shape := ⟨2, ![8192, 3584]⟩
abbrev S1024x3584 : Shape := ⟨2, ![1024, 3584]⟩
abbrev S3584x1024 : Shape := ⟨2, ![3584, 1024]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S8192x1024, .bf16⟩
  | .local _ .vmem, ⟨0, _⟩ => ⟨S1024x3584, .bf16⟩
  | .local _ .vmem, ⟨1, _⟩ => ⟨S1024x3584, .bf16⟩
  | .local _ .vmem, ⟨2, _⟩ => ⟨S3584x1024, .bf16⟩
  | .local _ .vmem, ⟨3, _⟩ => ⟨S1024x1024, .bf16⟩
  | .local _ .vmem, ⟨4, _⟩ => ⟨S1024x1024, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x3584 : Shape := ⟨2, ![8192, 3584]⟩
abbrev S1024x3584 : Shape := ⟨2, ![1024, 3584]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .f32⟩
  | .hbm, ⟨2, _⟩ => ⟨S8192x3584, .f32⟩
  | .hbm, ⟨3, _⟩ => ⟨S_, .f32⟩
  | .hbm, ⟨4, _⟩ => ⟨S8192x1024, .f32⟩
  | .hbm, ⟨5, _⟩ => ⟨S8192x3584, .f32⟩
  | .hbm, ⟨6, _⟩ => ⟨S8192x1024, .f32⟩
  | .hbm, ⟨7, _⟩ => ⟨S8192x1024, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S1024x2048 : Shape := ⟨2, ![1024, 2048]⟩
abbrev S2048x1024 : Shape := ⟨2, ![2048, 1024]⟩
abbrev S2x1x1024x1024 : Shape := ⟨4, ![2, 1, 1024, 1024]⟩
abbrev S1x2x1024x1024 : Shape := ⟨4, ![1, 2, 1024, 1024]⟩
abbrev S8192x2048 : Shape := ⟨2, ![8192, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S2x1x1024x1024, .bf16⟩
  | .hbm, ⟨5, _⟩ => ⟨S1x2x1024x1024, .bf16⟩
  | .hbm, ⟨6, _⟩ => ⟨S2048x1024, .bf16⟩
  | .hbm, ⟨7, _⟩ => ⟨S8192x2048, .bf16⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1024 : Shape := ⟨2, ![8192, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel19.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩
abbrev S1x2x1024x1024 : Shape := ⟨4, ![1, 2, 1024, 1024]⟩
abbrev S2x1x1024x1024 : Shape := ⟨4, ![2, 1, 1024, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S1x2x1024x1024, .bf16⟩
  | .hbm, ⟨4, _⟩ => ⟨S2x1x1024x1024, .bf16⟩
  | .hbm, ⟨5, _⟩ => ⟨S2048x1024, .bf16⟩
  | .hbm, ⟨6, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x2048 : Shape := ⟨2, ![8192, 2048]⟩
abbrev S1024x2048 : Shape := ⟨2, ![1024, 2048]⟩
abbrev S2048x1024 : Shape := ⟨2, ![2048, 1024]⟩
abbrev S2x1x1024x1024 : Shape := ⟨4, ![2, 1, 1024, 1024]⟩
abbrev S1x2x1024x1024 : Shape := ⟨4, ![1, 2, 1024, 1024]⟩
abbrev S8192x1024 : Shape := ⟨2, ![8192, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S2x1x1024x1024, .bf16⟩
  | .hbm, ⟨5, _⟩ => ⟨S1x2x1024x1024, .bf16⟩
  | .hbm, ⟨6, _⟩ => ⟨S2048x1024, .bf16⟩
  | .hbm, ⟨7, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x2048, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S1024x1024 : Shape := ⟨2, ![1024, 1024]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x1024, .f32⟩
  | .hbm, ⟨3, _⟩ => ⟨S1024x2048, .f32⟩
  | .hbm, ⟨4, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S2048x1024, .bf16⟩
  | .hbm, ⟨3, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x1024, .f32⟩
  | .hbm, ⟨3, _⟩ => ⟨S_, .f32⟩
  | .hbm, ⟨4, _⟩ => ⟨S1024x2048, .f32⟩
  | .hbm, ⟨5, _⟩ => ⟨S1024x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S1024x1024, .bf16⟩
  | .local _ .vmem, ⟨0, _⟩ => ⟨S1024x2048, .f32⟩
  | .local _ .vmem, ⟨1, _⟩ => ⟨S2048x1024, .bf16⟩
  | .local _ .vmem, ⟨2, _⟩ => ⟨S1024x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S1024x2048 : Shape := ⟨2, ![1024, 2048]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S_, .f32⟩
  | .hbm, ⟨3, _⟩ => ⟨S1024x1024, .f32⟩
  | .hbm, ⟨4, _⟩ => ⟨S1024x2048, .f32⟩
  | .hbm, ⟨5, _⟩ => ⟨S1024x1024, .f32⟩
  | .hbm, ⟨6, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8x128, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1052 : BitVec 1 := Scalar.cmpi .eq arg0 c0_i32
  let v1053 : BitVec 32 := Scalar.extui v1052
  let c0_i32_14 : BitVec 32 := 0#32
  let v1054 : BitVec 1 := Scalar.cmpi .ne v1053 c0_i32_14
  v1054

def k0_cond2 (i : grid0.Coords) : BitVec 1 :=
  let arg0 : BitVec 32 := BitVec.ofNat 32 (i 0).val
  let c0_i32_15 : BitVec 32 := 0#32
  let v1055 : BitVec 1 := Scalar.cmpi .sgt arg0 c0_i32_15
  let v1056 : BitVec 32 := Scalar.extui v1055
  let c0_i32_16 : BitVec 32 := 0#32
  let v1057 : BitVec 1 := Scalar.cmpi .ne v1056 c0_i32_16
  v1057

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference24Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel25.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_6 : BitVec 32 := 0#32
  let v18 : BitVec 1 := Scalar.cmpi .ne v17 c0_i32_6
  v18

def k0_cond2 (i : grid0.Coords) : BitVec 1 :=
  let arg0 : BitVec 32 := BitVec.ofNat 32 (i 0).val
  let c0_i32_7 : BitVec 32 := 0#32
  let v19 : BitVec 1 := Scalar.cmpi .sgt arg0 c0_i32_7
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel26.lean ====
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S1024x1024, .bf16⟩
  | .hbm, ⟨5, _⟩ => ⟨S1x1024, .f32⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_6 : BitVec 32 := 0#32
  let v18 : BitVec 1 := Scalar.cmpi .ne v17 c0_i32_6
  v18

def k0_cond2 (i : grid0.Coords) : BitVec 1 :=
  let arg0 : BitVec 32 := BitVec.ofNat 32 (i 0).val
  let c0_i32_7 : BitVec 32 := 0#32
  let v19 : BitVec 1 := Scalar.cmpi .sgt arg0 c0_i32_7
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S1024x1024, .f32⟩
  | .hbm, ⟨37, _⟩ => ⟨S1024x1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .bf16⟩
  | .hbm, ⟨50, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel27.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel28.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel29.lean ====
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference29Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel30.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference30Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel31.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8192x1024, .bf16⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c0_i32_23 : BitVec 32 := 0#32
  let v53 : BitVec 1 := Scalar.cmpi .eq arg0 c0_i32_23
  let v54 : BitVec 32 := Scalar.extui v53
  let c0_i32_24 : BitVec 32 := 0#32
  let v55 : BitVec 1 := Scalar.cmpi .ne v54 c0_i32_24
  v55

def k0_cond4 (i : grid0.Coords) : BitVec 1 :=
  let arg0 : BitVec 32 := BitVec.ofNat 32 (i 0).val
  let c0_i32_25 : BitVec 32 := 0#32
  let v56 : BitVec 1 := Scalar.cmpi .sgt arg0 c0_i32_25
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S1x1024, .f32⟩
  | .hbm, ⟨99, _⟩ => ⟨S8192x1024, .bf16⟩
  | .hbm, ⟨100, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel32.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S8x704x1024 : Shape := ⟨3, ![8, 704, 1024]⟩
abbrev S704x1024 : Shape := ⟨2, ![704, 1024]⟩
abbrev S1x704x1024 : Shape := ⟨3, ![1, 704, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x704x1024, .bf16⟩
  | .local _ .vmem, ⟨1, _⟩ => ⟨S704x1024, .f32⟩
  | _, _ => ⟨S8x704x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S704x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference33Ideal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Softmax.lean ====
module

public import Idealize.ShloMosaic.PureOps.Ideal.Laws
public import Idealize.ShloMosaic.Lib.IdealHost

/-! The mathematics of one row of an attention's gradient, on plain functions into the extended reals: the row's
    scores, their exponentials, the probabilities, and the gradient of the scores in the two forms that the kernel
    and the reference compute. Nothing here mentions a program. -/

@[expose] public section

noncomputable section
namespace Cert.Own
open Idealize.ShloMosaic

/-- The scale 1/16 of the scores, as the word both programs hold. -/
def scale : EReal := Ideal.ofBits .f32 0x3D800000#32

/-- The word of −∞ from which a row's maximum starts. -/
def low : EReal := Ideal.ofBits .f32 0xFF800000#32

theorem scale_eq : scale = (((1 : ℝ) / 16 : ℝ) : EReal) := by
  unfold scale
  simp [Ideal.ofBits, Ideal.ieee, -EReal.coe_mul]; norm_num

theorem low_eq : low = ⊥ := by
  simp [low, Ideal.ofBits, Ideal.ieee]

variable {ι κ : Type} [Fintype ι] [Fintype κ]

/-- The score of a query row against key `j`. -/
def score (q : κ → EReal) (k : ι → κ → EReal) (j : ι) : EReal := (∑ x, q x * k j x) * scale

/-- The exponential of a row's entry less the row's maximum. -/
def expo (s : ι → EReal) (j : ι) : EReal := Ideal.exp (s j - Finset.fold max low s Finset.univ)

/-- The softmax of a row. -/
def prob (s : ι → EReal) (j : ι) : EReal := Ideal.div (expo s j) (∑ x, expo s x)

/-- The gradient of a row's scores from the gradient `d` of its probabilities. -/
def dscore (s d : ι → EReal) (j : ι) : EReal := prob s j * (d j - ∑ x, d x * prob s x) * scale

/-- The same gradient as the derivative of a quotient gives it, term by term. -/
def dscoreQuot (s d : ι → EReal) (j : ι) : EReal :=
  (Ideal.div (d j) (∑ x, expo s x)
      + -(∑ x, d x * Ideal.div 1 ((∑ y, expo s y) * (∑ y, expo s y)) * expo s x)) * expo s j * scale

/-- A sum of reals, taken among the extended reals. -/
theorem coe_sum (f : ι → ℝ) : ((∑ x, f x : ℝ) : EReal) = ∑ x, (f x : EReal) := by
  classical
  induction (Finset.univ : Finset ι) using Finset.induction_on with
  | empty => simp
  | insert a t ha ih => rw [Finset.sum_insert ha, Finset.sum_insert ha, EReal.coe_add, ih]

/-- A sum of products of finite entries is finite. -/
theorem sum_mul_real (q k : κ → EReal) (hq : ∀ x, ∃ r : ℝ, q x = r) (hk : ∀ x, ∃ r : ℝ, k x = r) :
    ∃ r : ℝ, (∑ x, q x * k x) = r := by
  choose a ha using hq
  choose b hb using hk
  refine ⟨∑ x, a x * b x, ?_⟩
  rw [coe_sum]
  exact Finset.sum_congr rfl fun x _ => by rw [ha, hb, EReal.coe_mul]

/-- Finite queries and keys have finite scores. -/
theorem score_real (q : κ → EReal) (k : ι → κ → EReal) (hq : ∀ x, ∃ r : ℝ, q x = r)
    (hk : ∀ j x, ∃ r : ℝ, k j x = r) (j : ι) : ∃ r : ℝ, score q k j = r := by
  obtain ⟨r, hr⟩ := sum_mul_real q (k j) hq (hk j)
  refine ⟨r * (1 / 16), ?_⟩
  rw [score, hr, scale_eq, EReal.coe_mul]

/-- The maximum of a nonempty row of finite entries is finite. -/
theorem fold_max_real [Nonempty ι] (s : ι → EReal) (hs : ∀ j, ∃ r : ℝ, s j = r) :
    ∃ r : ℝ, Finset.fold max low s Finset.univ = r := by
  have hlt : Finset.fold max low s Finset.univ ≠ ⊤ := by
    refine ne_of_lt ((Finset.fold_max_lt _).mpr ⟨by rw [low_eq]; exact bot_lt_top, fun j _ => ?_⟩)
    obtain ⟨r, hr⟩ := hs j
    rw [hr]; exact EReal.coe_lt_top r
  have hgt : Finset.fold max low s Finset.univ ≠ ⊥ := by
    obtain ⟨j⟩ := ‹Nonempty ι›
    obtain ⟨r, hr⟩ := hs j
    refine ne_of_gt ((Finset.lt_fold_max _).mpr (Or.inr ⟨j, Finset.mem_univ _, ?_⟩))
    rw [hr]; exact EReal.bot_lt_coe r
  exact ⟨_, (EReal.coe_toReal hlt hgt).symm⟩

/-- The exponentials of a row of finite entries are positive reals. -/
theorem expo_real [Nonempty ι] (s : ι → EReal) (hs : ∀ j, ∃ r : ℝ, s j = r) (j : ι) :
    ∃ r : ℝ, 0 < r ∧ expo s j = r := by
  obtain ⟨t, ht⟩ := fold_max_real s hs
  obtain ⟨r, hr⟩ := hs j
  refine ⟨Real.exp (r - t), Real.exp_pos _, ?_⟩
  rw [expo, ht, hr, ← EReal.coe_sub]
  rfl

/-- A nonnegative real factor moves out of a sum on the right. -/
theorem sum_mul_coe (f : ι → EReal) (r : ℝ) (hr : 0 ≤ r) : (∑ x, f x * (r : EReal)) = (∑ x, f x) * r := by
  classical
  induction (Finset.univ : Finset ι) using Finset.induction_on with
  | empty => simp
  | insert a t ha ih =>
    rw [Finset.sum_insert ha, Finset.sum_insert ha, ih,
      EReal.right_distrib_of_nonneg_of_ne_top (by exact_mod_cast hr) (EReal.coe_ne_top r)]

/-- Division by a positive real is multiplication by its inverse. -/
theorem div_coe (x : EReal) (z : ℝ) (hz : 0 < z) : Ideal.div x z = x * ((z⁻¹ : ℝ) : EReal) := by
  rw [Ideal.div, if_neg (by exact_mod_cast hz.ne'), EReal.coe_inv]

/-- The two forms of the gradient of a row of finite scores are equal, whatever the gradient `d` of the
    probabilities is. -/
theorem dscoreQuot_eq [Nonempty ι] (s d : ι → EReal) (hs : ∀ j, ∃ r : ℝ, s j = r) (j : ι) :
    dscoreQuot s d j = dscore s d j := by
  choose e he hee using expo_real s hs
  have hZ : (∑ x, expo s x) = ((∑ x, e x : ℝ) : EReal) := by
    rw [coe_sum]
    exact Finset.sum_congr rfl fun x _ => hee x
  have hpos : 0 < ∑ x, e x := Finset.sum_pos (fun x _ => he x) Finset.univ_nonempty
  set z : ℝ := ∑ x, e x with hz
  have hr : (0 : ℝ) ≤ z⁻¹ := (inv_pos.mpr hpos).le
  have hp : ∀ x, prob s x = expo s x * ((z⁻¹ : ℝ) : EReal) := fun x => by rw [prob, hZ, div_coe _ _ hpos]
  have hsq : Ideal.div 1 (((z : ℝ) : EReal) * z) = ((z⁻¹ : ℝ) : EReal) * ((z⁻¹ : ℝ) : EReal) := by
    rw [← EReal.coe_mul, div_coe _ _ (mul_pos hpos hpos), one_mul, ← EReal.coe_mul, mul_inv]
  have hsum : (∑ x, d x * (((z⁻¹ : ℝ) : EReal) * ((z⁻¹ : ℝ) : EReal)) * expo s x)
      = (∑ x, d x * prob s x) * ((z⁻¹ : ℝ) : EReal) := by
    rw [← sum_mul_coe _ _ hr]
    refine Finset.sum_congr rfl fun x _ => ?_
    rw [hp, mul_assoc, mul_assoc (d x), mul_assoc (expo s x), mul_comm (expo s x)]
  unfold dscoreQuot dscore
  rw [hZ, hsq, hsum, div_coe _ _ hpos, ← EReal.neg_mul,
    ← EReal.right_distrib_of_nonneg_of_ne_top (by exact_mod_cast hr) (EReal.coe_ne_top _), ← sub_eq_add_neg,
    hp j, mul_assoc (d j - _), mul_comm (d j - _), mul_comm (((z⁻¹ : ℝ) : EReal))]

/-- Starting a maximum at −∞ once more changes nothing. -/
theorem max_low (x : EReal) : max low x = x := by rw [low_eq]; exact max_eq_right bot_le

end Cert.Own
end
-- ==== Proof.Heads.lean ====
module

public import proofs.«01_k».proof.Proof.Softmax
public import Idealize.ShloMosaic.Lib.Pointwise

/-! The three gradients of one head of the memory cross-attention, entry by entry, as plain functions of the
    argument arrays: the queries (8192 tokens, of which batch `b` holds 2048), the keys and values (1024 memory tokens,
    of which batch `b` holds 256; the keys in the first 1024 columns, the values in the last) and the gradient of the
    result. Head `h` is the columns from `256 * h`. -/

@[expose] public section

noncomputable section
namespace Cert.Own
open Idealize.ShloMosaic

/-- A matrix of extended reals. -/
abbrev Mat (a b : ℕ) := (⟨2, ![a, b]⟩ : Shape).Idx → EReal

/-- Row `i` of batch `b`, columns of head `h`, of a matrix over the tokens. -/
def tok (x : Mat 8192 1024) (b h : Fin 4) (i : Fin 2048) (d : Fin 256) : EReal :=
  x (ix2 ⟨b.val * 2048 + i.val, by omega⟩ ⟨h.val * 256 + d.val, by omega⟩)

/-- Key `j` of batch `b` and head `h`. -/
def key (x : Mat 1024 2048) (b h : Fin 4) (j : Fin 256) (d : Fin 256) : EReal :=
  x (ix2 ⟨b.val * 256 + j.val, by omega⟩ ⟨h.val * 256 + d.val, by omega⟩)

/-- Value `j` of batch `b` and head `h`. -/
def val (x : Mat 1024 2048) (b h : Fin 4) (j : Fin 256) (d : Fin 256) : EReal :=
  x (ix2 ⟨b.val * 256 + j.val, by omega⟩ ⟨1024 + (h.val * 256 + d.val), by omega⟩)

/-- The scores of one query. -/
def srow (x0 : Mat 8192 1024) (x1 : Mat 1024 2048) (b h : Fin 4) (i : Fin 2048) : Fin 256 → EReal :=
  score (tok x0 b h i) (key x1 b h)

/-- The gradient of one query's probabilities. -/
def drow (x1 : Mat 1024 2048) (x2 : Mat 8192 1024) (b h : Fin 4) (i : Fin 2048) (j : Fin 256) : EReal :=
  ∑ d, tok x2 b h i d * val x1 b h j d

/-- The gradient of one query's scores. -/
def dsrow (x0 : Mat 8192 1024) (x1 : Mat 1024 2048) (x2 : Mat 8192 1024) (b h : Fin 4) (i : Fin 2048) :
    Fin 256 → EReal :=
  dscore (srow x0 x1 b h i) (drow x1 x2 b h i)

/-- The gradient of a query's entry. -/
def gradQ (x0 : Mat 8192 1024) (x1 : Mat 1024 2048) (x2 : Mat 8192 1024) (b h : Fin 4) (i : Fin 2048)
    (d : Fin 256) : EReal :=
  ∑ j, dsrow x0 x1 x2 b h i j * key x1 b h j d

/-- The gradient of a key's entry. -/
def gradK (x0 : Mat 8192 1024) (x1 : Mat 1024 2048) (x2 : Mat 8192 1024) (b h : Fin 4) (j d : Fin 256) : EReal :=
  ∑ i, dsrow x0 x1 x2 b h i j * tok x0 b h i d

/-- The gradient of a value's entry. -/
def gradV (x0 : Mat 8192 1024) (x1 : Mat 1024 2048) (x2 : Mat 8192 1024) (b h : Fin 4) (j d : Fin 256) : EReal :=
  ∑ i, prob (srow x0 x1 b h i) j * tok x2 b h i d

/-- The whole gradient of the queries. -/
def allQ (x0 : Mat 8192 1024) (x1 : Mat 1024 2048) (x2 : Mat 8192 1024) : Mat 8192 1024 := fun y =>
  gradQ x0 x1 x2 ⟨(y 0).val / 2048, by have h : (y 0).val < 8192 := (y 0).isLt; omega⟩
    ⟨(y 1).val / 256, by have h : (y 1).val < 1024 := (y 1).isLt; omega⟩
    ⟨(y 0).val % 2048, Nat.mod_lt _ (by decide)⟩ ⟨(y 1).val % 256, Nat.mod_lt _ (by decide)⟩

/-- The whole gradient of the keys (first 1024 columns) and values (last 1024). -/
def allKV (x0 : Mat 8192 1024) (x1 : Mat 1024 2048) (x2 : Mat 8192 1024) : Mat 1024 2048 := fun y =>
  if h : (y 1).val < 1024 then
    gradK x0 x1 x2 ⟨(y 0).val / 256, by have h : (y 0).val < 1024 := (y 0).isLt; omega⟩
      ⟨(y 1).val / 256, by omega⟩ ⟨(y 0).val % 256, Nat.mod_lt _ (by decide)⟩
      ⟨(y 1).val % 256, Nat.mod_lt _ (by decide)⟩
  else
    gradV x0 x1 x2 ⟨(y 0).val / 256, by have h : (y 0).val < 1024 := (y 0).isLt; omega⟩
      ⟨((y 1).val - 1024) / 256, by have h : (y 1).val < 2048 := (y 1).isLt; omega⟩
      ⟨(y 0).val % 256, Nat.mod_lt _ (by decide)⟩ ⟨((y 1).val - 1024) % 256, Nat.mod_lt _ (by decide)⟩

/-- The gradient of the keys and values at a column of the keys. -/
theorem allKV_lt (x0 : Mat 8192 1024) (x1 : Mat 1024 2048) (x2 : Mat 8192 1024) (i : Fin 1024) (j : Fin 2048)
    (hj : j.val < 1024) :
    allKV x0 x1 x2 (ix2 i j) = gradK x0 x1 x2 ⟨i.val / 256, by omega⟩ ⟨j.val / 256, by omega⟩
      ⟨i.val % 256, Nat.mod_lt _ (by decide)⟩ ⟨j.val % 256, Nat.mod_lt _ (by decide)⟩ := by
  unfold allKV
  exact dif_pos hj

/-- The gradient of the keys and values at a column of the values. -/
theorem allKV_ge (x0 : Mat 8192 1024) (x1 : Mat 1024 2048) (x2 : Mat 8192 1024) (i : Fin 1024) (j : Fin 2048)
    (hj : ¬j.val < 1024) :
    allKV x0 x1 x2 (ix2 i j) = gradV x0 x1 x2 ⟨i.val / 256, by omega⟩ ⟨(j.val - 1024) / 256, by omega⟩
      ⟨i.val % 256, Nat.mod_lt _ (by decide)⟩ ⟨(j.val - 1024) % 256, Nat.mod_lt _ (by decide)⟩ := by
  unfold allKV
  exact dif_neg hj

/-- The keys, which are the first 1024 columns of the second argument, are real numbers. -/
def KeysReal (x1 : Mat 1024 2048) : Prop := ∀ (i : Fin 1024) (j : Fin 1024), ∃ r : ℝ, x1 (ix2 i ⟨j.val, by omega⟩) = r

/-- Where the queries and the keys are finite, so are the scores. -/
theorem srow_real (x0 : Mat 8192 1024) (x1 : Mat 1024 2048) (hq : ∀ y, ∃ r : ℝ, x0 y = r)
    (hk : KeysReal x1) (b h : Fin 4) (i : Fin 2048)
    (j : Fin 256) : ∃ r : ℝ, srow x0 x1 b h i j = r :=
  score_real _ _ (fun _ => hq _) (fun _ _ => hk _ ⟨_, by omega⟩) j

end Cert.Own
end
-- ==== Proof.BlockHeads.lean ====
module

public import proofs.«01_k».proof.Proof.Gen.KernelIdeal.Skeleton
public import proofs.«01_k».proof.Proof.Heads

/-! What the kernel's body computes from one head's slices of its blocks, entry by entry. -/

@[expose] public section
set_option maxRecDepth 16384

noncomputable section
namespace Cert.Own
open Cert.KernelIdeal Cert.KernelIdeal.Gen Idealize.ShloMosaic Idealize.ShloMosaic.TcCoe Idealize.SL.Sem

variable {n : ℕ}

/-- A matrix by rows. -/
abbrev rows {a b : ℕ} (x : Mat a b) (i : Fin a) (j : Fin b) : EReal := x (ix2 i j)

/-- The gradient of the scores of query `i` of `n` queries `q` against keys `k` and values `v`, the result's gradient
    being `g`. -/
def hdS (q g : Fin n → Fin 256 → EReal) (k v : Fin 256 → Fin 256 → EReal) (i : Fin n) : Fin 256 → EReal :=
  dscore (score (q i) k) fun j => ∑ d, g i d * v j d

/-- The gradient of the queries. -/
def hdQ (q g : Fin n → Fin 256 → EReal) (k v : Fin 256 → Fin 256 → EReal) (i : Fin n) (d : Fin 256) : EReal :=
  ∑ j, hdS q g k v i j * k j d

/-- The gradient of the keys. -/
def hdK (q g : Fin n → Fin 256 → EReal) (k v : Fin 256 → Fin 256 → EReal) (j d : Fin 256) : EReal :=
  ∑ i, hdS q g k v i j * q i d

/-- The gradient of the values. -/
def hdV (q g : Fin n → Fin 256 → EReal) (k : Fin 256 → Fin 256 → EReal) (j d : Fin 256) : EReal :=
  ∑ i, prob (score (q i) k) j * g i d

theorem gradQ_eq (x0 : Mat 8192 1024) (x1 : Mat 1024 2048) (x2 : Mat 8192 1024) (b h : Fin 4) (i : Fin 2048)
    (d : Fin 256) : gradQ x0 x1 x2 b h i d = hdQ (tok x0 b h) (tok x2 b h) (key x1 b h) (val x1 b h) i d := rfl

theorem gradK_eq (x0 : Mat 8192 1024) (x1 : Mat 1024 2048) (x2 : Mat 8192 1024) (b h : Fin 4) (j d : Fin 256) :
    gradK x0 x1 x2 b h j d = hdK (tok x0 b h) (tok x2 b h) (key x1 b h) (val x1 b h) j d := rfl

theorem gradV_eq (x0 : Mat 8192 1024) (x1 : Mat 1024 2048) (x2 : Mat 8192 1024) (b h : Fin 4) (j d : Fin 256) :
    gradV x0 x1 x2 b h j d = hdV (tok x0 b h) (tok x2 b h) (key x1 b h) j d := rfl

/-! ### The body's steps on one head's slices -/

variable (q g : Vec Ideal S512x256 .bf16) (k v : Vec Ideal S256x256 .bf16) (o : Vec Ideal S256x256 .f32)

/-- The scores' gradient, as a vector. -/
abbrev vecS : FVec Ideal S512x256 .bf16 := k0_pay23 (k0_pay12 g v) (k0_pay18 (k0_pay9 q k))

theorem pay_s (i : Fin 512) (j : Fin 256) : k0_pay9 q k (ix2 i j) = score (rows q i) (rows k) j := by
  pointwise [k0_pay9]
  rfl

theorem pay_d (i : Fin 512) (j : Fin 256) : k0_pay12 g v (ix2 i j) = ∑ d, rows g i d * rows v j d := by
  pointwise [k0_pay12]

theorem pay_p (i : Fin 512) (j : Fin 256) :
    k0_pay18 (k0_pay9 q k) (ix2 i j) = prob (score (rows q i) (rows k)) j := by
  pointwise [k0_pay18]
  simp only [pay_s]
  rfl

theorem pay_ds (i : Fin 512) (j : Fin 256) : vecS q g k v (ix2 i j) = hdS (rows q) (rows g) (rows k) (rows v) i j := by
  pointwise [k0_pay23]
  simp only [pay_d, pay_p]
  rfl

theorem pay_dq (i : Fin 512) (d : Fin 256) :
    k0_pay36 k (vecS q g k v) (ix2 i d) = hdQ (rows q) (rows g) (rows k) (rows v) i d := by
  pointwise [k0_pay36]
  simp only [pay_ds]
  rfl

theorem pay_dk (j d : Fin 256) :
    k0_pay37 q (vecS q g k v) o (ix2 j d) = o (ix2 j d) + hdK (rows q) (rows g) (rows k) (rows v) j d := by
  pointwise [k0_pay37]
  simp only [pay_ds]
  rfl

theorem pay_dv (j d : Fin 256) :
    k0_pay38 (k0_pay27 g (k0_pay18 (k0_pay9 q k))) o (ix2 j d)
      = o (ix2 j d) + hdV (rows q) (rows g) (rows k) j d := by
  pointwise [k0_pay38, k0_pay27]
  simp only [pay_p]
  rfl

/-! ### The other heads are the same functions of their slices -/

theorem dq1 : k0_pay39 k (k0_pay24 (k0_pay13 g v) (k0_pay19 (k0_pay10 q k))) = k0_pay36 k (vecS q g k v) := rfl
theorem dk1 : k0_pay40 q (k0_pay24 (k0_pay13 g v) (k0_pay19 (k0_pay10 q k))) o = k0_pay37 q (vecS q g k v) o := rfl
theorem dv1 : k0_pay1 (k0_pay28 g (k0_pay19 (k0_pay10 q k))) o
    = k0_pay38 (k0_pay27 g (k0_pay18 (k0_pay9 q k))) o := rfl
theorem dq2 : k0_pay2 (k0_pay32 k (k0_pay25 (k0_pay14 g v) (k0_pay16 (k0_pay11 q k)) (k0_pay20 (k0_pay11 q k))))
    = k0_pay36 k (vecS q g k v) := rfl
theorem dk2 : k0_pay3 (k0_pay34 q (k0_pay25 (k0_pay14 g v) (k0_pay16 (k0_pay11 q k)) (k0_pay20 (k0_pay11 q k)))) o
    = k0_pay37 q (vecS q g k v) o := rfl
theorem dv2 : k0_pay4 (k0_pay30 g (k0_pay29 (k0_pay16 (k0_pay11 q k)) (k0_pay20 (k0_pay11 q k)))
      (constant S256x256 .f32 0x00000000#32)) o
    = k0_pay38 (k0_pay27 g (k0_pay18 (k0_pay9 q k))) o := rfl
theorem dq3 : k0_pay5 (k0_pay33 k (k0_pay26 (k0_pay15 g v) (k0_pay17 q k (constant S512x256 .f32 0x00000000#32))))
    = k0_pay36 k (vecS q g k v) := rfl
theorem dk3 : k0_pay6 (k0_pay35 q (k0_pay26 (k0_pay15 g v) (k0_pay17 q k (constant S512x256 .f32 0x00000000#32)))) o
    = k0_pay37 q (vecS q g k v) o := rfl
theorem dv3 : k0_pay7 (k0_pay31 g (k0_pay22 (k0_pay17 q k (constant S512x256 .f32 0x00000000#32)))) o
    = k0_pay38 (k0_pay27 g (k0_pay18 (k0_pay9 q k))) o := rfl

end Cert.Own
end
-- ==== Proof.BlockValue.lean ====
module

public import proofs.«01_k».proof.Proof.Gen.KernelIdeal.Frame
public import proofs.«01_k».proof.Proof.BlockHeads
public import Idealize.ShloMosaic.Lib.Pipeline.Value
public import Idealize.ShloMosaic.Lib.Pipeline.ValueKit.Tiles
public import Idealize.ShloMosaic.Lib.Pipeline.ReadBack

/-! What one grid point leaves in its two result blocks: the queries' gradient of its 512 queries, and the keys' and
    values' gradients from those queries, added to what the block held (nothing at a batch's first point). -/

@[expose] public section
set_option maxRecDepth 16384

noncomputable section
namespace Cert.Own
open Cert.KernelIdeal Cert.KernelIdeal.Gen Idealize.ShloMosaic Idealize.ShloMosaic.TcCoe Idealize.SL.Sem

/-- The columns of head `h` of a block. -/
def seg {n : ℕ} (x : Mat n 1024) (h : Fin 4) (i : Fin n) (d : Fin 256) : EReal :=
  x (ix2 i ⟨h.val * 256 + d.val, by omega⟩)

/-- The queries' gradient of a block of 512 queries `x0`, the keys `x1`, the values `x2` and the result's gradient
    `x3`. -/
def blkQ (x0 : Mat 512 1024) (x1 x2 : Mat 256 1024) (x3 : Mat 512 1024) : Mat 512 1024 := fun y =>
  let h : Fin 4 := ⟨(y 1).val / 256, by have h : (y 1).val < 1024 := (y 1).isLt; omega⟩
  hdQ (seg x0 h) (seg x3 h) (seg x1 h) (seg x2 h) (y 0) ⟨(y 1).val % 256, Nat.mod_lt _ (by decide)⟩

/-- The keys' gradient from a block of queries. -/
def blkK (x0 : Mat 512 1024) (x1 x2 : Mat 256 1024) (x3 : Mat 512 1024) (j : Fin 256) (e : Fin 1024) : EReal :=
  let h : Fin 4 := ⟨e.val / 256, by omega⟩
  hdK (seg x0 h) (seg x3 h) (seg x1 h) (seg x2 h) j ⟨e.val % 256, Nat.mod_lt _ (by decide)⟩

/-- The values' gradient from a block of queries. -/
def blkV (x0 : Mat 512 1024) (x1 : Mat 256 1024) (x3 : Mat 512 1024) (j : Fin 256) (e : Fin 1024) : EReal :=
  let h : Fin 4 := ⟨e.val / 256, by omega⟩
  hdV (seg x0 h) (seg x3 h) (seg x1 h) j ⟨e.val % 256, Nat.mod_lt _ (by decide)⟩

/-- Both, side by side. -/
def blkKV (x0 : Mat 512 1024) (x1 x2 : Mat 256 1024) (x3 : Mat 512 1024) : Mat 256 2048 := fun y =>
  if h : (y 1).val < 1024 then blkK x0 x1 x2 x3 (y 0) ⟨(y 1).val, h⟩
  else blkV x0 x1 x3 (y 0) ⟨(y 1).val - 1024, by have h : (y 1).val < 2048 := (y 1).isLt; omega⟩

/-- A block after a point has added its gradients to what the block held. -/
def addKV (base : Mat 256 2048) (x0 : Mat 512 1024) (x1 x2 : Mat 256 1024) (x3 : Mat 512 1024) : Mat 256 2048 :=
  fun y => base y + blkKV x0 x1 x2 x3 y

section Pieces
variable (h : Fin 4) (o : ℕ) (ho : o = h.val * 256)
include ho

/-- A load of a head's columns of a block. -/
theorem rows_ld {n : ℕ} (x : Vec Ideal (⟨2, ![n, 1024]⟩ : Shape) .bf16)
    (inb : ∀ a, (![0, o] : Fin 2 → ℕ) a + (![n, 256] : Fin 2 → ℕ) a ≤ (⟨2, ![n, 1024]⟩ : Shape).size a) :
    rows (a := n) (b := 256) (View.ld x (Rect.unit ![0, o] ![n, 256] inb)) = seg x h := by
  funext i d
  refine View.ld_unit_apply_of x _ _ inb _ _ fun a => ?_
  match a with
  | ⟨0, _⟩ => exact (Nat.zero_add _).symm
  | ⟨1, _⟩ => show h.val * 256 + d.val = o + d.val; rw [ho]

variable (x0 : Vec Ideal S512x1024 .bf16) (x1 x2 : Vec Ideal S256x1024 .bf16) (x3 : Vec Ideal S512x1024 .bf16)
  (base : Mat 256 2048) (old : Vec Ideal S256x256 .f32)
  (inb : ∀ a, (![0, o] : Fin 2 → ℕ) a + (![512, 256] : Fin 2 → ℕ) a ≤ S512x1024.size a)
  (inb' : ∀ a, (![0, o] : Fin 2 → ℕ) a + (![256, 256] : Fin 2 → ℕ) a ≤ S256x1024.size a)

/-- The queries' gradient stored at a head's columns. -/
theorem pieceQ (x : S512x256.Idx) :
    k0_pay36 (View.ld x1 (Rect.unit ![0, o] ![256, 256] inb'))
        (vecS (View.ld x0 (Rect.unit ![0, o] ![512, 256] inb)) (View.ld x3 (Rect.unit ![0, o] ![512, 256] inb))
          (View.ld x1 (Rect.unit ![0, o] ![256, 256] inb')) (View.ld x2 (Rect.unit ![0, o] ![256, 256] inb'))) x
      = blkQ x0 x1 x2 x3 ((Rect.unit (s := S512x1024) ![0, o] ![512, 256] inb).emb x) := by
  obtain ⟨i, d, rfl⟩ : ∃ (i : Fin 512) (d : Fin 256), x = ix2 i d := ⟨x 0, x 1, eq_ix2 x⟩
  have he : (Rect.unit (s := S512x1024) ![0, o] ![512, 256] inb).emb (ix2 i d)
      = ix2 i (⟨h.val * 256 + d.val, by omega⟩ : Fin 1024) := by
    refine Rect.emb_eq_of_coords _ _ _ fun a => ?_
    match a with
    | ⟨0, _⟩ => show i.val = 0 + 1 * i.val; omega
    | ⟨1, _⟩ => show h.val * 256 + d.val = o + 1 * d.val; omega
  have e1 : (⟨(h.val * 256 + d.val) / 256, by omega⟩ : Fin 4) = h := Fin.ext (by show _ / 256 = _; omega)
  have e2 : (⟨(h.val * 256 + d.val) % 256, Nat.mod_lt _ (by decide)⟩ : Fin 256) = d :=
    Fin.ext (by show _ % 256 = _; omega)
  rw [he, pay_dq, rows_ld h o ho, rows_ld h o ho, rows_ld h o ho, rows_ld h o ho]
  show _ = hdQ (seg x0 ⟨(h.val * 256 + d.val) / 256, _⟩) (seg x3 ⟨(h.val * 256 + d.val) / 256, _⟩)
    (seg x1 ⟨(h.val * 256 + d.val) / 256, _⟩) (seg x2 ⟨(h.val * 256 + d.val) / 256, _⟩) i
    ⟨(h.val * 256 + d.val) % 256, _⟩
  rw [e1, e2]

/-- The keys' gradient stored at a head's columns. -/
theorem pieceK (inb2 : ∀ a, (![0, o] : Fin 2 → ℕ) a + (![256, 256] : Fin 2 → ℕ) a ≤ S256x2048.size a)
    (hold : ∀ x : S256x256.Idx, old x = base ((Rect.unit (s := S256x2048) ![0, o] ![256, 256] inb2).emb x))
    (x : S256x256.Idx) :
    k0_pay37 (View.ld x0 (Rect.unit ![0, o] ![512, 256] inb))
        (vecS (View.ld x0 (Rect.unit ![0, o] ![512, 256] inb)) (View.ld x3 (Rect.unit ![0, o] ![512, 256] inb))
          (View.ld x1 (Rect.unit ![0, o] ![256, 256] inb')) (View.ld x2 (Rect.unit ![0, o] ![256, 256] inb'))) old x
      = base ((Rect.unit (s := S256x2048) ![0, o] ![256, 256] inb2).emb x)
        + blkKV x0 x1 x2 x3 ((Rect.unit (s := S256x2048) ![0, o] ![256, 256] inb2).emb x) := by
  obtain ⟨j, d, rfl⟩ : ∃ (j d : Fin 256), x = ix2 j d := ⟨x 0, x 1, eq_ix2 x⟩
  have he : (Rect.unit (s := S256x2048) ![0, o] ![256, 256] inb2).emb (ix2 j d)
      = ix2 j (⟨h.val * 256 + d.val, by omega⟩ : Fin 2048) := by
    refine Rect.emb_eq_of_coords _ _ _ fun a => ?_
    match a with
    | ⟨0, _⟩ => show j.val = 0 + 1 * j.val; omega
    | ⟨1, _⟩ => show h.val * 256 + d.val = o + 1 * d.val; omega
  have e1 : (⟨(h.val * 256 + d.val) / 256, by omega⟩ : Fin 4) = h := Fin.ext (by show _ / 256 = _; omega)
  have e2 : (⟨(h.val * 256 + d.val) % 256, Nat.mod_lt _ (by decide)⟩ : Fin 256) = d :=
    Fin.ext (by show _ % 256 = _; omega)
  rw [pay_dk, hold, he, rows_ld h o ho, rows_ld h o ho, rows_ld h o ho, rows_ld h o ho]
  congr 1
  have hlt : h.val * 256 + d.val < 1024 := by omega
  refine Eq.trans ?_ (dif_pos hlt).symm
  show _ = hdK (seg x0 ⟨(h.val * 256 + d.val) / 256, _⟩) (seg x3 ⟨(h.val * 256 + d.val) / 256, _⟩)
    (seg x1 ⟨(h.val * 256 + d.val) / 256, _⟩) (seg x2 ⟨(h.val * 256 + d.val) / 256, _⟩) j
    ⟨(h.val * 256 + d.val) % 256, _⟩
  rw [e1, e2]

/-- The values' gradient stored at a head's columns. -/
theorem pieceV (o2 : ℕ) (ho2 : o2 = 1024 + h.val * 256)
    (inb2 : ∀ a, (![0, o2] : Fin 2 → ℕ) a + (![256, 256] : Fin 2 → ℕ) a ≤ S256x2048.size a)
    (hold : ∀ x : S256x256.Idx, old x = base ((Rect.unit (s := S256x2048) ![0, o2] ![256, 256] inb2).emb x))
    (x : S256x256.Idx) :
    k0_pay38 (k0_pay27 (View.ld x3 (Rect.unit ![0, o] ![512, 256] inb))
        (k0_pay18 (k0_pay9 (View.ld x0 (Rect.unit ![0, o] ![512, 256] inb))
          (View.ld x1 (Rect.unit ![0, o] ![256, 256] inb'))))) old x
      = base ((Rect.unit (s := S256x2048) ![0, o2] ![256, 256] inb2).emb x)
        + blkKV x0 x1 x2 x3 ((Rect.unit (s := S256x2048) ![0, o2] ![256, 256] inb2).emb x) := by
  obtain ⟨j, d, rfl⟩ : ∃ (j d : Fin 256), x = ix2 j d := ⟨x 0, x 1, eq_ix2 x⟩
  have he : (Rect.unit (s := S256x2048) ![0, o2] ![256, 256] inb2).emb (ix2 j d)
      = ix2 j (⟨1024 + h.val * 256 + d.val, by omega⟩ : Fin 2048) := by
    refine Rect.emb_eq_of_coords _ _ _ fun a => ?_
    match a with
    | ⟨0, _⟩ => show j.val = 0 + 1 * j.val; omega
    | ⟨1, _⟩ => show 1024 + h.val * 256 + d.val = o2 + 1 * d.val; omega
  have e1 : (⟨(1024 + h.val * 256 + d.val - 1024) / 256, by omega⟩ : Fin 4) = h :=
    Fin.ext (by show _ / 256 = _; omega)
  have e2 : (⟨(1024 + h.val * 256 + d.val - 1024) % 256, Nat.mod_lt _ (by decide)⟩ : Fin 256) = d :=
    Fin.ext (by show _ % 256 = _; omega)
  rw [pay_dv, hold, he, rows_ld h o ho, rows_ld h o ho, rows_ld h o ho]
  congr 1
  have hlt : ¬(1024 + h.val * 256 + d.val < 1024) := by omega
  refine Eq.trans ?_ (dif_neg hlt).symm
  show _ = hdV (seg x0 ⟨(1024 + h.val * 256 + d.val - 1024) / 256, _⟩)
    (seg x3 ⟨(1024 + h.val * 256 + d.val - 1024) / 256, _⟩)
    (seg x1 ⟨(1024 + h.val * 256 + d.val - 1024) / 256, _⟩) j ⟨(1024 + h.val * 256 + d.val - 1024) % 256, _⟩
  rw [e1, e2]

end Pieces

variable (c : Dev nD) (i : grid0.Coords) (a0 : Memref sig .tc .vmem S512x1024 .bf16) (h0 : a0.IsWhole)
  (a1 : Memref sig .tc .vmem S256x1024 .bf16) (h1 : a1.IsWhole) (a2 : Memref sig .tc .vmem S256x1024 .bf16)
  (h2 : a2.IsWhole) (a3 : Memref sig .tc .vmem S512x1024 .bf16) (h3 : a3.IsWhole)
  (a4 : Memref sig .tc .vmem S512x1024 .bf16) (h4 : a4.IsWhole) (a5 : Memref sig .tc .vmem S256x2048 .f32)
  (h5 : a5.IsWhole) (x0 : Vec Ideal S512x1024 .bf16) (x1 : Vec Ideal S256x1024 .bf16)
  (x2 : Vec Ideal S256x1024 .bf16) (x3 : Vec Ideal S512x1024 .bf16) (xo : Vec Ideal S256x2048 .f32)

/-- The queries' gradient at a batch's first point. -/
theorem outQ_A (hc : cond0_0 i) :
    out0_A_4 c i a0 h0 a1 h1 a2 h2 a3 h3 a4 h4 a5 h5 hc x0 x1 x2 x3 = blkQ x0 x1 x2 x3 := by
  have hcov := cover0_A_4 c i a0 h0 a1 h1 a2 h2 a3 h3 a4 h4 a5 h5 hc x0 x1 x2 x3
  unfold out0_A_4
  rw [View.read_writes_eq_canon _ _ _ hcov]
  refine funext fun y => View.canon_apply_of_pieces _ _ (View.PiecesOf.mem ?_) y (hcov y)
  unfold kernelRun0_A
  dsimp only
  sl_unfold_words
  simp only [View.readAt_eq_ld, h0.read_unread, h1.read_unread, h2.read_unread, h3.read_unread]
  exact ⟨fun x => pieceQ 3 768 rfl x0 x1 x2 x3 _ _ x, fun x => pieceQ 2 512 rfl x0 x1 x2 x3 _ _ x,
    fun x => pieceQ 1 256 rfl x0 x1 x2 x3 _ _ x, fun x => pieceQ 0 0 rfl x0 x1 x2 x3 _ _ x, trivial⟩

/-- The queries' gradient at a later point of a batch. -/
theorem outQ_B (hc : ¬cond0_0 i) :
    out0_B_4 c i a0 h0 a1 h1 a2 h2 a3 h3 a4 h4 a5 h5 hc x0 x1 x2 x3 xo = blkQ x0 x1 x2 x3 := by
  have hcov := cover0_B_4 c i a0 h0 a1 h1 a2 h2 a3 h3 a4 h4 a5 h5 hc x0 x1 x2 x3 xo
  unfold out0_B_4
  rw [View.read_writes_eq_canon _ _ _ hcov]
  refine funext fun y => View.canon_apply_of_pieces _ _ (View.PiecesOf.mem ?_) y (hcov y)
  unfold kernelRun0_B
  dsimp only
  sl_unfold_words
  simp only [View.readAt_eq_ld, h0.read_unread, h1.read_unread, h2.read_unread, h3.read_unread]
  exact ⟨fun x => pieceQ 3 768 rfl x0 x1 x2 x3 _ _ x, fun x => pieceQ 2 512 rfl x0 x1 x2 x3 _ _ x,
    fun x => pieceQ 1 256 rfl x0 x1 x2 x3 _ _ x, fun x => pieceQ 0 0 rfl x0 x1 x2 x3 _ _ x, trivial⟩

/-- The keys' and values' gradients at a later point of a batch: added to what the block held. -/
theorem outKV_B (hc : ¬cond0_0 i) :
    out0_B_5 c i a0 h0 a1 h1 a2 h2 a3 h3 a4 h4 a5 h5 hc x0 x1 x2 x3 xo
      = addKV xo x0 x1 x2 x3 := by
  have hcov := cover0_B_5 c i a0 h0 a1 h1 a2 h2 a3 h3 a4 h4 a5 h5 hc x0 x1 x2 x3 xo
  unfold out0_B_5
  rw [View.read_writes_eq_canon _ _ _ hcov]
  refine funext fun y => View.canon_apply_of_pieces (addKV xo x0 x1 x2 x3) _ (View.PiecesOf.mem ?_) y (hcov y)
  unfold kernelRun0_B
  dsimp only
  sl_unfold_words
  simp only [View.readAt_eq_ld, h0.read_unread, h1.read_unread, h2.read_unread, h3.read_unread, h5.read_unread]
  exact ⟨fun x => pieceV 3 768 rfl x0 x1 x2 x3 xo _ _ _ 1792 rfl _ (fun _ => rfl) x,
    fun x => pieceK 3 768 rfl x0 x1 x2 x3 xo _ _ _ _ (fun _ => rfl) x,
    fun x => pieceV 2 512 rfl x0 x1 x2 x3 xo _ _ _ 1536 rfl _ (fun _ => rfl) x,
    fun x => pieceK 2 512 rfl x0 x1 x2 x3 xo _ _ _ _ (fun _ => rfl) x,
    fun x => pieceV 1 256 rfl x0 x1 x2 x3 xo _ _ _ 1280 rfl _ (fun _ => rfl) x,
    fun x => pieceK 1 256 rfl x0 x1 x2 x3 xo _ _ _ _ (fun _ => rfl) x,
    fun x => pieceV 0 0 rfl x0 x1 x2 x3 xo _ _ _ 1024 rfl _ (fun _ => rfl) x,
    fun x => pieceK 0 0 rfl x0 x1 x2 x3 xo _ _ _ _ (fun _ => rfl) x, trivial⟩

/-- A load of 256 columns passes over a store of 256 other columns. -/
theorem readCov_other (v : View sig .tc .vmem S256x2048 .f32) (o o' : ℕ)
    (inb : ∀ a, (![0, o] : Fin 2 → ℕ) a + (![256, 256] : Fin 2 → ℕ) a ≤ S256x2048.size a)
    (inb' : ∀ a, (![0, o'] : Fin 2 → ℕ) a + (![256, 256] : Fin 2 → ℕ) a ≤ S256x2048.size a)
    (w : Vec Ideal S256x256 .f32) (L : List (View.Piece (Elt Ideal) S256x2048 .f32))
    (h : o + 256 ≤ o' ∨ o' + 256 ≤ o) :
    v.readCov (⟨Rect.unit ![0, o] ![256, 256] inb, w⟩ :: L) (Rect.unit ![0, o'] ![256, 256] inb').toLoadRect
      = v.readCov L (Rect.unit ![0, o'] ![256, 256] inb').toLoadRect :=
  View.readCov_cons_of_disjoint v _ L _ (Rect.unit_disjoint (inb := inb) (inb' := inb') 1 h)

/-- The block that a batch's first point clears holds zeros. -/
theorem zero_apply (y : S256x2048.Idx) : k0_pay8 (F := Ideal) y = (0 : EReal) := by
  show Ideal.ofBits .f32 0x00000000#32 = 0
  exact Ideal.ofBits_zero_f32

/-- A head's block of zeros. -/
def zeros : Vec Ideal S256x256 .f32 := fun _ => (0 : EReal)

/-- A load of 256 columns of the cleared block. -/
theorem readCov_zero (v : View sig .tc .vmem S256x2048 .f32) (o' : ℕ)
    (inb : ∀ a, (![0, 0] : Fin 2 → ℕ) a + (![256, 2048] : Fin 2 → ℕ) a ≤ S256x2048.size a)
    (inb' : ∀ a, (![0, o'] : Fin 2 → ℕ) a + (![256, 256] : Fin 2 → ℕ) a ≤ S256x2048.size a) :
    v.readCov [⟨Rect.unit ![0, 0] ![256, 2048] inb, k0_pay8 (F := Ideal)⟩]
      (Rect.unit ![0, o'] ![256, 256] inb').toLoadRect = zeros := by
  rw [View.readCov_eq_canon', View.canon_cons_unit_lit inb _ _ (by decide)]
  exact funext fun _ => zero_apply _

/-- The keys' and values' gradients at a batch's first point. -/
theorem outKV_A (hc : cond0_0 i) :
    out0_A_5 c i a0 h0 a1 h1 a2 h2 a3 h3 a4 h4 a5 h5 hc x0 x1 x2 x3 = addKV (fun _ => 0) x0 x1 x2 x3 := by
  have hcov := cover0_A_5 c i a0 h0 a1 h1 a2 h2 a3 h3 a4 h4 a5 h5 hc x0 x1 x2 x3
  unfold out0_A_5
  rw [View.read_writes_eq_canon _ _ _ hcov]
  refine funext fun y => ?_
  unfold kernelRun0_A
  dsimp only
  sl_unfold_words
  simp (disch := decide) only [↓readCov_other]
  simp only [readCov_zero, View.readAt_eq_ld, h0.read_unread, h1.read_unread, h2.read_unread, h3.read_unread]
  refine View.canon_append_of_piecesOf (Val := Elt Ideal) (e := .f32) (addKV (fun _ => 0) x0 x1 x2 x3) [_] [_, _, _, _, _, _, _, _] ?_ y ?_
  rotate_left
  · exact View.cover_of_tiledBy _ ![256, 256] (by sl_kernel_rfl) y
  exact ⟨fun x => pieceV 3 768 rfl x0 x1 x2 x3 (fun _ => 0) _ _ _ 1792 rfl inb_S256x2048_S256x256_0_1792 (fun _ => rfl) x,
    fun x => pieceK 3 768 rfl x0 x1 x2 x3 (fun _ => 0) _ _ _ inb_S256x2048_S256x256_0_768 (fun _ => rfl) x,
    fun x => pieceV 2 512 rfl x0 x1 x2 x3 (fun _ => 0) _ _ _ 1536 rfl inb_S256x2048_S256x256_0_1536 (fun _ => rfl) x,
    fun x => pieceK 2 512 rfl x0 x1 x2 x3 (fun _ => 0) _ _ _ inb_S256x2048_S256x256_0_512 (fun _ => rfl) x,
    fun x => pieceV 1 256 rfl x0 x1 x2 x3 (fun _ => 0) _ _ _ 1280 rfl inb_S256x2048_S256x256_0_1280 (fun _ => rfl) x,
    fun x => pieceK 1 256 rfl x0 x1 x2 x3 (fun _ => 0) _ _ _ inb_S256x2048_S256x256_0_256 (fun _ => rfl) x,
    fun x => pieceV 0 0 rfl x0 x1 x2 x3 (fun _ => 0) _ _ _ 1024 rfl inb_S256x2048_S256x256_0_1024 (fun _ => rfl) x,
    fun x => pieceK 0 0 rfl x0 x1 x2 x3 (fun _ => 0) _ _ _ inb_S256x2048_S256x256_0_0 (fun _ => rfl) x, trivial⟩

end Cert.Own
end
-- ==== Proof.Arrays.lean ====
module

public import proofs.«01_k».proof.Proof.Gen.KernelIdeal.Value
public import proofs.«01_k».proof.Proof.BlockValue

/-! The kernel's two result arrays: the gradients of `Heads`. Each grid point's blocks are read off the argument arrays,
    the keys' and values' block is followed over the four points of a batch, and the arrays are put together from the
    blocks written back. -/

@[expose] public section
set_option maxRecDepth 16384

noncomputable section
namespace Cert.Own
open Cert.KernelIdeal Cert.KernelIdeal.Gen Idealize.ShloMosaic Idealize.ShloMosaic.TcCoe Idealize.SL.Sem
open Idealize.ShloMosaic.Pipeline

variable (m : (ℓ : Loc nD τ sig) → Buf (Elt Ideal) ℓ)

/-- The three arguments on a device. -/
abbrev argQ (c : Dev nD) : Mat 8192 1024 := m ((c : Thread nD τ).loc main_arg0)
abbrev argKV (c : Dev nD) : Mat 1024 2048 := m ((c : Thread nD τ).loc main_arg1)
abbrev argG (c : Dev nD) : Mat 8192 1024 := m ((c : Thread nD τ).loc main_arg2)

/-- The batch of a grid point. -/
def bOf (t : Fin cfg0.N) : Fin 4 := ⟨t.val / 4, by have h : t.val < 16 := lt_of_lt_of_eq t.isLt N_0; omega⟩

/-- The query of a batch that row `i` of a grid point's block is. -/
def rOf (t : Fin cfg0.N) (i : Fin 512) : Fin 2048 := ⟨t.val % 4 * 512 + i.val, by omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val / 4 ∧ win0_1.index t 1 = 0 :=
  (by decide +kernel : ∀ t : Fin grid0.N, win0_1.index t 0 = t.val / 4 ∧ win0_1.index t 1 = 0)
theorem index2 : ∀ t : Fin cfg0.N, win0_2.index t 0 = t.val / 4 ∧ win0_2.index t 1 = 1 :=
  (by decide +kernel : ∀ t : Fin grid0.N, win0_2.index t 0 = t.val / 4 ∧ win0_2.index t 1 = 1)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val / 4 ∧ win0_5.index t 1 = 0 :=
  (by decide +kernel : ∀ t : Fin grid0.N, win0_5.index t 0 = t.val / 4 ∧ win0_5.index t 1 = 0)

/-- A head's columns of a point's block of queries. -/
theorem seg0 (c : Dev nD) (t : Fin cfg0.N) (h : Fin 4) (i : Fin 512) :
    seg (iblk m c 0 t) h i = tok (argQ m c) (bOf t) h (rOf t i) := by
  funext d
  unfold seg tok iblk
  rw [View.read_apply]
  show V m c main_arg0 _ = _
  unfold V
  refine congrArg _ (funext fun a => Fin.ext ?_)
  have hi := index0 t
  match a with
  | ⟨0, _⟩ => show win0_0.index t 0 * 512 + 1 * i.val = t.val / 4 * 2048 + (t.val % 4 * 512 + i.val); rw [hi.1]; omega
  | ⟨1, _⟩ => show win0_0.index t 1 * 1024 + 1 * (h.val * 256 + d.val) = h.val * 256 + d.val; rw [hi.2]; omega

/-- A head's columns of a point's block of keys. -/
theorem seg1 (c : Dev nD) (t : Fin cfg0.N) (h : Fin 4) (j : Fin 256) :
    seg (iblk m c 1 t) h j = key (argKV m c) (bOf t) h j := by
  funext d
  unfold seg key iblk
  rw [View.read_apply]
  show V m c main_arg1 _ = _
  unfold V
  refine congrArg _ (funext fun a => Fin.ext ?_)
  have hi := index1 t
  match a with
  | ⟨0, _⟩ => show win0_1.index t 0 * 256 + 1 * j.val = t.val / 4 * 256 + j.val; rw [hi.1]; omega
  | ⟨1, _⟩ => show win0_1.index t 1 * 1024 + 1 * (h.val * 256 + d.val) = h.val * 256 + d.val; rw [hi.2]; omega

/-- A head's columns of a point's block of values. -/
theorem seg2 (c : Dev nD) (t : Fin cfg0.N) (h : Fin 4) (j : Fin 256) :
    seg (iblk m c 2 t) h j = val (argKV m c) (bOf t) h j := by
  funext d
  unfold seg val iblk
  rw [View.read_apply]
  show V m c main_arg1 _ = _
  unfold V
  refine congrArg _ (funext fun a => Fin.ext ?_)
  have hi := index2 t
  match a with
  | ⟨0, _⟩ => show win0_2.index t 0 * 256 + 1 * j.val = t.val / 4 * 256 + j.val; rw [hi.1]; omega
  | ⟨1, _⟩ => show win0_2.index t 1 * 1024 + 1 * (h.val * 256 + d.val) = 1024 + (h.val * 256 + d.val); rw [hi.2]; omega

/-- A head's columns of a point's block of the result's gradient. -/
theorem seg3 (c : Dev nD) (t : Fin cfg0.N) (h : Fin 4) (i : Fin 512) :
    seg (iblk m c 3 t) h i = tok (argG m c) (bOf t) h (rOf t i) := by
  funext d
  unfold seg tok iblk
  rw [View.read_apply]
  show V m c main_arg2 _ = _
  unfold V
  refine congrArg _ (funext fun a => Fin.ext ?_)
  have hi := index3 t
  match a with
  | ⟨0, _⟩ => show win0_3.index t 0 * 512 + 1 * i.val = t.val / 4 * 2048 + (t.val % 4 * 512 + i.val); rw [hi.1]; omega
  | ⟨1, _⟩ => show win0_3.index t 1 * 1024 + 1 * (h.val * 256 + d.val) = h.val * 256 + d.val; rw [hi.2]; omega

/-! ### The queries' gradient -/

theorem segs0 (c : Dev nD) (t : Fin cfg0.N) (h : Fin 4) :
    seg (iblk m c 0 t) h = fun i => tok (argQ m c) (bOf t) h (rOf t i) := funext (seg0 m c t h)
theorem segs1 (c : Dev nD) (t : Fin cfg0.N) (h : Fin 4) :
    seg (iblk m c 1 t) h = key (argKV m c) (bOf t) h := funext (seg1 m c t h)
theorem segs2 (c : Dev nD) (t : Fin cfg0.N) (h : Fin 4) :
    seg (iblk m c 2 t) h = val (argKV m c) (bOf t) h := funext (seg2 m c t h)
theorem segs3 (c : Dev nD) (t : Fin cfg0.N) (h : Fin 4) :
    seg (iblk m c 3 t) h = fun i => tok (argG m c) (bOf t) h (rOf t i) := funext (seg3 m c t h)

/-- A point's block of the queries' gradient is the block of the whole gradient. -/
theorem blkQ_eq (c : Dev nD) (t : Fin cfg0.N) (i : Fin 512) (e : Fin 1024) :
    blkQ (iblk m c 0 t) (iblk m c 1 t) (iblk m c 2 t) (iblk m c 3 t) (ix2 i e)
      = gradQ (argQ m c) (argKV m c) (argG m c) (bOf t) ⟨e.val / 256, by omega⟩ (rOf t i)
          ⟨e.val % 256, Nat.mod_lt _ (by decide)⟩ := by
  unfold blkQ
  dsimp only
  rw [segs0, segs1, segs2, segs3]
  rfl

/-- What a point leaves in the first window's block. -/
theorem outs_fst (c : Dev nD) (t : Fin cfg0.N) :
    (outsAt0 m c t.val t.isLt).1 = blkQ (iblk m c 0 t) (iblk m c 1 t) (iblk m c 2 t) (iblk m c 3 t) := by
  by_cases h0 : t.val % 4 = 0
  · rw [outsAt0_A m c t h0]
    dsimp only
    rw [outQ_A]
  · rw [outsAt0_B m c t h0]
    dsimp only
    rw [outQ_B]

theorem flushedQ (c : Dev nD) (t : Fin cfg0.N) :
    (dats m 0 c).flushed 4 t
      = ((cfg0.win 4).blk t).view.read (Elt Ideal) (allQ (argQ m c) (argKV m c) (argG m c)) := by
  show (cfg0.win 4).cut (grid0.coords t) ((dats m 0 c).after 4 t) = _
  rw [after0_4, outs_fst]
  funext j
  rw [View.read_apply]
  obtain ⟨i, e, rfl⟩ : ∃ (i : Fin 512) (e : Fin 1024), j = ix2 i e := ⟨j 0, j 1, eq_ix2 j⟩
  refine (blkQ_eq m c t i e).trans ?_
  have hi := index4 t
  have hN : t.val < 16 := lt_of_lt_of_eq t.isLt N_0
  have he : ((cfg0.win 4).blk t).view.emb (ix2 i e)
      = ix2 (⟨t.val * 512 + i.val, by omega⟩ : Fin 8192) e := by
    funext a
    refine Fin.ext ?_
    match a with
    | ⟨0, _⟩ => show win0_4.index t 0 * 512 + 1 * i.val = t.val * 512 + i.val; rw [hi.1]; omega
    | ⟨1, _⟩ => show win0_4.index t 1 * 1024 + 1 * e.val = e.val; rw [hi.2]; omega
  rw [he]
  have e1 : bOf t = ⟨(t.val * 512 + i.val) / 2048, by omega⟩ := Fin.ext (by show t.val / 4 = _ / 2048; omega)
  have e2 : rOf t i = ⟨(t.val * 512 + i.val) % 2048, Nat.mod_lt _ (by decide)⟩ :=
    Fin.ext (by show t.val % 4 * 512 + i.val = _ % 2048; omega)
  rw [e1, e2]
  rfl

/-- The first result array. -/
theorem finalQ (c : Dev nD) : (dats m 0 c).arrAt 4 cfg0.N = allQ (argQ m c) (argKV m c) (argG m c) :=
  (dats m 0 c).arrAt_eq_of_cover 4 (allQ (argQ m c) (argKV m c) (argG m c)) (fun t _ => flushedQ m c t) fun i => by
    have h0 : (i 0 : Nat) < 8192 := (i 0).isLt
    have h1 : (i 1 : Nat) < 1024 := (i 1).isLt
    let t : Fin cfg0.N := ⟨(i 0).val / 512, by rw [show cfg0.N = 16 from N_0]; omega⟩
    refine ⟨t, flush0_4 t, ?_⟩
    have hi := index4 t
    show i ∈ ((View.whole main_v0_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; show (i 0).val / 512 * 512 ≤ _ ∧ _ < (i 0).val / 512 * 512 + 512; omega
    | ⟨1, _⟩ =>
      show win0_4.index t 1 * 1024 ≤ (i 1 : Nat) ∧ (i 1 : Nat) < win0_4.index t 1 * 1024 + 1024
      rw [hi.2]; omega

/-! ### The keys' and values' gradients -/

/-- A grid point by its batch and its place in the batch. -/
def pt (b s : Fin 4) : Fin cfg0.N := ⟨b.val * 4 + s.val, by rw [show cfg0.N = 16 from N_0]; omega⟩

/-- A point's contribution to the keys' and values' gradients. -/
def con (c : Dev nD) (b s : Fin 4) : Mat 256 2048 :=
  blkKV (iblk m c 0 (pt b s)) (iblk m c 1 (pt b s)) (iblk m c 2 (pt b s)) (iblk m c 3 (pt b s))

/-- A batch's first point leaves its contribution. -/
theorem outs_snd_zero (c : Dev nD) (b : Fin 4) (y : S256x2048.Idx) :
    (outsAt0 m c (pt b 0).val (pt b 0).isLt).2 y = con m c b 0 y := by
  have h0 : (pt b 0).val % 4 = 0 := by show (b.val * 4 + 0) % 4 = 0; omega
  rw [outsAt0_A m c (pt b 0) h0]
  dsimp only
  rw [outKV_A]
  exact zero_add _

/-- A later point adds its contribution. -/
theorem outs_snd_succ (c : Dev nD) (b s s' : Fin 4) (hs : s'.val = s.val + 1) (y : S256x2048.Idx) :
    (outsAt0 m c (pt b s').val (pt b s').isLt).2 y
      = (outsAt0 m c (pt b s).val (pt b s).isLt).2 y + con m c b s' y := by
  have h0 : ¬(pt b s').val % 4 = 0 := by show ¬(b.val * 4 + s'.val) % 4 = 0; omega
  rw [outsAt0_B m c (pt b s') h0]
  dsimp only
  rw [outKV_B]
  have e : (pt b s').val - 1 = (pt b s).val := by show b.val * 4 + s'.val - 1 = b.val * 4 + s.val; omega
  show (outsAt0 m c ((pt b s').val - 1) _).2 y + _ = _
  congr 3
  simp only [e]

/-- A batch's last point leaves the sum of the four contributions. -/
theorem outs_snd_last (c : Dev nD) (b : Fin 4) (y : S256x2048.Idx) :
    (outsAt0 m c (pt b 3).val (pt b 3).isLt).2 y = ∑ s, con m c b s y := by
  rw [outs_snd_succ m c b 2 3 rfl, outs_snd_succ m c b 1 2 rfl, outs_snd_succ m c b 0 1 rfl, outs_snd_zero,
    Fin.sum_univ_four]

/-- A sum over a batch's 2048 queries, by its four blocks of 512. -/
theorem sum_queries (f : Fin 2048 → EReal) (b : Fin 4) : (∑ s : Fin 4, ∑ i : Fin 512, f (rOf (pt b s) i)) = ∑ i, f i := by
  rw [← Fintype.sum_prod_type']
  refine Fintype.sum_equiv finProdFinEquiv _ _ fun p => congrArg f (Fin.ext ?_)
  show (b.val * 4 + p.1.val) % 4 * 512 + p.2.val = p.2.val + 512 * p.1.val
  omega

theorem bOf_pt (b s : Fin 4) : bOf (pt b s) = b := Fin.ext (by show (b.val * 4 + s.val) / 4 = b.val; omega)

/-- The four contributions of a batch make its part of the whole gradient. -/
theorem sum_con (c : Dev nD) (b : Fin 4) (j : Fin 256) (e : Fin 2048) :
    (∑ s, con m c b s (ix2 j e))
      = allKV (argQ m c) (argKV m c) (argG m c) (ix2 ⟨b.val * 256 + j.val, by omega⟩ e) := by
  have e1 : (⟨(b.val * 256 + j.val) / 256, by omega⟩ : Fin 4) = b := Fin.ext (by show _ / 256 = _; omega)
  have e2 : (⟨(b.val * 256 + j.val) % 256, Nat.mod_lt _ (by decide)⟩ : Fin 256) = j :=
    Fin.ext (by show _ % 256 = _; omega)
  by_cases he : e.val < 1024
  · rw [allKV_lt _ _ _ _ _ he, gradK]
    dsimp only
    rw [e1, e2, ← sum_queries _ b]
    refine Finset.sum_congr rfl fun s _ => ?_
    refine (dif_pos he).trans ?_
    unfold blkK
    dsimp only
    rw [segs0, segs1, segs2, segs3, bOf_pt]
    rfl
  · rw [allKV_ge _ _ _ _ _ he, gradV]
    dsimp only
    rw [e1, e2, ← sum_queries _ b]
    refine Finset.sum_congr rfl fun s _ => ?_
    refine (dif_neg he).trans ?_
    unfold blkV
    dsimp only
    rw [segs0, segs1, segs3, bOf_pt]
    rfl

theorem flushedKV (c : Dev nD) (t : Fin cfg0.N) (hf : (cfg0.win 5).flush t = true) :
    (dats m 0 c).flushed 5 t
      = ((cfg0.win 5).blk t).view.read (Elt Ideal) (allKV (argQ m c) (argKV m c) (argG m c)) := by
  have h3 := (flush0_5 t).mp hf
  obtain ⟨b, rfl⟩ : ∃ b, t = pt b 3 := ⟨bOf t, Fin.ext (by show t.val = t.val / 4 * 4 + 3; omega)⟩
  show (cfg0.win 5).cut (grid0.coords _) ((dats m 0 c).after 5 _) = _
  rw [after0_5]
  funext j
  rw [View.read_apply]
  obtain ⟨i, e, rfl⟩ : ∃ (i : Fin 256) (e : Fin 2048), j = ix2 i e := ⟨j 0, j 1, eq_ix2 j⟩
  refine (outs_snd_last m c b (ix2 i e)).trans ((sum_con m c b i e).trans ?_)
  have hi := index5 (pt b 3)
  have hb : (pt b 3).val / 4 = b.val := by show (b.val * 4 + 3) / 4 = b.val; omega
  refine congrArg _ (funext fun a => Fin.ext ?_)
  match a with
  | ⟨0, _⟩ => show b.val * 256 + i.val = win0_5.index (pt b 3) 0 * 256 + 1 * i.val; rw [hi.1, hb]; omega
  | ⟨1, _⟩ => show e.val = win0_5.index (pt b 3) 1 * 2048 + 1 * e.val; rw [hi.2]; omega

/-- The second result array. -/
theorem finalKV (c : Dev nD) : (dats m 0 c).arrAt 5 cfg0.N = allKV (argQ m c) (argKV m c) (argG m c) :=
  (dats m 0 c).arrAt_eq_of_cover 5 (allKV (argQ m c) (argKV m c) (argG m c)) (flushedKV m c) fun i => by
    have h0 : (i 0 : Nat) < 1024 := (i 0).isLt
    have h1 : (i 1 : Nat) < 2048 := (i 1).isLt
    let b : Fin 4 := ⟨(i 0).val / 256, by omega⟩
    refine ⟨pt b 3, (flush0_5 _).mpr (by show (b.val * 4 + 3) % 4 = 3; omega), ?_⟩
    have hi := index5 (pt b 3)
    have hb : (pt b 3).val / 4 = (i 0).val / 256 := by show ((i 0).val / 256 * 4 + 3) / 4 = _; omega
    show i ∈ ((View.whole main_v0_1).slice (win0_5.rect (pt b 3))).set
    rw [View.set_slice_whole, Rect.mem_set_unit]
    intro a
    match a with
    | ⟨0, _⟩ =>
      show win0_5.index (pt b 3) 0 * 256 ≤ (i 0 : Nat) ∧ (i 0 : Nat) < win0_5.index (pt b 3) 0 * 256 + 256
      rw [hi.1, hb]; omega
    | ⟨1, _⟩ =>
      show win0_5.index (pt b 3) 1 * 2048 ≤ (i 1 : Nat) ∧ (i 1 : Nat) < win0_5.index (pt b 3) 1 * 2048 + 2048
      rw [hi.2]; omega

end Cert.Own
end
-- ==== Proof.Ref.lean ====
module

public import proofs.«01_k».proof.Proof.Gen.ReferenceIdeal.Read
public import proofs.«01_k».proof.Proof.Heads

/-! The reference's two results, entry by entry: the gradients of `Heads`. -/

@[expose] public section
set_option maxRecDepth 16384

noncomputable section
namespace Cert.Own
open Cert.ReferenceIdeal Cert.ReferenceIdeal.Gen Cert.ReferenceIdeal.Read Idealize.ShloMosaic
open Idealize.ShloMosaic.TcCoe Idealize.SL.Sem Idealize.ShloMosaic.StableHlo

variable (x0 : Vec Ideal S8192x1024 .bf16) (x1 : Vec Ideal S1024x2048 .bf16) (x2 : Vec Ideal S8192x1024 .bf16)

theorem ref_q (b h : Fin 4) (i : Fin 2048) (d : Fin 256) : val_main_v5 x0 (ix4 b h i d) = tok x0 b h i d := by
  pointwise [val_main_v5, val_main_v4, val_main_v1, val_main_v0]
  rfl

theorem ref_do (b h : Fin 4) (i : Fin 2048) (d : Fin 256) : val_main_v49 x2 (ix4 b h i d) = tok x2 b h i d := by
  pointwise [val_main_v49, val_main_v48, val_main_v47, val_main_v46]
  rfl

theorem ref_k (b h : Fin 4) (j d : Fin 256) : val_main_v8 x1 (ix4 b h j d) = key x1 b h j d := by
  pointwise [val_main_v8, val_main_v7, val_main_v6, val_main_v3, val_main_v2]
  rfl

theorem ref_v (b h : Fin 4) (j d : Fin 256) : val_main_v11 x1 (ix4 b h j d) = val x1 b h j d := by
  pointwise [val_main_v11, val_main_v10, val_main_v9, val_main_v3, val_main_v2]
  rfl

/-- The products of the queries with the keys. -/
theorem ref_dot (b h : Fin 4) (i : Fin 2048) (j : Fin 256) :
    val_main_v12 x0 x1 (ix4 b h i j) = ∑ d, tok x0 b h i d * key x1 b h j d := by
  pointwise [val_main_v12]
  simp only [ref_q, ref_k]

/-- The scores. -/
theorem ref_s (b h : Fin 4) (i : Fin 2048) (j : Fin 256) :
    val_main_v14 x0 x1 (ix4 b h i j) = srow x0 x1 b h i j := by
  rw [val_main_v14_apply, val_main_v13_apply, val_main_cst_apply, ref_dot, srow, score, scale, Ideal.mulf_def,
    Ideal.ofBits_def]

/-- The maximum of a row of scores. -/
theorem ref_max0 (b h : Fin 4) (i : Fin 2048) :
    val_main_v15 x0 x1 (ix3 b h i) = Finset.fold max low (srow x0 x1 b h i) Finset.univ := by
  pointwise [val_main_v15]
  rw [val_main_cst_0_apply]
  simp only [ref_s]
  rfl

/-- The same, taken against −∞ once more. -/
theorem ref_max (b h : Fin 4) (i : Fin 2048) :
    val_main_v22 x0 x1 (ix3 b h i) = Finset.fold max low (srow x0 x1 b h i) Finset.univ := by
  rw [val_main_v22_apply, val_main_v21_apply, val_main_cst_2_apply, ref_max0]
  exact max_low _

/-- The exponentials. -/
theorem ref_e (b h : Fin 4) (i : Fin 2048) (j : Fin 256) :
    val_main_v35 x0 x1 (ix4 b h i j) = expo (srow x0 x1 b h i) j := by
  pointwise [val_main_v35, val_main_v34, val_main_v33, val_main_v32]
  simp only [ref_s, ref_max]
  rfl

/-- Their sum. -/
theorem ref_z (b h : Fin 4) (i : Fin 2048) :
    val_main_v37 x0 x1 (ix4 b h i 0) = ∑ j, expo (srow x0 x1 b h i) j := by
  pointwise [val_main_v37, val_main_v36, val_main_cst_8]
  simp only [ref_e]

/-- The probabilities. -/
theorem ref_p (b h : Fin 4) (i : Fin 2048) (j : Fin 256) :
    val_main_v39 x0 x1 (ix4 b h i j) = prob (srow x0 x1 b h i) j := by
  pointwise [val_main_v39, val_main_v38]
  simp only [ref_e, ref_z]
  rfl

/-- The gradient of the probabilities. -/
theorem ref_d (b h : Fin 4) (i : Fin 2048) (j : Fin 256) :
    val_main_v52 x1 x2 (ix4 b h i j) = drow x1 x2 b h i j := by
  pointwise [val_main_v52]
  simp only [ref_do, ref_v]
  rfl

/-- The gradient of the scores, in the form of a quotient's derivative. -/
theorem ref_dsq (b h : Fin 4) (i : Fin 2048) (j : Fin 256) :
    val_main_v66 x0 x1 x2 (ix4 b h i j) = dscoreQuot (srow x0 x1 b h i) (drow x1 x2 b h i) j := by
  pointwise [val_main_v66, val_main_v65, val_main_v64, val_main_v63, val_main_v62, val_main_v61, val_main_v60,
    val_main_v59, val_main_v58, val_main_v57, val_main_v56, val_main_v55, val_main_v54, val_main_v53, val_main_cst_12,
    val_main_cst_11, val_main_cst_10, val_main_v42, val_main_v41, val_main_v40, val_main_cst_9]
  simp only [ref_e, ref_z, ref_d, Fin.sum_univ_one]
  rfl

variable (hq : ∀ y, ∃ r : ℝ, x0 y = (r : EReal))
  (hk : KeysReal x1)
include hq hk

/-- The gradient of the scores. -/
theorem ref_ds (b h : Fin 4) (i : Fin 2048) (j : Fin 256) :
    val_main_v66 x0 x1 x2 (ix4 b h i j) = dsrow x0 x1 x2 b h i j :=
  (ref_dsq x0 x1 x2 b h i j).trans (dscoreQuot_eq _ _ (srow_real x0 x1 hq hk b h i) j)

/-- The first result is the gradient of the queries. -/
theorem ref_out0 : val_main_v79 x0 x1 x2 = allQ x0 x1 x2 := by
  refine funext fun y => ?_
  obtain ⟨i, j, rfl⟩ : ∃ (i : Fin 8192) (j : Fin 1024), y = ix2 i j := ⟨y 0, y 1, eq_ix2 y⟩
  pointwise [val_main_v79, val_main_v78, val_main_v77, val_main_v76, val_main_v68]
  simp only [ref_ds x0 x1 x2 hq hk, ref_k]
  rfl

/-- The gradient of the keys, batch by batch. -/
theorem ref_dk (b : Fin 4) (i : Fin 256) (j : Fin 1024) :
    val_main_v73 x0 x1 x2 (ix3 b i j)
      = gradK x0 x1 x2 b ⟨j.val / 256, by omega⟩ i ⟨j.val % 256, Nat.mod_lt _ (by decide)⟩ := by
  pointwise [val_main_v73, val_main_v72, val_main_v67]
  simp only [ref_ds x0 x1 x2 hq hk, ref_q, gradK]

omit hq hk in
/-- The gradient of the values, batch by batch. -/
theorem ref_dv (b : Fin 4) (i : Fin 256) (j : Fin 1024) :
    val_main_v70 x0 x1 x2 (ix3 b i j)
      = gradV x0 x1 x2 b ⟨j.val / 256, by omega⟩ i ⟨j.val % 256, Nat.mod_lt _ (by decide)⟩ := by
  pointwise [val_main_v70, val_main_v69, val_main_v51, val_main_v50]
  simp only [ref_do, ref_p, gradV]
  exact Finset.sum_congr rfl fun x _ => mul_comm _ _

/-- The second is the gradient of the keys and values. -/
theorem ref_out1 : val_main_v80 x0 x1 x2 = allKV x0 x1 x2 := by
  refine funext fun y => ?_
  obtain ⟨i, j, rfl⟩ : ∃ (i : Fin 1024) (j : Fin 2048), y = ix2 i j := ⟨y 0, y 1, eq_ix2 y⟩
  pointwise [val_main_v80, val_main_v75, val_main_v74, val_main_v71, val_main_cst_13, val_main_cst_14]
  by_cases hj : j.val < 1024
  · have e1 : ¬(1024 ≤ j.val ∧ j.val - 1024 < 1024) := by omega
    have e2 : i.val / 256 < 4 ∧ i.val % 256 < 256 ∧ j.val < 1024 := by omega
    refine Eq.trans ?_ (allKV_lt x0 x1 x2 i j hj).symm
    simp only [e1, e2, dite_false, dite_true, zero_add, and_self, and_false, ref_dk x0 x1 x2 hq hk]
  · have e1 : 1024 ≤ j.val ∧ j.val - 1024 < 1024 := by omega
    have e2 : i.val / 256 < 4 ∧ i.val % 256 < 256 := by omega
    refine Eq.trans ?_ (allKV_ge x0 x1 x2 i j hj).symm
    simp only [e1, e2, hj, dite_false, dite_true, add_zero, and_self, and_false, ref_dv]

end Cert.Own
end
-- ==== Proof.Pre.lean ====
module

public import proofs.«01_k».proof.Pre_finite_scores
public import proofs.«01_k».proof.Proof.Heads
public import Idealize.ShloMosaic.Lib.Pointwise
public import Idealize.ShloMosaic.PureOps.Ideal

/-! What the precondition says: the queries and the keys are real numbers. -/

@[expose] public section
set_option maxRecDepth 16384

noncomputable section
namespace Cert.Own
open Idealize.ShloMosaic

instance preFacts : Cert.Pre_finite_scores.Facts where
  bitsLt_bf16_f32 := by decide
  bcast_S_S8192x1024 := by decide
  slices_S1024x2048_S1024x1024_0_0 := by decide
  bcast_S_S1024x1024 := by decide

/-- The word of +∞ and the word of −∞. -/
theorem ofBits_top : Ideal.ofBits FTy.f32 0x7F800000#32 = ⊤ := by simp [Ideal.ofBits, Ideal.ieee]
theorem ofBits_bot : Ideal.ofBits FTy.f32 0xFF800000#32 = ⊥ := by simp [Ideal.ofBits, Ideal.ieee]

theorem real_of_lt {x : EReal} (h0 : ⊥ < x) (h1 : x < ⊤) : ∃ r : ℝ, x = r :=
  ⟨x.toReal, (EReal.coe_toReal h1.ne h0.ne').symm⟩

/-- Both comparisons of an entry with the infinities. -/
theorem real_of_bits {x : EReal} (h : Ideal.cmp .ogt x (Ideal.ofBits FTy.f32 0xFF800000#32)
    &&& Ideal.cmp .olt x (Ideal.ofBits FTy.f32 0x7F800000#32) = 1#1) : ∃ r : ℝ, x = r := by
  rw [ofBits_top, ofBits_bot] at h
  by_cases h0 : ⊥ < x
  · by_cases h1 : x < ⊤
    · exact real_of_lt h0 h1
    · exact absurd h (by simp [Ideal.cmp, h1])
  · exact absurd h (by simp [Ideal.cmp, h0])

variable (x0 : FVec Ideal Cert.Pre_finite_scores.S8192x1024 .bf16)
  (x1 : FVec Ideal Cert.Pre_finite_scores.S1024x2048 .bf16) (x2 : FVec Ideal Cert.Pre_finite_scores.S8192x1024 .bf16)

/-- Under the precondition every entry of the queries is real. -/
theorem pre_q (h : (Cert.Pre_finite_scores.fn (F := Ideal) x0 x1 x2).1 = fun _ => 1#1) (y : (⟨2, ![8192, 1024]⟩ : Shape).Idx) :
    ∃ r : ℝ, x0 y = r :=
  real_of_bits (congrFun h y)

/-- Under the precondition every entry of the keys is real. -/
theorem pre_k (h : (Cert.Pre_finite_scores.fn (F := Ideal) x0 x1 x2).2 = fun _ => 1#1) : KeysReal x1 := by
  intro i j
  have e := congrFun h (ix2 i j)
  unfold Cert.Pre_finite_scores.fn at e
  dsimp only at e
  refine real_of_bits (Eq.trans ?_ e)
  have hx : extractStridedSlice Cert.Pre_finite_scores.S1024x1024 ![0, 0] x1
      Cert.Pre_finite_scores.Facts.slices_S1024x2048_S1024x1024_0_0 (ix2 i j) = x1 (ix2 i (⟨j.val, by omega⟩ : Fin 2048)) := by
    pointwise
  rw [← hx]
  rfl

end Cert.Own
end
-- ==== Proof.Attention.lean ====
module

public import proofs.«01_k».proof.Defs
public import proofs.«01_k».proof.Proof.Gen.Kernel
public import proofs.«01_k».proof.Proof.Gen.Kernel.Frame
public import proofs.«01_k».proof.Proof.Arrays
public import proofs.«01_k».proof.Proof.Ref
public import proofs.«01_k».proof.Proof.Pre

/-! The claims of the memory cross-attention's backward pass, each under the name its definition has. -/

@[expose] public section

noncomputable section
namespace Cert.Proof
open Idealize.ShloMosaic Idealize.SL.Sem Cert.Own

/-- The kernel runs and leaves its arguments and the counters as they were. -/
theorem frame_p : Cert.quiescent_Kernel := fun m ρ _ => Cert.Kernel.Gen.frame m ρ

/-- So does the kernel over the extended reals, with and without the precondition. -/
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)
theorem frame_ri_pre : Cert.quiescent_ReferenceIdeal_pre_finite_scores := fun m ρ _ => frame_ri m ρ trivial

/-- From arguments that agree and have finite queries and keys, the kernel's two arrays and the reference's two arrays
    are the gradients `allQ` and `allKV` of the arguments. -/
theorem algebraic : Cert.algebraic_KernelIdeal_ReferenceIdeal_pre_finite_scores := by
  intro m ρ m' ρ' hpre hagree
  refine ⟨fun c => allQ (argQ m c) (argKV m c) (argG m c), fun c => allKV (argQ m c) (argKV m c) (argG m c), ?_, ?_⟩
  · refine (θ_run Cert.KernelIdeal.defs _ _).mono (fun r h c => ?_) (Cert.KernelIdeal.Value.run_blocks m ρ)
    exact ⟨(h c).1.trans (finalQ m c), (h c).2.1.trans (finalKV m c), (h c).2.2⟩
  · refine (θ_run Cert.ReferenceIdeal.defs _ _).mono (fun r h c => ?_) (Cert.ReferenceIdeal.Value.run (F := Ideal) m' ρ')
    have hq := pre_q _ _ _ (hpre c).1
    have hk := pre_k _ _ _ (hpre c).2
    obtain ⟨a0, a1, a2⟩ := hagree c
    refine ⟨(h c).1.trans ?_, (h c).2.1.trans ?_, (h c).2.2⟩
    · rw [Cert.ReferenceIdeal.Read.val_main_v79_eq, a0, a1, a2]
      exact ref_out0 _ _ _ hq hk
    · rw [Cert.ReferenceIdeal.Read.val_main_v80_eq, a0, a1, a2]
      exact ref_out1 _ _ _ hq hk

end Cert.Proof
end
-- ==== Proof.Swap.lean ====
module

public import Idealize.ShloMosaic.Lib.Pointwise

/-! The feed-forward block's two column orders, and sums by equal parts. In the plain order 2816 gate columns come before
    2816 value columns. In the kernel's order blocks of 1408 gate columns and 1408 value columns take turns. -/

@[expose] public section

namespace Cert.Ffn

/-- The plain column that stands at a place of the kernel's order. It is also the place of a plain column. -/
def sw (p : Fin 5632) : Fin 5632 := ⟨p.val / 1408 % 2 * 2816 + p.val / 2816 * 1408 + p.val % 1408, by omega⟩

theorem sw_sw (p : Fin 5632) : sw (sw p) = p := by
  have hp := p.isLt
  refine Fin.ext ?_
  show _ = p.val
  simp only [sw]
  have h : p.val / 1408 = 0 ∨ p.val / 1408 = 1 ∨ p.val / 1408 = 2 ∨ p.val / 1408 = 3 := by omega
  have e : p.val / 2816 = p.val / 1408 / 2 := by omega
  rw [e]
  rcases h with h | h | h | h <;> rw [h] <;> norm_num <;> omega

/-- The order as a permutation. -/
def swEquiv : Fin 5632 ≃ Fin 5632 := ⟨sw, sw, sw_sw, sw_sw⟩

/-- A block's gate columns are 1408 consecutive plain gate columns, its value columns the value columns beside them. -/
theorem sw_gate (j : Fin 2) (q : Fin 1408) :
    sw ⟨j.val * 2816 + q.val, by omega⟩ = ⟨j.val * 1408 + q.val, by omega⟩ :=
  Fin.ext (by
    show (j.val * 2816 + q.val) / 1408 % 2 * 2816 + (j.val * 2816 + q.val) / 2816 * 1408 + (j.val * 2816 + q.val) % 1408
      = j.val * 1408 + q.val
    omega)

theorem sw_value (j : Fin 2) (q : Fin 1408) :
    sw ⟨j.val * 2816 + (1408 + q.val), by omega⟩ = ⟨2816 + (j.val * 1408 + q.val), by omega⟩ :=
  Fin.ext (by
    show (j.val * 2816 + (1408 + q.val)) / 1408 % 2 * 2816 + (j.val * 2816 + (1408 + q.val)) / 2816 * 1408
      + (j.val * 2816 + (1408 + q.val)) % 1408 = 2816 + (j.val * 1408 + q.val)
    omega)

/-- A sum over `N` places by `a` parts of `b`. -/
theorem sum_parts {N : ℕ} (a b : ℕ) (h : a * b = N) (f : Fin N → EReal)
    (lt : ∀ (s : Fin a) (n : Fin b), s.val * b + n.val < N) :
    (∑ s : Fin a, ∑ n : Fin b, f ⟨s.val * b + n.val, lt s n⟩) = ∑ n, f n := by
  subst h
  rw [← Fintype.sum_prod_type']
  refine Fintype.sum_equiv finProdFinEquiv _ _ fun p => congrArg f (Fin.ext ?_)
  show p.1.val * b + p.2.val = p.2.val + b * p.1.val
  rw [Nat.mul_comm, Nat.add_comm]

/-- A sum in the kernel's column order, by two parts, is the sum in the plain order. -/
theorem sum_sw (f : Fin 5632 → EReal) (lt : ∀ (s : Fin 2) (n : Fin 2816), s.val * 2816 + n.val < 5632) :
    (∑ s : Fin 2, ∑ n : Fin 2816, f (sw ⟨s.val * 2816 + n.val, lt s n⟩)) = ∑ p, f p := by
  rw [sum_parts 2 2816 rfl (fun p => f (sw p)) lt]
  exact Fintype.sum_equiv swEquiv _ _ fun _ => rfl

end Cert.Ffn
end
-- ==== Proof.Sigmoid.lean ====
module

public import Idealize.ShloMosaic.PureOps.Ideal

/-! The logistic function, as the kernel computes it and as the reference does. -/

@[expose] public section

noncomputable section
namespace Cert.Ffn
open Idealize.ShloMosaic

/-- The printed one half. -/
def half : EReal := Ideal.ofBits .f32 0x3F000000#32

theorem half_eq : half = ((1 / 2 : ℝ) : EReal) := by
  simp [half, Ideal.ofBits, Ideal.ieee, -EReal.coe_mul]; norm_num

/-- The logistic function, as the reference computes it. -/
def sig (x : EReal) : EReal := Ideal.div 1 (1 + Ideal.exp (-x))

theorem sig_bot : sig ⊥ = 0 := Ideal.logistic_bot
theorem sig_top : sig ⊤ = 1 := Ideal.logistic_top
theorem sig_coe (r : ℝ) : sig r = ((1 + Real.exp (-r))⁻¹ : ℝ) := Ideal.logistic_coe r

/-- At one half of the argument, the hyperbolic tangent is twice the logistic function less one. -/
theorem tanh_half (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have e1 : Real.exp (1 / 2 * r) * Real.exp (-(1 / 2 * r)) = 1 := by
    rw [← Real.exp_add, add_neg_cancel, Real.exp_zero]
  have p : 0 < Real.exp (1 / 2 * r) := Real.exp_pos _
  have q : 0 < Real.exp (-(1 / 2 * r)) := Real.exp_pos _
  rw [Real.tanh_eq_sinh_div_cosh, Real.sinh_eq, Real.cosh_eq, e]
  generalize Real.exp (1 / 2 * r) = u at *
  generalize Real.exp (-(1 / 2 * r)) = v at *
  field_simp
  nlinarith

/-- The kernel's form of the logistic function is the reference's, at the infinities too. -/
theorem sig_kernel (x : EReal) : half * Ideal.tanh (half * x) + half = sig x := by
  rw [half_eq]
  induction x using EReal.rec with
  | bot =>
    rw [EReal.coe_mul_bot_of_pos (by norm_num), Ideal.tanh_bot, sig_bot, mul_neg, mul_one, ← EReal.coe_neg, ← EReal.coe_add]
    norm_num
  | top =>
    rw [EReal.coe_mul_top_of_pos (by norm_num), Ideal.tanh_top, sig_top, mul_one]
    norm_cast; norm_num
  | coe r =>
    rw [← EReal.coe_mul, Ideal.tanh_coe, ← EReal.coe_mul, ← EReal.coe_add, tanh_half, sig_coe]

/-- The logistic function lies between zero and one. -/
theorem sig_real (x : EReal) : ∃ r : ℝ, sig x = r := by
  induction x using EReal.rec with
  | bot => exact ⟨0, sig_bot⟩
  | top => exact ⟨1, sig_top⟩
  | coe r => exact ⟨_, sig_coe r⟩

end Cert.Ffn
end
-- ==== Proof.FfnIn.lean ====
module

public import proofs.«01_k».proof.Defs
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Swap
public import proofs.«01_k».proof.Proof.Sigmoid
public import Idealize.ShloMosaic.PureOps.Ideal
public import Idealize.ShloMosaic.Lib.Pointwise
public import Idealize.ShloMosaic.Lib.Pipeline.ValueKit.Tiles
public import Idealize.ShloMosaic.Lib.Pipeline.ReadBack

/-! The feed-forward block's input projection with its gate. Each of the kernel's 32 blocks holds 512 rows and 2816 inner
    columns, a half of them gate columns and the other half the value columns beside them. The block's product is stored
    in two parts of 256 rows, and so is its gated half. -/

@[expose] public section
set_option maxRecDepth 16384

noncomputable section
namespace Cert.FfnIn
open Cert.Kernel2Ideal Cert.Kernel2Ideal.Gen Idealize.ShloMosaic Idealize.ShloMosaic.TcCoe Idealize.SL.Sem
open Idealize.ShloMosaic.Pipeline Cert.Ffn

/-- The inner columns, at row `n` and column `p`. -/
def inner (H : S8192x1024.Idx → EReal) (W : S1024x5632.Idx → EReal) : S8192x5632.Idx → EReal := fun y =>
  ∑ e : Fin 1024, H (ix2 (y 0) e) * W (ix2 e (y 1))

/-- The inner columns in the kernel's order. -/
def raw (H : S8192x1024.Idx → EReal) (W : S1024x5632.Idx → EReal) : S8192x5632.Idx → EReal := fun y =>
  inner H W (ix2 (y 0) (sw (y 1)))

/-- A gate `a` times its logistic function, times the value `b`. -/
def gate (a b : EReal) : EReal := a * sig a * b

/-- The gated activations. -/
def act (H : S8192x1024.Idx → EReal) (W : S1024x5632.Idx → EReal) : S8192x2816.Idx → EReal := fun y =>
  gate (inner H W (ix2 (y 0) ⟨(y 1).val, by have h : (y 1).val < 2816 := (y 1).isLt; omega⟩))
    (inner H W (ix2 (y 0) ⟨2816 + (y 1).val, by have h : (y 1).val < 2816 := (y 1).isLt; omega⟩))

/-- A block's product: rows of the input `x` times rows of the prepared weights `w`. -/
def blkZ (x : Vec Ideal S512x1024 .bf16) (w : Vec Ideal S2816x1024 .bf16) (i : Fin 512) (r : Fin 2816) : EReal :=
  ∑ e : Fin 1024, x (ix2 i e) * w (ix2 r e)

/-- A block's gated half. -/
def blkU (x : Vec Ideal S512x1024 .bf16) (w : Vec Ideal S2816x1024 .bf16) (i : Fin 512) (q : Fin 1408) : EReal :=
  gate (blkZ x w i ⟨q.val, by omega⟩) (blkZ x w i ⟨1408 + q.val, by omega⟩)

/-- Both as arrays. -/
def arrZ (x : Vec Ideal S512x1024 .bf16) (w : Vec Ideal S2816x1024 .bf16) : Vec Ideal S512x2816 .bf16 := fun y =>
  blkZ x w (y 0) (y 1)
def arrU (x : Vec Ideal S512x1024 .bf16) (w : Vec Ideal S2816x1024 .bf16) : Vec Ideal S512x1408 .bf16 := fun y =>
  blkU x w (y 0) (y 1)

section Body
variable (x : Vec Ideal S512x1024 .bf16) (w : Vec Ideal S2816x1024 .bf16)

/-- The product of 256 rows. -/
theorem pay3_apply (v : Vec Ideal S256x1024 .bf16) (i : Fin 256) (r : Fin 2816) :
    k0_pay3 w v (ix2 i r) = ∑ e : Fin 1024, v (ix2 i e) * w (ix2 r e) := by
  pointwise [k0_pay3, k0_pay2]

theorem pay4_apply (v : Vec Ideal S256x1024 .bf16) (i : Fin 256) (r : Fin 2816) :
    k0_pay4 w v (ix2 i r) = ∑ e : Fin 1024, v (ix2 i e) * w (ix2 r e) := by
  pointwise [k0_pay4, k0_pay2]

/-- The gated half of 256 rows. -/
theorem pay6_apply (v : Vec Ideal S256x1024 .bf16) (i : Fin 256) (q : Fin 1408) :
    k0_pay6 w v (ix2 i q)
      = gate (k0_pay3 w v (ix2 i ⟨q.val, by omega⟩)) (k0_pay3 w v (ix2 i ⟨1408 + q.val, by omega⟩)) := by
  unfold gate
  rw [← sig_kernel]
  unfold half
  pointwise [k0_pay6]

theorem pay8_apply (v : Vec Ideal S256x1024 .bf16) (i : Fin 256) (q : Fin 1408) :
    k0_pay1 (k0_pay8 w v) (ix2 i q)
      = gate (k0_pay4 w v (ix2 i ⟨q.val, by omega⟩)) (k0_pay4 w v (ix2 i ⟨1408 + q.val, by omega⟩)) := by
  unfold gate
  rw [← sig_kernel]
  unfold half
  pointwise [k0_pay1, k0_pay8]

/-- A load of the whole block of weights, and loads of 256 rows of the input's block. -/
theorem ld_w : View.ld w r0_0 = w := View.ld_unit_zero (by decide) inb_S2816x1024_S2816x1024_0_0 w

theorem ld_low (i : Fin 256) (e : Fin 1024) : View.ld x r0_1 (ix2 i e) = x (ix2 ⟨0 + i.val, by omega⟩ e) := by
  refine View.ld_unit_apply_of x _ _ inb_S512x1024_S256x1024_0_0 _ _ fun a => ?_
  match a with
  | ⟨0, _⟩ => rfl
  | ⟨1, _⟩ => exact (Nat.zero_add _).symm

theorem ld_high (i : Fin 256) (e : Fin 1024) : View.ld x r0_2 (ix2 i e) = x (ix2 ⟨256 + i.val, by omega⟩ e) := by
  refine View.ld_unit_apply_of x _ _ inb_S512x1024_S256x1024_256_0 _ _ fun a => ?_
  match a with
  | ⟨0, _⟩ => rfl
  | ⟨1, _⟩ => exact (Nat.zero_add _).symm

theorem emb_low (i : Fin 256) (r : Fin 2816) : r0_3.emb (ix2 i r) = ix2 (⟨0 + i.val, by omega⟩ : Fin 512) r :=
  Rect.emb_eq_of_coords _ _ _ fun a => by
    match a with
    | ⟨0, _⟩ => show 0 + i.val = 0 + 1 * i.val; omega
    | ⟨1, _⟩ => show r.val = 0 + 1 * r.val; omega

theorem emb_high (i : Fin 256) (r : Fin 2816) : r0_5.emb (ix2 i r) = ix2 (⟨256 + i.val, by omega⟩ : Fin 512) r :=
  Rect.emb_eq_of_coords _ _ _ fun a => by
    match a with
    | ⟨0, _⟩ => show 256 + i.val = 256 + 1 * i.val; omega
    | ⟨1, _⟩ => show r.val = 0 + 1 * r.val; omega

theorem emb_low' (i : Fin 256) (q : Fin 1408) : r0_4.emb (ix2 i q) = ix2 (⟨0 + i.val, by omega⟩ : Fin 512) q :=
  Rect.emb_eq_of_coords _ _ _ fun a => by
    match a with
    | ⟨0, _⟩ => show 0 + i.val = 0 + 1 * i.val; omega
    | ⟨1, _⟩ => show q.val = 0 + 1 * q.val; omega

theorem emb_high' (i : Fin 256) (q : Fin 1408) : r0_6.emb (ix2 i q) = ix2 (⟨256 + i.val, by omega⟩ : Fin 512) q :=
  Rect.emb_eq_of_coords _ _ _ fun a => by
    match a with
    | ⟨0, _⟩ => show 256 + i.val = 256 + 1 * i.val; omega
    | ⟨1, _⟩ => show q.val = 0 + 1 * q.val; omega

/-- The four stores' values: a part's product, and its gated half. -/
theorem piece_low (i : Fin 256) (r : Fin 2816) : k0_pay3 w (View.ld x r0_1) (ix2 i r) = blkZ x w ⟨0 + i.val, by omega⟩ r :=
  (pay3_apply w _ i r).trans (Finset.sum_congr rfl fun e _ => congrArg (· * w (ix2 r e)) (ld_low x i e))

theorem piece_high (i : Fin 256) (r : Fin 2816) :
    k0_pay4 w (View.ld x r0_2) (ix2 i r) = blkZ x w ⟨256 + i.val, by omega⟩ r :=
  (pay4_apply w _ i r).trans (Finset.sum_congr rfl fun e _ => congrArg (· * w (ix2 r e)) (ld_high x i e))

theorem piece_low' (i : Fin 256) (q : Fin 1408) :
    k0_pay6 w (View.ld x r0_1) (ix2 i q) = blkU x w ⟨0 + i.val, by omega⟩ q :=
  (pay6_apply w _ i q).trans (congrArg₂ gate (piece_low x w i _) (piece_low x w i _))

theorem piece_high' (i : Fin 256) (q : Fin 1408) :
    k0_pay1 (k0_pay8 w (View.ld x r0_2)) (ix2 i q) = blkU x w ⟨256 + i.val, by omega⟩ q :=
  (pay8_apply w _ i q).trans (congrArg₂ gate (piece_high x w i _) (piece_high x w i _))

/-- What the body leaves in the product's buffer. -/
theorem out2_eq : out0_2 x w = arrZ x w := by
  unfold out0_2
  rw [ld_w]
  refine funext fun y => View.canon_apply_of_pieces (arrZ x w) _ (View.PiecesOf.mem ?_) y (cover0_2 (F := Ideal) _ _ y)
  refine ⟨fun z => ?_, fun z => ?_, trivial⟩
  · obtain ⟨i, r, rfl⟩ : ∃ (i : Fin 256) (r : Fin 2816), z = ix2 i r := ⟨z 0, z 1, eq_ix2 z⟩
    rw [emb_high]
    exact piece_high x w i r
  · obtain ⟨i, r, rfl⟩ : ∃ (i : Fin 256) (r : Fin 2816), z = ix2 i r := ⟨z 0, z 1, eq_ix2 z⟩
    rw [emb_low]
    exact piece_low x w i r

/-- What the body leaves in the gated half's buffer. -/
theorem out3_eq : out0_3 x w = arrU x w := by
  unfold out0_3
  rw [ld_w]
  refine funext fun y => View.canon_apply_of_pieces (arrU x w) _ (View.PiecesOf.mem ?_) y (cover0_3 (F := Ideal) _ _ y)
  refine ⟨fun z => ?_, fun z => ?_, trivial⟩
  · obtain ⟨i, q, rfl⟩ : ∃ (i : Fin 256) (q : Fin 1408), z = ix2 i q := ⟨z 0, z 1, eq_ix2 z⟩
    rw [emb_high']
    exact piece_high' x w i q
  · obtain ⟨i, q, rfl⟩ : ∃ (i : Fin 256) (q : Fin 1408), z = ix2 i q := ⟨z 0, z 1, eq_ix2 z⟩
    rw [emb_low']
    exact piece_low' x w i q

theorem out2_apply (i : Fin 512) (r : Fin 2816) : out0_2 x w (ix2 i r) = blkZ x w i r := congrFun (out2_eq x w) (ix2 i r)
theorem out3_apply (i : Fin 512) (q : Fin 1408) : out0_3 x w (ix2 i q) = blkU x w i q := congrFun (out3_eq x w) (ix2 i q)

end Body

variable (m : (ℓ : Loc nD τ sig) → Buf (Elt Ideal) ℓ)

/-- The two arguments on a device. -/
def argH (c : Dev nD) : S8192x1024.Idx → EReal := m ((c : Thread nD τ).loc main_arg0)
def argW (c : Dev nD) : S1024x5632.Idx → EReal := m ((c : Thread nD τ).loc main_arg1)

/-- The prepared weights: transposed, their rows in the kernel's order. -/
theorem host1 (c : Dev nD) (p : Fin 5632) (e : Fin 1024) : V m c main_v4 (ix2 p e) = argW m c (ix2 e (sw p)) := by
  show StableHlo.after hostOps0 (fun b => m (c, b)) main_v4 _ = _
  after_results_simp
  pointwise []
  rfl

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- A grid point by its block of rows and its block of inner columns. -/
def pt (b : Fin 16) (s : Fin 2) : Fin cfg0.N := ⟨b.val * 2 + s.val, by rw [show cfg0.N = 32 from N_0]; omega⟩

theorem pt_mod (b : Fin 16) (s : Fin 2) : (pt b s).val % 2 = s.val := by show (b.val * 2 + s.val) % 2 = _; omega
theorem pt_div (b : Fin 16) (s : Fin 2) : (pt b s).val / 2 = b.val := by show (b.val * 2 + s.val) / 2 = _; omega

theorem exists_pt (t : Fin cfg0.N) : ∃ b s, t = pt b s :=
  ⟨⟨t.val / 2, by have := lt_of_lt_of_eq t.isLt N_0; omega⟩, ⟨t.val % 2, by omega⟩,
    Fin.ext (by show t.val = t.val / 2 * 2 + t.val % 2; omega)⟩

theorem blk0 (c : Dev nD) (b : Fin 16) (s : Fin 2) (i : Fin 512) (e : Fin 1024) :
    iblk m c 0 (pt b s) (ix2 i e) = argH m c (ix2 ⟨b.val * 512 + i.val, by omega⟩ e) := by
  unfold iblk
  rw [View.read_apply]
  show V m c main_arg0 _ = _
  rw [V_main_arg0]
  have hi := index0 (pt b s)
  rw [pt_div] at hi
  refine congrArg _ (funext fun a => Fin.ext ?_)
  match a with
  | ⟨0, _⟩ => show win0_0.index (pt b s) 0 * 512 + 1 * i.val = _; rw [hi.1]; simp
  | ⟨1, _⟩ => show win0_0.index (pt b s) 1 * 1024 + 1 * e.val = _; rw [hi.2]; simp

theorem blk1 (c : Dev nD) (b : Fin 16) (s : Fin 2) (r : Fin 2816) (e : Fin 1024) :
    iblk m c 1 (pt b s) (ix2 r e) = argW m c (ix2 e (sw ⟨s.val * 2816 + r.val, by omega⟩)) := by
  rw [← host1]
  unfold iblk
  rw [View.read_apply]
  have hi := index1 (pt b s)
  rw [pt_mod] at hi
  refine congrArg (V m c main_v4) (funext fun a => Fin.ext ?_)
  match a with
  | ⟨0, _⟩ => show win0_1.index (pt b s) 0 * 2816 + 1 * r.val = _; rw [hi.1]; simp
  | ⟨1, _⟩ => show win0_1.index (pt b s) 1 * 1024 + 1 * e.val = _; rw [hi.2]; simp

/-- A block's product is its place of the inner columns. -/
theorem blkZ_eq (c : Dev nD) (b : Fin 16) (s : Fin 2) (i : Fin 512) (r : Fin 2816) :
    blkZ (iblk m c 0 (pt b s)) (iblk m c 1 (pt b s)) i r
      = inner (argH m c) (argW m c) (ix2 ⟨b.val * 512 + i.val, by omega⟩ (sw ⟨s.val * 2816 + r.val, by omega⟩)) := by
  unfold blkZ
  simp only [blk0, blk1]
  rfl

theorem blkU_eq (c : Dev nD) (b : Fin 16) (s : Fin 2) (i : Fin 512) (q : Fin 1408) :
    blkU (iblk m c 0 (pt b s)) (iblk m c 1 (pt b s)) i q
      = act (argH m c) (argW m c) (ix2 ⟨b.val * 512 + i.val, by omega⟩ ⟨s.val * 1408 + q.val, by omega⟩) := by
  unfold blkU
  rw [blkZ_eq, blkZ_eq, sw_gate, sw_value]
  rfl

theorem flushed2 (c : Dev nD) (t : Fin cfg0.N) :
    (dats m 0 c).flushed 2 t = ((cfg0.win 2).blk t).view.read (Elt Ideal) (raw (argH m c) (argW m c)) := by
  obtain ⟨b, s, rfl⟩ := exists_pt t
  show (cfg0.win 2).cut (grid0.coords _) ((dats m 0 c).after 2 _) = _
  rw [after0_2]
  funext j
  rw [View.read_apply]
  obtain ⟨i, r, rfl⟩ : ∃ (i : Fin 512) (r : Fin 2816), j = ix2 i r := ⟨j 0, j 1, eq_ix2 j⟩
  refine (out2_apply _ _ i r).trans ((blkZ_eq m c b s i r).trans ?_)
  have hi := index2 (pt b s)
  rw [pt_div, pt_mod] at hi
  refine congrArg (raw (argH m c) (argW m c)) (a₁ := ix2 ⟨b.val * 512 + i.val, by omega⟩ ⟨s.val * 2816 + r.val, by omega⟩)
    (funext fun a => Fin.ext ?_)
  match a with
  | ⟨0, _⟩ => show b.val * 512 + i.val = win0_2.index (pt b s) 0 * 512 + 1 * i.val; rw [hi.1]; omega
  | ⟨1, _⟩ => show s.val * 2816 + r.val = win0_2.index (pt b s) 1 * 2816 + 1 * r.val; rw [hi.2]; omega

theorem flushed3 (c : Dev nD) (t : Fin cfg0.N) :
    (dats m 0 c).flushed 3 t = ((cfg0.win 3).blk t).view.read (Elt Ideal) (act (argH m c) (argW m c)) := by
  obtain ⟨b, s, rfl⟩ := exists_pt t
  show (cfg0.win 3).cut (grid0.coords _) ((dats m 0 c).after 3 _) = _
  rw [after0_3]
  funext j
  rw [View.read_apply]
  obtain ⟨i, q, rfl⟩ : ∃ (i : Fin 512) (q : Fin 1408), j = ix2 i q := ⟨j 0, j 1, eq_ix2 j⟩
  refine (out3_apply _ _ i q).trans ((blkU_eq m c b s i q).trans ?_)
  have hi := index3 (pt b s)
  rw [pt_div, pt_mod] at hi
  refine congrArg (act (argH m c) (argW m c)) (funext fun a => Fin.ext ?_)
  match a with
  | ⟨0, _⟩ => show b.val * 512 + i.val = win0_3.index (pt b s) 0 * 512 + 1 * i.val; rw [hi.1]; omega
  | ⟨1, _⟩ => show s.val * 1408 + q.val = win0_3.index (pt b s) 1 * 1408 + 1 * q.val; rw [hi.2]; omega

/-- The array of products that the kernel writes. -/
theorem final2 (c : Dev nD) : (dats m 0 c).arrAt 2 cfg0.N = raw (argH m c) (argW m c) :=
  (dats m 0 c).arrAt_eq_of_cover 2 (raw (argH m c) (argW m c)) (fun t _ => flushed2 m c t) fun i => by
    have h0 : (i 0 : Nat) < 8192 := (i 0).isLt
    have h1 : (i 1 : Nat) < 5632 := (i 1).isLt
    let b : Fin 16 := ⟨(i 0).val / 512, by omega⟩
    let s : Fin 2 := ⟨(i 1).val / 2816, by omega⟩
    refine ⟨pt b s, flush0_2 _, ?_⟩
    have hi := index2 (pt b s)
    have hb : (pt b s).val / 2 = (i 0).val / 512 := pt_div b s
    have hs : (pt b s).val % 2 = (i 1).val / 2816 := pt_mod b s
    show i ∈ ((View.whole main_v5_0).slice (win0_2.rect (pt b s))).set
    rw [View.set_slice_whole, Rect.mem_set_unit]
    intro a
    match a with
    | ⟨0, _⟩ =>
      show win0_2.index (pt b s) 0 * 512 ≤ (i 0 : Nat) ∧ (i 0 : Nat) < win0_2.index (pt b s) 0 * 512 + 512
      rw [hi.1, hb]; omega
    | ⟨1, _⟩ =>
      show win0_2.index (pt b s) 1 * 2816 ≤ (i 1 : Nat) ∧ (i 1 : Nat) < win0_2.index (pt b s) 1 * 2816 + 2816
      rw [hi.2, hs]; omega

/-- The array of gated activations that the kernel writes. -/
theorem final3 (c : Dev nD) : (dats m 0 c).arrAt 3 cfg0.N = act (argH m c) (argW m c) :=
  (dats m 0 c).arrAt_eq_of_cover 3 (act (argH m c) (argW m c)) (fun t _ => flushed3 m c t) fun i => by
    have h0 : (i 0 : Nat) < 8192 := (i 0).isLt
    have h1 : (i 1 : Nat) < 2816 := (i 1).isLt
    let b : Fin 16 := ⟨(i 0).val / 512, by omega⟩
    let s : Fin 2 := ⟨(i 1).val / 1408, by omega⟩
    refine ⟨pt b s, flush0_3 _, ?_⟩
    have hi := index3 (pt b s)
    have hb : (pt b s).val / 2 = (i 0).val / 512 := pt_div b s
    have hs : (pt b s).val % 2 = (i 1).val / 1408 := pt_mod b s
    show i ∈ ((View.whole main_v5_1).slice (win0_3.rect (pt b s))).set
    rw [View.set_slice_whole, Rect.mem_set_unit]
    intro a
    match a with
    | ⟨0, _⟩ =>
      show win0_3.index (pt b s) 0 * 512 ≤ (i 0 : Nat) ∧ (i 0 : Nat) < win0_3.index (pt b s) 0 * 512 + 512
      rw [hi.1, hb]; omega
    | ⟨1, _⟩ =>
      show win0_3.index (pt b s) 1 * 1408 ≤ (i 1 : Nat) ∧ (i 1 : Nat) < win0_3.index (pt b s) 1 * 1408 + 1408
      rw [hi.2, hs]; omega

/-- The program ends with the inner columns, which the host puts in the plain order, and the gated activations. -/
theorem run (ρ : Dev nD → PrngReg) : θ_run defs (onTc (τ := τ) (main (F := Ideal))) ⟨m, fun _ => 0, ρ⟩ fun r => ∀ c : Dev nD,
    r.2.mem ((c : Thread nD τ).loc main_v10) = inner (argH m c) (argW m c)
      ∧ r.2.mem ((c : Thread nD τ).loc main_v5_1) = act (argH m c) (argW m c) := by
  refine (θ_run defs _ _).mono (fun r h c => ⟨?_, ((h c).1 3).trans (final3 m c)⟩) (run_main m ρ)
  refine ((h c).2 main_v10 (by decide)).trans ?_
  have h5 := withArrays_arr spec0 (by decide) c (V0 m c) (fun w => (dats m 0 c).arrAt w cfg0.N) 2
  rw [final2] at h5
  funext y
  obtain ⟨n, p, rfl⟩ : ∃ (n : Fin 8192) (p : Fin 5632), y = ix2 n p := ⟨y 0, y 1, eq_ix2 y⟩
  show StableHlo.after hostOps1 (withArrays spec0 c (V0 m c) fun w => (dats m 0 c).arrAt w cfg0.N) main_v10 _ = _
  after_results_simp
  pointwise []
  refine (congrFun h5 (ix2 n (sw p))).trans ?_
  show inner (argH m c) (argW m c) (ix2 n (sw (sw p))) = _
  rw [sw_sw]

/-- The reference's results are the inner columns and the gated activations. -/
theorem ref_inner (H : S8192x1024.Idx → EReal) (W : S1024x5632.Idx → EReal) :
    Cert.Reference2Ideal.Read.val_main_v1 (F := Ideal) H W = inner H W := by
  funext y
  obtain ⟨n, p, rfl⟩ : ∃ (n : Fin 8192) (p : Fin 5632), y = ix2 n p := ⟨y 0, y 1, eq_ix2 y⟩
  unfold inner
  pointwise [Cert.Reference2Ideal.Read.val_main_v1, Cert.Reference2Ideal.Read.val_main_v0]

theorem ref_act (H : S8192x1024.Idx → EReal) (W : S1024x5632.Idx → EReal) :
    Cert.Reference2Ideal.Read.val_main_v7 (F := Ideal) H W = act H W := by
  funext y
  obtain ⟨n, q, rfl⟩ : ∃ (n : Fin 8192) (q : Fin 2816), y = ix2 n q := ⟨y 0, y 1, eq_ix2 y⟩
  unfold act gate Cert.Ffn.sig
  rw [← ref_inner]
  pointwise [Cert.Reference2Ideal.Read.val_main_v7, Cert.Reference2Ideal.Read.val_main_v6, Cert.Reference2Ideal.Read.val_main_v5,
    Cert.Reference2Ideal.Read.val_main_v4, Cert.Reference2Ideal.Read.val_main_v3, Cert.Reference2Ideal.Read.val_main_call0_v5,
    Cert.Reference2Ideal.Read.val_main_call0_v4, Cert.Reference2Ideal.Read.val_main_call0_cst_0,
    Cert.Reference2Ideal.Read.val_main_call0_v3, Cert.Reference2Ideal.Read.val_main_call0_v2,
    Cert.Reference2Ideal.Read.val_main_call0_cst, Cert.Reference2Ideal.Read.val_main_call0_v1,
    Cert.Reference2Ideal.Read.val_main_call0_v0]

/-- The kernel runs and leaves its arguments and the counters as they were; so it does over the extended reals, and so
    does the reference. -/
theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- From arguments that agree, the kernel's results and the reference's are the inner columns and the gated
    activations. -/
theorem algebraic : Cert.algebraic_Kernel2Ideal_Reference2Ideal := by
  intro m ρ m' ρ' _ hagree
  refine ⟨fun c => inner (argH m c) (argW m c), fun c => act (argH m c) (argW m c), ?_, ?_⟩
  · exact (θ_run Cert.Kernel2Ideal.defs _ _).mono (fun r h c => ⟨(h.1 c).1, (h.1 c).2, h.2 c⟩)
      (θ_run_and (run m ρ) (Cert.Kernel2Ideal.Gen.unchanged m ρ))
  · refine (θ_run Cert.Reference2Ideal.defs _ _).mono (fun r h c => ?_) (Cert.Reference2Ideal.Value.run (F := Ideal) m' ρ')
    obtain ⟨a0, a1⟩ := hagree c
    refine ⟨(h c).1.trans ?_, (h c).2.1.trans ?_, (h c).2.2⟩
    · rw [Cert.Reference2Ideal.Read.val_main_v2_eq, a0, a1]
      exact ref_inner _ _
    · rw [Cert.Reference2Ideal.Read.val_main_v7_eq, a0, a1]
      exact ref_act _ _

end Cert.FfnIn
end
-- ==== Proof.FfnOut.lean ====
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.PureOps.Ideal
public import Idealize.ShloMosaic.Lib.Pointwise

/-! The feed-forward block's output projection: the product of the gated activations with the output weights,
    in eight blocks of 1024 rows. -/

@[expose] public section
set_option maxRecDepth 16384

noncomputable section
namespace Cert.FfnOut
open Cert.Kernel3Ideal Cert.Kernel3Ideal.Gen Idealize.ShloMosaic Idealize.ShloMosaic.TcCoe Idealize.SL.Sem
open Idealize.ShloMosaic.Pipeline

/-- The product, at row `i` and column `e`. -/
def prod (U : S8192x2816.Idx → EReal) (W : S2816x1024.Idx → EReal) : S8192x1024.Idx → EReal := fun y =>
  ∑ k : Fin 2816, U (ix2 (y 0) k) * W (ix2 k (y 1))

variable (m : (ℓ : Loc nD τ sig) → Buf (Elt Ideal) ℓ)

/-- The two arguments on a device. -/
def argU (c : Dev nD) : S8192x2816.Idx → EReal := m ((c : Thread nD τ).loc main_arg0)
def argW (c : Dev nD) : S2816x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 2816) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 2816 + 1 * k.val = _; rw [hi.2]; simp

/-- The block of the right factor is the whole of it. -/
theorem blk1 (c : Dev nD) (t : Fin cfg0.N) (k : Fin 2816) (e : Fin 1024) :
    iblk m c 1 t (ix2 k e) = argW m c (ix2 k e) := by
  unfold iblk
  rw [View.read_apply]
  show V m c main_v0 _ = _
  after_results_simp
  have hi := index1 t
  refine congrArg (m ((c : Thread nD τ).loc main_arg1)) (funext fun a => Fin.ext ?_)
  match a with
  | ⟨0, _⟩ => show win0_1.index t 0 * 2816 + 1 * k.val = _; rw [hi.1]; simp
  | ⟨1, _⟩ => show win0_1.index t 1 * 1024 + 1 * e.val = _; rw [hi.2]; simp

/-- A block's product at an index. -/
theorem pay_apply (x : Vec Ideal S1024x2816 .bf16) (w : Vec Ideal S2816x1024 .bf16) (i e : Fin 1024) :
    k0_pay1 x w (ix2 i e) = ∑ k : Fin 2816, x (ix2 i k) * w (ix2 k e) := by
  pointwise [k0_pay1]

/-- What the body leaves in the output's buffer. -/
theorem out_apply (x : Vec Ideal S1024x2816 .bf16) (w : Vec Ideal S2816x1024 .bf16) (i e : Fin 1024) :
    out0_2 x w (ix2 i e) = ∑ k : Fin 2816, x (ix2 i k) * w (ix2 k e) := by
  unfold out0_2
  rw [View.canon_cons_unit_zero (by decide) inb_S1024x1024_S1024x1024_0_0,
    View.ld_unit_zero (by decide) inb_S1024x2816_S1024x2816_0_0 x, View.ld_unit_zero (by decide) inb_S2816x1024_S2816x1024_0_0 w, pay_apply]

theorem flushed (c : Dev nD) (t : Fin cfg0.N) :
    (dats m 0 c).flushed 2 t = ((View.whole main_v1).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x2816.Idx → EReal) (W : S2816x1024.Idx → EReal) :
    Cert.Reference3Ideal.Read.val_main_v2 (F := Ideal) U W = prod U W := by
  funext y
  obtain ⟨i, e, rfl⟩ : ∃ (i : Fin 8192) (e : Fin 1024), y = ix2 i e := ⟨y 0, y 1, eq_ix2 y⟩
  unfold prod
  pointwise [Cert.Reference3Ideal.Read.val_main_v2, Cert.Reference3Ideal.Read.val_main_v1, Cert.Reference3Ideal.Read.val_main_v0]

/-- The kernel runs and leaves its arguments and the counters as they were; so it does over the extended reals, and so
    does the reference. -/
theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- From arguments that agree, the kernel's result and the reference's are the product of the arguments. -/
theorem algebraic : Cert.algebraic_Kernel3Ideal_Reference3Ideal := by
  intro m ρ m' ρ' _ hagree
  refine ⟨fun c => prod (argU m c) (argW m c), ?_, ?_⟩
  · refine (θ_run Cert.Kernel3Ideal.defs _ _).mono (fun r h c => ?_) (Cert.Kernel3Ideal.Value.run_blocks m ρ)
    exact ⟨(h c).1.trans (final m c), (h c).2⟩
  · refine (θ_run Cert.Reference3Ideal.defs _ _).mono (fun r h c => ?_) (Cert.Reference3Ideal.Value.run (F := Ideal) m' ρ')
    obtain ⟨a0, a1⟩ := hagree c
    refine ⟨(h c).1.trans ?_, (h c).2⟩
    rw [Cert.Reference3Ideal.Read.val_main_v2_eq, a0, a1]
    exact ref _ _

end Cert.FfnOut
end
-- ==== Proof.FfnGateGrad.lean ====
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_gate
public import proofs.«01_k».proof.Proof.Pre
public import proofs.«01_k».proof.Proof.Softmax
public import Idealize.ShloMosaic.Lib.KernelVsHost
public import proofs.«01_k».proof.Proof.Swap
public import proofs.«01_k».proof.Proof.Sigmoid
public import Idealize.ShloMosaic.PureOps.Ideal
public import Idealize.ShloMosaic.Lib.Pointwise
public import Idealize.ShloMosaic.Lib.Pipeline.ValueKit.Tiles
public import Idealize.ShloMosaic.Lib.Pipeline.ReadBack

/-! The gradient of the feed-forward block's inner columns, through the gate. Each of the kernel's 32 blocks holds 512
    rows and 2816 inner columns: 1408 gate columns and the value columns beside them. The gradient of the gated
    activations is one product, and each half of the block is stored in two parts of 256 rows. -/

@[expose] public section
set_option maxRecDepth 16384

noncomputable section
namespace Cert.FfnGateGrad
open Cert.Kernel4Ideal Cert.Kernel4Ideal.Gen Idealize.ShloMosaic Idealize.ShloMosaic.TcCoe Idealize.SL.Sem
open Idealize.ShloMosaic.Pipeline Cert.Ffn

/-- The gradient of the gated activations, at row `n` and column `c`. -/
def up (D : S8192x1024.Idx → EReal) (W : S2816x1024.Idx → EReal) (n : Fin 8192) (c : Fin 2816) : EReal :=
  ∑ e : Fin 1024, D (ix2 n e) * W (ix2 c e)

/-- The gradient of a gate `a` whose value is `b`, and of the value, from the gradient `d` of the activation. -/
def toGate (d a b : EReal) : EReal := d * b * (sig a * (1 + a * (1 - sig a)))
def toValue (d a : EReal) : EReal := d * a * sig a

/-- The gradient of the inner columns: gate columns first. -/
def grad (D : S8192x1024.Idx → EReal) (W : S2816x1024.Idx → EReal) (Z : S8192x5632.Idx → EReal) : S8192x5632.Idx → EReal :=
  fun y =>
    if h : (y 1).val < 2816 then
      toGate (up D W (y 0) ⟨(y 1).val, h⟩) (Z (ix2 (y 0) ⟨(y 1).val, by omega⟩)) (Z (ix2 (y 0) ⟨2816 + (y 1).val, by omega⟩))
    else
      toValue (up D W (y 0) ⟨(y 1).val - 2816, by have h : (y 1).val < 5632 := (y 1).isLt; omega⟩)
        (Z (ix2 (y 0) ⟨(y 1).val - 2816, by have h : (y 1).val < 5632 := (y 1).isLt; omega⟩))

/-- The same in the kernel's order. -/
def raw (D : S8192x1024.Idx → EReal) (W : S2816x1024.Idx → EReal) (Z : S8192x5632.Idx → EReal) : S8192x5632.Idx → EReal :=
  fun y => grad D W Z (ix2 (y 0) (sw (y 1)))

section Plain
variable (D : S8192x1024.Idx → EReal) (W : S2816x1024.Idx → EReal) (Z : S8192x5632.Idx → EReal)

theorem grad_gate (n : Fin 8192) (c : Fin 2816) :
    grad D W Z (ix2 n ⟨c.val, by omega⟩)
      = toGate (up D W n c) (Z (ix2 n ⟨c.val, by omega⟩)) (Z (ix2 n ⟨2816 + c.val, by omega⟩)) :=
  dif_pos c.isLt

theorem grad_value (n : Fin 8192) (c : Fin 2816) :
    grad D W Z (ix2 n ⟨2816 + c.val, by omega⟩) = toValue (up D W n c) (Z (ix2 n ⟨c.val, by omega⟩)) := by
  refine (dif_neg (show ¬(2816 + c.val < 2816) by omega)).trans ?_
  have e : (2816 + c.val) - 2816 = c.val := by omega
  have h1 : (⟨(2816 + c.val) - 2816, by omega⟩ : Fin 2816) = c := Fin.ext e
  have h2 : (⟨(2816 + c.val) - 2816, by omega⟩ : Fin 5632) = ⟨c.val, by omega⟩ := Fin.ext e
  exact congrArg₂ toValue (congrArg (up D W n) h1) (congrArg (fun p => Z (ix2 n p)) h2)

end Plain

/-- A block's gradient of the gated activations: rows of the input `x` times rows of the weights `w`. -/
def blkUp (x : Vec Ideal S512x1024 .bf16) (w : Vec Ideal S1408x1024 .bf16) (i : Fin 512) (q : Fin 1408) : EReal :=
  ∑ e : Fin 1024, x (ix2 i e) * w (ix2 q e)

section Body
variable (x : Vec Ideal S512x1024 .bf16) (w : Vec Ideal S1408x1024 .bf16) (z : Vec Ideal S512x2816 .bf16)

/-- A block's gradients of its gate columns and of its value columns. -/
def blkA (i : Fin 512) (q : Fin 1408) : EReal :=
  toGate (blkUp x w i q) (z (ix2 i ⟨q.val, by omega⟩)) (z (ix2 i ⟨1408 + q.val, by omega⟩))
def blkB (i : Fin 512) (q : Fin 1408) : EReal := toValue (blkUp x w i q) (z (ix2 i ⟨q.val, by omega⟩))

/-- Both as one array. -/
def arr : Vec Ideal S512x2816 .bf16 := fun y =>
  if h : (y 1).val < 1408 then blkA x w z (y 0) ⟨(y 1).val, h⟩
  else blkB x w z (y 0) ⟨(y 1).val - 1408, by have h : (y 1).val < 2816 := (y 1).isLt; omega⟩

theorem arr_gate (i : Fin 512) (q : Fin 1408) : arr x w z (ix2 i ⟨q.val, by omega⟩) = blkA x w z i q := dif_pos q.isLt

theorem arr_value (i : Fin 512) (q : Fin 1408) : arr x w z (ix2 i ⟨1408 + q.val, by omega⟩) = blkB x w z i q := by
  refine (dif_neg (show ¬(1408 + q.val < 1408) by omega)).trans ?_
  have e : (⟨(1408 + q.val) - 1408, by omega⟩ : Fin 1408) = q := Fin.ext (show (1408 + q.val) - 1408 = q.val by omega)
  exact congrArg (blkB x w z i) e

/-- The product of 256 rows. -/
theorem pay6_apply (v : Vec Ideal S256x1024 .bf16) (i : Fin 256) (q : Fin 1408) :
    k0_pay6 w v (ix2 i q) = ∑ e : Fin 1024, v (ix2 i e) * w (ix2 q e) := by
  pointwise [k0_pay6, k0_pay5]

theorem pay7_apply (v : Vec Ideal S256x1024 .bf16) (i : Fin 256) (q : Fin 1408) :
    k0_pay7 w v (ix2 i q) = ∑ e : Fin 1024, v (ix2 i e) * w (ix2 q e) := by
  pointwise [k0_pay7, k0_pay5]

/-- The stores' values from the products and the loaded columns. -/
theorem pay3_apply (d : FVec Ideal S256x1408 .f32) (a b : Vec Ideal S256x1408 .bf16) (i : Fin 256) (q : Fin 1408) :
    k0_pay3 d a b (ix2 i q) = toGate (d (ix2 i q)) (a (ix2 i q)) (b (ix2 i q)) := by
  unfold toGate
  rw [← sig_kernel]
  unfold half
  pointwise [k0_pay3, k0_pay2, k0_pay1]

theorem pay4_apply (d : FVec Ideal S256x1408 .f32) (a : Vec Ideal S256x1408 .bf16) (i : Fin 256) (q : Fin 1408) :
    k0_pay4 d a (ix2 i q) = toValue (d (ix2 i q)) (a (ix2 i q)) := by
  unfold toValue
  rw [← sig_kernel]
  unfold half
  pointwise [k0_pay4, k0_pay2, k0_pay1]

theorem pay10_apply (v : Vec Ideal S256x1024 .bf16) (a b : Vec Ideal S256x1408 .bf16) (i : Fin 256) (q : Fin 1408) :
    k0_pay10 w v a b (ix2 i q) = toGate (k0_pay6 w v (ix2 i q)) (a (ix2 i q)) (b (ix2 i q)) := by
  unfold toGate
  rw [← sig_kernel]
  unfold half
  pointwise [k0_pay10, k0_pay9, k0_pay8]

theorem pay11_apply (v : Vec Ideal S256x1024 .bf16) (a : Vec Ideal S256x1408 .bf16) (i : Fin 256) (q : Fin 1408) :
    k0_pay11 w v a (ix2 i q) = toValue (k0_pay6 w v (ix2 i q)) (a (ix2 i q)) := by
  unfold toValue
  rw [← sig_kernel]
  unfold half
  pointwise [k0_pay11, k0_pay9, k0_pay8]

/-- The loads. -/
theorem ld_w : View.ld w r0_0 = w := View.ld_unit_zero (by decide) inb_S1408x1024_S1408x1024_0_0 w

theorem ld_low (i : Fin 256) (e : Fin 1024) :
    View.ld x r0_1 (ix2 i e) = x (ix2 ⟨0 + i.val, by omega⟩ e) := by
  refine View.ld_unit_apply_of x _ _ inb_S512x1024_S256x1024_0_0 _ _ fun a => ?_
  match a with
  | ⟨0, _⟩ => rfl
  | ⟨1, _⟩ => exact (Nat.zero_add _).symm

theorem ld_high (i : Fin 256) (e : Fin 1024) :
    View.ld x r0_2 (ix2 i e) = x (ix2 ⟨256 + i.val, by omega⟩ e) := by
  refine View.ld_unit_apply_of x _ _ inb_S512x1024_S256x1024_256_0 _ _ fun a => ?_
  match a with
  | ⟨0, _⟩ => rfl
  | ⟨1, _⟩ => exact (Nat.zero_add _).symm

theorem ld_low_gate (i : Fin 256) (q : Fin 1408) :
    View.ld z r0_3 (ix2 i q) = z (ix2 ⟨0 + i.val, by omega⟩ ⟨q.val, by omega⟩) := by
  refine View.ld_unit_apply_of z _ _ inb_S512x2816_S256x1408_0_0 _ _ fun a => ?_
  match a with
  | ⟨0, _⟩ => rfl
  | ⟨1, _⟩ => exact (Nat.zero_add _).symm

theorem ld_low_value (i : Fin 256) (q : Fin 1408) :
    View.ld z r0_4 (ix2 i q) = z (ix2 ⟨0 + i.val, by omega⟩ ⟨1408 + q.val, by omega⟩) := by
  refine View.ld_unit_apply_of z _ _ inb_S512x2816_S256x1408_0_1408 _ _ fun a => ?_
  match a with
  | ⟨0, _⟩ => rfl
  | ⟨1, _⟩ => rfl

theorem ld_high_gate (i : Fin 256) (q : Fin 1408) :
    View.ld z r0_5 (ix2 i q) = z (ix2 ⟨256 + i.val, by omega⟩ ⟨q.val, by omega⟩) := by
  refine View.ld_unit_apply_of z _ _ inb_S512x2816_S256x1408_256_0 _ _ fun a => ?_
  match a with
  | ⟨0, _⟩ => rfl
  | ⟨1, _⟩ => exact (Nat.zero_add _).symm

theorem ld_high_value (i : Fin 256) (q : Fin 1408) :
    View.ld z r0_6 (ix2 i q) = z (ix2 ⟨256 + i.val, by omega⟩ ⟨1408 + q.val, by omega⟩) := by
  refine View.ld_unit_apply_of z _ _ inb_S512x2816_S256x1408_256_1408 _ _ fun a => ?_
  match a with
  | ⟨0, _⟩ => rfl
  | ⟨1, _⟩ => rfl

theorem emb_low_gate (i : Fin 256) (q : Fin 1408) :
    r0_3.emb (ix2 i q) = ix2 (⟨0 + i.val, by omega⟩ : Fin 512) (⟨q.val, by omega⟩ : Fin 2816) :=
  Rect.emb_eq_of_coords _ _ _ fun a => by
    match a with
    | ⟨0, _⟩ => show 0 + i.val = 0 + 1 * i.val; omega
    | ⟨1, _⟩ => show q.val = 0 + 1 * q.val; omega

theorem emb_low_value (i : Fin 256) (q : Fin 1408) :
    r0_4.emb (ix2 i q) = ix2 (⟨0 + i.val, by omega⟩ : Fin 512) (⟨1408 + q.val, by omega⟩ : Fin 2816) :=
  Rect.emb_eq_of_coords _ _ _ fun a => by
    match a with
    | ⟨0, _⟩ => show 0 + i.val = 0 + 1 * i.val; omega
    | ⟨1, _⟩ => show 1408 + q.val = 1408 + 1 * q.val; omega

theorem emb_high_gate (i : Fin 256) (q : Fin 1408) :
    r0_5.emb (ix2 i q) = ix2 (⟨256 + i.val, by omega⟩ : Fin 512) (⟨q.val, by omega⟩ : Fin 2816) :=
  Rect.emb_eq_of_coords _ _ _ fun a => by
    match a with
    | ⟨0, _⟩ => show 256 + i.val = 256 + 1 * i.val; omega
    | ⟨1, _⟩ => show q.val = 0 + 1 * q.val; omega

theorem emb_high_value (i : Fin 256) (q : Fin 1408) :
    r0_6.emb (ix2 i q) = ix2 (⟨256 + i.val, by omega⟩ : Fin 512) (⟨1408 + q.val, by omega⟩ : Fin 2816) :=
  Rect.emb_eq_of_coords _ _ _ fun a => by
    match a with
    | ⟨0, _⟩ => show 256 + i.val = 256 + 1 * i.val; omega
    | ⟨1, _⟩ => show 1408 + q.val = 1408 + 1 * q.val; omega

/-- The four stores' values. -/
theorem prod_low (i : Fin 256) (q : Fin 1408) : k0_pay6 w (View.ld x r0_1) (ix2 i q) = blkUp x w ⟨0 + i.val, by omega⟩ q :=
  (pay6_apply w _ i q).trans (Finset.sum_congr rfl fun e _ => congrArg (· * w (ix2 q e)) (ld_low x i e))

theorem prod_high (i : Fin 256) (q : Fin 1408) : k0_pay12 x w z (ix2 i q) = blkUp x w ⟨256 + i.val, by omega⟩ q := by
  unfold k0_pay12
  rw [ld_w]
  exact (pay7_apply w _ i q).trans (Finset.sum_congr rfl fun e _ => congrArg (· * w (ix2 q e)) (ld_high x i e))

theorem toGate_congr {d d' a a' b b' : EReal} (hd : d = d') (ha : a = a') (hb : b = b') : toGate d a b = toGate d' a' b' := by
  rw [hd, ha, hb]

theorem piece_low_gate (i : Fin 256) (q : Fin 1408) :
    k0_pay10 w (View.ld x r0_1) (View.ld z r0_3) (View.ld z r0_4) (ix2 i q) = blkA x w z ⟨0 + i.val, by omega⟩ q :=
  (pay10_apply w _ _ _ i q).trans (toGate_congr (prod_low x w i q) (ld_low_gate z i q) (ld_low_value z i q))

theorem piece_low_value (i : Fin 256) (q : Fin 1408) :
    k0_pay11 w (View.ld x r0_1) (View.ld z r0_3) (ix2 i q) = blkB x w z ⟨0 + i.val, by omega⟩ q :=
  (pay11_apply w _ _ i q).trans (congrArg₂ toValue (prod_low x w i q) (ld_low_gate z i q))

theorem piece_high_gate (i : Fin 256) (q : Fin 1408) :
    k0_pay3 (k0_pay12 x w z) (View.ld z r0_5) (View.ld z r0_6) (ix2 i q) = blkA x w z ⟨256 + i.val, by omega⟩ q :=
  (pay3_apply _ _ _ i q).trans (toGate_congr (prod_high x w z i q) (ld_high_gate z i q) (ld_high_value z i q))

theorem piece_high_value (i : Fin 256) (q : Fin 1408) :
    k0_pay4 (k0_pay12 x w z) (View.ld z r0_5) (ix2 i q) = blkB x w z ⟨256 + i.val, by omega⟩ q :=
  (pay4_apply _ _ i q).trans (congrArg₂ toValue (prod_high x w z i q) (ld_high_gate z i q))

/-- What the body leaves in the result's buffer. -/
theorem out3_eq : out0_3 x w z = arr x w z := by
  unfold out0_3
  rw [ld_w]
  refine funext fun y => View.canon_apply_of_pieces (arr x w z) _ (View.PiecesOf.mem ?_) y (cover0_3 (F := Ideal) _ _ _ _ y)
  refine ⟨fun p => ?_, fun p => ?_, fun p => ?_, fun p => ?_, trivial⟩
  · obtain ⟨i, q, rfl⟩ : ∃ (i : Fin 256) (q : Fin 1408), p = ix2 i q := ⟨p 0, p 1, eq_ix2 p⟩
    rw [emb_high_value]
    exact (piece_high_value x w z i q).trans (arr_value x w z _ q).symm
  · obtain ⟨i, q, rfl⟩ : ∃ (i : Fin 256) (q : Fin 1408), p = ix2 i q := ⟨p 0, p 1, eq_ix2 p⟩
    rw [emb_high_gate]
    exact (piece_high_gate x w z i q).trans (arr_gate x w z _ q).symm
  · obtain ⟨i, q, rfl⟩ : ∃ (i : Fin 256) (q : Fin 1408), p = ix2 i q := ⟨p 0, p 1, eq_ix2 p⟩
    rw [emb_low_value]
    exact (piece_low_value x w z i q).trans (arr_value x w z _ q).symm
  · obtain ⟨i, q, rfl⟩ : ∃ (i : Fin 256) (q : Fin 1408), p = ix2 i q := ⟨p 0, p 1, eq_ix2 p⟩
    rw [emb_low_gate]
    exact (piece_low_gate x w z i q).trans (arr_gate x w z _ q).symm

end Body

variable (m : (ℓ : Loc nD τ sig) → Buf (Elt Ideal) ℓ)

/-- The three arguments on a device. -/
def argD (c : Dev nD) : S8192x1024.Idx → EReal := m ((c : Thread nD τ).loc main_arg0)
def argW (c : Dev nD) : S2816x1024.Idx → EReal := m ((c : Thread nD τ).loc main_arg1)
def argZ (c : Dev nD) : S8192x5632.Idx → EReal := m ((c : Thread nD τ).loc main_arg2)

/-- The prepared weights, and the prepared inner columns: in the kernel's order. -/
theorem host1 (c : Dev nD) (r : Fin 2816) (e : Fin 1024) : V m c main_v5 (ix2 r e) = argW m c (ix2 r e) := by
  show StableHlo.after hostOps0 (fun b => m (c, b)) main_v5 _ = _
  after_results_simp
  rfl

theorem host2 (c : Dev nD) (n : Fin 8192) (p : Fin 5632) : V m c main_v4 (ix2 n p) = argZ m c (ix2 n (sw p)) := by
  show StableHlo.after hostOps0 (fun b => m (c, b)) main_v4 _ = _
  after_results_simp
  pointwise []
  rfl

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- A grid point by its block of rows and its block of inner columns. -/
def pt (b : Fin 16) (s : Fin 2) : Fin cfg0.N := ⟨b.val * 2 + s.val, by rw [show cfg0.N = 32 from N_0]; omega⟩

theorem pt_mod (b : Fin 16) (s : Fin 2) : (pt b s).val % 2 = s.val := by show (b.val * 2 + s.val) % 2 = _; omega
theorem pt_div (b : Fin 16) (s : Fin 2) : (pt b s).val / 2 = b.val := by show (b.val * 2 + s.val) / 2 = _; omega

theorem exists_pt (t : Fin cfg0.N) : ∃ b s, t = pt b s :=
  ⟨⟨t.val / 2, by have := lt_of_lt_of_eq t.isLt N_0; omega⟩, ⟨t.val % 2, by omega⟩,
    Fin.ext (by show t.val = t.val / 2 * 2 + t.val % 2; omega)⟩

theorem blk0 (c : Dev nD) (b : Fin 16) (s : Fin 2) (i : Fin 512) (e : Fin 1024) :
    iblk m c 0 (pt b s) (ix2 i e) = argD m c (ix2 ⟨b.val * 512 + i.val, by omega⟩ e) := by
  unfold iblk
  rw [View.read_apply]
  show V m c main_arg0 _ = _
  rw [V_main_arg0]
  have hi := index0 (pt b s)
  rw [pt_div] at hi
  refine congrArg _ (funext fun a => Fin.ext ?_)
  match a with
  | ⟨0, _⟩ => show win0_0.index (pt b s) 0 * 512 + 1 * i.val = _; rw [hi.1]; simp
  | ⟨1, _⟩ => show win0_0.index (pt b s) 1 * 1024 + 1 * e.val = _; rw [hi.2]; simp

theorem blk1 (c : Dev nD) (b : Fin 16) (s : Fin 2) (q : Fin 1408) (e : Fin 1024) :
    iblk m c 1 (pt b s) (ix2 q e) = argW m c (ix2 ⟨s.val * 1408 + q.val, by omega⟩ e) := by
  rw [← host1]
  unfold iblk
  rw [View.read_apply]
  have hi := index1 (pt b s)
  rw [pt_mod] at hi
  refine congrArg (V m c main_v5) (funext fun a => Fin.ext ?_)
  match a with
  | ⟨0, _⟩ => show win0_1.index (pt b s) 0 * 1408 + 1 * q.val = _; rw [hi.1]; simp
  | ⟨1, _⟩ => show win0_1.index (pt b s) 1 * 1024 + 1 * e.val = _; rw [hi.2]; simp

theorem blk2 (c : Dev nD) (b : Fin 16) (s : Fin 2) (i : Fin 512) (r : Fin 2816) :
    iblk m c 2 (pt b s) (ix2 i r)
      = argZ m c (ix2 ⟨b.val * 512 + i.val, by omega⟩ (sw ⟨s.val * 2816 + r.val, by omega⟩)) := by
  rw [← host2]
  unfold iblk
  rw [View.read_apply]
  have hi := index2 (pt b s)
  rw [pt_div, pt_mod] at hi
  refine congrArg (V m c main_v4) (funext fun a => Fin.ext ?_)
  match a with
  | ⟨0, _⟩ => show win0_2.index (pt b s) 0 * 512 + 1 * i.val = _; rw [hi.1]; simp
  | ⟨1, _⟩ => show win0_2.index (pt b s) 1 * 2816 + 1 * r.val = _; rw [hi.2]; simp

/-- A block's gate and value columns, in the plain order. -/
theorem blk2_gate (c : Dev nD) (b : Fin 16) (s : Fin 2) (i : Fin 512) (q : Fin 1408) :
    iblk m c 2 (pt b s) (ix2 i ⟨q.val, by omega⟩)
      = argZ m c (ix2 ⟨b.val * 512 + i.val, by omega⟩ ⟨s.val * 1408 + q.val, by omega⟩) :=
  (blk2 m c b s i ⟨q.val, by omega⟩).trans (congrArg (fun p => argZ m c (ix2 _ p)) (sw_gate s q))

theorem blk2_value (c : Dev nD) (b : Fin 16) (s : Fin 2) (i : Fin 512) (q : Fin 1408) :
    iblk m c 2 (pt b s) (ix2 i ⟨1408 + q.val, by omega⟩)
      = argZ m c (ix2 ⟨b.val * 512 + i.val, by omega⟩ ⟨2816 + (s.val * 1408 + q.val), by omega⟩) :=
  (blk2 m c b s i ⟨1408 + q.val, by omega⟩).trans (congrArg (fun p => argZ m c (ix2 _ p)) (sw_value s q))

theorem blkUp_eq (c : Dev nD) (b : Fin 16) (s : Fin 2) (i : Fin 512) (q : Fin 1408) :
    blkUp (iblk m c 0 (pt b s)) (iblk m c 1 (pt b s)) i q
      = up (argD m c) (argW m c) ⟨b.val * 512 + i.val, by omega⟩ ⟨s.val * 1408 + q.val, by omega⟩ := by
  unfold blkUp
  simp only [blk0, blk1]
  rfl

/-- A block of results is its place of the gradient, in the kernel's order. -/
theorem arr_eq (c : Dev nD) (b : Fin 16) (s : Fin 2) (i : Fin 512) (r : Fin 2816) :
    arr (iblk m c 0 (pt b s)) (iblk m c 1 (pt b s)) (iblk m c 2 (pt b s)) (ix2 i r)
      = raw (argD m c) (argW m c) (argZ m c) (ix2 ⟨b.val * 512 + i.val, by omega⟩ ⟨s.val * 2816 + r.val, by omega⟩) := by
  show _ = grad (argD m c) (argW m c) (argZ m c) (ix2 ⟨b.val * 512 + i.val, _⟩ (sw ⟨s.val * 2816 + r.val, _⟩))
  by_cases h : r.val < 1408
  · obtain ⟨q, rfl⟩ : ∃ q : Fin 1408, r = ⟨q.val, Nat.lt_of_lt_of_le q.isLt (by decide)⟩ := ⟨⟨r.val, h⟩, rfl⟩
    refine (arr_gate _ _ _ i q).trans (Eq.trans ?_ (congrArg (fun p => grad (argD m c) (argW m c) (argZ m c) (ix2 _ p))
      (sw_gate s q).symm))
    refine Eq.trans ?_ (grad_gate (argD m c) (argW m c) (argZ m c) ⟨b.val * 512 + i.val, by omega⟩
      ⟨s.val * 1408 + q.val, by omega⟩).symm
    exact toGate_congr (blkUp_eq m c b s i q) (blk2_gate m c b s i q) (blk2_value m c b s i q)
  · obtain ⟨q, rfl⟩ : ∃ q : Fin 1408, r = ⟨1408 + q.val, Nat.add_lt_add_left q.isLt 1408⟩ :=
      ⟨⟨r.val - 1408, by omega⟩, Fin.ext (by show r.val = 1408 + (r.val - 1408); omega)⟩
    refine (arr_value _ _ _ i q).trans (Eq.trans ?_ (congrArg (fun p => grad (argD m c) (argW m c) (argZ m c) (ix2 _ p))
      (sw_value s q).symm))
    refine Eq.trans ?_ (grad_value (argD m c) (argW m c) (argZ m c) ⟨b.val * 512 + i.val, by omega⟩
      ⟨s.val * 1408 + q.val, by omega⟩).symm
    exact congrArg₂ toValue (blkUp_eq m c b s i q) (blk2_gate m c b s i q)

theorem flushed3 (c : Dev nD) (t : Fin cfg0.N) :
    (dats m 0 c).flushed 3 t = ((cfg0.win 3).blk t).view.read (Elt Ideal) (raw (argD m c) (argW m c) (argZ m c)) := by
  obtain ⟨b, s, rfl⟩ := exists_pt t
  show (cfg0.win 3).cut (grid0.coords _) ((dats m 0 c).after 3 _) = _
  rw [after0_3, out3_eq]
  funext j
  rw [View.read_apply]
  obtain ⟨i, r, rfl⟩ : ∃ (i : Fin 512) (r : Fin 2816), j = ix2 i r := ⟨j 0, j 1, eq_ix2 j⟩
  refine (arr_eq m c b s i r).trans ?_
  have hi := index3 (pt b s)
  rw [pt_div, pt_mod] at hi
  refine congrArg (raw (argD m c) (argW m c) (argZ m c)) (funext fun a => Fin.ext ?_)
  match a with
  | ⟨0, _⟩ => show b.val * 512 + i.val = win0_3.index (pt b s) 0 * 512 + 1 * i.val; rw [hi.1]; omega
  | ⟨1, _⟩ => show s.val * 2816 + r.val = win0_3.index (pt b s) 1 * 2816 + 1 * r.val; rw [hi.2]; omega

/-- The array that the kernel writes. -/
theorem final3 (c : Dev nD) : (dats m 0 c).arrAt 3 cfg0.N = raw (argD m c) (argW m c) (argZ m c) :=
  (dats m 0 c).arrAt_eq_of_cover 3 (raw (argD m c) (argW m c) (argZ m c)) (fun t _ => flushed3 m c t) fun i => by
    have h0 : (i 0 : Nat) < 8192 := (i 0).isLt
    have h1 : (i 1 : Nat) < 5632 := (i 1).isLt
    let b : Fin 16 := ⟨(i 0).val / 512, by omega⟩
    let s : Fin 2 := ⟨(i 1).val / 2816, by omega⟩
    refine ⟨pt b s, flush0_3 _, ?_⟩
    have hi := index3 (pt b s)
    have hb : (pt b s).val / 2 = (i 0).val / 512 := pt_div b s
    have hs : (pt b s).val % 2 = (i 1).val / 2816 := pt_mod b s
    show i ∈ ((View.whole main_v6).slice (win0_3.rect (pt b s))).set
    rw [View.set_slice_whole, Rect.mem_set_unit]
    intro a
    match a with
    | ⟨0, _⟩ =>
      show win0_3.index (pt b s) 0 * 512 ≤ (i 0 : Nat) ∧ (i 0 : Nat) < win0_3.index (pt b s) 0 * 512 + 512
      rw [hi.1, hb]; omega
    | ⟨1, _⟩ =>
      show win0_3.index (pt b s) 1 * 2816 ≤ (i 1 : Nat) ∧ (i 1 : Nat) < win0_3.index (pt b s) 1 * 2816 + 2816
      rw [hi.2, hs]; omega

/-- The program ends with the gradient, which the host puts in the plain order. -/
theorem run (ρ : Dev nD → PrngReg) : θ_run defs (onTc (τ := τ) (main (F := Ideal))) ⟨m, fun _ => 0, ρ⟩ fun r => ∀ c : Dev nD,
    r.2.mem ((c : Thread nD τ).loc main_v11) = grad (argD m c) (argW m c) (argZ m c) := by
  refine (θ_run defs _ _).mono (fun r h c => ?_) (run_main m ρ)
  refine ((h c).2 main_v11 (by decide)).trans ?_
  have h5 := withArrays_arr spec0 (by decide) c (V0 m c) (fun w => (dats m 0 c).arrAt w cfg0.N) 3
  rw [final3] at h5
  funext y
  obtain ⟨n, p, rfl⟩ : ∃ (n : Fin 8192) (p : Fin 5632), y = ix2 n p := ⟨y 0, y 1, eq_ix2 y⟩
  show StableHlo.after hostOps1 (withArrays spec0 c (V0 m c) fun w => (dats m 0 c).arrAt w cfg0.N) main_v11 _ = _
  after_results_simp
  pointwise []
  refine (congrFun h5 (ix2 n (sw p))).trans ?_
  show grad (argD m c) (argW m c) (argZ m c) (ix2 n (sw (sw p))) = _
  rw [sw_sw]

/-! The reference's form of the gate's gradient has a term for each factor of the gated activation. -/

theorem toGate_eq (g a : EReal) (hg : ∃ r : ℝ, g = r) :
    g * (sig a * (1 + a * (1 - sig a))) = g * sig a + a * g * (sig a * (1 - sig a)) := by
  obtain ⟨g, rfl⟩ := hg
  induction a using EReal.rec with
  | bot => rw [sig_bot]; simp
  | top =>
    have e : (1 : EReal) - 1 = 0 := EReal.sub_self (EReal.coe_ne_top 1) (EReal.coe_ne_bot 1)
    rw [sig_top, e]; simp
  | coe a =>
    obtain ⟨s, hs⟩ := sig_real (a : EReal)
    rw [hs]
    norm_cast
    ring

theorem sum_real {n : ℕ} (f : Fin n → EReal) (h : ∀ i, ∃ r : ℝ, f i = r) : ∃ r : ℝ, ∑ i, f i = r := by
  choose g hg using h
  exact ⟨∑ i, g i, by rw [Cert.Own.coe_sum]; exact Finset.sum_congr rfl fun i _ => hg i⟩

theorem mul_real {a b : EReal} (ha : ∃ r : ℝ, a = r) (hb : ∃ r : ℝ, b = r) : ∃ r : ℝ, a * b = r := by
  obtain ⟨a, rfl⟩ := ha
  obtain ⟨b, rfl⟩ := hb
  exact ⟨a * b, rfl⟩

section Ref
variable (D : S8192x1024.Idx → EReal) (W : S2816x1024.Idx → EReal) (Z : S8192x5632.Idx → EReal)

/-- The gradient of the gated activations is real where its factors are. -/
theorem up_real (hD : ∀ y, ∃ r : ℝ, D y = r) (hW : ∀ y, ∃ r : ℝ, W y = r) (n : Fin 8192) (c : Fin 2816) :
    ∃ r : ℝ, up D W n c = r :=
  sum_real _ fun e => mul_real (hD _) (hW _)

open Cert.Reference4Ideal.Read

theorem ref_up (n : Fin 8192) (c : Fin 2816) : val_main_v7 (F := Ideal) D W (ix2 n c) = up D W n c := by
  unfold up
  pointwise [val_main_v7, val_main_v6]

theorem ref_a (n : Fin 8192) (c : Fin 2816) : val_main_v1 (F := Ideal) Z (ix2 n c) = Z (ix2 n ⟨c.val, by omega⟩) := by
  pointwise [val_main_v1, val_main_v0]

theorem ref_b (n : Fin 8192) (c : Fin 2816) : val_main_v3 (F := Ideal) Z (ix2 n c) = Z (ix2 n ⟨2816 + c.val, by omega⟩) := by
  pointwise [val_main_v3, val_main_v0]

theorem ref_sig (n : Fin 8192) (c : Fin 2816) :
    val_main_v2_2 (F := Ideal) Z (ix2 n c) = Cert.Ffn.sig (Z (ix2 n ⟨c.val, by omega⟩)) := by
  rw [← ref_a Z n c]
  unfold Cert.Ffn.sig
  pointwise [val_main_v2_2, val_main_call0_v4, val_main_call0_cst_0, val_main_call0_v3, val_main_call0_v2,
    val_main_call0_cst, val_main_call0_v1, val_main_call0_v0]

theorem ref_slope (n : Fin 8192) (c : Fin 2816) :
    val_main_v2_1 (F := Ideal) Z (ix2 n c)
      = Cert.Ffn.sig (Z (ix2 n ⟨c.val, by omega⟩)) * (1 - Cert.Ffn.sig (Z (ix2 n ⟨c.val, by omega⟩))) := by
  rw [← ref_sig Z n c]
  pointwise [val_main_v2_1, val_main_call0_v7, val_main_call0_v6, val_main_call0_cst_1]

/-- The reference's gradient of the value columns. -/
theorem ref_value (n : Fin 8192) (c : Fin 2816) :
    val_main_v8 (F := Ideal) D W Z (ix2 n c) = toValue (up D W n c) (Z (ix2 n ⟨c.val, by omega⟩)) := by
  unfold toValue
  rw [← ref_up, ← ref_sig, ← ref_a Z n c]
  have h : val_main_v8 (F := Ideal) D W Z (ix2 n c)
      = val_main_v1 (F := Ideal) Z (ix2 n c) * val_main_v2_2 (F := Ideal) Z (ix2 n c) * val_main_v7 (F := Ideal) D W (ix2 n c) := rfl
  rw [h, mul_comm, mul_assoc]

/-- The reference's gradient of the gate columns. -/
theorem ref_gate (hD : ∀ y, ∃ r : ℝ, D y = r) (hW : ∀ y, ∃ r : ℝ, W y = r) (n : Fin 8192) (c : Fin 2816)
    (hZ : ∃ r : ℝ, Z (ix2 n ⟨2816 + c.val, by omega⟩) = r) :
    val_main_v11 (F := Ideal) D W Z (ix2 n c)
      = toGate (up D W n c) (Z (ix2 n ⟨c.val, by omega⟩)) (Z (ix2 n ⟨2816 + c.val, by omega⟩)) := by
  unfold toGate
  rw [toGate_eq _ _ (mul_real (up_real D W hD hW n c) hZ), ← ref_slope, ← ref_sig, ← ref_up, ← ref_a Z n c, ← ref_b Z n c]
  rfl

theorem zero_word (i : Cert.Reference4Ideal.S_.Idx) : val_main_cst (F := Ideal) i = (0 : EReal) := Ideal.ofBits_zero_f32
theorem zero_word' (i : Cert.Reference4Ideal.S_.Idx) : val_main_cst_0 (F := Ideal) i = (0 : EReal) := Ideal.ofBits_zero_f32

/-- The reference's two padded halves. -/
theorem pad_value (n : Fin 8192) (c : Fin 2816) :
    val_main_v10 (F := Ideal) D W Z (ix2 n ⟨2816 + c.val, by omega⟩) = val_main_v8 (F := Ideal) D W Z (ix2 n c) :=
  pad_apply_of_inside _ _ _ _ _ _ _ _ _ fun a => by
    match a with
    | ⟨0, _⟩ => show n.val = 0 + n.val * (0 + 1); omega
    | ⟨1, _⟩ => show 2816 + c.val = 2816 + c.val * (0 + 1); omega

theorem pad_value_out (n : Fin 8192) (c : Fin 2816) :
    val_main_v10 (F := Ideal) D W Z (ix2 n ⟨c.val, by omega⟩) = 0 :=
  (pad_apply_of_not_inside _ _ _ _ _ _ _ _ (1 : Fin 2) fun h => by
    have h1 : 2816 ≤ c.val := h.1
    omega).trans (zero_word _)

theorem pad_gate (n : Fin 8192) (c : Fin 2816) :
    val_main_v12 (F := Ideal) D W Z (ix2 n ⟨c.val, by omega⟩) = val_main_v11 (F := Ideal) D W Z (ix2 n c) :=
  pad_apply_of_inside _ _ _ _ _ _ _ _ _ fun a => by
    match a with
    | ⟨0, _⟩ => show n.val = 0 + n.val * (0 + 1); omega
    | ⟨1, _⟩ => show c.val = 0 + c.val * (0 + 1); omega

theorem pad_gate_out (n : Fin 8192) (c : Fin 2816) :
    val_main_v12 (F := Ideal) D W Z (ix2 n ⟨2816 + c.val, by omega⟩) = 0 :=
  (pad_apply_of_not_inside _ _ _ _ _ _ _ _ (1 : Fin 2) fun h => by
    have h1 : (2816 + c.val - 0) / (0 + 1) < 2816 := h.2.2
    omega).trans (zero_word' _)

/-- The reference's result is the gradient. -/
theorem ref_grad (hD : ∀ y, ∃ r : ℝ, D y = r) (hW : ∀ y, ∃ r : ℝ, W y = r)
    (hZ : ∀ (n : Fin 8192) (c : Fin 2816), ∃ r : ℝ, Z (ix2 n ⟨2816 + c.val, by omega⟩) = r) :
    val_main_v14 (F := Ideal) D W Z = grad D W Z := by
  funext y
  obtain ⟨n, p, rfl⟩ : ∃ (n : Fin 8192) (p : Fin 5632), y = ix2 n p := ⟨y 0, y 1, eq_ix2 y⟩
  show val_main_v10 (F := Ideal) D W Z (ix2 n p) + val_main_v12 (F := Ideal) D W Z (ix2 n p) = _
  by_cases h : p.val < 2816
  · obtain ⟨c, rfl⟩ : ∃ c : Fin 2816, p = ⟨c.val, Nat.lt_of_lt_of_le c.isLt (by decide)⟩ := ⟨⟨p.val, h⟩, rfl⟩
    rw [pad_value_out, pad_gate, grad_gate, ref_gate D W Z hD hW n c (hZ n c), zero_add]
  · obtain ⟨c, rfl⟩ : ∃ c : Fin 2816, p = ⟨2816 + c.val, Nat.add_lt_add_left c.isLt 2816⟩ :=
      ⟨⟨p.val - 2816, by omega⟩, Fin.ext (by show p.val = 2816 + (p.val - 2816); omega)⟩
    rw [pad_value, pad_gate_out, grad_value, ref_value, add_zero]

end Ref

/-! What the precondition says. -/

section Pre
variable (x0 : FVec Ideal Cert.Pre_finite_gate.S8192x1024 .bf16) (x1 : FVec Ideal Cert.Pre_finite_gate.S2816x1024 .f32)
  (x2 : FVec Ideal Cert.Pre_finite_gate.S8192x5632 .bf16)

theorem pre_d (h : (Cert.Pre_finite_gate.fn (F := Ideal) x0 x1 x2).1 = fun _ => 1#1) (y : S8192x1024.Idx) :
    ∃ r : ℝ, x0 y = r :=
  Cert.Own.real_of_bits (congrFun h y)

theorem pre_w (h : (Cert.Pre_finite_gate.fn (F := Ideal) x0 x1 x2).2.1 = fun _ => 1#1) (y : S2816x1024.Idx) :
    ∃ r : ℝ, x1 y = r :=
  Cert.Own.real_of_bits (congrFun h y)

theorem pre_z (h : (Cert.Pre_finite_gate.fn (F := Ideal) x0 x1 x2).2.2 = fun _ => 1#1) (n : Fin 8192) (c : Fin 2816) :
    ∃ r : ℝ, x2 (ix2 n ⟨2816 + c.val, by omega⟩) = r := by
  have e := congrFun h (ix2 n c)
  have hx : extractStridedSlice Cert.Pre_finite_gate.S8192x2816 ![0, 2816] x2
      Cert.Pre_finite_gate.Facts.slices_S8192x5632_S8192x2816_0_2816 (ix2 n c) = x2 (ix2 n ⟨2816 + c.val, by omega⟩) := by
    pointwise
  rw [← hx]
  exact Cert.Own.real_of_bits e

end Pre

/-- The kernel runs and leaves its arguments and the counters as they were; so it does over the extended reals, with and
    without the precondition, and so does the reference. -/
theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_pre : Cert.quiescent_Kernel4Ideal_pre_finite_gate := fun m ρ _ => Cert.Kernel4Ideal.Gen.frame m ρ
theorem frame_ri : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)
theorem frame_ri_pre : Cert.quiescent_Reference4Ideal_pre_finite_gate := fun m ρ _ => frame_ri m ρ trivial

/-- From arguments that agree and are finite where the precondition says, the kernel's result and the reference's are the
    gradient of the inner columns. -/
theorem algebraic : Cert.algebraic_Kernel4Ideal_Reference4Ideal_pre_finite_gate := by
  intro m ρ m' ρ' hpre hagree
  refine ⟨fun c => grad (argD m c) (argW m c) (argZ m c), ?_, ?_⟩
  · exact (θ_run Cert.Kernel4Ideal.defs _ _).mono (fun r h c => ⟨h.1 c, h.2 c⟩)
      (θ_run_and (run m ρ) (Cert.Kernel4Ideal.Gen.unchanged m ρ))
  · refine (θ_run Cert.Reference4Ideal.defs _ _).mono (fun r h c => ?_) (Cert.Reference4Ideal.Value.run (F := Ideal) m' ρ')
    obtain ⟨a0, a1, a2⟩ := hagree c
    refine ⟨(h c).1.trans ?_, (h c).2⟩
    rw [Cert.Reference4Ideal.Read.val_main_v14_eq, a0, a1, a2]
    exact ref_grad _ _ _ (pre_d _ _ _ (hpre c).1) (pre_w _ _ _ (hpre c).2.1) (pre_z _ _ _ (hpre c).2.2)

end Cert.FfnGateGrad
end
-- ==== Proof.FfnOutGrad.lean ====
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Swap
public import Idealize.ShloMosaic.PureOps.Ideal
public import Idealize.ShloMosaic.Lib.Pointwise
public import Idealize.ShloMosaic.Lib.Pipeline.ReadBack

/-! The gradient of the feed-forward block's output weights: the gated activations, transposed, times the incoming
    gradient. Two blocks of 1408 rows; the 8192 tokens are summed in four parts that a carried block accumulates. -/

@[expose] public section
set_option maxRecDepth 16384

noncomputable section
namespace Cert.FfnOutGrad
open Cert.Kernel5Ideal Cert.Kernel5Ideal.Gen Idealize.ShloMosaic Idealize.ShloMosaic.TcCoe Idealize.SL.Sem
open Idealize.ShloMosaic.Pipeline

/-- The gradient, at row `i` and column `e`. -/
def grad (U : S8192x2816.Idx → EReal) (D : S8192x1024.Idx → EReal) : S2816x1024.Idx → EReal := fun y =>
  ∑ n : Fin 8192, U (ix2 n (y 0)) * D (ix2 n (y 1))

/-- A part of 2048 tokens, of a block of 1408 rows. -/
def part (x : Vec Ideal S2048x1408 .bf16) (d : Vec Ideal S2048x1024 .bf16) : Vec Ideal S1408x1024 .f32 := fun y =>
  ∑ n : Fin 2048, x (ix2 n (y 0)) * d (ix2 n (y 1))

theorem part_apply (x : Vec Ideal S2048x1408 .bf16) (d : Vec Ideal S2048x1024 .bf16) (i : Fin 1408) (e : Fin 1024) :
    part x d (ix2 i e) = ∑ n : Fin 2048, x (ix2 n i) * d (ix2 n e) := rfl

section Body
variable (x : Vec Ideal S2048x1408 .bf16) (d : Vec Ideal S2048x1024 .bf16) (s : Vec Ideal S1408x1024 .f32)

theorem pay1_apply (i : Fin 1408) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 1408) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 1408) (e : Fin 1024), y = ix2 i e := ⟨y 0, y 1, eq_ix2 y⟩
  rw [← pay1_apply]
  pointwise [k0_pay3]

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16)
  (h5 : a5.IsWhole) (a6 : Memref sig .tc .vmem S1408x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S1408x1024_S1408x1024_0_0,
    View.ld_unit_zero (by decide) inb_S2048x1408_S2048x1408_0_0, View.ld_unit_zero (by decide) inb_S2048x1024_S2048x1024_0_0,
    pay2_eq]

/-- A middle part is added to it. -/
theorem sout_B (hc0 : ¬cond0_0 i) (hc1 : cond0_1 i) (hc2 : ¬cond0_2 i) :
    sout0_B_0 c i a3 h3 a4 h4 a5 h5 a6 h6 hc0 hc1 hc2 x d s = fun y => s y + part x d y := by
  have hcov := scover0_B_0 c i a3 h3 a4 h4 a5 h5 a6 h6 hc0 hc1 hc2 x d s
  unfold sout0_B_0
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S1408x1024_S1408x1024_0_0,
    View.ld_unit_zero (by decide) inb_S2048x1408_S2048x1408_0_0, View.ld_unit_zero (by decide) inb_S2048x1024_S2048x1024_0_0,
    View.ld_unit_zero (by decide) inb_S1408x1024_S1408x1024_0_0, pay3_eq]

/-- The last part is added too, and the sum is the result's block. -/
theorem out_C (hc0 : ¬cond0_0 i) (hc1 : cond0_1 i) (hc2 : cond0_2 i) :
    out0_C_2 c i a3 h3 a4 h4 a5 h5 a6 h6 hc0 hc1 hc2 x d s = fun y => s y + part x d y := by
  have hcov := cover0_C_2 c i a3 h3 a4 h4 a5 h5 a6 h6 hc0 hc1 hc2 x d s
  unfold out0_C_2
  rw [View.read_writes_eq_canon _ _ _ hcov]
  unfold kernelRun0_C
  dsimp only
  sl_unfold_words
  simp only [View.readAt_eq_ld, h3.read_unread, h4.read_unread, h6.read_unread]
  rw [View.canon_cons_unit_zero (by decide) inb_S1408x1024_S1408x1024_0_0, View.readCov_eq_canon',
    View.canon_cons_unit_zero (by decide) inb_S1408x1024_S1408x1024_0_0,
    View.ld_unit_zero (by decide) inb_S2048x1408_S2048x1408_0_0, View.ld_unit_zero (by decide) inb_S2048x1024_S2048x1024_0_0,
    View.ld_unit_zero (by decide) inb_S1408x1024_S1408x1024_0_0, pay3_eq]
  exact (congrArg k0_pay4 (View.ld_unit_zero (by decide) inb_S1408x1024_S1408x1024_0_0 (fun y => s y + part x d y))).trans rfl

end Body

variable (m : (ℓ : Loc nD τ sig) → Buf (Elt Ideal) ℓ)

/-- The two arguments on a device. -/
def argU (c : Dev nD) : S8192x2816.Idx → EReal := m ((c : Thread nD τ).loc main_arg0)
def argD (c : Dev nD) : S8192x1024.Idx → EReal := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- A grid point by its block of rows and its part of the tokens. -/
def pt (b : Fin 2) (s : Fin 4) : Fin cfg0.N := ⟨b.val * 4 + s.val, by rw [show cfg0.N = 8 from N_0]; omega⟩

theorem pt_mod (b : Fin 2) (s : Fin 4) : (pt b s).val % 4 = s.val := by show (b.val * 4 + s.val) % 4 = _; omega
theorem pt_div (b : Fin 2) (s : Fin 4) : (pt b s).val / 4 = b.val := by show (b.val * 4 + s.val) / 4 = _; omega

theorem blk0 (c : Dev nD) (b : Fin 2) (s : Fin 4) (n : Fin 2048) (i : Fin 1408) :
    iblk m c 0 (pt b s) (ix2 n i) = argU m c (ix2 ⟨s.val * 2048 + n.val, by omega⟩ ⟨b.val * 1408 + i.val, by omega⟩) := by
  unfold iblk
  rw [View.read_apply]
  show V m c main_arg0 _ = _
  rw [V_main_arg0]
  have hi := index0 (pt b s)
  rw [pt_mod, pt_div] at hi
  refine congrArg _ (funext fun a => Fin.ext ?_)
  match a with
  | ⟨0, _⟩ => show win0_0.index (pt b s) 0 * 2048 + 1 * n.val = _; rw [hi.1]; simp
  | ⟨1, _⟩ => show win0_0.index (pt b s) 1 * 1408 + 1 * i.val = _; rw [hi.2]; simp

theorem blk1 (c : Dev nD) (b : Fin 2) (s : Fin 4) (n : Fin 2048) (e : Fin 1024) :
    iblk m c 1 (pt b s) (ix2 n e) = argD m c (ix2 ⟨s.val * 2048 + n.val, by omega⟩ e) := by
  unfold iblk
  rw [View.read_apply]
  show V m c main_arg1 _ = _
  rw [V_main_arg1]
  have hi := index1 (pt b s)
  rw [pt_mod] at hi
  refine congrArg _ (funext fun a => Fin.ext ?_)
  match a with
  | ⟨0, _⟩ => show win0_1.index (pt b s) 0 * 2048 + 1 * n.val = _; rw [hi.1]; simp
  | ⟨1, _⟩ => show win0_1.index (pt b s) 1 * 1024 + 1 * e.val = _; rw [hi.2]; simp

/-- A point's part. -/
def con (c : Dev nD) (b : Fin 2) (s : Fin 4) : Vec Ideal S1408x1024 .f32 := part (iblk m c 0 (pt b s)) (iblk m c 1 (pt b s))

/-- The carried block after the first part. -/
theorem acc_zero (c : Dev nD) (b : Fin 2) (y : S1408x1024.Idx) :
    (outsAt0 m c (pt b 0).val (pt b 0).isLt).2 y = con m c b 0 y := by
  have h0 : (pt b 0).val % 4 = 0 := pt_mod b 0
  rw [outsAt0_A m c (pt b 0) h0 (by omega) (by omega)]
  dsimp only
  rw [sout_A]
  rfl

/-- A later part that is not the last is added. -/
theorem acc_succ (c : Dev nD) (b : Fin 2) (s s' : Fin 4) (hs : s'.val = s.val + 1) (h3 : s'.val < 3) (y : S1408x1024.Idx) :
    (outsAt0 m c (pt b s').val (pt b s').isLt).2 y
      = (outsAt0 m c (pt b s).val (pt b s).isLt).2 y + con m c b s' y := by
  have hm := pt_mod b s'
  rw [outsAt0_B m c (pt b s') (by omega) (by omega) (by omega)]
  dsimp only
  rw [sout_B]
  have e : (pt b s').val - 1 = (pt b s).val := by show b.val * 4 + s'.val - 1 = b.val * 4 + s.val; omega
  show (outsAt0 m c ((pt b s').val - 1) _).2 y + _ = _
  congr 3
  simp only [e]

/-- The result's block at a block's last point is the sum of the four parts. -/
theorem out_last (c : Dev nD) (b : Fin 2) (y : S1408x1024.Idx) :
    (outsAt0 m c (pt b 3).val (pt b 3).isLt).1 y = ∑ s, con m c b s y := by
  have hm := pt_mod b 3
  have h3 : (pt b 3).val % 4 = 3 := hm
  rw [outsAt0_C m c (pt b 3) (by omega) (by omega) h3]
  dsimp only
  rw [out_C]
  have e : (pt b 3).val - 1 = (pt b 2).val := by show b.val * 4 + 3 - 1 = b.val * 4 + 2; omega
  show (outsAt0 m c ((pt b 3).val - 1) _).2 y + con m c b 3 y = _
  have e' : (outsAt0 m c ((pt b 3).val - 1) (Nat.lt_of_le_of_lt (Nat.sub_le _ 1) (pt b 3).isLt)).2 y
      = (outsAt0 m c (pt b 2).val (pt b 2).isLt).2 y := by
    congr 2
  rw [e', acc_succ m c b 1 2 rfl (by decide), acc_succ m c b 0 1 rfl (by decide), acc_zero, Fin.sum_univ_four]

theorem sum_con (c : Dev nD) (b : Fin 2) (i : Fin 1408) (e : Fin 1024) :
    (∑ s, con m c b s (ix2 i e)) = grad (argU m c) (argD m c) (ix2 ⟨b.val * 1408 + i.val, by omega⟩ e) := by
  refine (Finset.sum_congr rfl fun s _ => ?_).trans (Cert.Ffn.sum_parts 4 2048 rfl (fun n =>
    argU m c (ix2 n ⟨b.val * 1408 + i.val, by omega⟩) * argD m c (ix2 n e)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (grad (argU m c) (argD m c)) := by
  have h3 := (flush0_2 t).mp hf
  obtain ⟨b, rfl⟩ : ∃ b, t = pt b 3 :=
    ⟨⟨t.val / 4, by have := lt_of_lt_of_eq t.isLt N_0; omega⟩, Fin.ext (by show t.val = t.val / 4 * 4 + 3; omega)⟩
  show (cfg0.win 2).cut (grid0.coords _) ((dats m 0 c).after 2 _) = _
  rw [after0_2]
  funext j
  rw [View.read_apply]
  obtain ⟨i, e, rfl⟩ : ∃ (i : Fin 1408) (e : Fin 1024), j = ix2 i e := ⟨j 0, j 1, eq_ix2 j⟩
  refine (out_last m c b (ix2 i e)).trans ((sum_con m c b i e).trans ?_)
  have hi := index2 (pt b 3)
  rw [pt_div] at hi
  refine congrArg _ (funext fun a => Fin.ext ?_)
  match a with
  | ⟨0, _⟩ => show b.val * 1408 + i.val = win0_2.index (pt b 3) 0 * 1408 + 1 * i.val; rw [hi.1]; omega
  | ⟨1, _⟩ => show e.val = win0_2.index (pt b 3) 1 * 1024 + 1 * e.val; rw [hi.2]; omega

/-- The result array is the gradient. -/
theorem final (c : Dev nD) : (dats m 0 c).arrAt 2 cfg0.N = grad (argU m c) (argD m c) :=
  (dats m 0 c).arrAt_eq_of_cover 2 (grad (argU m c) (argD m c)) (flushed m c) fun i => by
    have h0 : (i 0 : Nat) < 2816 := (i 0).isLt
    have h1 : (i 1 : Nat) < 1024 := (i 1).isLt
    let b : Fin 2 := ⟨(i 0).val / 1408, by omega⟩
    refine ⟨pt b 3, (flush0_2 _).mpr (pt_mod b 3), ?_⟩
    have hi := index2 (pt b 3)
    have hb : (pt b 3).val / 4 = (i 0).val / 1408 := pt_div b 3
    show i ∈ ((View.whole main_v0).slice (win0_2.rect (pt b 3))).set
    rw [View.set_slice_whole, Rect.mem_set_unit]
    intro a
    match a with
    | ⟨0, _⟩ =>
      show win0_2.index (pt b 3) 0 * 1408 ≤ (i 0 : Nat) ∧ (i 0 : Nat) < win0_2.index (pt b 3) 0 * 1408 + 1408
      rw [hi.1, hb]; omega
    | ⟨1, _⟩ =>
      show win0_2.index (pt b 3) 1 * 1024 ≤ (i 1 : Nat) ∧ (i 1 : Nat) < win0_2.index (pt b 3) 1 * 1024 + 1024
      rw [hi.2]; omega

/-- The reference's result is the gradient. -/
theorem ref (U : S8192x2816.Idx → EReal) (D : S8192x1024.Idx → EReal) :
    Cert.Reference5Ideal.Read.val_main_v6 (F := Ideal) U D = grad U D := by
  funext y
  obtain ⟨i, e, rfl⟩ : ∃ (i : Fin 2816) (e : Fin 1024), y = ix2 i e := ⟨y 0, y 1, eq_ix2 y⟩
  unfold grad
  have h4 : Cert.Reference5Ideal.Read.val_main_v4 (F := Ideal) U D (ix2 e i) = ∑ n : Fin 8192, D (ix2 n e) * U (ix2 n i) := by
    pointwise [Cert.Reference5Ideal.Read.val_main_v4, Cert.Reference5Ideal.Read.val_main_v1, Cert.Reference5Ideal.Read.val_main_v0]
  have h6 : Cert.Reference5Ideal.Read.val_main_v6 (F := Ideal) U D (ix2 i e)
      = Cert.Reference5Ideal.Read.val_main_v4 (F := Ideal) U D (ix2 e i) := by
    pointwise [Cert.Reference5Ideal.Read.val_main_v6, Cert.Reference5Ideal.Read.val_main_v5]
  rw [h6, h4]
  exact Finset.sum_congr rfl fun n _ => mul_comm _ _

/-- The kernel runs and leaves its arguments and the counters as they were; so it does over the extended reals, and so
    does the reference. -/
theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- From arguments that agree, the kernel's result and the reference's are the gradient of the output weights. -/
theorem algebraic : Cert.algebraic_Kernel5Ideal_Reference5Ideal := by
  intro m ρ m' ρ' _ hagree
  refine ⟨fun c => grad (argU m c) (argD m c), ?_, ?_⟩
  · refine (θ_run Cert.Kernel5Ideal.defs _ _).mono (fun r h c => ?_) (Cert.Kernel5Ideal.Value.run_blocks m ρ)
    exact ⟨(h c).1.trans (final m c), (h c).2⟩
  · refine (θ_run Cert.Reference5Ideal.defs _ _).mono (fun r h c => ?_) (Cert.Reference5Ideal.Value.run (F := Ideal) m' ρ')
    obtain ⟨a0, a1⟩ := hagree c
    refine ⟨(h c).1.trans ?_, (h c).2⟩
    rw [Cert.Reference5Ideal.Read.val_main_v6_eq, a0, a1]
    exact ref _ _

end Cert.FfnOutGrad
end
-- ==== Proof.FfnInGrad.lean ====
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Swap
public import Idealize.ShloMosaic.PureOps.Ideal
public import Idealize.ShloMosaic.Lib.Pointwise
public import Idealize.ShloMosaic.Lib.Pipeline.ReadBack

/-! The gradient of the feed-forward block's input weights: the block's input, transposed, times the gradient of the
    inner columns. The kernel computes the transposed product, its 5632 rows in the kernel's order, in four blocks of
    1408 rows; the 8192 tokens are summed in four parts that a carried block accumulates. -/

@[expose] public section
set_option maxRecDepth 16384

noncomputable section
namespace Cert.FfnInGrad
open Cert.Kernel6Ideal Cert.Kernel6Ideal.Gen Idealize.ShloMosaic Idealize.ShloMosaic.TcCoe Idealize.SL.Sem
open Idealize.ShloMosaic.Pipeline Cert.Ffn

/-- The gradient, at row `e` and column `p`. -/
def grad (H : S8192x1024.Idx → EReal) (Z : S8192x5632.Idx → EReal) : S1024x5632.Idx → EReal := fun y =>
  ∑ n : Fin 8192, Z (ix2 n (y 1)) * H (ix2 n (y 0))

/-- The array that the kernel writes: the gradient transposed, its rows in the kernel's order. -/
def raw (H : S8192x1024.Idx → EReal) (Z : S8192x5632.Idx → EReal) : S5632x1024.Idx → EReal := fun y =>
  ∑ n : Fin 8192, Z (ix2 n (sw (y 0))) * H (ix2 n (y 1))

/-- A part of 2048 tokens, of a block of 1408 rows. -/
def part (x : Vec Ideal S2048x1408 .bf16) (d : Vec Ideal S2048x1024 .bf16) : Vec Ideal S1408x1024 .f32 := fun y =>
  ∑ n : Fin 2048, x (ix2 n (y 0)) * d (ix2 n (y 1))

theorem part_apply (x : Vec Ideal S2048x1408 .bf16) (d : Vec Ideal S2048x1024 .bf16) (i : Fin 1408) (e : Fin 1024) :
    part x d (ix2 i e) = ∑ n : Fin 2048, x (ix2 n i) * d (ix2 n e) := rfl

section Body
variable (x : Vec Ideal S2048x1408 .bf16) (d : Vec Ideal S2048x1024 .bf16) (s : Vec Ideal S1408x1024 .f32)

theorem pay1_apply (i : Fin 1408) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 1408) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 1408) (e : Fin 1024), y = ix2 i e := ⟨y 0, y 1, eq_ix2 y⟩
  rw [← pay1_apply]
  pointwise [k0_pay3]

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16)
  (h5 : a5.IsWhole) (a6 : Memref sig .tc .vmem S1408x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S1408x1024_S1408x1024_0_0,
    View.ld_unit_zero (by decide) inb_S2048x1408_S2048x1408_0_0, View.ld_unit_zero (by decide) inb_S2048x1024_S2048x1024_0_0,
    pay2_eq]

/-- A middle part is added to it. -/
theorem sout_B (hc0 : ¬cond0_0 i) (hc1 : cond0_1 i) (hc2 : ¬cond0_2 i) :
    sout0_B_0 c i a3 h3 a4 h4 a5 h5 a6 h6 hc0 hc1 hc2 x d s = fun y => s y + part x d y := by
  have hcov := scover0_B_0 c i a3 h3 a4 h4 a5 h5 a6 h6 hc0 hc1 hc2 x d s
  unfold sout0_B_0
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S1408x1024_S1408x1024_0_0,
    View.ld_unit_zero (by decide) inb_S2048x1408_S2048x1408_0_0, View.ld_unit_zero (by decide) inb_S2048x1024_S2048x1024_0_0,
    View.ld_unit_zero (by decide) inb_S1408x1024_S1408x1024_0_0, pay3_eq]

/-- The last part is added too, and the sum is the result's block. -/
theorem out_C (hc0 : ¬cond0_0 i) (hc1 : cond0_1 i) (hc2 : cond0_2 i) :
    out0_C_2 c i a3 h3 a4 h4 a5 h5 a6 h6 hc0 hc1 hc2 x d s = fun y => s y + part x d y := by
  have hcov := cover0_C_2 c i a3 h3 a4 h4 a5 h5 a6 h6 hc0 hc1 hc2 x d s
  unfold out0_C_2
  rw [View.read_writes_eq_canon _ _ _ hcov]
  unfold kernelRun0_C
  dsimp only
  sl_unfold_words
  simp only [View.readAt_eq_ld, h3.read_unread, h4.read_unread, h6.read_unread]
  rw [View.canon_cons_unit_zero (by decide) inb_S1408x1024_S1408x1024_0_0, View.readCov_eq_canon',
    View.canon_cons_unit_zero (by decide) inb_S1408x1024_S1408x1024_0_0,
    View.ld_unit_zero (by decide) inb_S2048x1408_S2048x1408_0_0, View.ld_unit_zero (by decide) inb_S2048x1024_S2048x1024_0_0,
    View.ld_unit_zero (by decide) inb_S1408x1024_S1408x1024_0_0, pay3_eq]
  exact (congrArg k0_pay4 (View.ld_unit_zero (by decide) inb_S1408x1024_S1408x1024_0_0 (fun y => s y + part x d y))).trans rfl

end Body

variable (m : (ℓ : Loc nD τ sig) → Buf (Elt Ideal) ℓ)

/-- The two arguments on a device. -/
def argH (c : Dev nD) : S8192x1024.Idx → EReal := m ((c : Thread nD τ).loc main_arg0)
def argZ (c : Dev nD) : S8192x5632.Idx → EReal := m ((c : Thread nD τ).loc main_arg1)

/-- The prepared gradient: its columns in the kernel's order. -/
theorem host0 (c : Dev nD) (i : Fin 8192) (p : Fin 5632) : V m c main_v4 (ix2 i p) = argZ m c (ix2 i (sw p)) := by
  show StableHlo.after hostOps0 (fun b => m (c, b)) main_v4 _ = _
  after_results_simp
  pointwise []
  rfl

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- A grid point by its block of rows and its part of the tokens. -/
def pt (b : Fin 4) (s : Fin 4) : Fin cfg0.N := ⟨b.val * 4 + s.val, by rw [show cfg0.N = 16 from N_0]; omega⟩

theorem pt_mod (b : Fin 4) (s : Fin 4) : (pt b s).val % 4 = s.val := by show (b.val * 4 + s.val) % 4 = _; omega
theorem pt_div (b : Fin 4) (s : Fin 4) : (pt b s).val / 4 = b.val := by show (b.val * 4 + s.val) / 4 = _; omega

theorem blk0 (c : Dev nD) (b : Fin 4) (s : Fin 4) (n : Fin 2048) (i : Fin 1408) :
    iblk m c 0 (pt b s) (ix2 n i)
      = argZ m c (ix2 ⟨s.val * 2048 + n.val, by omega⟩ (sw ⟨b.val * 1408 + i.val, by omega⟩)) := by
  rw [← host0]
  unfold iblk
  rw [View.read_apply]
  have hi := index0 (pt b s)
  rw [pt_mod, pt_div] at hi
  refine congrArg (V m c main_v4) (funext fun a => Fin.ext ?_)
  match a with
  | ⟨0, _⟩ => show win0_0.index (pt b s) 0 * 2048 + 1 * n.val = _; rw [hi.1]; simp
  | ⟨1, _⟩ => show win0_0.index (pt b s) 1 * 1408 + 1 * i.val = _; rw [hi.2]; simp

theorem blk1 (c : Dev nD) (b : Fin 4) (s : Fin 4) (n : Fin 2048) (e : Fin 1024) :
    iblk m c 1 (pt b s) (ix2 n e) = argH m c (ix2 ⟨s.val * 2048 + n.val, by omega⟩ e) := by
  unfold iblk
  rw [View.read_apply]
  show V m c main_arg0 _ = _
  rw [V_main_arg0]
  have hi := index1 (pt b s)
  rw [pt_mod] at hi
  refine congrArg _ (funext fun a => Fin.ext ?_)
  match a with
  | ⟨0, _⟩ => show win0_1.index (pt b s) 0 * 2048 + 1 * n.val = _; rw [hi.1]; simp
  | ⟨1, _⟩ => show win0_1.index (pt b s) 1 * 1024 + 1 * e.val = _; rw [hi.2]; simp

/-- A point's part. -/
def con (c : Dev nD) (b : Fin 4) (s : Fin 4) : Vec Ideal S1408x1024 .f32 := part (iblk m c 0 (pt b s)) (iblk m c 1 (pt b s))

/-- The carried block after the first part. -/
theorem acc_zero (c : Dev nD) (b : Fin 4) (y : S1408x1024.Idx) :
    (outsAt0 m c (pt b 0).val (pt b 0).isLt).2 y = con m c b 0 y := by
  have h0 : (pt b 0).val % 4 = 0 := pt_mod b 0
  rw [outsAt0_A m c (pt b 0) h0 (by omega) (by omega)]
  dsimp only
  rw [sout_A]
  rfl

/-- A later part that is not the last is added. -/
theorem acc_succ (c : Dev nD) (b : Fin 4) (s s' : Fin 4) (hs : s'.val = s.val + 1) (h3 : s'.val < 3) (y : S1408x1024.Idx) :
    (outsAt0 m c (pt b s').val (pt b s').isLt).2 y
      = (outsAt0 m c (pt b s).val (pt b s).isLt).2 y + con m c b s' y := by
  have hm := pt_mod b s'
  rw [outsAt0_B m c (pt b s') (by omega) (by omega) (by omega)]
  dsimp only
  rw [sout_B]
  have e : (pt b s').val - 1 = (pt b s).val := by show b.val * 4 + s'.val - 1 = b.val * 4 + s.val; omega
  show (outsAt0 m c ((pt b s').val - 1) _).2 y + _ = _
  congr 3
  simp only [e]

/-- The result's block at a block's last point is the sum of the four parts. -/
theorem out_last (c : Dev nD) (b : Fin 4) (y : S1408x1024.Idx) :
    (outsAt0 m c (pt b 3).val (pt b 3).isLt).1 y = ∑ s, con m c b s y := by
  have hm := pt_mod b 3
  have h3 : (pt b 3).val % 4 = 3 := hm
  rw [outsAt0_C m c (pt b 3) (by omega) (by omega) h3]
  dsimp only
  rw [out_C]
  have e : (pt b 3).val - 1 = (pt b 2).val := by show b.val * 4 + 3 - 1 = b.val * 4 + 2; omega
  show (outsAt0 m c ((pt b 3).val - 1) _).2 y + con m c b 3 y = _
  have e' : (outsAt0 m c ((pt b 3).val - 1) (Nat.lt_of_le_of_lt (Nat.sub_le _ 1) (pt b 3).isLt)).2 y
      = (outsAt0 m c (pt b 2).val (pt b 2).isLt).2 y := by
    congr 2
  rw [e', acc_succ m c b 1 2 rfl (by decide), acc_succ m c b 0 1 rfl (by decide), acc_zero, Fin.sum_univ_four]

theorem sum_con (c : Dev nD) (b : Fin 4) (i : Fin 1408) (e : Fin 1024) :
    (∑ s, con m c b s (ix2 i e)) = raw (argH m c) (argZ m c) (ix2 ⟨b.val * 1408 + i.val, by omega⟩ e) := by
  refine (Finset.sum_congr rfl fun s _ => ?_).trans (Cert.Ffn.sum_parts 4 2048 rfl (fun n =>
    argZ m c (ix2 n (sw ⟨b.val * 1408 + i.val, by omega⟩)) * argH m c (ix2 n e)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (raw (argH m c) (argZ m c)) := by
  have h3 := (flush0_2 t).mp hf
  obtain ⟨b, rfl⟩ : ∃ b, t = pt b 3 :=
    ⟨⟨t.val / 4, by have := lt_of_lt_of_eq t.isLt N_0; omega⟩, Fin.ext (by show t.val = t.val / 4 * 4 + 3; omega)⟩
  show (cfg0.win 2).cut (grid0.coords _) ((dats m 0 c).after 2 _) = _
  rw [after0_2]
  funext j
  rw [View.read_apply]
  obtain ⟨i, e, rfl⟩ : ∃ (i : Fin 1408) (e : Fin 1024), j = ix2 i e := ⟨j 0, j 1, eq_ix2 j⟩
  refine (out_last m c b (ix2 i e)).trans ((sum_con m c b i e).trans ?_)
  have hi := index2 (pt b 3)
  rw [pt_div] at hi
  refine congrArg _ (funext fun a => Fin.ext ?_)
  match a with
  | ⟨0, _⟩ => show b.val * 1408 + i.val = win0_2.index (pt b 3) 0 * 1408 + 1 * i.val; rw [hi.1]; omega
  | ⟨1, _⟩ => show e.val = win0_2.index (pt b 3) 1 * 1024 + 1 * e.val; rw [hi.2]; omega

/-- The array that the kernel writes. -/
theorem final (c : Dev nD) : (dats m 0 c).arrAt 2 cfg0.N = raw (argH m c) (argZ m c) :=
  (dats m 0 c).arrAt_eq_of_cover 2 (raw (argH m c) (argZ m c)) (flushed m c) fun i => by
    have h0 : (i 0 : Nat) < 5632 := (i 0).isLt
    have h1 : (i 1 : Nat) < 1024 := (i 1).isLt
    let b : Fin 4 := ⟨(i 0).val / 1408, by omega⟩
    refine ⟨pt b 3, (flush0_2 _).mpr (pt_mod b 3), ?_⟩
    have hi := index2 (pt b 3)
    have hb : (pt b 3).val / 4 = (i 0).val / 1408 := pt_div b 3
    show i ∈ ((View.whole main_v5).slice (win0_2.rect (pt b 3))).set
    rw [View.set_slice_whole, Rect.mem_set_unit]
    intro a
    match a with
    | ⟨0, _⟩ =>
      show win0_2.index (pt b 3) 0 * 1408 ≤ (i 0 : Nat) ∧ (i 0 : Nat) < win0_2.index (pt b 3) 0 * 1408 + 1408
      rw [hi.1, hb]; omega
    | ⟨1, _⟩ =>
      show win0_2.index (pt b 3) 1 * 1024 ≤ (i 1 : Nat) ∧ (i 1 : Nat) < win0_2.index (pt b 3) 1 * 1024 + 1024
      rw [hi.2]; omega

/-- The program ends with the gradient: the host puts the rows in the plain order and transposes. -/
theorem run (ρ : Dev nD → PrngReg) : θ_run defs (onTc (τ := τ) (main (F := Ideal))) ⟨m, fun _ => 0, ρ⟩ fun r => ∀ c : Dev nD,
    r.2.mem ((c : Thread nD τ).loc main_v9) = grad (argH m c) (argZ m c) := by
  refine (θ_run defs _ _).mono (fun r h c => ?_) (run_main m ρ)
  refine ((h c).2 main_v9 (by decide)).trans ?_
  have h5 := withArrays_arr spec0 (by decide) c (V0 m c) (fun w => (dats m 0 c).arrAt w cfg0.N) 2
  rw [final] at h5
  funext y
  obtain ⟨e, p, rfl⟩ : ∃ (e : Fin 1024) (p : Fin 5632), y = ix2 e p := ⟨y 0, y 1, eq_ix2 y⟩
  show StableHlo.after hostOps1 (withArrays spec0 c (V0 m c) fun w => (dats m 0 c).arrAt w cfg0.N) main_v9 _ = _
  after_results_simp
  pointwise []
  refine (congrFun h5 (ix2 (sw p) e)).trans ?_
  show (∑ n : Fin 8192, argZ m c (ix2 n (sw (sw p))) * argH m c (ix2 n e)) = _
  rw [sw_sw]
  rfl

/-- The reference's result is the gradient. -/
theorem ref (H : S8192x1024.Idx → EReal) (Z : S8192x5632.Idx → EReal) :
    Cert.Reference6Ideal.Read.val_main_v6 (F := Ideal) H Z = grad H Z := by
  funext y
  obtain ⟨e, p, rfl⟩ : ∃ (e : Fin 1024) (p : Fin 5632), y = ix2 e p := ⟨y 0, y 1, eq_ix2 y⟩
  have h4 : Cert.Reference6Ideal.Read.val_main_v4 (F := Ideal) H Z (ix2 p e) = ∑ n : Fin 8192, Z (ix2 n p) * H (ix2 n e) := by
    pointwise [Cert.Reference6Ideal.Read.val_main_v4, Cert.Reference6Ideal.Read.val_main_v1, Cert.Reference6Ideal.Read.val_main_v0]
  have h6 : Cert.Reference6Ideal.Read.val_main_v6 (F := Ideal) H Z (ix2 e p)
      = Cert.Reference6Ideal.Read.val_main_v4 (F := Ideal) H Z (ix2 p e) := by
    pointwise [Cert.Reference6Ideal.Read.val_main_v6, Cert.Reference6Ideal.Read.val_main_v5]
  rw [h6, h4]
  rfl

/-- The kernel runs and leaves its arguments and the counters as they were; so it does over the extended reals, and so
    does the reference. -/
theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- From arguments that agree, the kernel's result and the reference's are the gradient of the input weights. -/
theorem algebraic : Cert.algebraic_Kernel6Ideal_Reference6Ideal := by
  intro m ρ m' ρ' _ hagree
  refine ⟨fun c => grad (argH m c) (argZ m c), ?_, ?_⟩
  · exact (θ_run Cert.Kernel6Ideal.defs _ _).mono (fun r h c => ⟨h.1 c, h.2 c⟩)
      (θ_run_and (run m ρ) (Cert.Kernel6Ideal.Gen.unchanged m ρ))
  · refine (θ_run Cert.Reference6Ideal.defs _ _).mono (fun r h c => ?_) (Cert.Reference6Ideal.Value.run (F := Ideal) m' ρ')
    obtain ⟨a0, a1⟩ := hagree c
    refine ⟨(h c).1.trans ?_, (h c).2⟩
    rw [Cert.Reference6Ideal.Read.val_main_v6_eq, a0, a1]
    exact ref _ _

end Cert.FfnInGrad
end
-- ==== Proof.FfnInDx.lean ====
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Swap
public import Idealize.ShloMosaic.PureOps.Ideal
public import Idealize.ShloMosaic.Lib.Pointwise
public import Idealize.ShloMosaic.Lib.Pipeline.ReadBack

/-! The gradient of the feed-forward block's input: the gradient of the inner columns times the input weights,
    transposed. Eight blocks of 1024 rows; the 5632 inner columns, in the kernel's order, are summed in two parts that a
    carried block accumulates. -/

@[expose] public section
set_option maxRecDepth 16384

noncomputable section
namespace Cert.FfnInDx
open Cert.Kernel7Ideal Cert.Kernel7Ideal.Gen Idealize.ShloMosaic Idealize.ShloMosaic.TcCoe Idealize.SL.Sem
open Idealize.ShloMosaic.Pipeline Cert.Ffn

/-- The gradient, at row `i` and column `e`. -/
def grad (W : S1024x5632.Idx → EReal) (Z : S8192x5632.Idx → EReal) : S8192x1024.Idx → EReal := fun y =>
  ∑ p : Fin 5632, Z (ix2 (y 0) p) * W (ix2 (y 1) p)

/-- A part of 2816 inner columns, of a block of 1024 rows. -/
def part (x : Vec Ideal S1024x2816 .bf16) (d : Vec Ideal S2816x1024 .bf16) : Vec Ideal S1024x1024 .f32 := fun y =>
  ∑ n : Fin 2816, x (ix2 (y 0) n) * d (ix2 n (y 1))

theorem part_apply (x : Vec Ideal S1024x2816 .bf16) (d : Vec Ideal S2816x1024 .bf16) (i : Fin 1024) (e : Fin 1024) :
    part x d (ix2 i e) = ∑ n : Fin 2816, x (ix2 i n) * d (ix2 n e) := rfl

section Body
variable (x : Vec Ideal S1024x2816 .bf16) (d : Vec Ideal S2816x1024 .bf16) (s : Vec Ideal S1024x1024 .f32)

theorem pay1_apply (i : Fin 1024) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 1024) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 1024) (e : Fin 1024), y = ix2 i e := ⟨y 0, y 1, eq_ix2 y⟩
  rw [← pay1_apply]
  pointwise [k0_pay3]

variable (c : Dev nD) (i : grid0.Coords) (a3 : Memref sig .tc .vmem S1024x2816 .bf16) (h3 : a3.IsWhole)
  (a4 : Memref sig .tc .vmem S2816x1024 .bf16) (h4 : a4.IsWhole) (a5 : Memref sig .tc .vmem S1024x1024 .bf16)
  (h5 : a5.IsWhole) (a6 : Memref sig .tc .vmem S1024x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S1024x1024_S1024x1024_0_0,
    View.ld_unit_zero (by decide) inb_S1024x2816_S1024x2816_0_0, View.ld_unit_zero (by decide) inb_S2816x1024_S2816x1024_0_0,
    pay2_eq]

/-- The last part is added too, and the sum is the result's block. -/
theorem out_B (hc0 : ¬cond0_0 i) (hc1 : cond0_1 i) (hc2 : cond0_2 i) :
    out0_B_2 c i a3 h3 a4 h4 a5 h5 a6 h6 hc0 hc1 hc2 x d s = fun y => s y + part x d y := by
  have hcov := cover0_B_2 c i a3 h3 a4 h4 a5 h5 a6 h6 hc0 hc1 hc2 x d s
  unfold out0_B_2
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S1024x1024_S1024x1024_0_0, View.readCov_eq_canon',
    View.canon_cons_unit_zero (by decide) inb_S1024x1024_S1024x1024_0_0,
    View.ld_unit_zero (by decide) inb_S1024x2816_S1024x2816_0_0, View.ld_unit_zero (by decide) inb_S2816x1024_S2816x1024_0_0,
    View.ld_unit_zero (by decide) inb_S1024x1024_S1024x1024_0_0, pay3_eq]
  exact (congrArg k0_pay4 (View.ld_unit_zero (by decide) inb_S1024x1024_S1024x1024_0_0 (fun y => s y + part x d y))).trans rfl

end Body

variable (m : (ℓ : Loc nD τ sig) → Buf (Elt Ideal) ℓ)

/-- The two arguments on a device. -/
def argW (c : Dev nD) : S1024x5632.Idx → EReal := m ((c : Thread nD τ).loc main_arg0)
def argZ (c : Dev nD) : S8192x5632.Idx → EReal := m ((c : Thread nD τ).loc main_arg1)

/-- The prepared gradient: its columns in the kernel's order. -/
theorem host0 (c : Dev nD) (i : Fin 8192) (p : Fin 5632) : V m c main_v4 (ix2 i p) = argZ m c (ix2 i (sw p)) := by
  show StableHlo.after hostOps0 (fun b => m (c, b)) main_v4 _ = _
  after_results_simp
  pointwise []
  rfl

/-- The prepared weights: transposed, their rows in the kernel's order. -/
theorem host1 (c : Dev nD) (p : Fin 5632) (e : Fin 1024) : V m c main_v9 (ix2 p e) = argW m c (ix2 e (sw p)) := by
  show StableHlo.after hostOps0 (fun b => m (c, b)) main_v9 _ = _
  after_results_simp
  pointwise []
  rfl

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = 0 :=
  (by decide +kernel : ∀ t : Fin grid0.N, win0_2.index t 0 = t.val / 2 ∧ win0_2.index t 1 = 0)

/-- A grid point by its block of rows and its part of the inner columns. -/
def pt (b : Fin 8) (s : Fin 2) : Fin cfg0.N := ⟨b.val * 2 + s.val, by rw [show cfg0.N = 16 from N_0]; omega⟩

theorem pt_mod (b : Fin 8) (s : Fin 2) : (pt b s).val % 2 = s.val := by show (b.val * 2 + s.val) % 2 = _; omega
theorem pt_div (b : Fin 8) (s : Fin 2) : (pt b s).val / 2 = b.val := by show (b.val * 2 + s.val) / 2 = _; omega

theorem blk0 (c : Dev nD) (b : Fin 8) (s : Fin 2) (i : Fin 1024) (n : Fin 2816) :
    iblk m c 0 (pt b s) (ix2 i n)
      = argZ m c (ix2 ⟨b.val * 1024 + i.val, by omega⟩ (sw ⟨s.val * 2816 + n.val, by omega⟩)) := by
  rw [← host0]
  unfold iblk
  rw [View.read_apply]
  have hi := index0 (pt b s)
  rw [pt_mod, pt_div] at hi
  refine congrArg (V m c main_v4) (funext fun a => Fin.ext ?_)
  match a with
  | ⟨0, _⟩ => show win0_0.index (pt b s) 0 * 1024 + 1 * i.val = _; rw [hi.1]; simp
  | ⟨1, _⟩ => show win0_0.index (pt b s) 1 * 2816 + 1 * n.val = _; rw [hi.2]; simp

theorem blk1 (c : Dev nD) (b : Fin 8) (s : Fin 2) (n : Fin 2816) (e : Fin 1024) :
    iblk m c 1 (pt b s) (ix2 n e) = argW m c (ix2 e (sw ⟨s.val * 2816 + n.val, by omega⟩)) := by
  rw [← host1]
  unfold iblk
  rw [View.read_apply]
  have hi := index1 (pt b s)
  rw [pt_mod] at hi
  refine congrArg (V m c main_v9) (funext fun a => Fin.ext ?_)
  match a with
  | ⟨0, _⟩ => show win0_1.index (pt b s) 0 * 2816 + 1 * n.val = _; rw [hi.1]; simp
  | ⟨1, _⟩ => show win0_1.index (pt b s) 1 * 1024 + 1 * e.val = _; rw [hi.2]; simp

/-- A point's part. -/
def con (c : Dev nD) (b : Fin 8) (s : Fin 2) : Vec Ideal S1024x1024 .f32 := part (iblk m c 0 (pt b s)) (iblk m c 1 (pt b s))

/-- The carried block after the first part. -/
theorem acc_zero (c : Dev nD) (b : Fin 8) (y : S1024x1024.Idx) :
    (outsAt0 m c (pt b 0).val (pt b 0).isLt).2 y = con m c b 0 y := by
  have h0 : (pt b 0).val % 2 = 0 := pt_mod b 0
  rw [outsAt0_A m c (pt b 0) h0 (by omega) (by omega)]
  dsimp only
  rw [sout_A]
  rfl

/-- The result's block at a block's last point is the sum of the two parts. -/
theorem out_last (c : Dev nD) (b : Fin 8) (y : S1024x1024.Idx) :
    (outsAt0 m c (pt b 1).val (pt b 1).isLt).1 y = ∑ s, con m c b s y := by
  have h1 : (pt b 1).val % 2 = 1 := pt_mod b 1
  rw [outsAt0_B m c (pt b 1) (by omega) h1 h1]
  dsimp only
  rw [out_B]
  have e : (pt b 1).val - 1 = (pt b 0).val := by show b.val * 2 + 1 - 1 = b.val * 2 + 0; omega
  show (outsAt0 m c ((pt b 1).val - 1) _).2 y + con m c b 1 y = _
  have e' : (outsAt0 m c ((pt b 1).val - 1) (Nat.lt_of_le_of_lt (Nat.sub_le _ 1) (pt b 1).isLt)).2 y
      = (outsAt0 m c (pt b 0).val (pt b 0).isLt).2 y := by
    congr 2
  rw [e', acc_zero, Fin.sum_univ_two]

theorem sum_con (c : Dev nD) (b : Fin 8) (i : Fin 1024) (e : Fin 1024) :
    (∑ s, con m c b s (ix2 i e)) = grad (argW m c) (argZ m c) (ix2 ⟨b.val * 1024 + i.val, by omega⟩ e) := by
  refine (Finset.sum_congr rfl fun s _ => ?_).trans (sum_sw (fun p =>
    argZ m c (ix2 ⟨b.val * 1024 + i.val, by omega⟩ p) * argW m c (ix2 e p)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (grad (argW m c) (argZ m c)) := by
  have h1 := (flush0_2 t).mp hf
  obtain ⟨b, rfl⟩ : ∃ b, t = pt b 1 :=
    ⟨⟨t.val / 2, by have := lt_of_lt_of_eq t.isLt N_0; omega⟩, Fin.ext (by show t.val = t.val / 2 * 2 + 1; omega)⟩
  show (cfg0.win 2).cut (grid0.coords _) ((dats m 0 c).after 2 _) = _
  rw [after0_2]
  funext j
  rw [View.read_apply]
  obtain ⟨i, e, rfl⟩ : ∃ (i : Fin 1024) (e : Fin 1024), j = ix2 i e := ⟨j 0, j 1, eq_ix2 j⟩
  refine (out_last m c b (ix2 i e)).trans ((sum_con m c b i e).trans ?_)
  have hi := index2 (pt b 1)
  rw [pt_div] at hi
  refine congrArg _ (funext fun a => Fin.ext ?_)
  match a with
  | ⟨0, _⟩ => show b.val * 1024 + i.val = win0_2.index (pt b 1) 0 * 1024 + 1 * i.val; rw [hi.1]; omega
  | ⟨1, _⟩ => show e.val = win0_2.index (pt b 1) 1 * 1024 + 1 * e.val; rw [hi.2]; omega

/-- The result array is the gradient. -/
theorem final (c : Dev nD) : (dats m 0 c).arrAt 2 cfg0.N = grad (argW m c) (argZ m c) :=
  (dats m 0 c).arrAt_eq_of_cover 2 (grad (argW m c) (argZ m c)) (flushed m c) fun i => by
    have h0 : (i 0 : Nat) < 8192 := (i 0).isLt
    have h1 : (i 1 : Nat) < 1024 := (i 1).isLt
    let b : Fin 8 := ⟨(i 0).val / 1024, by omega⟩
    refine ⟨pt b 1, (flush0_2 _).mpr (pt_mod b 1), ?_⟩
    have hi := index2 (pt b 1)
    have hb : (pt b 1).val / 2 = (i 0).val / 1024 := pt_div b 1
    show i ∈ ((View.whole main_v10).slice (win0_2.rect (pt b 1))).set
    rw [View.set_slice_whole, Rect.mem_set_unit]
    intro a
    match a with
    | ⟨0, _⟩ =>
      show win0_2.index (pt b 1) 0 * 1024 ≤ (i 0 : Nat) ∧ (i 0 : Nat) < win0_2.index (pt b 1) 0 * 1024 + 1024
      rw [hi.1, hb]; omega
    | ⟨1, _⟩ =>
      show win0_2.index (pt b 1) 1 * 1024 ≤ (i 1 : Nat) ∧ (i 1 : Nat) < win0_2.index (pt b 1) 1 * 1024 + 1024
      rw [hi.2]; omega

/-- The reference's result is the gradient. -/
theorem ref (W : S1024x5632.Idx → EReal) (Z : S8192x5632.Idx → EReal) :
    Cert.Reference7Ideal.Read.val_main_v4 (F := Ideal) W Z = grad W Z := by
  funext y
  obtain ⟨i, e, rfl⟩ : ∃ (i : Fin 8192) (e : Fin 1024), y = ix2 i e := ⟨y 0, y 1, eq_ix2 y⟩
  unfold grad
  pointwise [Cert.Reference7Ideal.Read.val_main_v4, Cert.Reference7Ideal.Read.val_main_v3, Cert.Reference7Ideal.Read.val_main_v0]

/-- The kernel runs and leaves its arguments and the counters as they were; so it does over the extended reals, and so
    does the reference. -/
theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- From arguments that agree, the kernel's result and the reference's are the gradient of the input. -/
theorem algebraic : Cert.algebraic_Kernel7Ideal_Reference7Ideal := by
  intro m ρ m' ρ' _ hagree
  refine ⟨fun c => grad (argW m c) (argZ m c), ?_, ?_⟩
  · refine (θ_run Cert.Kernel7Ideal.defs _ _).mono (fun r h c => ?_) (Cert.Kernel7Ideal.Value.run_blocks m ρ)
    exact ⟨(h c).1.trans (final m c), (h c).2⟩
  · refine (θ_run Cert.Reference7Ideal.defs _ _).mono (fun r h c => ?_) (Cert.Reference7Ideal.Value.run (F := Ideal) m' ρ')
    obtain ⟨a0, a1⟩ := hagree c
    refine ⟨(h c).1.trans ?_, (h c).2⟩
    rw [Cert.Reference7Ideal.Read.val_main_v4_eq, a0, a1]
    exact ref _ _

end Cert.FfnInDx
end
-- ==== Proof.NormMath.lean ====
module

public import proofs.«01_k».proof.Proof.Softmax
public import Idealize.ShloMosaic.Lib.Pointwise

/-! The mathematics of the gradient of one row of a root-mean-square norm, on plain functions into the extended reals:
    the form the kernel computes, the form the derivative gives term by term, and that they are equal whatever the
    entries are. Nothing here mentions a program. -/

@[expose] public section

noncomputable section
namespace Cert.Norm
open Idealize.ShloMosaic Cert.Own

/-- The width 1024, the ε under the root and −1/2, as the words both programs hold. -/
def width : EReal := Ideal.ofBits .f32 0x44800000#32
def eps : EReal := Ideal.ofBits .f32 0x358637BD#32
def negHalf : EReal := Ideal.ofBits .f32 0xBF000000#32

theorem width_eq : width = ((1024 : ℝ) : EReal) := by
  simp [width, Ideal.ofBits, Ideal.ieee, -EReal.coe_mul]; norm_num

theorem eps_eq : ∃ e : ℝ, 0 < e ∧ eps = e := by
  refine ⟨8796093 * 2 ^ (-43 : ℤ), by positivity, ?_⟩
  simp [eps, Ideal.ofBits, Ideal.ieee, -EReal.coe_mul]

theorem negHalf_eq : negHalf = ((-(1 / 2) : ℝ) : EReal) := by
  simp [negHalf, Ideal.ofBits, Ideal.ieee, -EReal.coe_mul]; norm_num

variable (x g w : Fin 1024 → EReal)

/-- The mean of the squares of a row, plus ε. -/
def msq : EReal := Ideal.div (∑ k, x k * x k) width + eps

/-- The reciprocal root of that. -/
def inv : EReal := Ideal.rsqrt (msq x)

/-- The normalised row, before its weights. -/
def nrm (j : Fin 1024) : EReal := x j * inv x

/-- The gradient of the row `x` from the incoming gradient `g` and the weights `w`, as the kernel computes it. -/
def dnorm (j : Fin 1024) : EReal := inv x * (g j * w j - nrm x j * Ideal.div (∑ k, g k * w k * nrm x k) width)

/-- The gradient that reaches the mean of the squares, divided by the width. -/
def dmean : EReal := Ideal.div ((∑ k, x k * (g k * w k)) * (negHalf * Ideal.div (inv x) (msq x))) width

/-- The same gradient as the derivatives of the product, of the root and of the square give it, term by term. -/
def dnormTerms (j : Fin 1024) : EReal := g j * w j * inv x + x j * dmean x g w + dmean x g w * x j

/-- Twice a product with a real. -/
theorem mul_add_mul (s : EReal) (a : ℝ) : s * a + s * a = s * ((2 * a : ℝ) : EReal) := by
  have two : ∀ y : EReal, y + y = ((2 : ℝ) : EReal) * y := by
    intro y
    induction y with
    | bot => rw [EReal.coe_mul_bot_of_pos (by norm_num)]; rfl
    | top => rw [EReal.coe_mul_top_of_pos (by norm_num)]; rfl
    | coe r => rw [← EReal.coe_add, ← EReal.coe_mul, two_mul]
  rw [two, EReal.coe_mul, mul_left_comm]

/-- A row with an infinite entry has an infinite mean of squares, and the reciprocal root is 0. -/
theorem msq_top (k : Fin 1024) (hk : ¬∃ r : ℝ, x k = r) : msq x = ⊤ := by
  have hsq : ∀ i, 0 ≤ x i * x i := fun i => by
    induction x i with
    | bot => simp
    | top => simp
    | coe r => rw [← EReal.coe_mul]; exact_mod_cast mul_self_nonneg r
  have htop : x k * x k = ⊤ := by
    revert hk
    induction x k with
    | bot => simp
    | top => simp
    | coe r => intro h; exact absurd ⟨r, rfl⟩ h
  have hsum : (∑ i, x i * x i) = ⊤ := top_le_iff.mp
    (htop ▸ Finset.single_le_sum (f := fun i => x i * x i) (fun i _ => hsq i) (Finset.mem_univ k))
  obtain ⟨e, _, he⟩ := eps_eq
  unfold msq
  rw [hsum, width_eq, div_coe _ _ (by norm_num), EReal.top_mul_coe_of_pos (by norm_num), he]
  rfl

/-- The two forms are equal, whatever the row, the incoming gradient and the weights are. -/
theorem dnormTerms_eq (j : Fin 1024) : dnormTerms x g w j = dnorm x g w j := by
  by_cases hx : ∀ k, ∃ r : ℝ, x k = r
  · choose ξ hξ using hx
    obtain ⟨e, he, hee⟩ := eps_eq
    obtain ⟨S, hS⟩ : ∃ S, S = ∑ k, x k * (g k * w k) := ⟨_, rfl⟩
    obtain ⟨M, hM0, hM⟩ : ∃ M : ℝ, 0 < M ∧ msq x = M := by
      refine ⟨(∑ k, ξ k * ξ k) * (1024 : ℝ)⁻¹ + e, by
        have := Finset.sum_nonneg (s := Finset.univ) fun k (_ : k ∈ Finset.univ) => mul_self_nonneg (ξ k)
        positivity, ?_⟩
      unfold msq
      rw [width_eq, div_coe _ _ (by norm_num), hee, EReal.coe_add, EReal.coe_mul, coe_sum]
      simp only [hξ, EReal.coe_mul]
    obtain ⟨r, hr0, hr2, hr⟩ : ∃ r : ℝ, 0 < r ∧ r * r = M⁻¹ ∧ inv x = r := by
      refine ⟨(Real.sqrt M)⁻¹, inv_pos.mpr (Real.sqrt_pos.mpr hM0), ?_, ?_⟩
      · rw [← mul_inv, Real.mul_self_sqrt hM0.le]
      · rw [inv, hM, Ideal.rsqrt_coe, if_neg hM0.not_gt, if_neg hM0.ne']
    have hsum : (∑ k, g k * w k * nrm x k) = S * r := by
      rw [hS, ← sum_mul_coe _ _ hr0.le]
      exact Finset.sum_congr rfl fun k _ => by rw [nrm, hr, ← mul_assoc, mul_comm (x k)]
    have hu : dmean x g w = S * ((-(1 / 2) * (r * M⁻¹) * (1024 : ℝ)⁻¹ : ℝ) : EReal) := by
      unfold dmean
      rw [← hS, hr, hM, div_coe _ _ hM0, negHalf_eq, width_eq, div_coe _ _ (by norm_num), ← EReal.coe_mul, ← EReal.coe_mul,
        mul_assoc, ← EReal.coe_mul]
    unfold dnormTerms dnorm
    rw [hsum, hu, nrm, hr, hξ j, width_eq, div_coe _ _ (by norm_num), sub_eq_add_neg,
      EReal.left_distrib_of_nonneg_of_ne_top (by exact_mod_cast hr0.le) (EReal.coe_ne_top r), mul_comm _ (ξ j : EReal),
      add_assoc, mul_left_comm (ξ j : EReal), ← EReal.coe_mul, mul_add_mul, mul_comm (r : EReal) (g j * w j)]
    congr 1
    rw [← mul_neg, ← EReal.coe_mul, ← mul_assoc]
    have hm : -(S * (r : EReal) * ((1024⁻¹ : ℝ) : EReal)) = S * ((-(r * 1024⁻¹) : ℝ) : EReal) := by
      rw [mul_assoc, ← EReal.coe_mul, ← mul_neg, EReal.coe_neg]
    rw [hm, mul_left_comm _ S, mul_left_comm _ S, ← EReal.coe_mul, ← EReal.coe_mul]
    congr 2
    linear_combination (r * ξ j * (1024 : ℝ)⁻¹) * hr2
  · push Not at hx
    obtain ⟨k, hk⟩ := hx
    have hm := msq_top x k (by push Not; exact hk)
    have hi : inv x = 0 := by rw [inv, hm, Ideal.rsqrt_top]
    have hd : Ideal.div (inv x) (msq x) = 0 := by rw [hi, hm, Ideal.div, if_neg EReal.top_ne_zero, zero_mul]
    have hu : dmean x g w = 0 := by
      unfold dmean
      rw [hd, mul_zero, mul_zero, width_eq, div_coe _ _ (by norm_num), zero_mul]
    unfold dnormTerms dnorm
    rw [hu, hi]
    simp

variable {n : ℕ} (X G : (⟨2, ![n, 1024]⟩ : Shape).Idx → EReal)

/-- Row `i` of an array. -/
def row (i : Fin n) (j : Fin 1024) : EReal := X (ix2 i j)

/-- The gradient of the weights at column `j`: the sum over the rows. -/
def dweight (j : Fin 1024) : EReal := ∑ i, row G i j * nrm (row X i) j

/-- The gradient of every row, from every row's incoming gradient. -/
def dnorms {n : ℕ} (X G : (⟨2, ![n, 1024]⟩ : Shape).Idx → EReal) (w : Fin 1024 → EReal)
    (y : (⟨2, ![n, 1024]⟩ : Shape).Idx) : EReal := dnorm (row X (y 0)) (row G (y 0)) w (y 1)

end Cert.Norm
end
-- ==== Proof.NormGrad.lean ====
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.NormMath
public import proofs.«01_k».proof.Proof.Swap
public import Idealize.ShloMosaic.PureOps.Ideal
public import Idealize.ShloMosaic.Lib.Pointwise
public import Idealize.ShloMosaic.Lib.Pipeline.ReadBack

/-! The gradients of two norms in one call. A grid point takes 1024 tokens: it computes their gradient through the first
    norm, adds the running gradient, takes the sum through the second norm, and adds the tokens' part of both weights'
    gradients to two blocks that stay from point to point. -/

@[expose] public section
set_option maxRecDepth 16384

noncomputable section
namespace Cert.NormGrad
open Cert.Kernel8Ideal Cert.Kernel8Ideal.Gen Idealize.ShloMosaic Idealize.ShloMosaic.TcCoe Idealize.SL.Sem
open Idealize.ShloMosaic.Pipeline Cert.Norm

/-! ### One block -/

section Body
variable (x0 x3 : Vec Ideal S1024x1024 .f32) (x2 x4 : Vec Ideal S1024x1024 .bf16) (x1 x5 s s' : Vec Ideal S1x1024 .f32)

/-- The weights of a norm, held as one row. -/
def wrow (x : Vec Ideal S1x1024 .f32) (j : Fin 1024) : EReal := x (ix2 0 j)

/-- The gradient of a block through the first norm, with the running gradient added. -/
def blkX : Vec Ideal S1024x1024 .f32 := fun y => dnorms x0 x2 (wrow x1) y + x3 y

/-- A block's part of a weight's gradient, as one row. -/
def blkW {n : ℕ} (X G : (⟨2, ![n, 1024]⟩ : Shape).Idx → EReal) : Vec Ideal S1x1024 .f32 := fun y => dweight X G (y 1)

theorem pay2_apply (i : Fin 1024) : k0_pay2 x0 (ix2 i 0) = inv (row x0 i) := by
  pointwise [k0_pay2]
  rfl
theorem pay8_apply (i : Fin 1024) : k0_pay8 x4 (ix2 i 0) = inv (row x4 i) := by
  pointwise [k0_pay8, k0_pay7]
  rfl
theorem pay3_apply (i j : Fin 1024) : k0_pay3 x0 (ix2 i j) = nrm (row x0 i) j := by
  pointwise [k0_pay3]
  rw [pay2_apply]
  rfl
theorem pay9_apply (i j : Fin 1024) : k0_pay9 x4 (ix2 i j) = nrm (row x4 i) j := by
  pointwise [k0_pay9, k0_pay7]
  rw [pay8_apply]
  rfl

theorem pay4_eq : k0_pay4 x2 x0 = blkW x0 x2 := by
  funext y
  obtain ⟨i, j, rfl⟩ : ∃ (i : Fin 1) (j : Fin 1024), y = ix2 i j := ⟨y 0, y 1, eq_ix2 y⟩
  pointwise [k0_pay4, k0_pay1]
  simp only [pay3_apply]
  rfl
theorem pay5_eq : k0_pay5 x2 x0 s = fun y => s y + blkW x0 x2 y := by
  rw [← pay4_eq]
  funext y
  obtain ⟨i, j, rfl⟩ : ∃ (i : Fin 1) (j : Fin 1024), y = ix2 i j := ⟨y 0, y 1, eq_ix2 y⟩
  pointwise [k0_pay5]
theorem pay6_eq : k0_pay6 x2 x0 x1 x3 = blkX x0 x3 x2 x1 := by
  funext y
  obtain ⟨i, j, rfl⟩ : ∃ (i : Fin 1024) (j : Fin 1024), y = ix2 i j := ⟨y 0, y 1, eq_ix2 y⟩
  pointwise [k0_pay6, k0_pay1]
  simp only [pay3_apply, pay2_apply]
  rfl
theorem pay10_eq (D : Vec Ideal S1024x1024 .f32) : k0_pay10 D x4 = blkW x4 D := by
  funext y
  obtain ⟨i, j, rfl⟩ : ∃ (i : Fin 1) (j : Fin 1024), y = ix2 i j := ⟨y 0, y 1, eq_ix2 y⟩
  pointwise [k0_pay10]
  simp only [pay9_apply]
  rfl
theorem pay11_eq (D : Vec Ideal S1024x1024 .f32) : k0_pay11 D x4 s = fun y => s y + blkW x4 D y := by
  rw [← pay10_eq]
  funext y
  obtain ⟨i, j, rfl⟩ : ∃ (i : Fin 1) (j : Fin 1024), y = ix2 i j := ⟨y 0, y 1, eq_ix2 y⟩
  pointwise [k0_pay11]
theorem pay12_eq (D : Vec Ideal S1024x1024 .f32) : k0_pay12 D x4 x5 = dnorms x4 D (wrow x5) := by
  funext y
  obtain ⟨i, j, rfl⟩ : ∃ (i : Fin 1024) (j : Fin 1024), y = ix2 i j := ⟨y 0, y 1, eq_ix2 y⟩
  pointwise [k0_pay12]
  simp only [pay9_apply, pay8_apply]
  rfl

/-- Loads and stores of a whole block. -/
theorem ld_sq {e : EltTy} (x : Vec Ideal S1024x1024 e) :
    View.ld x (Rect.unit ![0, 0] ![1024, 1024] inb_S1024x1024_S1024x1024_0_0) = x :=
  View.ld_unit_zero (by decide) inb_S1024x1024_S1024x1024_0_0 x
theorem ld_row {e : EltTy} (x : Vec Ideal S1x1024 e) :
    View.ld x (Rect.unit ![0, 0] ![1, 1024] inb_S1x1024_S1x1024_0_0) = x :=
  View.ld_unit_zero (by decide) inb_S1x1024_S1x1024_0_0 x
theorem canon_sq {e : EltTy} (x : Vec Ideal S1024x1024 e) :
    View.canon [⟨Rect.unit ![0, 0] ![1024, 1024] inb_S1024x1024_S1024x1024_0_0, x⟩] = x :=
  View.canon_cons_unit_zero (by decide) inb_S1024x1024_S1024x1024_0_0 x _
theorem canon_row {e : EltTy} (x : Vec Ideal S1x1024 e) :
    View.canon [⟨Rect.unit ![0, 0] ![1, 1024] inb_S1x1024_S1x1024_0_0, x⟩] = x :=
  View.canon_cons_unit_zero (by decide) inb_S1x1024_S1x1024_0_0 x _

variable (c : Dev nD) (i : grid0.Coords)
  (a1 : Memref sig .tc .vmem S1024x1024 .f32) (h1 : a1.IsWhole) (a2 : Memref sig .tc .vmem S1x1024 .f32) (h2 : a2.IsWhole)
  (a3 : Memref sig .tc .vmem S1024x1024 .bf16) (h3 : a3.IsWhole) (a4 : Memref sig .tc .vmem S1024x1024 .f32) (h4 : a4.IsWhole)
  (a5 : Memref sig .tc .vmem S1024x1024 .bf16) (h5 : a5.IsWhole) (a6 : Memref sig .tc .vmem S1x1024 .f32) (h6 : a6.IsWhole)
  (a7 : Memref sig .tc .vmem S1024x1024 .f32) (h7 : a7.IsWhole) (a8 : Memref sig .tc .vmem S1x1024 .f32) (h8 : a8.IsWhole)
  (a9 : Memref sig .tc .vmem S1024x1024 .bf16) (h9 : a9.IsWhole) (a10 : Memref sig .tc .vmem S1x1024 .f32) (h10 : a10.IsWhole)

set_option maxHeartbeats 1000000 in
/-- What the body leaves at the first point: the two gradients of the block, and its part of the weights' gradients. -/
theorem out_A (hc0 : cond0_0 i) (hc1 : ¬cond0_1 i) (hc2 : cond0_2 i) (hc3 : ¬cond0_3 i) :
    out0_A_6 c i a1 h1 a2 h2 a3 h3 a4 h4 a5 h5 a6 h6 a7 h7 a8 h8 a9 h9 a10 h10 hc0 hc1 hc2 hc3 x0 x1 x2 x3 x4 x5
        = blkX x0 x3 x2 x1
    ∧ out0_A_7 c i a1 h1 a2 h2 a3 h3 a4 h4 a5 h5 a6 h6 a7 h7 a8 h8 a9 h9 a10 h10 hc0 hc1 hc2 hc3 x0 x1 x2 x3 x4 x5
        = blkW x0 x2
    ∧ out0_A_8 c i a1 h1 a2 h2 a3 h3 a4 h4 a5 h5 a6 h6 a7 h7 a8 h8 a9 h9 a10 h10 hc0 hc1 hc2 hc3 x0 x1 x2 x3 x4 x5
        = dnorms x4 (blkX x0 x3 x2 x1) (wrow x5)
    ∧ out0_A_9 c i a1 h1 a2 h2 a3 h3 a4 h4 a5 h5 a6 h6 a7 h7 a8 h8 a9 h9 a10 h10 hc0 hc1 hc2 hc3 x0 x1 x2 x3 x4 x5
        = blkW x4 (blkX x0 x3 x2 x1) := by
  have c6 := cover0_A_6 c i a1 h1 a2 h2 a3 h3 a4 h4 a5 h5 a6 h6 a7 h7 a8 h8 a9 h9 a10 h10 hc0 hc1 hc2 hc3 x0 x1 x2 x3 x4 x5
  have c7 := cover0_A_7 c i a1 h1 a2 h2 a3 h3 a4 h4 a5 h5 a6 h6 a7 h7 a8 h8 a9 h9 a10 h10 hc0 hc1 hc2 hc3 x0 x1 x2 x3 x4 x5
  have c8 := cover0_A_8 c i a1 h1 a2 h2 a3 h3 a4 h4 a5 h5 a6 h6 a7 h7 a8 h8 a9 h9 a10 h10 hc0 hc1 hc2 hc3 x0 x1 x2 x3 x4 x5
  have c9 := cover0_A_9 c i a1 h1 a2 h2 a3 h3 a4 h4 a5 h5 a6 h6 a7 h7 a8 h8 a9 h9 a10 h10 hc0 hc1 hc2 hc3 x0 x1 x2 x3 x4 x5
  unfold out0_A_6 out0_A_7 out0_A_8 out0_A_9
  rw [View.read_writes_eq_canon _ _ _ c6, View.read_writes_eq_canon _ _ _ c7, View.read_writes_eq_canon _ _ _ c8,
    View.read_writes_eq_canon _ _ _ c9]
  unfold kernelRun0_A
  dsimp only
  sl_unfold_words
  simp only [View.readAt_eq_ld, h1.read_unread, h2.read_unread, h3.read_unread, h4.read_unread, h5.read_unread, h6.read_unread,
    ld_sq, ld_row, canon_sq, canon_row, pay6_eq, pay4_eq, pay12_eq, pay10_eq, and_self]

/-- What it leaves at a later point: the parts of the weights' gradients are added to what the blocks held. -/
theorem out_B (hc0 : ¬cond0_0 i) (hc1 : cond0_1 i) (hc2 : ¬cond0_2 i) (hc3 : cond0_3 i) :
    out0_B_6 c i a1 h1 a2 h2 a3 h3 a4 h4 a5 h5 a6 h6 a7 h7 a8 h8 a9 h9 a10 h10 hc0 hc1 hc2 hc3 x0 x1 x2 x3 x4 x5 s s'
        = blkX x0 x3 x2 x1
    ∧ out0_B_7 c i a1 h1 a2 h2 a3 h3 a4 h4 a5 h5 a6 h6 a7 h7 a8 h8 a9 h9 a10 h10 hc0 hc1 hc2 hc3 x0 x1 x2 x3 x4 x5 s s'
        = (fun y => s y + blkW x0 x2 y)
    ∧ out0_B_8 c i a1 h1 a2 h2 a3 h3 a4 h4 a5 h5 a6 h6 a7 h7 a8 h8 a9 h9 a10 h10 hc0 hc1 hc2 hc3 x0 x1 x2 x3 x4 x5 s s'
        = dnorms x4 (blkX x0 x3 x2 x1) (wrow x5)
    ∧ out0_B_9 c i a1 h1 a2 h2 a3 h3 a4 h4 a5 h5 a6 h6 a7 h7 a8 h8 a9 h9 a10 h10 hc0 hc1 hc2 hc3 x0 x1 x2 x3 x4 x5 s s'
        = fun y => s' y + blkW x4 (blkX x0 x3 x2 x1) y := by
  have c6 := cover0_B_6 c i a1 h1 a2 h2 a3 h3 a4 h4 a5 h5 a6 h6 a7 h7 a8 h8 a9 h9 a10 h10 hc0 hc1 hc2 hc3 x0 x1 x2 x3 x4 x5 s s'
  have c7 := cover0_B_7 c i a1 h1 a2 h2 a3 h3 a4 h4 a5 h5 a6 h6 a7 h7 a8 h8 a9 h9 a10 h10 hc0 hc1 hc2 hc3 x0 x1 x2 x3 x4 x5 s s'
  have c8 := cover0_B_8 c i a1 h1 a2 h2 a3 h3 a4 h4 a5 h5 a6 h6 a7 h7 a8 h8 a9 h9 a10 h10 hc0 hc1 hc2 hc3 x0 x1 x2 x3 x4 x5 s s'
  have c9 := cover0_B_9 c i a1 h1 a2 h2 a3 h3 a4 h4 a5 h5 a6 h6 a7 h7 a8 h8 a9 h9 a10 h10 hc0 hc1 hc2 hc3 x0 x1 x2 x3 x4 x5 s s'
  unfold out0_B_6 out0_B_7 out0_B_8 out0_B_9
  rw [View.read_writes_eq_canon _ _ _ c6, View.read_writes_eq_canon _ _ _ c7, View.read_writes_eq_canon _ _ _ c8,
    View.read_writes_eq_canon _ _ _ c9]
  unfold kernelRun0_B
  dsimp only
  sl_unfold_words
  simp only [View.readAt_eq_ld, h1.read_unread, h2.read_unread, h3.read_unread, h4.read_unread, h5.read_unread, h6.read_unread,
    h8.read_unread, h10.read_unread, ld_sq, ld_row, canon_sq, canon_row, pay6_eq, pay5_eq, pay12_eq, pay11_eq, and_self]

end Body

/-! ### The arrays -/

variable (m : (ℓ : Loc nD τ sig) → Buf (Elt Ideal) ℓ)

/-- The arguments on a device: each norm's input, the incoming gradient, the running gradient, and the two weights. -/
def argX (c : Dev nD) : S8192x1024.Idx → EReal := m ((c : Thread nD τ).loc main_arg0)
def argV (c : Dev nD) : S1024.Idx → EReal := m ((c : Thread nD τ).loc main_arg1)
def argG (c : Dev nD) : S8192x1024.Idx → EReal := m ((c : Thread nD τ).loc main_arg2)
def argD (c : Dev nD) : S8192x1024.Idx → EReal := m ((c : Thread nD τ).loc main_arg3)
def argY (c : Dev nD) : S8192x1024.Idx → EReal := m ((c : Thread nD τ).loc main_arg4)
def argW (c : Dev nD) : S1024.Idx → EReal := m ((c : Thread nD τ).loc main_arg5)

/-- The weights by column. -/
def col (x : S1024.Idx → EReal) (j : Fin 1024) : EReal := x (ix1 j)

/-- The gradient through the first norm, with the running gradient added. -/
def sumX (X : S8192x1024.Idx → EReal) (v : S1024.Idx → EReal) (G D : S8192x1024.Idx → EReal) : S8192x1024.Idx → EReal :=
  fun y => dnorms X G (col v) y + D y

theorem index_tok : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_6.index t 0 = t.val ∧ win0_6.index t 1 = 0) ∧ (win0_8.index t 0 = t.val ∧ win0_8.index t 1 = 0) :=
  (by decide +kernel : ∀ t : Fin grid0.N, _)
theorem index_row : ∀ t : Fin cfg0.N, (win0_1.index t 0 = 0 ∧ win0_1.index t 1 = 0) ∧ (win0_5.index t 0 = 0 ∧ win0_5.index t 1 = 0)
    ∧ (win0_7.index t 0 = 0 ∧ win0_7.index t 1 = 0) ∧ (win0_9.index t 0 = 0 ∧ win0_9.index t 1 = 0) :=
  (by decide +kernel : ∀ t : Fin grid0.N, _)

/-- The token that row `i` of a point's block is. -/
def tok (t : Fin cfg0.N) (i : Fin 1024) : Fin 8192 := ⟨t.val * 1024 + i.val, by
  have h : t.val < 8 := lt_of_lt_of_eq t.isLt N_0; omega⟩

/-- A point's blocks of the four token arrays, and the weights' rows. -/
theorem blkA0 (c : Dev nD) (t : Fin cfg0.N) (i : Fin 1024) : row (iblk m c 0 t) i = row (argX m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blkA2 (c : Dev nD) (t : Fin cfg0.N) (i : Fin 1024) : row (iblk m c 2 t) i = row (argG m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 1024 + 1 * i.val = t.val * 1024 + i.val; rw [hi.1]; omega
  | ⟨1, _⟩ => show win0_2.index t 1 * 1024 + 1 * j.val = j.val; rw [hi.2]; omega
theorem blkA3 (c : Dev nD) (t : Fin cfg0.N) (i : Fin 1024) : row (iblk m c 3 t) i = row (argD m c) (tok t i) := by
  funext j
  unfold row iblk
  rw [View.read_apply]
  show V m c main_arg3 _ = _
  rw [V_main_arg3]
  have hi := (index_tok t).2.2.1
  refine congrArg _ (funext fun a => Fin.ext ?_)
  match a with
  | ⟨0, _⟩ => show win0_3.index t 0 * 1024 + 1 * i.val = t.val * 1024 + i.val; rw [hi.1]; omega
  | ⟨1, _⟩ => show win0_3.index t 1 * 1024 + 1 * j.val = j.val; rw [hi.2]; omega
theorem blkA4 (c : Dev nD) (t : Fin cfg0.N) (i : Fin 1024) : row (iblk m c 4 t) i = row (argY m c) (tok t i) := by
  funext j
  unfold row iblk
  rw [View.read_apply]
  show V m c main_arg4 _ = _
  rw [V_main_arg4]
  have hi := (index_tok t).2.2.2.1
  refine congrArg _ (funext fun a => Fin.ext ?_)
  match a with
  | ⟨0, _⟩ => show win0_4.index t 0 * 1024 + 1 * i.val = t.val * 1024 + i.val; rw [hi.1]; omega
  | ⟨1, _⟩ => show win0_4.index t 1 * 1024 + 1 * j.val = j.val; rw [hi.2]; omega

/-- A vector held as one row, by column. -/
theorem as_row (x : Vec Ideal S1024 .f32) (y : S1x1024.Idx) (j : Fin 1024) (hy : (y 1).val = j.val) :
    shapeCast S1x1024 x shapeCasts_S1024_S1x1024 y = col x j := by
  obtain ⟨a, b, rfl⟩ : ∃ (a : Fin 1) (b : Fin 1024), y = ix2 a b := ⟨y 0, y 1, eq_ix2 y⟩
  obtain rfl : b = j := Fin.ext hy
  pointwise
  rfl

theorem blkA1 (c : Dev nD) (t : Fin cfg0.N) : wrow (iblk m c 1 t) = col (argV m c) := by
  funext j
  unfold wrow iblk
  rw [View.read_apply]
  show V m c main_v0 _ = _
  after_results_simp
  have hi := (index_row t).1
  refine as_row _ _ _ ?_
  show win0_1.index t 1 * 1024 + 1 * j.val = j.val; rw [hi.2]; omega
theorem blkA5 (c : Dev nD) (t : Fin cfg0.N) : wrow (iblk m c 5 t) = col (argW m c) := by
  funext j
  unfold wrow iblk
  rw [View.read_apply]
  show V m c main_v1 _ = _
  after_results_simp
  have hi := (index_row t).2.1
  refine as_row _ _ _ ?_
  show win0_5.index t 1 * 1024 + 1 * j.val = j.val; rw [hi.2]; omega

/-- A point's sum of the first norm's gradient and the running gradient. -/
def sumBlk (c : Dev nD) (t : Fin cfg0.N) : Vec Ideal S1024x1024 .f32 :=
  blkX (iblk m c 0 t) (iblk m c 3 t) (iblk m c 2 t) (iblk m c 1 t)

theorem sumBlk_row (c : Dev nD) (t : Fin cfg0.N) (i : Fin 1024) :
    row (sumBlk m c t) i = row (sumX (argX m c) (argV m c) (argG m c) (argD m c)) (tok t i) := by
  funext j
  show dnorm (row (iblk m c 0 t) i) (row (iblk m c 2 t) i) (wrow (iblk m c 1 t)) j + row (iblk m c 3 t) i j = _
  rw [blkA0, blkA1, blkA2, blkA3]
  rfl

/-- What a point leaves in the four buffers: the two gradients of its block; and in the rows of the weights' gradients its
    own parts at the first point, and at a later one the sums with what the point before left. -/
theorem outs (c : Dev nD) (t : Fin cfg0.N) :
    (outsAt0 m c t.val t.isLt).1 = sumBlk m c t
    ∧ (outsAt0 m c t.val t.isLt).2.2.1 = dnorms (iblk m c 4 t) (sumBlk m c t) (wrow (iblk m c 5 t)) := by
  have hN : t.val < 8 := lt_of_lt_of_eq t.isLt N_0
  by_cases h : t.val = 0
  · rw [outsAt0_A m c t (by omega) (by omega) (by omega) (by omega)]
    dsimp only
    rw [(out_A ..).1, (out_A ..).2.2.1]
    exact ⟨rfl, rfl⟩
  · rw [outsAt0_B m c t (by omega) (by omega) (by omega) (by omega)]
    dsimp only
    rw [(out_B ..).1, (out_B ..).2.2.1]
    exact ⟨rfl, rfl⟩

theorem outs_zero (c : Dev nD) (h : 0 < cfg0.N) :
    (outsAt0 m c 0 h).2.1 = blkW (iblk m c 0 ⟨0, h⟩) (iblk m c 2 ⟨0, h⟩)
    ∧ (outsAt0 m c 0 h).2.2.2 = blkW (iblk m c 4 ⟨0, h⟩) (sumBlk m c ⟨0, h⟩) := by
  have e := outsAt0_A m c ⟨0, h⟩ (Nat.zero_mod _) (Nat.not_succ_le_zero 0) (Nat.zero_mod _) (Nat.not_succ_le_zero 0)
  rw [(out_A ..).2.1, (out_A ..).2.2.2] at e
  rw [show outsAt0 m c 0 h = _ from e]
  exact ⟨rfl, rfl⟩

theorem outs_succ (c : Dev nD) (n : ℕ) (h : n + 1 < cfg0.N) (h' : n < cfg0.N) :
    (outsAt0 m c (n + 1) h).2.1 = (fun y => (outsAt0 m c n h').2.1 y + blkW (iblk m c 0 ⟨n + 1, h⟩) (iblk m c 2 ⟨n + 1, h⟩) y)
    ∧ (outsAt0 m c (n + 1) h).2.2.2
      = fun y => (outsAt0 m c n h').2.2.2 y + blkW (iblk m c 4 ⟨n + 1, h⟩) (sumBlk m c ⟨n + 1, h⟩) y := by
  have hN : n + 1 < 8 := lt_of_lt_of_eq h N_0
  have hm : ¬(n + 1) % 8 = 0 := by omega
  have e := outsAt0_B m c ⟨n + 1, h⟩ hm (Nat.succ_le_succ (Nat.zero_le n)) hm (Nat.succ_le_succ (Nat.zero_le n))
  rw [(out_B ..).2.1, (out_B ..).2.2.2] at e
  rw [show outsAt0 m c (n + 1) h = _ from e]
  exact ⟨rfl, rfl⟩

/-- Adding a part at every step gives the sum of the parts. -/
theorem running {N : ℕ} (a p : (n : ℕ) → n < N → EReal) (h0 : ∀ h, a 0 h = p 0 h)
    (hs : ∀ n h h', a (n + 1) h = a n h' + p (n + 1) h) :
    ∀ n (h : n < N), a n h = ∑ s : Fin (n + 1), p s.val (lt_of_le_of_lt (Nat.le_of_lt_succ s.isLt) h)
  | 0, h => by rw [h0, Fin.sum_univ_one]; rfl
  | n + 1, h => by
    rw [hs n h (Nat.lt_of_succ_lt h), running a p h0 hs n]
    exact (Fin.sum_univ_castSucc fun s : Fin (n + 2) => p s.val (lt_of_le_of_lt (Nat.le_of_lt_succ s.isLt) h)).symm

/-- The eight blocks' parts of a weight's gradient make up the whole. -/
theorem sum_blkW (c : Dev nD) (X G : S8192x1024.Idx → EReal) (x g : Fin cfg0.N → S1024x1024.Idx → EReal)
    (hx : ∀ t i, row (x t) i = row X (tok t i)) (hg : ∀ t i, row (g t) i = row G (tok t i)) (y : S1x1024.Idx) :
    (∑ s : Fin 8, blkW (x ⟨s.val, by rw [show cfg0.N = 8 from N_0]; exact s.isLt⟩)
      (g ⟨s.val, by rw [show cfg0.N = 8 from N_0]; exact s.isLt⟩) y) = blkW X G y := by
  refine (Finset.sum_congr rfl fun s _ => ?_).trans (Cert.Ffn.sum_parts 8 1024 rfl (fun n =>
    row G n (y 1) * nrm (row X n) (y 1)) fun s n => by omega)
  unfold blkW dweight
  simp only [hx, hg]
  rfl

/-- The rows of the weights' gradients after the last point. -/
theorem last (c : Dev nD) (h : 7 < cfg0.N) :
    (outsAt0 m c 7 h).2.1 = blkW (argX m c) (argG m c)
    ∧ (outsAt0 m c 7 h).2.2.2 = blkW (argY m c) (sumX (argX m c) (argV m c) (argG m c) (argD m c)) := by
  constructor
  · funext y
    refine (running (fun n hn => (outsAt0 m c n hn).2.1 y) (fun n hn => blkW (iblk m c 0 ⟨n, hn⟩) (iblk m c 2 ⟨n, hn⟩) y)
      (fun h => congrFun (outs_zero m c h).1 y) (fun n h h' => congrFun (outs_succ m c n h h').1 y) 7 h).trans ?_
    exact sum_blkW c _ _ (fun t => iblk m c 0 t) (fun t => iblk m c 2 t) (blkA0 m c) (blkA2 m c) y
  · funext y
    refine (running (fun n hn => (outsAt0 m c n hn).2.2.2 y) (fun n hn => blkW (iblk m c 4 ⟨n, hn⟩) (sumBlk m c ⟨n, hn⟩) y)
      (fun h => congrFun (outs_zero m c h).2 y) (fun n h h' => congrFun (outs_succ m c n h h').2 y) 7 h).trans ?_
    exact sum_blkW c _ _ (fun t => iblk m c 4 t) (fun t => sumBlk m c t) (blkA4 m c) (sumBlk_row m c) y

/-- The four results. -/
def resX (c : Dev nD) : S8192x1024.Idx → EReal := sumX (argX m c) (argV m c) (argG m c) (argD m c)
def resV (c : Dev nD) : S1x1024.Idx → EReal := blkW (argX m c) (argG m c)
def resY (c : Dev nD) : S8192x1024.Idx → EReal := dnorms (argY m c) (resX m c) (col (argW m c))
def resW (c : Dev nD) : S1x1024.Idx → EReal := blkW (argY m c) (resX m c)

/-- The last point. -/
def p7 : Fin cfg0.N := ⟨7, by rw [show cfg0.N = 8 from N_0]; omega⟩
theorem p7_mod : p7.val % 8 = 7 := rfl

theorem blk_resX (c : Dev nD) (t : Fin cfg0.N) (i e : Fin 1024) : sumBlk m c t (ix2 i e) = resX m c (ix2 (tok t i) e) :=
  congrFun (sumBlk_row m c t i) e
theorem blk_resY (c : Dev nD) (t : Fin cfg0.N) (i e : Fin 1024) :
    dnorms (iblk m c 4 t) (sumBlk m c t) (wrow (iblk m c 5 t)) (ix2 i e) = resY m c (ix2 (tok t i) e) := by
  show dnorm (row (iblk m c 4 t) i) (row (sumBlk m c t) i) (wrow (iblk m c 5 t)) e = _
  rw [blkA4, blkA5, sumBlk_row]
  rfl

/-- The gradient of the first norm, block by block and whole. -/
theorem flushed6 (c : Dev nD) (t : Fin cfg0.N) (_hf : (cfg0.win 6).flush t = true) :
    (dats m 0 c).flushed 6 t = ((cfg0.win 6).blk t).view.read (Elt Ideal) (resX m c) := by
  show (cfg0.win 6).cut (grid0.coords _) ((dats m 0 c).after 6 _) = _
  rw [after0_6]
  funext j
  rw [View.read_apply]
  obtain ⟨i, e, rfl⟩ : ∃ (i : Fin 1024) (e : Fin 1024), j = ix2 i e := ⟨j 0, j 1, eq_ix2 j⟩
  refine (congrFun (outs m c t).1 (ix2 i e)).trans ?_
  have hi := (index_tok t).2.2.2.2.1
  refine (blk_resX m c t i e).trans (congrArg _ (funext fun a => Fin.ext ?_))
  match a with
  | ⟨0, _⟩ => show t.val * 1024 + i.val = win0_6.index t 0 * 1024 + 1 * i.val; rw [hi.1]; omega
  | ⟨1, _⟩ => show e.val = win0_6.index t 1 * 1024 + 1 * e.val; rw [hi.2]; omega
theorem final6 (c : Dev nD) : (dats m 0 c).arrAt 6 cfg0.N = resX m c :=
  (dats m 0 c).arrAt_eq_of_cover 6 (resX m c) (flushed6 m c) fun i => by
    have h0 : (i 0 : Nat) < 8192 := (i 0).isLt
    have h1 : (i 1 : Nat) < 1024 := (i 1).isLt
    have hN : (i 0).val / 1024 < cfg0.N := by rw [show cfg0.N = 8 from N_0]; omega
    refine ⟨⟨(i 0).val / 1024, hN⟩, flush0_6 _, ?_⟩
    have hi := (index_tok ⟨(i 0).val / 1024, hN⟩).2.2.2.2.1
    show i ∈ ((View.whole main_v2_0).slice (win0_6.rect ⟨(i 0).val / 1024, hN⟩)).set
    rw [View.set_slice_whole, Rect.mem_set_unit]
    intro a
    match a with
    | ⟨0, _⟩ =>
      show win0_6.index ⟨(i 0).val / 1024, hN⟩ 0 * 1024 ≤ (i 0 : Nat)
        ∧ (i 0 : Nat) < win0_6.index ⟨(i 0).val / 1024, hN⟩ 0 * 1024 + 1024
      rw [hi.1]
      show (i 0).val / 1024 * 1024 ≤ (i 0).val ∧ (i 0).val < (i 0).val / 1024 * 1024 + 1024
      omega
    | ⟨1, _⟩ =>
      show win0_6.index ⟨(i 0).val / 1024, hN⟩ 1 * 1024 ≤ (i 1 : Nat)
        ∧ (i 1 : Nat) < win0_6.index ⟨(i 0).val / 1024, hN⟩ 1 * 1024 + 1024
      rw [hi.2]; omega

/-- The gradient of the second norm, block by block and whole. -/
theorem flushed8 (c : Dev nD) (t : Fin cfg0.N) (_hf : (cfg0.win 8).flush t = true) :
    (dats m 0 c).flushed 8 t = ((cfg0.win 8).blk t).view.read (Elt Ideal) (resY m c) := by
  show (cfg0.win 8).cut (grid0.coords _) ((dats m 0 c).after 8 _) = _
  rw [after0_8]
  funext j
  rw [View.read_apply]
  obtain ⟨i, e, rfl⟩ : ∃ (i : Fin 1024) (e : Fin 1024), j = ix2 i e := ⟨j 0, j 1, eq_ix2 j⟩
  refine (congrFun (outs m c t).2 (ix2 i e)).trans ?_
  have hi := (index_tok t).2.2.2.2.2
  refine (blk_resY m c t i e).trans (congrArg _ (funext fun a => Fin.ext ?_))
  match a with
  | ⟨0, _⟩ => show t.val * 1024 + i.val = win0_8.index t 0 * 1024 + 1 * i.val; rw [hi.1]; omega
  | ⟨1, _⟩ => show e.val = win0_8.index t 1 * 1024 + 1 * e.val; rw [hi.2]; omega
theorem final8 (c : Dev nD) : (dats m 0 c).arrAt 8 cfg0.N = resY m c :=
  (dats m 0 c).arrAt_eq_of_cover 8 (resY m c) (flushed8 m c) fun i => by
    have h0 : (i 0 : Nat) < 8192 := (i 0).isLt
    have h1 : (i 1 : Nat) < 1024 := (i 1).isLt
    have hN : (i 0).val / 1024 < cfg0.N := by rw [show cfg0.N = 8 from N_0]; omega
    refine ⟨⟨(i 0).val / 1024, hN⟩, flush0_8 _, ?_⟩
    have hi := (index_tok ⟨(i 0).val / 1024, hN⟩).2.2.2.2.2
    show i ∈ ((View.whole main_v2_2).slice (win0_8.rect ⟨(i 0).val / 1024, hN⟩)).set
    rw [View.set_slice_whole, Rect.mem_set_unit]
    intro a
    match a with
    | ⟨0, _⟩ =>
      show win0_8.index ⟨(i 0).val / 1024, hN⟩ 0 * 1024 ≤ (i 0 : Nat)
        ∧ (i 0 : Nat) < win0_8.index ⟨(i 0).val / 1024, hN⟩ 0 * 1024 + 1024
      rw [hi.1]
      show (i 0).val / 1024 * 1024 ≤ (i 0).val ∧ (i 0).val < (i 0).val / 1024 * 1024 + 1024
      omega
    | ⟨1, _⟩ =>
      show win0_8.index ⟨(i 0).val / 1024, hN⟩ 1 * 1024 ≤ (i 1 : Nat)
        ∧ (i 1 : Nat) < win0_8.index ⟨(i 0).val / 1024, hN⟩ 1 * 1024 + 1024
      rw [hi.2]; omega

/-- The first norm's weights' gradient. -/
theorem flushed7 (c : Dev nD) (t : Fin cfg0.N) (hf : (cfg0.win 7).flush t = true) :
    (dats m 0 c).flushed 7 t = ((cfg0.win 7).blk t).view.read (Elt Ideal) (resV m c) := by
  have h3 := (flush0_7 t).mp hf
  obtain rfl : t = p7 := Fin.ext (by have := lt_of_lt_of_eq t.isLt N_0; show t.val = 7; omega)
  show (cfg0.win 7).cut (grid0.coords _) ((dats m 0 c).after 7 _) = _
  rw [after0_7]
  funext j
  rw [View.read_apply]
  obtain ⟨i, e, rfl⟩ : ∃ (i : Fin 1) (e : Fin 1024), j = ix2 i e := ⟨j 0, j 1, eq_ix2 j⟩
  refine (congrFun (last m c p7.isLt).1 (ix2 i e)).trans ?_
  have hi := (index_row p7).2.2.1
  refine congrArg (resV m c) (funext fun a => Fin.ext ?_)
  match a with
  | ⟨0, _⟩ => show i.val = win0_7.index p7 0 * 1 + 1 * i.val; rw [hi.1]; omega
  | ⟨1, _⟩ => show e.val = win0_7.index p7 1 * 1024 + 1 * e.val; rw [hi.2]; omega
theorem final7 (c : Dev nD) : (dats m 0 c).arrAt 7 cfg0.N = resV m c :=
  (dats m 0 c).arrAt_eq_of_cover 7 (resV m c) (flushed7 m c) fun i => by
    have h0 : (i 0 : Nat) < 1 := (i 0).isLt
    have h1 : (i 1 : Nat) < 1024 := (i 1).isLt
    refine ⟨p7, (flush0_7 _).mpr p7_mod, ?_⟩
    have hi := (index_row p7).2.2.1
    show i ∈ ((View.whole main_v2_1).slice (win0_7.rect p7)).set
    rw [View.set_slice_whole, Rect.mem_set_unit]
    intro a
    match a with
    | ⟨0, _⟩ =>
      show win0_7.index p7 0 * 1 ≤ (i 0 : Nat) ∧ (i 0 : Nat) < win0_7.index p7 0 * 1 + 1
      rw [hi.1]; omega
    | ⟨1, _⟩ =>
      show win0_7.index p7 1 * 1024 ≤ (i 1 : Nat) ∧ (i 1 : Nat) < win0_7.index p7 1 * 1024 + 1024
      rw [hi.2]; omega

/-- The second norm's weights' gradient. -/
theorem flushed9 (c : Dev nD) (t : Fin cfg0.N) (hf : (cfg0.win 9).flush t = true) :
    (dats m 0 c).flushed 9 t = ((cfg0.win 9).blk t).view.read (Elt Ideal) (resW m c) := by
  have h3 := (flush0_9 t).mp hf
  obtain rfl : t = p7 := Fin.ext (by have := lt_of_lt_of_eq t.isLt N_0; show t.val = 7; omega)
  show (cfg0.win 9).cut (grid0.coords _) ((dats m 0 c).after 9 _) = _
  rw [after0_9]
  funext j
  rw [View.read_apply]
  obtain ⟨i, e, rfl⟩ : ∃ (i : Fin 1) (e : Fin 1024), j = ix2 i e := ⟨j 0, j 1, eq_ix2 j⟩
  refine (congrFun (last m c p7.isLt).2 (ix2 i e)).trans ?_
  have hi := (index_row p7).2.2.2
  refine congrArg (resW m c) (funext fun a => Fin.ext ?_)
  match a with
  | ⟨0, _⟩ => show i.val = win0_9.index p7 0 * 1 + 1 * i.val; rw [hi.1]; omega
  | ⟨1, _⟩ => show e.val = win0_9.index p7 1 * 1024 + 1 * e.val; rw [hi.2]; omega
theorem final9 (c : Dev nD) : (dats m 0 c).arrAt 9 cfg0.N = resW m c :=
  (dats m 0 c).arrAt_eq_of_cover 9 (resW m c) (flushed9 m c) fun i => by
    have h0 : (i 0 : Nat) < 1 := (i 0).isLt
    have h1 : (i 1 : Nat) < 1024 := (i 1).isLt
    refine ⟨p7, (flush0_9 _).mpr p7_mod, ?_⟩
    have hi := (index_row p7).2.2.2
    show i ∈ ((View.whole main_v2_3).slice (win0_9.rect p7)).set
    rw [View.set_slice_whole, Rect.mem_set_unit]
    intro a
    match a with
    | ⟨0, _⟩ =>
      show win0_9.index p7 0 * 1 ≤ (i 0 : Nat) ∧ (i 0 : Nat) < win0_9.index p7 0 * 1 + 1
      rw [hi.1]; omega
    | ⟨1, _⟩ =>
      show win0_9.index p7 1 * 1024 ≤ (i 1 : Nat) ∧ (i 1 : Nat) < win0_9.index p7 1 * 1024 + 1024
      rw [hi.2]; omega

/-! ### The reference -/

section Ref
open Cert.Reference8Ideal.Read
variable (x0 : S8192x1024.Idx → EReal) (x1 : S1024.Idx → EReal) (x2 x3 x4 : S8192x1024.Idx → EReal) (x5 : S1024.Idx → EReal)

theorem ref_msq (i : Fin 8192) : val_main_v6 (F := Ideal) x0 (ix2 i 0) = msq (row x0 i) := by
  pointwise [val_main_v6, val_main_v5, val_main_cst_1, val_main_v4, val_main_v3, val_main_cst_0, val_main_v2, val_main_v1,
    val_main_cst, val_main_v0]
  rfl
theorem ref_inv (i : Fin 8192) : val_main_v7 (F := Ideal) x0 (ix2 i 0) = inv (row x0 i) := by
  pointwise [val_main_v7]
  rw [ref_msq]
  rfl

/-- The gradient that reaches the mean of the squares. -/
theorem ref_mean (i : Fin 8192) :
    val_main_v30 (F := Ideal) x0 x1 x2 (ix2 i 0) = dmean (row x0 i) (row x2 i) (col x1) := by
  pointwise [val_main_v30, val_main_v29, val_main_cst_6, val_main_v28, val_main_v25, val_main_v24, val_main_cst_5, val_main_v23,
    val_main_v21, val_main_v20, val_main_v16, val_main_v13, val_main_v10, val_main_v9, val_main_cst_2, val_main_v8]
  simp only [ref_msq, ref_inv]
  rfl

theorem ref_norm (i : Fin 8192) (j : Fin 1024) :
    val_main_v36 (F := Ideal) x0 x1 x2 (ix2 i j) = dnorm (row x0 i) (row x2 i) (col x1) j := by
  refine Eq.trans ?_ (dnormTerms_eq _ _ _ _)
  pointwise [val_main_v36, val_main_v35, val_main_v34, val_main_v33, val_main_v32, val_main_v31, val_main_cst_7, val_main_v27,
    val_main_v26, val_main_v21, val_main_v20, val_main_v16, val_main_v13]
  simp only [ref_mean, ref_inv, Fin.sum_univ_one]
  rfl

/-- The weights' gradient. -/
theorem ref_weight : val_main_v75 (F := Ideal) x0 x2 = blkW x0 x2 := by
  funext y
  obtain ⟨i, j, rfl⟩ : ∃ (i : Fin 1) (j : Fin 1024), y = ix2 i j := ⟨y 0, y 1, eq_ix2 y⟩
  pointwise [val_main_v75, val_main_v22, val_main_cst_4, val_main_v19, val_main_v18, val_main_cst_3, val_main_v17, val_main_v16,
    val_main_v12, val_main_v11]
  simp only [ref_inv, Fin.sum_univ_one]
  exact Finset.sum_congr rfl fun n _ => mul_comm _ _

/-- The sum of the first norm's gradient and the running gradient. -/
theorem ref_x : val_main_v37 (F := Ideal) x0 x1 x2 x3 = sumX x0 x1 x2 x3 := by
  funext y
  obtain ⟨i, j, rfl⟩ : ∃ (i : Fin 8192) (j : Fin 1024), y = ix2 i j := ⟨y 0, y 1, eq_ix2 y⟩
  pointwise [val_main_v37]
  rw [ref_norm]
  rfl

/-- The second norm is the first, of other arguments. -/
theorem ref_again : val_main_v76 (F := Ideal) x0 x1 x2 x3 x4 x5
    = val_main_v36 (F := Ideal) x4 x5 (val_main_v37 (F := Ideal) x0 x1 x2 x3) := rfl
theorem ref_again_weight : val_main_v77 (F := Ideal) x0 x1 x2 x3 x4
    = val_main_v75 (F := Ideal) x4 (val_main_v37 (F := Ideal) x0 x1 x2 x3) := rfl

theorem ref_y : val_main_v76 (F := Ideal) x0 x1 x2 x3 x4 x5 = dnorms x4 (sumX x0 x1 x2 x3) (col x5) := by
  funext y
  obtain ⟨i, j, rfl⟩ : ∃ (i : Fin 8192) (j : Fin 1024), y = ix2 i j := ⟨y 0, y 1, eq_ix2 y⟩
  rw [ref_again, ref_norm, ref_x]
  rfl
theorem ref_w : val_main_v77 (F := Ideal) x0 x1 x2 x3 x4 = blkW x4 (sumX x0 x1 x2 x3) := by
  rw [ref_again_weight, ref_weight, ref_x]

end Ref

/-! ### The claims -/

/-- The kernel runs and leaves its arguments and the counters as they were; so it does over the extended reals, and so
    does the reference. -/
theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

/-- From arguments that agree, the kernel's results and the reference's are the two gradients and those of the weights. -/
theorem algebraic : Cert.algebraic_Kernel8Ideal_Reference8Ideal := by
  intro m ρ m' ρ' _ hagree
  refine ⟨resX m, resV m, resY m, resW m, ?_, ?_⟩
  · refine (θ_run Cert.Kernel8Ideal.defs _ _).mono (fun r h c => ?_) (Cert.Kernel8Ideal.Value.run_blocks m ρ)
    have hc := h c
    exact ⟨hc.1.trans (final6 m c), hc.2.1.trans (final7 m c), hc.2.2.1.trans (final8 m c), hc.2.2.2.1.trans (final9 m c),
      hc.2.2.2.2⟩
  · refine (θ_run Cert.Reference8Ideal.defs _ _).mono (fun r h c => ?_) (Cert.Reference8Ideal.Value.run (F := Ideal) m' ρ')
    obtain ⟨a0, a1, a2, a3, a4, a5⟩ := hagree c
    have hc := h c
    refine ⟨hc.1.trans ?_, hc.2.1.trans ?_, hc.2.2.1.trans ?_, hc.2.2.2.1.trans ?_, hc.2.2.2.2⟩
    · rw [Cert.Reference8Ideal.Read.val_main_v37_eq, a0, a1, a2, a3]
      exact ref_x _ _ _ _
    · rw [Cert.Reference8Ideal.Read.val_main_v75_eq, a0, a2]
      exact ref_weight _ _
    · rw [Cert.Reference8Ideal.Read.val_main_v76_eq, a0, a1, a2, a3, a4, a5]
      exact ref_y _ _ _ _ _ _
    · rw [Cert.Reference8Ideal.Read.val_main_v77_eq, a0, a1, a2, a3, a4]
      exact ref_w _ _ _ _ _

end Cert.NormGrad
end
-- ==== Proof.SquareOut.lean ====
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.PureOps.Ideal
public import Idealize.ShloMosaic.Lib.Pointwise

/-! A projection with a square matrix: the queries of the cross-attention, its output, and the output of the first
    mixer are such products. Eight blocks of 1024 rows. -/

@[expose] public section
set_option maxRecDepth 16384

noncomputable section
namespace Cert.SquareOut
open Cert.Kernel9Ideal Cert.Kernel9Ideal.Gen Idealize.ShloMosaic Idealize.ShloMosaic.TcCoe Idealize.SL.Sem
open Idealize.ShloMosaic.Pipeline

/-- The product, at row `i` and column `e`. -/
def prod (U : S8192x1024.Idx → EReal) (W : S1024x1024.Idx → EReal) : S8192x1024.Idx → EReal := fun y =>
  ∑ k : Fin 1024, U (ix2 (y 0) k) * W (ix2 k (y 1))

variable (m : (ℓ : Loc nD τ sig) → Buf (Elt Ideal) ℓ)

/-- The two arguments on a device. -/
def argU (c : Dev nD) : S8192x1024.Idx → EReal := m ((c : Thread nD τ).loc main_arg0)
def argW (c : Dev nD) : S1024x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 1024) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 1024 + 1 * k.val = _; rw [hi.2]; simp

/-- The block of the right factor is the whole of it. -/
theorem blk1 (c : Dev nD) (t : Fin cfg0.N) (k : Fin 1024) (e : Fin 1024) :
    iblk m c 1 t (ix2 k e) = argW m c (ix2 k e) := by
  unfold iblk
  rw [View.read_apply]
  show V m c main_v0 _ = _
  after_results_simp
  have hi := index1 t
  refine congrArg (m ((c : Thread nD τ).loc main_arg1)) (funext fun a => Fin.ext ?_)
  match a with
  | ⟨0, _⟩ => show win0_1.index t 0 * 1024 + 1 * k.val = _; rw [hi.1]; simp
  | ⟨1, _⟩ => show win0_1.index t 1 * 1024 + 1 * e.val = _; rw [hi.2]; simp

/-- A block's product at an index. -/
theorem pay_apply (x : Vec Ideal S1024x1024 .bf16) (w : Vec Ideal S1024x1024 .bf16) (i e : Fin 1024) :
    k0_pay1 x w (ix2 i e) = ∑ k : Fin 1024, x (ix2 i k) * w (ix2 k e) := by
  pointwise [k0_pay1]

/-- What the body leaves in the output's buffer. -/
theorem out_apply (x : Vec Ideal S1024x1024 .bf16) (w : Vec Ideal S1024x1024 .bf16) (i e : Fin 1024) :
    out0_2 x w (ix2 i e) = ∑ k : Fin 1024, x (ix2 i k) * w (ix2 k e) := by
  unfold out0_2
  rw [View.canon_cons_unit_zero (by decide) inb_S1024x1024_S1024x1024_0_0,
    View.ld_unit_zero (by decide) inb_S1024x1024_S1024x1024_0_0 x, View.ld_unit_zero (by decide) inb_S1024x1024_S1024x1024_0_0 w, pay_apply]

theorem flushed (c : Dev nD) (t : Fin cfg0.N) :
    (dats m 0 c).flushed 2 t = ((View.whole main_v1).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x1024.Idx → EReal) (W : S1024x1024.Idx → EReal) :
    Cert.Reference9Ideal.Read.val_main_v2 (F := Ideal) U W = prod U W := by
  funext y
  obtain ⟨i, e, rfl⟩ : ∃ (i : Fin 8192) (e : Fin 1024), y = ix2 i e := ⟨y 0, y 1, eq_ix2 y⟩
  unfold prod
  pointwise [Cert.Reference9Ideal.Read.val_main_v2, Cert.Reference9Ideal.Read.val_main_v1, Cert.Reference9Ideal.Read.val_main_v0]

/-- The kernel runs and leaves its arguments and the counters as they were; so it does over the extended reals, and so
    does the reference. -/
theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- From arguments that agree, the kernel's result and the reference's are the product of the arguments. -/
theorem algebraic : Cert.algebraic_Kernel9Ideal_Reference9Ideal := by
  intro m ρ m' ρ' _ hagree
  refine ⟨fun c => prod (argU m c) (argW m c), ?_, ?_⟩
  · refine (θ_run Cert.Kernel9Ideal.defs _ _).mono (fun r h c => ?_) (Cert.Kernel9Ideal.Value.run_blocks m ρ)
    exact ⟨(h c).1.trans (final m c), (h c).2⟩
  · refine (θ_run Cert.Reference9Ideal.defs _ _).mono (fun r h c => ?_) (Cert.Reference9Ideal.Value.run (F := Ideal) m' ρ')
    obtain ⟨a0, a1⟩ := hagree c
    refine ⟨(h c).1.trans ?_, (h c).2⟩
    rw [Cert.Reference9Ideal.Read.val_main_v2_eq, a0, a1]
    exact ref _ _

end Cert.SquareOut
end
-- ==== Proof.SquareDx.lean ====
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.PureOps.Ideal
public import Idealize.ShloMosaic.Lib.Pointwise

/-! The gradient of a square projection's argument: the incoming gradient times the matrix, transposed. Eight blocks
    of 1024 rows. -/

@[expose] public section
set_option maxRecDepth 16384

noncomputable section
namespace Cert.SquareDx
open Cert.Kernel10Ideal Cert.Kernel10Ideal.Gen Idealize.ShloMosaic Idealize.ShloMosaic.TcCoe Idealize.SL.Sem
open Idealize.ShloMosaic.Pipeline

/-- The product, at row `i` and column `e`. -/
def prod (U : S8192x1024.Idx → EReal) (W : S1024x1024.Idx → EReal) : S8192x1024.Idx → EReal := fun y =>
  ∑ k : Fin 1024, U (ix2 (y 0) k) * W (ix2 (y 1) k)

variable (m : (ℓ : Loc nD τ sig) → Buf (Elt Ideal) ℓ)

/-- The two arguments on a device. -/
def argU (c : Dev nD) : S8192x1024.Idx → EReal := m ((c : Thread nD τ).loc main_arg0)
def argW (c : Dev nD) : S1024x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 1024) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 1024 + 1 * k.val = _; rw [hi.2]; simp

/-- The block of the right factor is the whole of it. -/
theorem blk1 (c : Dev nD) (t : Fin cfg0.N) (k : Fin 1024) (e : Fin 1024) :
    iblk m c 1 t (ix2 k e) = argW m c (ix2 k e) := by
  unfold iblk
  rw [View.read_apply]
  show V m c main_v0 _ = _
  after_results_simp
  have hi := index1 t
  refine congrArg (m ((c : Thread nD τ).loc main_arg1)) (funext fun a => Fin.ext ?_)
  match a with
  | ⟨0, _⟩ => show win0_1.index t 0 * 1024 + 1 * k.val = _; rw [hi.1]; simp
  | ⟨1, _⟩ => show win0_1.index t 1 * 1024 + 1 * e.val = _; rw [hi.2]; simp

/-- A block's product at an index. -/
theorem pay_apply (x : Vec Ideal S1024x1024 .bf16) (w : Vec Ideal S1024x1024 .bf16) (i e : Fin 1024) :
    k0_pay1 x w (ix2 i e) = ∑ k : Fin 1024, x (ix2 i k) * w (ix2 e k) := by
  pointwise [k0_pay1]

/-- What the body leaves in the output's buffer. -/
theorem out_apply (x : Vec Ideal S1024x1024 .bf16) (w : Vec Ideal S1024x1024 .bf16) (i e : Fin 1024) :
    out0_2 x w (ix2 i e) = ∑ k : Fin 1024, x (ix2 i k) * w (ix2 e k) := by
  unfold out0_2
  rw [View.canon_cons_unit_zero (by decide) inb_S1024x1024_S1024x1024_0_0,
    View.ld_unit_zero (by decide) inb_S1024x1024_S1024x1024_0_0 x, View.ld_unit_zero (by decide) inb_S1024x1024_S1024x1024_0_0 w, pay_apply]

theorem flushed (c : Dev nD) (t : Fin cfg0.N) :
    (dats m 0 c).flushed 2 t = ((View.whole main_v1).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x1024.Idx → EReal) (W : S1024x1024.Idx → EReal) :
    Cert.Reference10Ideal.Read.val_main_v4 (F := Ideal) U W = prod U W := by
  funext y
  obtain ⟨i, e, rfl⟩ : ∃ (i : Fin 8192) (e : Fin 1024), y = ix2 i e := ⟨y 0, y 1, eq_ix2 y⟩
  unfold prod
  pointwise [Cert.Reference10Ideal.Read.val_main_v4, Cert.Reference10Ideal.Read.val_main_v3, Cert.Reference10Ideal.Read.val_main_v0]

/-- The kernel runs and leaves its arguments and the counters as they were; so it does over the extended reals, and so
    does the reference. -/
theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- From arguments that agree, the kernel's result and the reference's are the product of the arguments. -/
theorem algebraic : Cert.algebraic_Kernel10Ideal_Reference10Ideal := by
  intro m ρ m' ρ' _ hagree
  refine ⟨fun c => prod (argU m c) (argW m c), ?_, ?_⟩
  · refine (θ_run Cert.Kernel10Ideal.defs _ _).mono (fun r h c => ?_) (Cert.Kernel10Ideal.Value.run_blocks m ρ)
    exact ⟨(h c).1.trans (final m c), (h c).2⟩
  · refine (θ_run Cert.Reference10Ideal.defs _ _).mono (fun r h c => ?_) (Cert.Reference10Ideal.Value.run (F := Ideal) m' ρ')
    obtain ⟨a0, a1⟩ := hagree c
    refine ⟨(h c).1.trans ?_, (h c).2⟩
    rw [Cert.Reference10Ideal.Read.val_main_v4_eq, a0, a1]
    exact ref _ _

end Cert.SquareDx
end
-- ==== Proof.SquareGrad.lean ====
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Swap
public import Idealize.ShloMosaic.PureOps.Ideal
public import Idealize.ShloMosaic.Lib.Pointwise
public import Idealize.ShloMosaic.Lib.Pipeline.ReadBack

/-! The gradient of a square projection's matrix: the argument, transposed, times the incoming gradient. The 8192
    tokens are summed in four parts that a carried block accumulates. -/

@[expose] public section
set_option maxRecDepth 16384

noncomputable section
namespace Cert.SquareGrad
open Cert.Kernel11Ideal Cert.Kernel11Ideal.Gen Idealize.ShloMosaic Idealize.ShloMosaic.TcCoe Idealize.SL.Sem
open Idealize.ShloMosaic.Pipeline

/-- The gradient, at row `i` and column `e`. -/
def grad (U : S8192x1024.Idx → EReal) (D : S8192x1024.Idx → EReal) : S1024x1024.Idx → EReal := fun y =>
  ∑ n : Fin 8192, U (ix2 n (y 0)) * D (ix2 n (y 1))

/-- A part of 2048 tokens. -/
def part (x : Vec Ideal S2048x1024 .bf16) (d : Vec Ideal S2048x1024 .bf16) : Vec Ideal S1024x1024 .f32 := fun y =>
  ∑ n : Fin 2048, x (ix2 n (y 0)) * d (ix2 n (y 1))

theorem part_apply (x : Vec Ideal S2048x1024 .bf16) (d : Vec Ideal S2048x1024 .bf16) (i : Fin 1024) (e : Fin 1024) :
    part x d (ix2 i e) = ∑ n : Fin 2048, x (ix2 n i) * d (ix2 n e) := rfl

section Body
variable (x : Vec Ideal S2048x1024 .bf16) (d : Vec Ideal S2048x1024 .bf16) (s : Vec Ideal S1024x1024 .f32)

theorem pay1_apply (i : Fin 1024) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 1024) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 1024) (e : Fin 1024), y = ix2 i e := ⟨y 0, y 1, eq_ix2 y⟩
  rw [← pay1_apply]
  pointwise [k0_pay3]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16)
  (h5 : a5.IsWhole) (a6 : Memref sig .tc .vmem S1024x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S1024x1024_S1024x1024_0_0,
    View.ld_unit_zero (by decide) inb_S2048x1024_S2048x1024_0_0, View.ld_unit_zero (by decide) inb_S2048x1024_S2048x1024_0_0,
    pay2_eq]

/-- A middle part is added to it. -/
theorem sout_B (hc0 : ¬cond0_0 i) (hc1 : cond0_1 i) (hc2 : ¬cond0_2 i) :
    sout0_B_0 c i a3 h3 a4 h4 a5 h5 a6 h6 hc0 hc1 hc2 x d s = fun y => s y + part x d y := by
  have hcov := scover0_B_0 c i a3 h3 a4 h4 a5 h5 a6 h6 hc0 hc1 hc2 x d s
  unfold sout0_B_0
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S1024x1024_S1024x1024_0_0,
    View.ld_unit_zero (by decide) inb_S2048x1024_S2048x1024_0_0, View.ld_unit_zero (by decide) inb_S2048x1024_S2048x1024_0_0,
    View.ld_unit_zero (by decide) inb_S1024x1024_S1024x1024_0_0, pay3_eq]

/-- The last part is added too, and the sum is the result's block. -/
theorem out_C (hc0 : ¬cond0_0 i) (hc1 : cond0_1 i) (hc2 : cond0_2 i) :
    out0_C_2 c i a3 h3 a4 h4 a5 h5 a6 h6 hc0 hc1 hc2 x d s = fun y => s y + part x d y := by
  have hcov := cover0_C_2 c i a3 h3 a4 h4 a5 h5 a6 h6 hc0 hc1 hc2 x d s
  unfold out0_C_2
  rw [View.read_writes_eq_canon _ _ _ hcov]
  unfold kernelRun0_C
  dsimp only
  sl_unfold_words
  simp only [View.readAt_eq_ld, h3.read_unread, h4.read_unread, h6.read_unread]
  rw [View.canon_cons_unit_zero (by decide) inb_S1024x1024_S1024x1024_0_0, View.readCov_eq_canon',
    View.canon_cons_unit_zero (by decide) inb_S1024x1024_S1024x1024_0_0,
    View.ld_unit_zero (by decide) inb_S2048x1024_S2048x1024_0_0, View.ld_unit_zero (by decide) inb_S2048x1024_S2048x1024_0_0,
    View.ld_unit_zero (by decide) inb_S1024x1024_S1024x1024_0_0, pay3_eq]
  exact (congrArg k0_pay4 (View.ld_unit_zero (by decide) inb_S1024x1024_S1024x1024_0_0 (fun y => s y + part x d y))).trans rfl

end Body

variable (m : (ℓ : Loc nD τ sig) → Buf (Elt Ideal) ℓ)

/-- The two arguments on a device. -/
def argU (c : Dev nD) : S8192x1024.Idx → EReal := m ((c : Thread nD τ).loc main_arg0)
def argD (c : Dev nD) : S8192x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

/-- A grid point by its part of the tokens. -/
def pt (s : Fin 4) : Fin cfg0.N := ⟨s.val, by rw [show cfg0.N = 4 from N_0]; omega⟩

theorem pt_mod (s : Fin 4) : (pt s).val % 4 = s.val := by show s.val % 4 = _; omega

theorem blk0 (c : Dev nD) (s : Fin 4) (n : Fin 2048) (i : Fin 1024) :
    iblk m c 0 (pt s) (ix2 n i) = argU m c (ix2 ⟨s.val * 2048 + n.val, by omega⟩ i) := by
  unfold iblk
  rw [View.read_apply]
  show V m c main_arg0 _ = _
  rw [V_main_arg0]
  have hi := index0 (pt s)
  refine congrArg _ (funext fun a => Fin.ext ?_)
  match a with
  | ⟨0, _⟩ => show win0_0.index (pt s) 0 * 2048 + 1 * n.val = _; rw [hi.1]; show s.val * 2048 + 1 * n.val = s.val * 2048 + n.val; omega
  | ⟨1, _⟩ => show win0_0.index (pt s) 1 * 1024 + 1 * i.val = _; rw [hi.2]; simp

theorem blk1 (c : Dev nD) (s : Fin 4) (n : Fin 2048) (e : Fin 1024) :
    iblk m c 1 (pt s) (ix2 n e) = argD m c (ix2 ⟨s.val * 2048 + n.val, by omega⟩ e) := by
  unfold iblk
  rw [View.read_apply]
  show V m c main_arg1 _ = _
  rw [V_main_arg1]
  have hi := index1 (pt s)
  refine congrArg _ (funext fun a => Fin.ext ?_)
  match a with
  | ⟨0, _⟩ => show win0_1.index (pt s) 0 * 2048 + 1 * n.val = _; rw [hi.1]; show s.val * 2048 + 1 * n.val = s.val * 2048 + n.val; omega
  | ⟨1, _⟩ => show win0_1.index (pt s) 1 * 1024 + 1 * e.val = _; rw [hi.2]; simp

/-- A point's part. -/
def con (c : Dev nD) (s : Fin 4) : Vec Ideal S1024x1024 .f32 := part (iblk m c 0 (pt s)) (iblk m c 1 (pt s))

/-- The carried block after a point depends on the point's number alone. -/
theorem acc_congr (c : Dev nD) {a b : Nat} (h : a = b) (ha : a < cfg0.N) (hb : b < cfg0.N) (y : S1024x1024.Idx) :
    (outsAt0 m c a ha).2 y = (outsAt0 m c b hb).2 y := by
  subst h; rfl

/-- The carried block after the first part. -/
theorem acc_zero (c : Dev nD) (y : S1024x1024.Idx) :
    (outsAt0 m c (pt 0).val (pt 0).isLt).2 y = con m c 0 y := by
  have h0 : (pt 0).val % 4 = 0 := pt_mod 0
  rw [outsAt0_A m c (pt 0) h0 (by show ¬1 ≤ 0; decide) (by omega)]
  dsimp only
  rw [sout_A]
  rfl

/-- A later part that is not the last is added. -/
theorem acc_succ (c : Dev nD) (s s' : Fin 4) (hs : s'.val = s.val + 1) (h3 : s'.val < 3) (y : S1024x1024.Idx) :
    (outsAt0 m c (pt s').val (pt s').isLt).2 y
      = (outsAt0 m c (pt s).val (pt s).isLt).2 y + con m c s' y := by
  have hm := pt_mod s'
  rw [outsAt0_B m c (pt s') (by omega) (by omega) (by omega)]
  dsimp only
  rw [sout_B]
  have e : (pt s').val - 1 = (pt s).val := by show s'.val - 1 = s.val; omega
  show (outsAt0 m c ((pt s').val - 1) _).2 y + _ = _
  congr 3
  simp only [e]

/-- The result's block at the last point is the sum of the four parts. -/
theorem out_last (c : Dev nD) (y : S1024x1024.Idx) :
    (outsAt0 m c (pt 3).val (pt 3).isLt).1 y = ∑ s, con m c s y := by
  have hm := pt_mod 3
  have h3 : (pt 3).val % 4 = 3 := hm
  rw [outsAt0_C m c (pt 3) (by omega) (by omega) h3]
  dsimp only
  rw [out_C]
  have e : (pt 3).val - 1 = (pt 2).val := by show (3 : Fin 4).val - 1 = (2 : Fin 4).val; decide
  show (outsAt0 m c ((pt 3).val - 1) _).2 y + con m c 3 y = _
  rw [acc_congr m c e _ (pt 2).isLt, acc_succ m c 1 2 rfl (by decide), acc_succ m c 0 1 rfl (by decide), acc_zero, Fin.sum_univ_four]

theorem sum_con (c : Dev nD) (i : Fin 1024) (e : Fin 1024) :
    (∑ s, con m c s (ix2 i e)) = grad (argU m c) (argD m c) (ix2 i e) := by
  refine (Finset.sum_congr rfl fun s _ => ?_).trans (Cert.Ffn.sum_parts 4 2048 rfl (fun n =>
    argU m c (ix2 n i) * argD m c (ix2 n e)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (grad (argU m c) (argD m c)) := by
  have h3 := (flush0_2 t).mp hf
  obtain rfl : t = pt 3 := Fin.ext (by have := lt_of_lt_of_eq t.isLt N_0; show t.val = 3; omega)
  show (cfg0.win 2).cut (grid0.coords _) ((dats m 0 c).after 2 _) = _
  rw [after0_2]
  funext j
  rw [View.read_apply]
  obtain ⟨i, e, rfl⟩ : ∃ (i : Fin 1024) (e : Fin 1024), j = ix2 i e := ⟨j 0, j 1, eq_ix2 j⟩
  refine (out_last m c (ix2 i e)).trans ((sum_con m c i e).trans ?_)
  have hi := index2 (pt 3)
  refine congrArg _ (funext fun a => Fin.ext ?_)
  match a with
  | ⟨0, _⟩ => show i.val = win0_2.index (pt 3) 0 * 1024 + 1 * i.val; rw [hi.1]; omega
  | ⟨1, _⟩ => show e.val = win0_2.index (pt 3) 1 * 1024 + 1 * e.val; rw [hi.2]; omega

/-- The result array is the gradient. -/
theorem final (c : Dev nD) : (dats m 0 c).arrAt 2 cfg0.N = grad (argU m c) (argD m c) :=
  (dats m 0 c).arrAt_eq_of_cover 2 (grad (argU m c) (argD m c)) (flushed m c) fun i => by
    have h0 : (i 0 : Nat) < 1024 := (i 0).isLt
    have h1 : (i 1 : Nat) < 1024 := (i 1).isLt
    refine ⟨pt 3, (flush0_2 _).mpr (pt_mod 3), ?_⟩
    have hi := index2 (pt 3)
    show i ∈ ((View.whole main_v0).slice (win0_2.rect (pt 3))).set
    rw [View.set_slice_whole, Rect.mem_set_unit]
    intro a
    match a with
    | ⟨0, _⟩ =>
      show win0_2.index (pt 3) 0 * 1024 ≤ (i 0 : Nat) ∧ (i 0 : Nat) < win0_2.index (pt 3) 0 * 1024 + 1024
      rw [hi.1]; omega
    | ⟨1, _⟩ =>
      show win0_2.index (pt 3) 1 * 1024 ≤ (i 1 : Nat) ∧ (i 1 : Nat) < win0_2.index (pt 3) 1 * 1024 + 1024
      rw [hi.2]; omega

/-- The reference's result is the gradient. -/
theorem ref (U : S8192x1024.Idx → EReal) (D : S8192x1024.Idx → EReal) :
    Cert.Reference11Ideal.Read.val_main_v6 (F := Ideal) U D = grad U D := by
  funext y
  obtain ⟨i, e, rfl⟩ : ∃ (i : Fin 1024) (e : Fin 1024), y = ix2 i e := ⟨y 0, y 1, eq_ix2 y⟩
  unfold grad
  have h4 : Cert.Reference11Ideal.Read.val_main_v4 (F := Ideal) U D (ix2 e i) = ∑ n : Fin 8192, D (ix2 n e) * U (ix2 n i) := by
    pointwise [Cert.Reference11Ideal.Read.val_main_v4, Cert.Reference11Ideal.Read.val_main_v1, Cert.Reference11Ideal.Read.val_main_v0]
  have h6 : Cert.Reference11Ideal.Read.val_main_v6 (F := Ideal) U D (ix2 i e)
      = Cert.Reference11Ideal.Read.val_main_v4 (F := Ideal) U D (ix2 e i) := by
    pointwise [Cert.Reference11Ideal.Read.val_main_v6, Cert.Reference11Ideal.Read.val_main_v5]
  rw [h6, h4]
  exact Finset.sum_congr rfl fun n _ => mul_comm _ _

/-- The kernel runs and leaves its arguments and the counters as they were; so it does over the extended reals, and so
    does the reference. -/
theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- From arguments that agree, the kernel's result and the reference's are the gradient of the output weights. -/
theorem algebraic : Cert.algebraic_Kernel11Ideal_Reference11Ideal := by
  intro m ρ m' ρ' _ hagree
  refine ⟨fun c => grad (argU m c) (argD m c), ?_, ?_⟩
  · refine (θ_run Cert.Kernel11Ideal.defs _ _).mono (fun r h c => ?_) (Cert.Kernel11Ideal.Value.run_blocks m ρ)
    exact ⟨(h c).1.trans (final m c), (h c).2⟩
  · refine (θ_run Cert.Reference11Ideal.defs _ _).mono (fun r h c => ?_) (Cert.Reference11Ideal.Value.run (F := Ideal) m' ρ')
    obtain ⟨a0, a1⟩ := hagree c
    refine ⟨(h c).1.trans ?_, (h c).2⟩
    rw [Cert.Reference11Ideal.Read.val_main_v6_eq, a0, a1]
    exact ref _ _

end Cert.SquareGrad
end
-- ==== Proof.XattnFwd.lean ====
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.BlockValue
public import proofs.«01_k».proof.Proof.Pre

/-! The memory cross-attention's forward pass. A grid point takes 512 queries of one batch and that batch's 256 keys
    and values, head by head; it weighs the values by the exponentials and divides by their sum at the end, where the
    reference divides first. -/

@[expose] public section
set_option maxRecDepth 16384

noncomputable section
namespace Cert.XattnFwd
open Cert.Kernel12Ideal Cert.Kernel12Ideal.Gen Idealize.ShloMosaic Idealize.ShloMosaic.TcCoe Idealize.SL.Sem
open Idealize.ShloMosaic.Pipeline Cert.Own

/-! ### One head -/

variable {n : ℕ}

/-- The result of query `i` of `n` queries `q` against keys `k` and values `v`. -/
def hdO (q : Fin n → Fin 256 → EReal) (k v : Fin 256 → Fin 256 → EReal) (i : Fin n) (d : Fin 256) : EReal :=
  Ideal.div (∑ j, expo (score (q i) k) j * v j d) (∑ j, expo (score (q i) k) j)

/-- Dividing each exponential by their sum before the values are weighed gives the same, where the scores are real. -/
theorem hdO_eq (q : Fin n → Fin 256 → EReal) (k v : Fin 256 → Fin 256 → EReal) (i : Fin n) (d : Fin 256)
    (hs : ∀ j, ∃ r : ℝ, score (q i) k j = r) : (∑ j, prob (score (q i) k) j * v j d) = hdO q k v i d := by
  choose e he hee using expo_real _ hs
  have hZ : (∑ x, expo (score (q i) k) x) = ((∑ x, e x : ℝ) : EReal) := by
    rw [coe_sum]
    exact Finset.sum_congr rfl fun x _ => hee x
  have hpos : 0 < ∑ x, e x := Finset.sum_pos (fun x _ => he x) Finset.univ_nonempty
  unfold hdO prob
  rw [hZ, div_coe _ _ hpos, ← sum_mul_coe _ _ (inv_pos.mpr hpos).le]
  exact Finset.sum_congr rfl fun j _ => by rw [div_coe _ _ hpos, mul_right_comm]

section Head
variable (q : Vec Ideal S512x256 .bf16) (k v : Vec Ideal S256x256 .bf16)

/-- A score less its row's maximum. -/
theorem pay_s (i : Fin 512) (j : Fin 256) :
    k0_pay9 q k (ix2 i j) = score (rows q i) (rows k) j - Finset.fold max low (score (rows q i) (rows k)) Finset.univ := by
  pointwise [k0_pay9]
  rfl

/-- What the body computes from a head's slices. -/
theorem pay_o (i : Fin 512) (d : Fin 256) :
    k0_pay16 (k0_pay9 q k) v (ix2 i d) = hdO (rows q) (rows k) (rows v) i d := by
  pointwise [k0_pay16]
  simp only [pay_s]
  rfl

theorem head1 : k0_pay17 (k0_pay3 q k) (k0_pay6 q k) v = k0_pay16 (k0_pay9 q k) v := rfl
theorem head2 : k0_pay1 (k0_pay12 (k0_pay4 q k) (k0_pay7 q k)) (k0_pay14 (k0_pay4 q k) (k0_pay7 q k) v)
    = k0_pay16 (k0_pay9 q k) v := rfl
theorem head3 : k0_pay2 (k0_pay13 (k0_pay5 q k) (k0_pay8 q k)) (k0_pay15 (k0_pay5 q k) (k0_pay8 q k) v)
    = k0_pay16 (k0_pay9 q k) v := rfl

end Head

/-! ### One block -/

/-- The result of a block of 512 queries `x0`, the keys `x1` and the values `x2`. -/
def blkO (x0 : Mat 512 1024) (x1 x2 : Mat 256 1024) : Mat 512 1024 := fun y =>
  let h : Fin 4 := ⟨(y 1).val / 256, by have h : (y 1).val < 1024 := (y 1).isLt; omega⟩
  hdO (seg x0 h) (seg x1 h) (seg x2 h) (y 0) ⟨(y 1).val % 256, Nat.mod_lt _ (by decide)⟩

section Piece
variable (h : Fin 4) (o : ℕ) (ho : o = h.val * 256) (x0 : Vec Ideal S512x1024 .bf16) (x1 x2 : Vec Ideal S256x1024 .bf16)
  (inb : ∀ a, (![0, o] : Fin 2 → ℕ) a + (![512, 256] : Fin 2 → ℕ) a ≤ S512x1024.size a)
  (inb' : ∀ a, (![0, o] : Fin 2 → ℕ) a + (![256, 256] : Fin 2 → ℕ) a ≤ S256x1024.size a)
include ho

/-- The result stored at a head's columns. -/
theorem piece (x : S512x256.Idx) :
    k0_pay16 (k0_pay9 (View.ld x0 (Rect.unit ![0, o] ![512, 256] inb)) (View.ld x1 (Rect.unit ![0, o] ![256, 256] inb')))
        (View.ld x2 (Rect.unit ![0, o] ![256, 256] inb')) x
      = blkO x0 x1 x2 ((Rect.unit (s := S512x1024) ![0, o] ![512, 256] inb).emb x) := by
  obtain ⟨i, d, rfl⟩ : ∃ (i : Fin 512) (d : Fin 256), x = ix2 i d := ⟨x 0, x 1, eq_ix2 x⟩
  have he : (Rect.unit (s := S512x1024) ![0, o] ![512, 256] inb).emb (ix2 i d)
      = ix2 i (⟨h.val * 256 + d.val, by omega⟩ : Fin 1024) := by
    refine Rect.emb_eq_of_coords _ _ _ fun a => ?_
    match a with
    | ⟨0, _⟩ => show i.val = 0 + 1 * i.val; omega
    | ⟨1, _⟩ => show h.val * 256 + d.val = o + 1 * d.val; omega
  have e1 : (⟨(h.val * 256 + d.val) / 256, by omega⟩ : Fin 4) = h := Fin.ext (by show _ / 256 = _; omega)
  have e2 : (⟨(h.val * 256 + d.val) % 256, Nat.mod_lt _ (by decide)⟩ : Fin 256) = d :=
    Fin.ext (by show _ % 256 = _; omega)
  rw [he, pay_o, rows_ld h o ho, rows_ld h o ho, rows_ld h o ho]
  show _ = hdO (seg x0 ⟨(h.val * 256 + d.val) / 256, _⟩) (seg x1 ⟨(h.val * 256 + d.val) / 256, _⟩)
    (seg x2 ⟨(h.val * 256 + d.val) / 256, _⟩) i ⟨(h.val * 256 + d.val) % 256, _⟩
  rw [e1, e2]

end Piece

/-- What the body leaves in the result's buffer. -/
theorem out_eq (x0 : Vec Ideal S512x1024 .bf16) (x1 x2 : Vec Ideal S256x1024 .bf16) : out0_3 x0 x1 x2 = blkO x0 x1 x2 := by
  refine funext fun y => View.canon_apply_of_pieces _ _ (View.PiecesOf.mem ?_) y (cover0_3 _ _ _ _ y)
  exact ⟨fun x => piece 3 768 rfl x0 x1 x2 _ _ x, fun x => piece 2 512 rfl x0 x1 x2 _ _ x,
    fun x => piece 1 256 rfl x0 x1 x2 _ _ x, fun x => piece 0 0 rfl x0 x1 x2 _ _ x, trivial⟩

/-! ### The array -/

/-- The attention's result: row `y 0` of the tokens, column `y 1`. -/
def all (x0 : Mat 8192 1024) (x1 : Mat 1024 2048) : Mat 8192 1024 := fun y =>
  let b : Fin 4 := ⟨(y 0).val / 2048, by have h : (y 0).val < 8192 := (y 0).isLt; omega⟩
  let h : Fin 4 := ⟨(y 1).val / 256, by have h : (y 1).val < 1024 := (y 1).isLt; omega⟩
  hdO (tok x0 b h) (key x1 b h) (val x1 b h) ⟨(y 0).val % 2048, Nat.mod_lt _ (by decide)⟩
    ⟨(y 1).val % 256, Nat.mod_lt _ (by decide)⟩

variable (m : (ℓ : Loc nD τ sig) → Buf (Elt Ideal) ℓ)

/-- The two arguments on a device. -/
def argQ (c : Dev nD) : Mat 8192 1024 := m ((c : Thread nD τ).loc main_arg0)
def argKV (c : Dev nD) : Mat 1024 2048 := m ((c : Thread nD τ).loc main_arg1)

/-- The batch of a grid point, and the query of a batch that row `i` of the point's block is. -/
def bOf (t : Fin cfg0.N) : Fin 4 := ⟨t.val / 4, by have h : t.val < 16 := lt_of_lt_of_eq t.isLt N_0; omega⟩
def rOf (t : Fin cfg0.N) (i : Fin 512) : Fin 2048 := ⟨t.val % 4 * 512 + i.val, by omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val / 4 ∧ win0_1.index t 1 = 0 :=
  (by decide +kernel : ∀ t : Fin grid0.N, win0_1.index t 0 = t.val / 4 ∧ win0_1.index t 1 = 0)
theorem index2 : ∀ t : Fin cfg0.N, win0_2.index t 0 = t.val / 4 ∧ win0_2.index t 1 = 1 :=
  (by decide +kernel : ∀ t : Fin grid0.N, win0_2.index t 0 = t.val / 4 ∧ win0_2.index t 1 = 1)
theorem index3 : ∀ t : Fin cfg0.N, win0_3.index t 0 = t.val ∧ win0_3.index t 1 = 0 :=
  (by decide +kernel : ∀ t : Fin grid0.N, win0_3.index t 0 = t.val ∧ win0_3.index t 1 = 0)

/-- A head's columns of a point's block of queries, of keys and of values. -/
theorem seg0 (c : Dev nD) (t : Fin cfg0.N) (h : Fin 4) :
    seg (iblk m c 0 t) h = fun i => tok (argQ m c) (bOf t) h (rOf t i) := by
  funext i d
  unfold seg tok iblk
  rw [View.read_apply]
  show V m c main_arg0 _ = _
  rw [V_main_arg0]
  refine congrArg _ (funext fun a => Fin.ext ?_)
  have hi := index0 t
  match a with
  | ⟨0, _⟩ => show win0_0.index t 0 * 512 + 1 * i.val = t.val / 4 * 2048 + (t.val % 4 * 512 + i.val); rw [hi.1]; omega
  | ⟨1, _⟩ => show win0_0.index t 1 * 1024 + 1 * (h.val * 256 + d.val) = h.val * 256 + d.val; rw [hi.2]; omega
theorem seg1 (c : Dev nD) (t : Fin cfg0.N) (h : Fin 4) : seg (iblk m c 1 t) h = key (argKV m c) (bOf t) h := by
  funext j d
  unfold seg key iblk
  rw [View.read_apply]
  show V m c main_arg1 _ = _
  rw [V_main_arg1]
  refine congrArg _ (funext fun a => Fin.ext ?_)
  have hi := index1 t
  match a with
  | ⟨0, _⟩ => show win0_1.index t 0 * 256 + 1 * j.val = t.val / 4 * 256 + j.val; rw [hi.1]; omega
  | ⟨1, _⟩ => show win0_1.index t 1 * 1024 + 1 * (h.val * 256 + d.val) = h.val * 256 + d.val; rw [hi.2]; omega
theorem seg2 (c : Dev nD) (t : Fin cfg0.N) (h : Fin 4) : seg (iblk m c 2 t) h = val (argKV m c) (bOf t) h := by
  funext j d
  unfold seg val iblk
  rw [View.read_apply]
  show V m c main_arg1 _ = _
  rw [V_main_arg1]
  refine congrArg _ (funext fun a => Fin.ext ?_)
  have hi := index2 t
  match a with
  | ⟨0, _⟩ => show win0_2.index t 0 * 256 + 1 * j.val = t.val / 4 * 256 + j.val; rw [hi.1]; omega
  | ⟨1, _⟩ => show win0_2.index t 1 * 1024 + 1 * (h.val * 256 + d.val) = 1024 + (h.val * 256 + d.val); rw [hi.2]; omega

/-- A point's block is the block of the whole result. -/
theorem flushed (c : Dev nD) (t : Fin cfg0.N) :
    (dats m 0 c).flushed 3 t = ((cfg0.win 3).blk t).view.read (Elt Ideal) (all (argQ m c) (argKV m c)) := by
  show (cfg0.win 3).cut (grid0.coords t) ((dats m 0 c).after 3 t) = _
  rw [after0_3]
  funext j
  rw [View.read_apply]
  obtain ⟨i, e, rfl⟩ : ∃ (i : Fin 512) (e : Fin 1024), j = ix2 i e := ⟨j 0, j 1, eq_ix2 j⟩
  show out0_3 _ _ _ (ix2 i e) = _
  rw [out_eq]
  have hi := index3 t
  have hN : t.val < 16 := lt_of_lt_of_eq t.isLt N_0
  have he : ((cfg0.win 3).blk t).view.emb (ix2 i e) = ix2 (⟨t.val * 512 + i.val, by omega⟩ : Fin 8192) e := by
    funext a
    refine Fin.ext ?_
    match a with
    | ⟨0, _⟩ => show win0_3.index t 0 * 512 + 1 * i.val = t.val * 512 + i.val; rw [hi.1]; omega
    | ⟨1, _⟩ => show win0_3.index t 1 * 1024 + 1 * e.val = e.val; rw [hi.2]; omega
  rw [he]
  unfold blkO all
  dsimp only
  rw [seg0, seg1, seg2]
  have eb : (⟨(t.val * 512 + i.val) / 2048, by omega⟩ : Fin 4) = bOf t := Fin.ext (by show (t.val * 512 + i.val) / 2048 = t.val / 4; omega)
  have er : (⟨(t.val * 512 + i.val) % 2048, Nat.mod_lt _ (by decide)⟩ : Fin 2048) = rOf t i :=
    Fin.ext (by show (t.val * 512 + i.val) % 2048 = t.val % 4 * 512 + i.val; omega)
  show _ = hdO (tok (argQ m c) ⟨(t.val * 512 + i.val) / 2048, _⟩ _) (key (argKV m c) ⟨(t.val * 512 + i.val) / 2048, _⟩ _)
    (val (argKV m c) ⟨(t.val * 512 + i.val) / 2048, _⟩ _) ⟨(t.val * 512 + i.val) % 2048, _⟩ _
  rw [eb, er]
  rfl

/-- The result array is the attention's result. -/
theorem final (c : Dev nD) : (dats m 0 c).arrAt 3 cfg0.N = all (argQ m c) (argKV m c) :=
  (dats m 0 c).arrAt_eq_of_cover 3 (all (argQ m c) (argKV m c)) (fun t _ => flushed m c t) fun i => by
    have h0 : (i 0 : Nat) < 8192 := (i 0).isLt
    have h1 : (i 1 : Nat) < 1024 := (i 1).isLt
    let t : Fin cfg0.N := ⟨(i 0).val / 512, by rw [show cfg0.N = 16 from N_0]; omega⟩
    refine ⟨t, flush0_3 t, ?_⟩
    have hi := index3 t
    show i ∈ ((View.whole main_v0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1]; show (i 0).val / 512 * 512 ≤ _ ∧ _ < (i 0).val / 512 * 512 + 512; omega
    | ⟨1, _⟩ =>
      show win0_3.index t 1 * 1024 ≤ (i 1 : Nat) ∧ (i 1 : Nat) < win0_3.index t 1 * 1024 + 1024
      rw [hi.2]; omega

/-! ### The reference -/

section Ref
open Cert.Reference12Ideal.Read
variable (x0 : Mat 8192 1024) (x1 : Mat 1024 2048)

theorem ref_q (b h : Fin 4) (i : Fin 2048) (d : Fin 256) : val_main_v5 (F := Ideal) x0 (ix4 b h i d) = tok x0 b h i d := by
  pointwise [val_main_v5, val_main_v4, val_main_v1, val_main_v0]
  rfl
theorem ref_k (b h : Fin 4) (j d : Fin 256) : val_main_v8 (F := Ideal) x1 (ix4 b h j d) = key x1 b h j d := by
  pointwise [val_main_v8, val_main_v7, val_main_v6, val_main_v3, val_main_v2]
  rfl
theorem ref_v (b h : Fin 4) (j d : Fin 256) : val_main_v11 (F := Ideal) x1 (ix4 b h j d) = val x1 b h j d := by
  pointwise [val_main_v11, val_main_v10, val_main_v9, val_main_v3, val_main_v2]
  rfl

/-- The scores. -/
theorem ref_s (b h : Fin 4) (i : Fin 2048) (j : Fin 256) :
    val_main_v14 (F := Ideal) x0 x1 (ix4 b h i j) = srow x0 x1 b h i j := by
  pointwise [val_main_v14, val_main_v13, val_main_cst, val_main_v12]
  simp only [ref_q, ref_k]
  rfl

/-- The maximum of a row of scores. -/
theorem ref_max0 (b h : Fin 4) (i : Fin 2048) :
    val_main_v15 (F := Ideal) x0 x1 (ix3 b h i) = Finset.fold max low (srow x0 x1 b h i) Finset.univ := by
  pointwise [val_main_v15]
  rw [val_main_cst_0_apply]
  simp only [ref_s]
  rfl

/-- The same, taken against −∞ once more. -/
theorem ref_max (b h : Fin 4) (i : Fin 2048) :
    val_main_v17 (F := Ideal) x0 x1 (ix3 b h i) = Finset.fold max low (srow x0 x1 b h i) Finset.univ := by
  rw [val_main_v17_apply, val_main_v16_apply, val_main_cst_1_apply, ref_max0]
  exact max_low _

/-- The exponentials. -/
theorem ref_e (b h : Fin 4) (i : Fin 2048) (j : Fin 256) :
    val_main_v21 (F := Ideal) x0 x1 (ix4 b h i j) = expo (srow x0 x1 b h i) j := by
  pointwise [val_main_v21, val_main_v20, val_main_v19, val_main_v18]
  simp only [ref_s, ref_max]
  rfl

/-- The probabilities. -/
theorem ref_p (b h : Fin 4) (i : Fin 2048) (j : Fin 256) :
    val_main_v25 (F := Ideal) x0 x1 (ix4 b h i j) = prob (srow x0 x1 b h i) j := by
  pointwise [val_main_v25, val_main_v24, val_main_v23, val_main_v22, val_main_cst_2]
  simp only [ref_e]
  rfl

/-- The reference's result is the attention's result, where queries and keys are real. -/
theorem ref (hq : ∀ y, ∃ r : ℝ, x0 y = (r : EReal)) (hk : KeysReal x1) :
    val_main_v30 (F := Ideal) x0 x1 = all x0 x1 := by
  refine funext fun y => ?_
  obtain ⟨i, j, rfl⟩ : ∃ (i : Fin 8192) (j : Fin 1024), y = ix2 i j := ⟨y 0, y 1, eq_ix2 y⟩
  pointwise [val_main_v30, val_main_v29, val_main_v28, val_main_v27, val_main_v26]
  simp only [ref_p, ref_v]
  exact hdO_eq _ _ _ _ _ (srow_real x0 x1 hq hk _ _ _)

end Ref

/-! ### The precondition and the claims -/

instance preFacts : Cert.Pre_finite_queries.Facts where
  bitsLt_bf16_f32 := by decide
  bcast_S_S8192x1024 := by decide
  slices_S1024x2048_S1024x1024_0_0 := by decide
  bcast_S_S1024x1024 := by decide

/-- Under the precondition every entry of the queries is real. -/
theorem pre_q (x0 : FVec Ideal Cert.Pre_finite_queries.S8192x1024 .bf16) (x1 : FVec Ideal Cert.Pre_finite_queries.S1024x2048 .bf16)
    (h : (Cert.Pre_finite_queries.fn (F := Ideal) x0 x1).1 = fun _ => 1#1) (y : (⟨2, ![8192, 1024]⟩ : Shape).Idx) :
    ∃ r : ℝ, x0 y = r :=
  real_of_bits (congrFun h y)

/-- Under the precondition every entry of the keys is real. -/
theorem pre_k (x0 : FVec Ideal Cert.Pre_finite_queries.S8192x1024 .bf16) (x1 : FVec Ideal Cert.Pre_finite_queries.S1024x2048 .bf16)
    (h : (Cert.Pre_finite_queries.fn (F := Ideal) x0 x1).2 = fun _ => 1#1) : KeysReal x1 := by
  intro i j
  have e := congrFun h (ix2 i j)
  unfold Cert.Pre_finite_queries.fn at e
  dsimp only at e
  refine real_of_bits (Eq.trans ?_ e)
  have hx : extractStridedSlice Cert.Pre_finite_queries.S1024x1024 ![0, 0] x1
      Cert.Pre_finite_queries.Facts.slices_S1024x2048_S1024x1024_0_0 (ix2 i j) = x1 (ix2 i (⟨j.val, by omega⟩ : Fin 2048)) := by
    pointwise
  rw [← hx]
  rfl

/-- The kernel runs and leaves its arguments and the counters as they were; so it does over the extended reals, and so
    does the reference, with the precondition and without. -/
theorem frame_p : Cert.quiescent_Kernel12 := fun m ρ _ => Cert.Kernel12.Gen.frame m ρ
theorem frame_pi : Cert.quiescent_Kernel12Ideal := fun m ρ _ => Cert.Kernel12Ideal.Gen.frame m ρ
theorem frame_pi_pre : Cert.quiescent_Kernel12Ideal_pre_finite_queries := fun m ρ _ => Cert.Kernel12Ideal.Gen.frame m ρ
theorem frame_ri : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)
theorem frame_ri_pre : Cert.quiescent_Reference12Ideal_pre_finite_queries := fun m ρ _ => frame_ri m ρ trivial

/-- From arguments that agree and have finite queries and keys, the kernel's result and the reference's are the
    attention's result. -/
theorem algebraic : Cert.algebraic_Kernel12Ideal_Reference12Ideal_pre_finite_queries := by
  intro m ρ m' ρ' hpre hagree
  refine ⟨fun c => all (argQ m c) (argKV m c), ?_, ?_⟩
  · refine (θ_run Cert.Kernel12Ideal.defs _ _).mono (fun r h c => ?_) (Cert.Kernel12Ideal.Value.run_blocks m ρ)
    exact ⟨(h c).1.trans (final m c), (h c).2⟩
  · refine (θ_run Cert.Reference12Ideal.defs _ _).mono (fun r h c => ?_) (Cert.Reference12Ideal.Value.run (F := Ideal) m' ρ')
    have hq := pre_q _ _ (hpre c).1
    have hk := pre_k _ _ (hpre c).2
    obtain ⟨a0, a1⟩ := hagree c
    refine ⟨(h c).1.trans ?_, (h c).2⟩
    rw [Cert.Reference12Ideal.Read.val_main_v30_eq, a0, a1]
    exact ref _ _ hq hk

end Cert.XattnFwd
end
-- ==== Proof.MixIn.lean ====
module

public import proofs.«01_k».proof.Defs
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.PureOps.Ideal
public import Idealize.ShloMosaic.Lib.Pointwise

/-! The first mixer's input projection. Eight blocks of 1024 rows, times four blocks of 896 columns; the matrix is
    transposed by the host, and the kernel's product transposes it back. -/

@[expose] public section
set_option maxRecDepth 16384

noncomputable section
namespace Cert.MixIn
open Cert.Kernel13Ideal Cert.Kernel13Ideal.Gen Idealize.ShloMosaic Idealize.ShloMosaic.TcCoe Idealize.SL.Sem
open Idealize.ShloMosaic.Pipeline

/-- The product, at row `i` and column `e`. -/
def prod (U : S8192x1024.Idx → EReal) (W : S1024x3584.Idx → EReal) : S8192x3584.Idx → EReal := fun y =>
  ∑ k : Fin 1024, U (ix2 (y 0) k) * W (ix2 k (y 1))

variable (m : (ℓ : Loc nD τ sig) → Buf (Elt Ideal) ℓ)

/-- The two arguments on a device. -/
def argU (c : Dev nD) : S8192x1024.Idx → EReal := m ((c : Thread nD τ).loc main_arg0)
def argW (c : Dev nD) : S1024x3584.Idx → EReal := m ((c : Thread nD τ).loc main_arg1)

/-- The prepared matrix is the transposed one. -/
theorem host1 (c : Dev nD) (e : Fin 3584) (k : Fin 1024) : V m c main_v1 (ix2 e k) = argW m c (ix2 k e) := by
  show StableHlo.after hostOps0 (fun b => m (c, b)) main_v1 _ = _
  after_results_simp
  pointwise []
  rfl

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- A block of the left factor holds 1024 consecutive rows of it. -/
theorem blk0 (c : Dev nD) (t : Fin cfg0.N) (i : Fin 1024) (k : Fin 1024) :
    iblk m c 0 t (ix2 i k)
      = argU m c (ix2 ⟨t.val / 4 * 1024 + i.val, by have := t.isLt; have : cfg0.N = 32 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 1024 + 1 * k.val = _; rw [hi.2]; simp

/-- A block of the right factor holds 896 consecutive columns of the matrix, as rows. -/
theorem blk1 (c : Dev nD) (t : Fin cfg0.N) (e : Fin 896) (k : Fin 1024) :
    iblk m c 1 t (ix2 e k) = argW m c (ix2 k ⟨t.val % 4 * 896 + e.val, by omega⟩) := by
  rw [← host1]
  unfold iblk
  rw [View.read_apply]
  have hi := index1 t
  refine congrArg (V m c main_v1) (funext fun a => Fin.ext ?_)
  match a with
  | ⟨0, _⟩ => show win0_1.index t 0 * 896 + 1 * e.val = _; rw [hi.1]; simp
  | ⟨1, _⟩ => show win0_1.index t 1 * 1024 + 1 * k.val = _; rw [hi.2]; simp

/-- A block's product at an index. -/
theorem pay_apply (x : Vec Ideal S1024x1024 .bf16) (w : Vec Ideal S896x1024 .bf16) (i : Fin 1024) (e : Fin 896) :
    k0_pay1 x w (ix2 i e) = ∑ k : Fin 1024, x (ix2 i k) * w (ix2 e k) := by
  pointwise [k0_pay1]

/-- What the body leaves in the output's buffer. -/
theorem out_apply (x : Vec Ideal S1024x1024 .bf16) (w : Vec Ideal S896x1024 .bf16) (i : Fin 1024) (e : Fin 896) :
    out0_2 x w (ix2 i e) = ∑ k : Fin 1024, x (ix2 i k) * w (ix2 e k) := by
  unfold out0_2
  rw [View.canon_cons_unit_zero (by decide) inb_S1024x896_S1024x896_0_0,
    View.ld_unit_zero (by decide) inb_S1024x1024_S1024x1024_0_0 x, View.ld_unit_zero (by decide) inb_S896x1024_S896x1024_0_0 w, pay_apply]

theorem flushed (c : Dev nD) (t : Fin cfg0.N) :
    (dats m 0 c).flushed 2 t = ((View.whole main_v2).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 896), j = ix2 i e := ⟨j 0, j 1, eq_ix2 j⟩
  show out0_2 _ _ (ix2 i e) = _
  rw [out_apply]
  simp only [blk0, blk1]
  have hi := index2 t
  have hN : t.val < 32 := lt_of_lt_of_eq t.isLt N_0
  have he : ((cfg0.win 2).blk t).view.emb (ix2 i e)
      = ix2 (⟨t.val / 4 * 1024 + i.val, by omega⟩ : Fin 8192) (⟨t.val % 4 * 896 + e.val, by omega⟩ : Fin 3584) := by
    funext a
    refine Fin.ext ?_
    match a with
    | ⟨0, _⟩ => show win0_2.index t 0 * 1024 + 1 * i.val = t.val / 4 * 1024 + i.val; rw [hi.1]; omega
    | ⟨1, _⟩ => show win0_2.index t 1 * 896 + 1 * e.val = t.val % 4 * 896 + e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 3584 := (i 1).isLt
    let t : Fin cfg0.N := ⟨(i 0).val / 1024 * 4 + (i 1).val / 896, by rw [show cfg0.N = 32 from N_0]; omega⟩
    have hd : t.val / 4 = (i 0).val / 1024 := by show ((i 0).val / 1024 * 4 + (i 1).val / 896) / 4 = _; omega
    have hm : t.val % 4 = (i 1).val / 896 := by show ((i 0).val / 1024 * 4 + (i 1).val / 896) % 4 = _; omega
    refine ⟨t, flush0_2 t, ?_⟩
    have hi := index2 t
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1, hd]; omega
    | ⟨1, _⟩ =>
      show win0_2.index t 1 * 896 ≤ (i 1 : Nat) ∧ (i 1 : Nat) < win0_2.index t 1 * 896 + 896
      rw [hi.2, hm]; omega

/-- The reference's result is the product. -/
theorem ref (U : S8192x1024.Idx → EReal) (W : S1024x3584.Idx → EReal) :
    Cert.Reference13Ideal.Read.val_main_v1 (F := Ideal) U W = prod U W := by
  funext y
  obtain ⟨i, e, rfl⟩ : ∃ (i : Fin 8192) (e : Fin 3584), y = ix2 i e := ⟨y 0, y 1, eq_ix2 y⟩
  unfold prod
  pointwise [Cert.Reference13Ideal.Read.val_main_v1, Cert.Reference13Ideal.Read.val_main_v0]

/-- The kernel runs and leaves its arguments and the counters as they were; so it does over the extended reals, and so
    does the reference. -/
theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- From arguments that agree, the kernel's result and the reference's are the product of the arguments. -/
theorem algebraic : Cert.algebraic_Kernel13Ideal_Reference13Ideal := by
  intro m ρ m' ρ' _ hagree
  refine ⟨fun c => prod (argU m c) (argW m c), ?_, ?_⟩
  · refine (θ_run Cert.Kernel13Ideal.defs _ _).mono (fun r h c => ?_) (Cert.Kernel13Ideal.Value.run_blocks m ρ)
    exact ⟨(h c).1.trans (final m c), (h c).2⟩
  · refine (θ_run Cert.Reference13Ideal.defs _ _).mono (fun r h c => ?_) (Cert.Reference13Ideal.Value.run (F := Ideal) m' ρ')
    obtain ⟨a0, a1⟩ := hagree c
    refine ⟨(h c).1.trans ?_, (h c).2⟩
    rw [Cert.Reference13Ideal.Read.val_main_v1_eq, a0, a1]
    exact ref _ _

end Cert.MixIn
end
-- ==== Proof.MixInGrad.lean ====
module

public import proofs.«01_k».proof.Defs
public import proofs.«01_k».proof.Proof.Gen.Kernel14
public import proofs.«01_k».proof.Proof.Gen.Kernel14.Frame
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Swap
public import Idealize.ShloMosaic.PureOps.Ideal
public import Idealize.ShloMosaic.Lib.Pointwise
public import Idealize.ShloMosaic.Lib.Pipeline.ReadBack

/-! The gradient of the first mixer's input weights: the mixer's input, transposed, times the gradient of the projected
    columns. The kernel computes the transposed product in four blocks of 896 rows; the 8192 tokens are summed in four
    parts that a carried block accumulates. -/

@[expose] public section
set_option maxRecDepth 16384

noncomputable section
namespace Cert.MixInGrad
open Cert.Kernel14Ideal Cert.Kernel14Ideal.Gen Idealize.ShloMosaic Idealize.ShloMosaic.TcCoe Idealize.SL.Sem
open Idealize.ShloMosaic.Pipeline

/-- The gradient, at row `e` and column `p`. -/
def grad (H : S8192x1024.Idx → EReal) (Z : S8192x3584.Idx → EReal) : S1024x3584.Idx → EReal := fun y =>
  ∑ n : Fin 8192, Z (ix2 n (y 1)) * H (ix2 n (y 0))

/-- The array that the kernel writes: the gradient transposed. -/
def raw (H : S8192x1024.Idx → EReal) (Z : S8192x3584.Idx → EReal) : S3584x1024.Idx → EReal := fun y =>
  ∑ n : Fin 8192, Z (ix2 n (y 0)) * H (ix2 n (y 1))

/-- A part of 2048 tokens, of a block of 896 rows. -/
def part (x : Vec Ideal S2048x896 .bf16) (d : Vec Ideal S2048x1024 .bf16) : Vec Ideal S896x1024 .f32 := fun y =>
  ∑ n : Fin 2048, x (ix2 n (y 0)) * d (ix2 n (y 1))

theorem part_apply (x : Vec Ideal S2048x896 .bf16) (d : Vec Ideal S2048x1024 .bf16) (i : Fin 896) (e : Fin 1024) :
    part x d (ix2 i e) = ∑ n : Fin 2048, x (ix2 n i) * d (ix2 n e) := rfl

section Body
variable (x : Vec Ideal S2048x896 .bf16) (d : Vec Ideal S2048x1024 .bf16) (s : Vec Ideal S896x1024 .f32)

theorem pay1_apply (i : Fin 896) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 896) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 896) (e : Fin 1024), y = ix2 i e := ⟨y 0, y 1, eq_ix2 y⟩
  rw [← pay1_apply]
  pointwise [k0_pay3]

variable (c : Dev nD) (i : grid0.Coords) (a3 : Memref sig .tc .vmem S2048x896 .bf16) (h3 : a3.IsWhole)
  (a4 : Memref sig .tc .vmem S2048x1024 .bf16) (h4 : a4.IsWhole) (a5 : Memref sig .tc .vmem S896x1024 .bf16)
  (h5 : a5.IsWhole) (a6 : Memref sig .tc .vmem S896x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S896x1024_S896x1024_0_0,
    View.ld_unit_zero (by decide) inb_S2048x896_S2048x896_0_0, View.ld_unit_zero (by decide) inb_S2048x1024_S2048x1024_0_0,
    pay2_eq]

/-- A middle part is added to it. -/
theorem sout_B (hc0 : ¬cond0_0 i) (hc1 : cond0_1 i) (hc2 : ¬cond0_2 i) :
    sout0_B_0 c i a3 h3 a4 h4 a5 h5 a6 h6 hc0 hc1 hc2 x d s = fun y => s y + part x d y := by
  have hcov := scover0_B_0 c i a3 h3 a4 h4 a5 h5 a6 h6 hc0 hc1 hc2 x d s
  unfold sout0_B_0
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S896x1024_S896x1024_0_0,
    View.ld_unit_zero (by decide) inb_S2048x896_S2048x896_0_0, View.ld_unit_zero (by decide) inb_S2048x1024_S2048x1024_0_0,
    View.ld_unit_zero (by decide) inb_S896x1024_S896x1024_0_0, pay3_eq]

/-- The last part is added too, and the sum is the result's block. -/
theorem out_C (hc0 : ¬cond0_0 i) (hc1 : cond0_1 i) (hc2 : cond0_2 i) :
    out0_C_2 c i a3 h3 a4 h4 a5 h5 a6 h6 hc0 hc1 hc2 x d s = fun y => s y + part x d y := by
  have hcov := cover0_C_2 c i a3 h3 a4 h4 a5 h5 a6 h6 hc0 hc1 hc2 x d s
  unfold out0_C_2
  rw [View.read_writes_eq_canon _ _ _ hcov]
  unfold kernelRun0_C
  dsimp only
  sl_unfold_words
  simp only [View.readAt_eq_ld, h3.read_unread, h4.read_unread, h6.read_unread]
  rw [View.canon_cons_unit_zero (by decide) inb_S896x1024_S896x1024_0_0, View.readCov_eq_canon',
    View.canon_cons_unit_zero (by decide) inb_S896x1024_S896x1024_0_0,
    View.ld_unit_zero (by decide) inb_S2048x896_S2048x896_0_0, View.ld_unit_zero (by decide) inb_S2048x1024_S2048x1024_0_0,
    View.ld_unit_zero (by decide) inb_S896x1024_S896x1024_0_0, pay3_eq]
  exact (congrArg k0_pay4 (View.ld_unit_zero (by decide) inb_S896x1024_S896x1024_0_0 (fun y => s y + part x d y))).trans rfl

end Body

variable (m : (ℓ : Loc nD τ sig) → Buf (Elt Ideal) ℓ)

/-- The two arguments on a device. -/
def argH (c : Dev nD) : S8192x1024.Idx → EReal := m ((c : Thread nD τ).loc main_arg0)
def argZ (c : Dev nD) : S8192x3584.Idx → EReal := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- A grid point by its block of rows and its part of the tokens. -/
def pt (b : Fin 4) (s : Fin 4) : Fin cfg0.N := ⟨b.val * 4 + s.val, by rw [show cfg0.N = 16 from N_0]; omega⟩

theorem pt_mod (b : Fin 4) (s : Fin 4) : (pt b s).val % 4 = s.val := by show (b.val * 4 + s.val) % 4 = _; omega
theorem pt_div (b : Fin 4) (s : Fin 4) : (pt b s).val / 4 = b.val := by show (b.val * 4 + s.val) / 4 = _; omega

theorem blk0 (c : Dev nD) (b : Fin 4) (s : Fin 4) (n : Fin 2048) (i : Fin 896) :
    iblk m c 0 (pt b s) (ix2 n i)
      = argZ m c (ix2 ⟨s.val * 2048 + n.val, by omega⟩ ⟨b.val * 896 + i.val, by omega⟩) := by
  unfold iblk
  rw [View.read_apply]
  show V m c main_arg1 _ = _
  rw [V_main_arg1]
  have hi := index0 (pt b s)
  rw [pt_mod, pt_div] at hi
  refine congrArg _ (funext fun a => Fin.ext ?_)
  match a with
  | ⟨0, _⟩ => show win0_0.index (pt b s) 0 * 2048 + 1 * n.val = _; rw [hi.1]; simp
  | ⟨1, _⟩ => show win0_0.index (pt b s) 1 * 896 + 1 * i.val = _; rw [hi.2]; simp

theorem blk1 (c : Dev nD) (b : Fin 4) (s : Fin 4) (n : Fin 2048) (e : Fin 1024) :
    iblk m c 1 (pt b s) (ix2 n e) = argH m c (ix2 ⟨s.val * 2048 + n.val, by omega⟩ e) := by
  unfold iblk
  rw [View.read_apply]
  show V m c main_arg0 _ = _
  rw [V_main_arg0]
  have hi := index1 (pt b s)
  rw [pt_mod] at hi
  refine congrArg _ (funext fun a => Fin.ext ?_)
  match a with
  | ⟨0, _⟩ => show win0_1.index (pt b s) 0 * 2048 + 1 * n.val = _; rw [hi.1]; simp
  | ⟨1, _⟩ => show win0_1.index (pt b s) 1 * 1024 + 1 * e.val = _; rw [hi.2]; simp

/-- A point's part. -/
def con (c : Dev nD) (b : Fin 4) (s : Fin 4) : Vec Ideal S896x1024 .f32 := part (iblk m c 0 (pt b s)) (iblk m c 1 (pt b s))

/-- The carried block after the first part. -/
theorem acc_zero (c : Dev nD) (b : Fin 4) (y : S896x1024.Idx) :
    (outsAt0 m c (pt b 0).val (pt b 0).isLt).2 y = con m c b 0 y := by
  have h0 : (pt b 0).val % 4 = 0 := pt_mod b 0
  rw [outsAt0_A m c (pt b 0) h0 (by omega) (by omega)]
  dsimp only
  rw [sout_A]
  rfl

/-- A later part that is not the last is added. -/
theorem acc_succ (c : Dev nD) (b : Fin 4) (s s' : Fin 4) (hs : s'.val = s.val + 1) (h3 : s'.val < 3) (y : S896x1024.Idx) :
    (outsAt0 m c (pt b s').val (pt b s').isLt).2 y
      = (outsAt0 m c (pt b s).val (pt b s).isLt).2 y + con m c b s' y := by
  have hm := pt_mod b s'
  rw [outsAt0_B m c (pt b s') (by omega) (by omega) (by omega)]
  dsimp only
  rw [sout_B]
  have e : (pt b s').val - 1 = (pt b s).val := by show b.val * 4 + s'.val - 1 = b.val * 4 + s.val; omega
  show (outsAt0 m c ((pt b s').val - 1) _).2 y + _ = _
  congr 3
  simp only [e]

/-- The result's block at a block's last point is the sum of the four parts. -/
theorem out_last (c : Dev nD) (b : Fin 4) (y : S896x1024.Idx) :
    (outsAt0 m c (pt b 3).val (pt b 3).isLt).1 y = ∑ s, con m c b s y := by
  have hm := pt_mod b 3
  have h3 : (pt b 3).val % 4 = 3 := hm
  rw [outsAt0_C m c (pt b 3) (by omega) (by omega) h3]
  dsimp only
  rw [out_C]
  have e : (pt b 3).val - 1 = (pt b 2).val := by show b.val * 4 + 3 - 1 = b.val * 4 + 2; omega
  show (outsAt0 m c ((pt b 3).val - 1) _).2 y + con m c b 3 y = _
  have e' : (outsAt0 m c ((pt b 3).val - 1) (Nat.lt_of_le_of_lt (Nat.sub_le _ 1) (pt b 3).isLt)).2 y
      = (outsAt0 m c (pt b 2).val (pt b 2).isLt).2 y := by
    congr 2
  rw [e', acc_succ m c b 1 2 rfl (by decide), acc_succ m c b 0 1 rfl (by decide), acc_zero, Fin.sum_univ_four]

theorem sum_con (c : Dev nD) (b : Fin 4) (i : Fin 896) (e : Fin 1024) :
    (∑ s, con m c b s (ix2 i e)) = raw (argH m c) (argZ m c) (ix2 ⟨b.val * 896 + i.val, by omega⟩ e) := by
  refine (Finset.sum_congr rfl fun s _ => ?_).trans (Cert.Ffn.sum_parts 4 2048 rfl (fun n =>
    argZ m c (ix2 n ⟨b.val * 896 + i.val, by omega⟩) * argH m c (ix2 n e)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (raw (argH m c) (argZ m c)) := by
  have h3 := (flush0_2 t).mp hf
  obtain ⟨b, rfl⟩ : ∃ b, t = pt b 3 :=
    ⟨⟨t.val / 4, by have := lt_of_lt_of_eq t.isLt N_0; omega⟩, Fin.ext (by show t.val = t.val / 4 * 4 + 3; omega)⟩
  show (cfg0.win 2).cut (grid0.coords _) ((dats m 0 c).after 2 _) = _
  rw [after0_2]
  funext j
  rw [View.read_apply]
  obtain ⟨i, e, rfl⟩ : ∃ (i : Fin 896) (e : Fin 1024), j = ix2 i e := ⟨j 0, j 1, eq_ix2 j⟩
  refine (out_last m c b (ix2 i e)).trans ((sum_con m c b i e).trans ?_)
  have hi := index2 (pt b 3)
  rw [pt_div] at hi
  refine congrArg _ (funext fun a => Fin.ext ?_)
  match a with
  | ⟨0, _⟩ => show b.val * 896 + i.val = win0_2.index (pt b 3) 0 * 896 + 1 * i.val; rw [hi.1]; omega
  | ⟨1, _⟩ => show e.val = win0_2.index (pt b 3) 1 * 1024 + 1 * e.val; rw [hi.2]; omega

/-- The array that the kernel writes. -/
theorem final (c : Dev nD) : (dats m 0 c).arrAt 2 cfg0.N = raw (argH m c) (argZ m c) :=
  (dats m 0 c).arrAt_eq_of_cover 2 (raw (argH m c) (argZ m c)) (flushed m c) fun i => by
    have h0 : (i 0 : Nat) < 3584 := (i 0).isLt
    have h1 : (i 1 : Nat) < 1024 := (i 1).isLt
    let b : Fin 4 := ⟨(i 0).val / 896, by omega⟩
    refine ⟨pt b 3, (flush0_2 _).mpr (pt_mod b 3), ?_⟩
    have hi := index2 (pt b 3)
    have hb : (pt b 3).val / 4 = (i 0).val / 896 := pt_div b 3
    show i ∈ ((View.whole main_v0).slice (win0_2.rect (pt b 3))).set
    rw [View.set_slice_whole, Rect.mem_set_unit]
    intro a
    match a with
    | ⟨0, _⟩ =>
      show win0_2.index (pt b 3) 0 * 896 ≤ (i 0 : Nat) ∧ (i 0 : Nat) < win0_2.index (pt b 3) 0 * 896 + 896
      rw [hi.1, hb]; omega
    | ⟨1, _⟩ =>
      show win0_2.index (pt b 3) 1 * 1024 ≤ (i 1 : Nat) ∧ (i 1 : Nat) < win0_2.index (pt b 3) 1 * 1024 + 1024
      rw [hi.2]; omega

/-- The program ends with the gradient: the host transposes. -/
theorem run (ρ : Dev nD → PrngReg) : θ_run defs (onTc (τ := τ) (main (F := Ideal))) ⟨m, fun _ => 0, ρ⟩ fun r => ∀ c : Dev nD,
    r.2.mem ((c : Thread nD τ).loc main_v1) = grad (argH m c) (argZ m c) := by
  refine (θ_run defs _ _).mono (fun r h c => ?_) (run_main m ρ)
  refine ((h c).2 main_v1 (by decide)).trans ?_
  have h5 := withArrays_arr spec0 (by decide) c (V0 m c) (fun w => (dats m 0 c).arrAt w cfg0.N) 2
  rw [final] at h5
  funext y
  obtain ⟨e, p, rfl⟩ : ∃ (e : Fin 1024) (p : Fin 3584), y = ix2 e p := ⟨y 0, y 1, eq_ix2 y⟩
  show StableHlo.after hostOps1 (withArrays spec0 c (V0 m c) fun w => (dats m 0 c).arrAt w cfg0.N) main_v1 _ = _
  after_results_simp
  pointwise []
  exact congrFun h5 (ix2 p e)

/-- The reference's result is the gradient. -/
theorem ref (H : S8192x1024.Idx → EReal) (Z : S8192x3584.Idx → EReal) :
    Cert.Reference14Ideal.Read.val_main_v6 (F := Ideal) H Z = grad H Z := by
  funext y
  obtain ⟨e, p, rfl⟩ : ∃ (e : Fin 1024) (p : Fin 3584), y = ix2 e p := ⟨y 0, y 1, eq_ix2 y⟩
  have h4 : Cert.Reference14Ideal.Read.val_main_v4 (F := Ideal) H Z (ix2 p e) = ∑ n : Fin 8192, Z (ix2 n p) * H (ix2 n e) := by
    pointwise [Cert.Reference14Ideal.Read.val_main_v4, Cert.Reference14Ideal.Read.val_main_v1, Cert.Reference14Ideal.Read.val_main_v0]
  have h6 : Cert.Reference14Ideal.Read.val_main_v6 (F := Ideal) H Z (ix2 e p)
      = Cert.Reference14Ideal.Read.val_main_v4 (F := Ideal) H Z (ix2 p e) := by
    pointwise [Cert.Reference14Ideal.Read.val_main_v6, Cert.Reference14Ideal.Read.val_main_v5]
  rw [h6, h4]
  rfl

/-- The kernel runs and leaves its arguments and the counters as they were; so it does over the extended reals, and so
    does the reference. -/
theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- From arguments that agree, the kernel's result and the reference's are the gradient of the weights. -/
theorem algebraic : Cert.algebraic_Kernel14Ideal_Reference14Ideal := by
  intro m ρ m' ρ' _ hagree
  refine ⟨fun c => grad (argH m c) (argZ m c), ?_, ?_⟩
  · exact (θ_run Cert.Kernel14Ideal.defs _ _).mono (fun r h c => ⟨h.1 c, h.2 c⟩)
      (θ_run_and (run m ρ) (Cert.Kernel14Ideal.Gen.unchanged m ρ))
  · refine (θ_run Cert.Reference14Ideal.defs _ _).mono (fun r h c => ?_) (Cert.Reference14Ideal.Value.run (F := Ideal) m' ρ')
    obtain ⟨a0, a1⟩ := hagree c
    refine ⟨(h c).1.trans ?_, (h c).2⟩
    rw [Cert.Reference14Ideal.Read.val_main_v6_eq, a0, a1]
    exact ref _ _

end Cert.MixInGrad
end
-- ==== Proof.MixInDx.lean ====
module

public import proofs.«01_k».proof.Defs
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.PureOps.Ideal
public import Idealize.ShloMosaic.Lib.Pointwise

/-! The gradient of the argument of the first mixer's input projection: the incoming gradient times the matrix,
    transposed by the host. Eight blocks of 1024 rows. -/

@[expose] public section
set_option maxRecDepth 16384

noncomputable section
namespace Cert.MixInDx
open Cert.Kernel15Ideal Cert.Kernel15Ideal.Gen Idealize.ShloMosaic Idealize.ShloMosaic.TcCoe Idealize.SL.Sem
open Idealize.ShloMosaic.Pipeline

/-- The gradient, at row `i` and column `e`. -/
def prod (U : S8192x3584.Idx → EReal) (W : S1024x3584.Idx → EReal) : S8192x1024.Idx → EReal := fun y =>
  ∑ k : Fin 3584, U (ix2 (y 0) k) * W (ix2 (y 1) k)

variable (m : (ℓ : Loc nD τ sig) → Buf (Elt Ideal) ℓ)

/-- The two arguments on a device. -/
def argU (c : Dev nD) : S8192x3584.Idx → EReal := m ((c : Thread nD τ).loc main_arg0)
def argW (c : Dev nD) : S1024x3584.Idx → EReal := m ((c : Thread nD τ).loc main_arg1)

/-- The prepared matrix is the transposed one. -/
theorem host1 (c : Dev nD) (k : Fin 3584) (e : Fin 1024) : V m c main_v1 (ix2 k e) = argW m c (ix2 e k) := by
  show StableHlo.after hostOps0 (fun b => m (c, b)) main_v1 _ = _
  after_results_simp
  pointwise []
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 3584) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 3584 + 1 * k.val = _; rw [hi.2]; simp

/-- The block of the right factor is the whole of it. -/
theorem blk1 (c : Dev nD) (t : Fin cfg0.N) (k : Fin 3584) (e : Fin 1024) :
    iblk m c 1 t (ix2 k e) = argW m c (ix2 e k) := by
  rw [← host1]
  unfold iblk
  rw [View.read_apply]
  have hi := index1 t
  refine congrArg (V m c main_v1) (funext fun a => Fin.ext ?_)
  match a with
  | ⟨0, _⟩ => show win0_1.index t 0 * 3584 + 1 * k.val = _; rw [hi.1]; simp
  | ⟨1, _⟩ => show win0_1.index t 1 * 1024 + 1 * e.val = _; rw [hi.2]; simp

/-- A block's product at an index. -/
theorem pay_apply (x : Vec Ideal S1024x3584 .bf16) (w : Vec Ideal S3584x1024 .bf16) (i e : Fin 1024) :
    k0_pay1 x w (ix2 i e) = ∑ k : Fin 3584, x (ix2 i k) * w (ix2 k e) := by
  pointwise [k0_pay1]

/-- What the body leaves in the output's buffer. -/
theorem out_apply (x : Vec Ideal S1024x3584 .bf16) (w : Vec Ideal S3584x1024 .bf16) (i e : Fin 1024) :
    out0_2 x w (ix2 i e) = ∑ k : Fin 3584, x (ix2 i k) * w (ix2 k e) := by
  unfold out0_2
  rw [View.canon_cons_unit_zero (by decide) inb_S1024x1024_S1024x1024_0_0,
    View.ld_unit_zero (by decide) inb_S1024x3584_S1024x3584_0_0 x, View.ld_unit_zero (by decide) inb_S3584x1024_S3584x1024_0_0 w, pay_apply]

theorem flushed (c : Dev nD) (t : Fin cfg0.N) :
    (dats m 0 c).flushed 2 t = ((View.whole main_v2).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x3584.Idx → EReal) (W : S1024x3584.Idx → EReal) :
    Cert.Reference15Ideal.Read.val_main_v4 (F := Ideal) U W = prod U W := by
  funext y
  obtain ⟨i, e, rfl⟩ : ∃ (i : Fin 8192) (e : Fin 1024), y = ix2 i e := ⟨y 0, y 1, eq_ix2 y⟩
  unfold prod
  pointwise [Cert.Reference15Ideal.Read.val_main_v4, Cert.Reference15Ideal.Read.val_main_v3, Cert.Reference15Ideal.Read.val_main_v0]

/-- The kernel runs and leaves its arguments and the counters as they were; so it does over the extended reals, and so
    does the reference. -/
theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- From arguments that agree, the kernel's result and the reference's are the product of the arguments. -/
theorem algebraic : Cert.algebraic_Kernel15Ideal_Reference15Ideal := by
  intro m ρ m' ρ' _ hagree
  refine ⟨fun c => prod (argU m c) (argW m c), ?_, ?_⟩
  · refine (θ_run Cert.Kernel15Ideal.defs _ _).mono (fun r h c => ?_) (Cert.Kernel15Ideal.Value.run_blocks m ρ)
    exact ⟨(h c).1.trans (final m c), (h c).2⟩
  · refine (θ_run Cert.Reference15Ideal.defs _ _).mono (fun r h c => ?_) (Cert.Reference15Ideal.Value.run (F := Ideal) m' ρ')
    obtain ⟨a0, a1⟩ := hagree c
    refine ⟨(h c).1.trans ?_, (h c).2⟩
    rw [Cert.Reference15Ideal.Read.val_main_v4_eq, a0, a1]
    exact ref _ _

end Cert.MixInDx
end
-- ==== Proof.MixOutDx.lean ====
module

public import proofs.«01_k».proof.Defs
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.PureOps.Ideal
public import Idealize.ShloMosaic.Lib.Pointwise

/-! The gradient of the argument of the output projection of the first mixer: the incoming gradient times the matrix,
    transposed, kept in float32. Eight blocks of 1024 rows. -/

@[expose] public section
set_option maxRecDepth 16384

noncomputable section
namespace Cert.MixOutDx
open Cert.Kernel16Ideal Cert.Kernel16Ideal.Gen Idealize.ShloMosaic Idealize.ShloMosaic.TcCoe Idealize.SL.Sem
open Idealize.ShloMosaic.Pipeline

/-- The product, at row `i` and column `e`. -/
def prod (U : S8192x1024.Idx → EReal) (W : S1024x1024.Idx → EReal) : S8192x1024.Idx → EReal := fun y =>
  ∑ k : Fin 1024, U (ix2 (y 0) k) * W (ix2 (y 1) k)

variable (m : (ℓ : Loc nD τ sig) → Buf (Elt Ideal) ℓ)

/-- The two arguments on a device. -/
def argU (c : Dev nD) : S8192x1024.Idx → EReal := m ((c : Thread nD τ).loc main_arg0)
def argW (c : Dev nD) : S1024x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 1024) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 1024 + 1 * k.val = _; rw [hi.2]; simp

/-- The block of the right factor is the whole of it. -/
theorem blk1 (c : Dev nD) (t : Fin cfg0.N) (k : Fin 1024) (e : Fin 1024) :
    iblk m c 1 t (ix2 k e) = argW m c (ix2 k e) := by
  unfold iblk
  rw [View.read_apply]
  show V m c main_v0 _ = _
  after_results_simp
  have hi := index1 t
  refine congrArg (m ((c : Thread nD τ).loc main_arg1)) (funext fun a => Fin.ext ?_)
  match a with
  | ⟨0, _⟩ => show win0_1.index t 0 * 1024 + 1 * k.val = _; rw [hi.1]; simp
  | ⟨1, _⟩ => show win0_1.index t 1 * 1024 + 1 * e.val = _; rw [hi.2]; simp

/-- A block's product at an index. -/
theorem pay_apply (x : Vec Ideal S1024x1024 .bf16) (w : Vec Ideal S1024x1024 .bf16) (i e : Fin 1024) :
    k0_pay1 x w (ix2 i e) = ∑ k : Fin 1024, x (ix2 i k) * w (ix2 e k) := by
  pointwise [k0_pay1]

/-- What the body leaves in the output's buffer. -/
theorem out_apply (x : Vec Ideal S1024x1024 .bf16) (w : Vec Ideal S1024x1024 .bf16) (i e : Fin 1024) :
    out0_2 x w (ix2 i e) = ∑ k : Fin 1024, x (ix2 i k) * w (ix2 e k) := by
  unfold out0_2
  rw [View.canon_cons_unit_zero (by decide) inb_S1024x1024_S1024x1024_0_0,
    View.ld_unit_zero (by decide) inb_S1024x1024_S1024x1024_0_0 x, View.ld_unit_zero (by decide) inb_S1024x1024_S1024x1024_0_0 w, pay_apply]

theorem flushed (c : Dev nD) (t : Fin cfg0.N) :
    (dats m 0 c).flushed 2 t = ((View.whole main_v1).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x1024.Idx → EReal) (W : S1024x1024.Idx → EReal) :
    Cert.Reference16Ideal.Read.val_main_v3 (F := Ideal) U W = prod U W := by
  funext y
  obtain ⟨i, e, rfl⟩ : ∃ (i : Fin 8192) (e : Fin 1024), y = ix2 i e := ⟨y 0, y 1, eq_ix2 y⟩
  unfold prod
  pointwise [Cert.Reference16Ideal.Read.val_main_v3, Cert.Reference16Ideal.Read.val_main_v0]

/-- The kernel runs and leaves its arguments and the counters as they were; so it does over the extended reals, and so
    does the reference. -/
theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- From arguments that agree, the kernel's result and the reference's are the product of the arguments. -/
theorem algebraic : Cert.algebraic_Kernel16Ideal_Reference16Ideal := by
  intro m ρ m' ρ' _ hagree
  refine ⟨fun c => prod (argU m c) (argW m c), ?_, ?_⟩
  · refine (θ_run Cert.Kernel16Ideal.defs _ _).mono (fun r h c => ?_) (Cert.Kernel16Ideal.Value.run_blocks m ρ)
    exact ⟨(h c).1.trans (final m c), (h c).2⟩
  · refine (θ_run Cert.Reference16Ideal.defs _ _).mono (fun r h c => ?_) (Cert.Reference16Ideal.Value.run (F := Ideal) m' ρ')
    obtain ⟨a0, a1⟩ := hagree c
    refine ⟨(h c).1.trans ?_, (h c).2⟩
    rw [Cert.Reference16Ideal.Read.val_main_v3_eq, a0, a1]
    exact ref _ _

end Cert.MixOutDx
end
-- ==== Proof.GluIn.lean ====
module

public import proofs.«01_k».proof.Defs
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Sigmoid
public import Idealize.ShloMosaic.PureOps.Ideal
public import Idealize.ShloMosaic.Lib.Pointwise
public import Idealize.ShloMosaic.Lib.Pipeline.ValueKit.Tiles
public import Idealize.ShloMosaic.Lib.Pipeline.ReadBack

/-! The second mixer's projection with its gate: the first half of the projected columns times the logistic function of
    the second half. Each of the kernel's eight blocks holds 1024 rows and all 2048 projected columns. The block's product
    is stored in two parts of 512 rows, and so are its gated columns. The host's interleaving of the matrix's rows is over
    one block of 1024 rows and leaves them in place. -/

@[expose] public section
set_option maxRecDepth 16384

noncomputable section
namespace Cert.GluIn
open Cert.Kernel17Ideal Cert.Kernel17Ideal.Gen Idealize.ShloMosaic Idealize.ShloMosaic.TcCoe Idealize.SL.Sem
open Idealize.ShloMosaic.Pipeline Cert.Ffn

/-- The projected columns, at row `n` and column `p`. -/
def inner (H : S8192x1024.Idx → EReal) (W : S1024x2048.Idx → EReal) : S8192x2048.Idx → EReal := fun y =>
  ∑ e : Fin 1024, H (ix2 (y 0) e) * W (ix2 e (y 1))

/-- A value `a` times the logistic function of the gate `b`. -/
def gate (a b : EReal) : EReal := a * sig b

/-- The gated columns. -/
def act (H : S8192x1024.Idx → EReal) (W : S1024x2048.Idx → EReal) : S8192x1024.Idx → EReal := fun y =>
  gate (inner H W (ix2 (y 0) ⟨(y 1).val, by have h : (y 1).val < 1024 := (y 1).isLt; omega⟩))
    (inner H W (ix2 (y 0) ⟨1024 + (y 1).val, by have h : (y 1).val < 1024 := (y 1).isLt; omega⟩))

/-- A block's product: rows of the input `x` times rows of the prepared weights `w`. -/
def blkZ (x : Vec Ideal S1024x1024 .f32) (w : Vec Ideal S2048x1024 .bf16) (i : Fin 1024) (r : Fin 2048) : EReal :=
  ∑ e : Fin 1024, x (ix2 i e) * w (ix2 r e)

/-- A block's gated columns. -/
def blkU (x : Vec Ideal S1024x1024 .f32) (w : Vec Ideal S2048x1024 .bf16) (i : Fin 1024) (q : Fin 1024) : EReal :=
  gate (blkZ x w i ⟨q.val, by omega⟩) (blkZ x w i ⟨1024 + q.val, by omega⟩)

/-- Both as arrays. -/
def arrZ (x : Vec Ideal S1024x1024 .f32) (w : Vec Ideal S2048x1024 .bf16) : Vec Ideal S1024x2048 .bf16 := fun y =>
  blkZ x w (y 0) (y 1)
def arrU (x : Vec Ideal S1024x1024 .f32) (w : Vec Ideal S2048x1024 .bf16) : Vec Ideal S1024x1024 .bf16 := fun y =>
  blkU x w (y 0) (y 1)

section Body
variable (x : Vec Ideal S1024x1024 .f32) (w : Vec Ideal S2048x1024 .bf16)

/-- The product of 512 rows. -/
theorem pay3_apply (v : Vec Ideal S512x1024 .f32) (i : Fin 512) (r : Fin 2048) :
    k0_pay3 w v (ix2 i r) = ∑ e : Fin 1024, v (ix2 i e) * w (ix2 r e) := by
  pointwise [k0_pay3, k0_pay2]

theorem pay4_apply (v : Vec Ideal S512x1024 .f32) (i : Fin 512) (r : Fin 2048) :
    k0_pay4 w v (ix2 i r) = ∑ e : Fin 1024, v (ix2 i e) * w (ix2 r e) := by
  pointwise [k0_pay4, k0_pay2]

theorem pay5_apply (v : Vec Ideal S512x1024 .f32) (i : Fin 512) (r : Fin 2048) :
    k0_pay5 w v (ix2 i r) = k0_pay3 w v (ix2 i r) := by
  pointwise [k0_pay5]

theorem pay7_apply (v : Vec Ideal S512x1024 .f32) (i : Fin 512) (r : Fin 2048) :
    k0_pay7 w v (ix2 i r) = k0_pay4 w v (ix2 i r) := by
  pointwise [k0_pay7]

/-- The gated columns of 512 rows. -/
theorem pay6_apply (v : Vec Ideal S512x1024 .f32) (i : Fin 512) (q : Fin 1024) :
    k0_pay6 w v (ix2 i q)
      = gate (k0_pay3 w v (ix2 i ⟨q.val, by omega⟩)) (k0_pay3 w v (ix2 i ⟨1024 + q.val, by omega⟩)) := by
  unfold gate
  rw [← sig_kernel]
  unfold half
  pointwise [k0_pay6]

theorem pay8_apply (v : Vec Ideal S512x1024 .f32) (i : Fin 512) (q : Fin 1024) :
    k0_pay1 (k0_pay8 w v) (ix2 i q)
      = gate (k0_pay4 w v (ix2 i ⟨q.val, by omega⟩)) (k0_pay4 w v (ix2 i ⟨1024 + q.val, by omega⟩)) := by
  unfold gate
  rw [← sig_kernel]
  unfold half
  pointwise [k0_pay1, k0_pay8]

/-- A load of the whole block of weights, and loads of 512 rows of the input's block. -/
theorem ld_w : View.ld w r0_0 = w := View.ld_unit_zero (by decide) inb_S2048x1024_S2048x1024_0_0 w

theorem ld_low (i : Fin 512) (e : Fin 1024) : View.ld x r0_1 (ix2 i e) = x (ix2 ⟨0 + i.val, by omega⟩ e) := by
  refine View.ld_unit_apply_of x _ _ inb_S1024x1024_S512x1024_0_0 _ _ fun a => ?_
  match a with
  | ⟨0, _⟩ => rfl
  | ⟨1, _⟩ => exact (Nat.zero_add _).symm

theorem ld_high (i : Fin 512) (e : Fin 1024) : View.ld x r0_2 (ix2 i e) = x (ix2 ⟨512 + i.val, by omega⟩ e) := by
  refine View.ld_unit_apply_of x _ _ inb_S1024x1024_S512x1024_512_0 _ _ fun a => ?_
  match a with
  | ⟨0, _⟩ => rfl
  | ⟨1, _⟩ => exact (Nat.zero_add _).symm

theorem emb_low (i : Fin 512) (r : Fin 2048) : r0_3.emb (ix2 i r) = ix2 (⟨0 + i.val, by omega⟩ : Fin 1024) r :=
  Rect.emb_eq_of_coords _ _ _ fun a => by
    match a with
    | ⟨0, _⟩ => show 0 + i.val = 0 + 1 * i.val; omega
    | ⟨1, _⟩ => show r.val = 0 + 1 * r.val; omega

theorem emb_high (i : Fin 512) (r : Fin 2048) : r0_4.emb (ix2 i r) = ix2 (⟨512 + i.val, by omega⟩ : Fin 1024) r :=
  Rect.emb_eq_of_coords _ _ _ fun a => by
    match a with
    | ⟨0, _⟩ => show 512 + i.val = 512 + 1 * i.val; omega
    | ⟨1, _⟩ => show r.val = 0 + 1 * r.val; omega

theorem emb_low' (i : Fin 512) (q : Fin 1024) : r0_1.emb (ix2 i q) = ix2 (⟨0 + i.val, by omega⟩ : Fin 1024) q :=
  Rect.emb_eq_of_coords _ _ _ fun a => by
    match a with
    | ⟨0, _⟩ => show 0 + i.val = 0 + 1 * i.val; omega
    | ⟨1, _⟩ => show q.val = 0 + 1 * q.val; omega

theorem emb_high' (i : Fin 512) (q : Fin 1024) : r0_2.emb (ix2 i q) = ix2 (⟨512 + i.val, by omega⟩ : Fin 1024) q :=
  Rect.emb_eq_of_coords _ _ _ fun a => by
    match a with
    | ⟨0, _⟩ => show 512 + i.val = 512 + 1 * i.val; omega
    | ⟨1, _⟩ => show q.val = 0 + 1 * q.val; omega

/-- The four stores' values: a part's product, and its gated columns. -/
theorem piece_low (i : Fin 512) (r : Fin 2048) : k0_pay3 w (View.ld x r0_1) (ix2 i r) = blkZ x w ⟨0 + i.val, by omega⟩ r :=
  (pay3_apply w _ i r).trans (Finset.sum_congr rfl fun e _ => congrArg (· * w (ix2 r e)) (ld_low x i e))

theorem piece_high (i : Fin 512) (r : Fin 2048) :
    k0_pay4 w (View.ld x r0_2) (ix2 i r) = blkZ x w ⟨512 + i.val, by omega⟩ r :=
  (pay4_apply w _ i r).trans (Finset.sum_congr rfl fun e _ => congrArg (· * w (ix2 r e)) (ld_high x i e))

theorem piece_low' (i : Fin 512) (q : Fin 1024) :
    k0_pay6 w (View.ld x r0_1) (ix2 i q) = blkU x w ⟨0 + i.val, by omega⟩ q :=
  (pay6_apply w _ i q).trans (congrArg₂ gate (piece_low x w i _) (piece_low x w i _))

theorem piece_high' (i : Fin 512) (q : Fin 1024) :
    k0_pay1 (k0_pay8 w (View.ld x r0_2)) (ix2 i q) = blkU x w ⟨512 + i.val, by omega⟩ q :=
  (pay8_apply w _ i q).trans (congrArg₂ gate (piece_high x w i _) (piece_high x w i _))

/-- What the body leaves in the product's buffer. -/
theorem out2_eq : out0_2 x w = arrZ x w := by
  unfold out0_2
  rw [ld_w]
  refine funext fun y => View.canon_apply_of_pieces (arrZ x w) _ (View.PiecesOf.mem ?_) y (cover0_2 (F := Ideal) _ _ y)
  refine ⟨fun z => ?_, fun z => ?_, trivial⟩
  · obtain ⟨i, r, rfl⟩ : ∃ (i : Fin 512) (r : Fin 2048), z = ix2 i r := ⟨z 0, z 1, eq_ix2 z⟩
    rw [emb_high]
    exact (pay7_apply w _ i r).trans (piece_high x w i r)
  · obtain ⟨i, r, rfl⟩ : ∃ (i : Fin 512) (r : Fin 2048), z = ix2 i r := ⟨z 0, z 1, eq_ix2 z⟩
    rw [emb_low]
    exact (pay5_apply w _ i r).trans (piece_low x w i r)

/-- What the body leaves in the gated columns' buffer. -/
theorem out3_eq : out0_3 x w = arrU x w := by
  unfold out0_3
  rw [ld_w]
  refine funext fun y => View.canon_apply_of_pieces (arrU x w) _ (View.PiecesOf.mem ?_) y (cover0_3 (F := Ideal) _ _ y)
  refine ⟨fun z => ?_, fun z => ?_, trivial⟩
  · obtain ⟨i, q, rfl⟩ : ∃ (i : Fin 512) (q : Fin 1024), z = ix2 i q := ⟨z 0, z 1, eq_ix2 z⟩
    rw [emb_high']
    exact piece_high' x w i q
  · obtain ⟨i, q, rfl⟩ : ∃ (i : Fin 512) (q : Fin 1024), z = ix2 i q := ⟨z 0, z 1, eq_ix2 z⟩
    rw [emb_low']
    exact piece_low' x w i q

theorem out2_apply (i : Fin 1024) (r : Fin 2048) : out0_2 x w (ix2 i r) = blkZ x w i r := congrFun (out2_eq x w) (ix2 i r)
theorem out3_apply (i : Fin 1024) (q : Fin 1024) : out0_3 x w (ix2 i q) = blkU x w i q := congrFun (out3_eq x w) (ix2 i q)

end Body

variable (m : (ℓ : Loc nD τ sig) → Buf (Elt Ideal) ℓ)

/-- The two arguments on a device. -/
def argH (c : Dev nD) : S8192x1024.Idx → EReal := m ((c : Thread nD τ).loc main_arg0)
def argW (c : Dev nD) : S1024x2048.Idx → EReal := m ((c : Thread nD τ).loc main_arg1)

/-- The prepared weights are the transposed ones. -/
theorem host1 (c : Dev nD) (p : Fin 2048) (e : Fin 1024) : V m c main_v4 (ix2 p e) = argW m c (ix2 e p) := by
  show StableHlo.after hostOps0 (fun b => m (c, b)) main_v4 _ = _
  after_results_simp
  pointwise []
  exact congrArg (fun p => argW m c (ix2 e p)) (Fin.ext (Nat.div_add_mod' p.val 1024))

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- A grid point by its block of rows. -/
def pt (b : Fin 8) : Fin cfg0.N := ⟨b.val, by rw [show cfg0.N = 8 from N_0]; exact b.isLt⟩

theorem exists_pt (t : Fin cfg0.N) : ∃ b, t = pt b := ⟨⟨t.val, lt_of_lt_of_eq t.isLt N_0⟩, rfl⟩

theorem blk0 (c : Dev nD) (b : Fin 8) (i : Fin 1024) (e : Fin 1024) :
    iblk m c 0 (pt b) (ix2 i e) = argH m c (ix2 ⟨b.val * 1024 + i.val, by omega⟩ e) := by
  unfold iblk
  rw [View.read_apply]
  show V m c main_arg0 _ = _
  rw [V_main_arg0]
  have hi := index0 (pt b)
  refine congrArg _ (funext fun a => Fin.ext ?_)
  match a with
  | ⟨0, _⟩ => show win0_0.index (pt b) 0 * 1024 + 1 * i.val = _; rw [hi.1]; simp [pt]
  | ⟨1, _⟩ => show win0_0.index (pt b) 1 * 1024 + 1 * e.val = _; rw [hi.2]; simp

theorem blk1 (c : Dev nD) (b : Fin 8) (r : Fin 2048) (e : Fin 1024) :
    iblk m c 1 (pt b) (ix2 r e) = argW m c (ix2 e r) := by
  rw [← host1]
  unfold iblk
  rw [View.read_apply]
  have hi := index1 (pt b)
  refine congrArg (V m c main_v4) (funext fun a => Fin.ext ?_)
  match a with
  | ⟨0, _⟩ => show win0_1.index (pt b) 0 * 2048 + 1 * r.val = _; rw [hi.1]; simp
  | ⟨1, _⟩ => show win0_1.index (pt b) 1 * 1024 + 1 * e.val = _; rw [hi.2]; simp

/-- A block's product is its place of the projected columns. -/
theorem blkZ_eq (c : Dev nD) (b : Fin 8) (i : Fin 1024) (r : Fin 2048) :
    blkZ (iblk m c 0 (pt b)) (iblk m c 1 (pt b)) i r
      = inner (argH m c) (argW m c) (ix2 ⟨b.val * 1024 + i.val, by omega⟩ r) := by
  unfold blkZ
  simp only [blk0, blk1]
  rfl

theorem blkU_eq (c : Dev nD) (b : Fin 8) (i : Fin 1024) (q : Fin 1024) :
    blkU (iblk m c 0 (pt b)) (iblk m c 1 (pt b)) i q
      = act (argH m c) (argW m c) (ix2 ⟨b.val * 1024 + i.val, by omega⟩ q) := by
  unfold blkU
  rw [blkZ_eq, blkZ_eq]
  rfl

theorem flushed2 (c : Dev nD) (t : Fin cfg0.N) :
    (dats m 0 c).flushed 2 t = ((cfg0.win 2).blk t).view.read (Elt Ideal) (inner (argH m c) (argW m c)) := by
  obtain ⟨b, rfl⟩ := exists_pt t
  show (cfg0.win 2).cut (grid0.coords _) ((dats m 0 c).after 2 _) = _
  rw [after0_2]
  funext j
  rw [View.read_apply]
  obtain ⟨i, r, rfl⟩ : ∃ (i : Fin 1024) (r : Fin 2048), j = ix2 i r := ⟨j 0, j 1, eq_ix2 j⟩
  refine (out2_apply _ _ i r).trans ((blkZ_eq m c b i r).trans ?_)
  have hi := index2 (pt b)
  refine congrArg (inner (argH m c) (argW m c)) (a₁ := ix2 ⟨b.val * 1024 + i.val, by omega⟩ r) (funext fun a => Fin.ext ?_)
  match a with
  | ⟨0, _⟩ => show b.val * 1024 + i.val = win0_2.index (pt b) 0 * 1024 + 1 * i.val; rw [hi.1]; simp [pt]
  | ⟨1, _⟩ => show r.val = win0_2.index (pt b) 1 * 2048 + 1 * r.val; rw [hi.2]; omega

theorem flushed3 (c : Dev nD) (t : Fin cfg0.N) :
    (dats m 0 c).flushed 3 t = ((cfg0.win 3).blk t).view.read (Elt Ideal) (act (argH m c) (argW m c)) := by
  obtain ⟨b, rfl⟩ := exists_pt t
  show (cfg0.win 3).cut (grid0.coords _) ((dats m 0 c).after 3 _) = _
  rw [after0_3]
  funext j
  rw [View.read_apply]
  obtain ⟨i, q, rfl⟩ : ∃ (i : Fin 1024) (q : Fin 1024), j = ix2 i q := ⟨j 0, j 1, eq_ix2 j⟩
  refine (out3_apply _ _ i q).trans ((blkU_eq m c b i q).trans ?_)
  have hi := index3 (pt b)
  refine congrArg (act (argH m c) (argW m c)) (a₁ := ix2 ⟨b.val * 1024 + i.val, by omega⟩ q) (funext fun a => Fin.ext ?_)
  match a with
  | ⟨0, _⟩ => show b.val * 1024 + i.val = win0_3.index (pt b) 0 * 1024 + 1 * i.val; rw [hi.1]; simp [pt]
  | ⟨1, _⟩ => show q.val = win0_3.index (pt b) 1 * 1024 + 1 * q.val; rw [hi.2]; omega

/-- The array of products that the kernel writes. -/
theorem final2 (c : Dev nD) : (dats m 0 c).arrAt 2 cfg0.N = inner (argH m c) (argW m c) :=
  (dats m 0 c).arrAt_eq_of_cover 2 (inner (argH m c) (argW m c)) (fun t _ => flushed2 m c t) fun i => by
    have h0 : (i 0 : Nat) < 8192 := (i 0).isLt
    have h1 : (i 1 : Nat) < 2048 := (i 1).isLt
    let b : Fin 8 := ⟨(i 0).val / 1024, by omega⟩
    refine ⟨pt b, flush0_2 _, ?_⟩
    have hi := index2 (pt b)
    have hb : (pt b).val = (i 0).val / 1024 := rfl
    show i ∈ ((View.whole main_v5_0).slice (win0_2.rect (pt b))).set
    rw [View.set_slice_whole, Rect.mem_set_unit]
    intro a
    match a with
    | ⟨0, _⟩ =>
      show win0_2.index (pt b) 0 * 1024 ≤ (i 0 : Nat) ∧ (i 0 : Nat) < win0_2.index (pt b) 0 * 1024 + 1024
      rw [hi.1, hb]; omega
    | ⟨1, _⟩ =>
      show win0_2.index (pt b) 1 * 2048 ≤ (i 1 : Nat) ∧ (i 1 : Nat) < win0_2.index (pt b) 1 * 2048 + 2048
      rw [hi.2]; omega

/-- The array of gated columns that the kernel writes. -/
theorem final3 (c : Dev nD) : (dats m 0 c).arrAt 3 cfg0.N = act (argH m c) (argW m c) :=
  (dats m 0 c).arrAt_eq_of_cover 3 (act (argH m c) (argW m c)) (fun t _ => flushed3 m c t) fun i => by
    have h0 : (i 0 : Nat) < 8192 := (i 0).isLt
    have h1 : (i 1 : Nat) < 1024 := (i 1).isLt
    let b : Fin 8 := ⟨(i 0).val / 1024, by omega⟩
    refine ⟨pt b, flush0_3 _, ?_⟩
    have hi := index3 (pt b)
    have hb : (pt b).val = (i 0).val / 1024 := rfl
    show i ∈ ((View.whole main_v5_1).slice (win0_3.rect (pt b))).set
    rw [View.set_slice_whole, Rect.mem_set_unit]
    intro a
    match a with
    | ⟨0, _⟩ =>
      show win0_3.index (pt b) 0 * 1024 ≤ (i 0 : Nat) ∧ (i 0 : Nat) < win0_3.index (pt b) 0 * 1024 + 1024
      rw [hi.1, hb]; omega
    | ⟨1, _⟩ =>
      show win0_3.index (pt b) 1 * 1024 ≤ (i 1 : Nat) ∧ (i 1 : Nat) < win0_3.index (pt b) 1 * 1024 + 1024
      rw [hi.2]; omega

/-- The reference's results are the projected columns and the gated ones. -/
theorem ref_inner0 (H : S8192x1024.Idx → EReal) (W : S1024x2048.Idx → EReal) :
    Cert.Reference17Ideal.Read.val_main_v0 (F := Ideal) H W = inner H W := by
  funext y
  obtain ⟨n, p, rfl⟩ : ∃ (n : Fin 8192) (p : Fin 2048), y = ix2 n p := ⟨y 0, y 1, eq_ix2 y⟩
  unfold inner
  pointwise [Cert.Reference17Ideal.Read.val_main_v0]

theorem ref_inner (H : S8192x1024.Idx → EReal) (W : S1024x2048.Idx → EReal) :
    Cert.Reference17Ideal.Read.val_main_v1 (F := Ideal) H W = inner H W := by
  rw [← ref_inner0]
  funext y
  pointwise [Cert.Reference17Ideal.Read.val_main_v1]

theorem ref_act (H : S8192x1024.Idx → EReal) (W : S1024x2048.Idx → EReal) :
    Cert.Reference17Ideal.Read.val_main_v11 (F := Ideal) H W = act H W := by
  funext y
  obtain ⟨n, q, rfl⟩ : ∃ (n : Fin 8192) (q : Fin 1024), y = ix2 n q := ⟨y 0, y 1, eq_ix2 y⟩
  unfold act gate Cert.Ffn.sig
  rw [← ref_inner0]
  pointwise [Cert.Reference17Ideal.Read.val_main_v11, Cert.Reference17Ideal.Read.val_main_v10,
    Cert.Reference17Ideal.Read.val_main_v9, Cert.Reference17Ideal.Read.val_main_v8, Cert.Reference17Ideal.Read.val_main_cst_0,
    Cert.Reference17Ideal.Read.val_main_v7, Cert.Reference17Ideal.Read.val_main_v6, Cert.Reference17Ideal.Read.val_main_cst,
    Cert.Reference17Ideal.Read.val_main_v5, Cert.Reference17Ideal.Read.val_main_v4, Cert.Reference17Ideal.Read.val_main_v3,
    Cert.Reference17Ideal.Read.val_main_v2]

/-- The kernel runs and leaves its arguments and the counters as they were; so it does over the extended reals, and so
    does the reference. -/
theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

/-- From arguments that agree, the kernel's results and the reference's are the projected columns and the gated ones. -/
theorem algebraic : Cert.algebraic_Kernel17Ideal_Reference17Ideal := by
  intro m ρ m' ρ' _ hagree
  refine ⟨fun c => inner (argH m c) (argW m c), fun c => act (argH m c) (argW m c), ?_, ?_⟩
  · refine (θ_run Cert.Kernel17Ideal.defs _ _).mono (fun r h c => ?_) (Cert.Kernel17Ideal.Value.run_blocks m ρ)
    exact ⟨(h c).1.trans (final2 m c), (h c).2.1.trans (final3 m c), (h c).2.2⟩
  · refine (θ_run Cert.Reference17Ideal.defs _ _).mono (fun r h c => ?_) (Cert.Reference17Ideal.Value.run (F := Ideal) m' ρ')
    obtain ⟨a0, a1⟩ := hagree c
    refine ⟨(h c).1.trans ?_, (h c).2.1.trans ?_, (h c).2.2⟩
    · rw [Cert.Reference17Ideal.Read.val_main_v1_eq, a0, a1]
      exact ref_inner _ _
    · rw [Cert.Reference17Ideal.Read.val_main_v11_eq, a0, a1]
      exact ref_act _ _

end Cert.GluIn
end
-- ==== Proof.GluGate.lean ====
module

public import proofs.«01_k».proof.Defs
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Sigmoid
public import Idealize.ShloMosaic.Lib.KernelVsHost
public import Idealize.ShloMosaic.PureOps.Ideal
public import Idealize.ShloMosaic.Lib.Pointwise
public import Idealize.ShloMosaic.Lib.Pipeline.ValueKit.Tiles
public import Idealize.ShloMosaic.Lib.Pipeline.ReadBack

/-! The gradient of the second mixer's projected columns through its gate: the gated column is a value, a column of the
    first half, times the logistic function of its gate, the column beside it in the second half. Sixteen blocks of 512
    rows; the two halves of a block are stored one after the other. -/

@[expose] public section
set_option maxRecDepth 16384

noncomputable section
namespace Cert.GluGate
open Cert.Kernel18Ideal Cert.Kernel18Ideal.Gen Idealize.ShloMosaic Idealize.ShloMosaic.TcCoe Idealize.SL.Sem
open Idealize.ShloMosaic.Pipeline Cert.Ffn

/-- The gradient of a value whose gate is `b`, and of the gate `b` of a value `a`, from the gradient `d` of the gated
    column. -/
def toValue (d b : EReal) : EReal := d * sig b
def toGate (d a b : EReal) : EReal := d * a * sig b * (1 - sig b)

theorem toGate_congr {d d' a a' b b' : EReal} (hd : d = d') (ha : a = a') (hb : b = b') : toGate d a b = toGate d' a' b' := by
  rw [hd, ha, hb]

/-- The gradient of the projected columns of any number of rows: value columns first. -/
def halves {N : Nat} (Z : (⟨2, ![N, 2048]⟩ : Shape).Idx → EReal) (D : (⟨2, ![N, 1024]⟩ : Shape).Idx → EReal) (n : Fin N)
    (p : Fin 2048) : EReal :=
  if h : p.val < 1024 then toValue (D (ix2 n ⟨p.val, h⟩)) (Z (ix2 n ⟨1024 + p.val, by omega⟩))
  else toGate (D (ix2 n ⟨p.val - 1024, by omega⟩)) (Z (ix2 n ⟨p.val - 1024, by omega⟩)) (Z (ix2 n p))

section Halves
variable {N : Nat} (Z : (⟨2, ![N, 2048]⟩ : Shape).Idx → EReal) (D : (⟨2, ![N, 1024]⟩ : Shape).Idx → EReal)

theorem halves_value (n : Fin N) (q : Fin 1024) :
    halves Z D n ⟨q.val, by omega⟩ = toValue (D (ix2 n q)) (Z (ix2 n ⟨1024 + q.val, by omega⟩)) := dif_pos q.isLt

theorem halves_gate (n : Fin N) (q : Fin 1024) :
    halves Z D n ⟨1024 + q.val, by omega⟩
      = toGate (D (ix2 n q)) (Z (ix2 n ⟨q.val, by omega⟩)) (Z (ix2 n ⟨1024 + q.val, by omega⟩)) := by
  refine (dif_neg (show ¬(1024 + q.val < 1024) by omega)).trans ?_
  have e : (1024 + q.val) - 1024 = q.val := by omega
  exact toGate_congr (congrArg (fun p => D (ix2 n p)) (Fin.ext e)) (congrArg (fun p => Z (ix2 n p)) (Fin.ext e)) rfl

end Halves

/-- The gradient of the projected columns. -/
def grad (Z : S8192x2048.Idx → EReal) (D : S8192x1024.Idx → EReal) : S8192x2048.Idx → EReal := fun y => halves Z D (y 0) (y 1)

section Body
variable (z : Vec Ideal S512x2048 .bf16) (d : Vec Ideal S512x1024 .bf16)

/-- A block of it. -/
def arr : Vec Ideal S512x2048 .bf16 := fun y => halves z d (y 0) (y 1)

/-- The two stores' values. -/
theorem pay3_apply (b e : Vec Ideal S512x1024 .bf16) (i : Fin 512) (q : Fin 1024) :
    k0_pay3 b e (ix2 i q) = toValue (e (ix2 i q)) (b (ix2 i q)) := by
  unfold toValue
  rw [← sig_kernel]
  unfold half
  pointwise [k0_pay3, k0_pay2, k0_pay1]

theorem pay4_apply (a b e : Vec Ideal S512x1024 .bf16) (i : Fin 512) (q : Fin 1024) :
    k0_pay4 a b e (ix2 i q) = toGate (e (ix2 i q)) (a (ix2 i q)) (b (ix2 i q)) := by
  unfold toGate
  rw [← sig_kernel]
  unfold half
  pointwise [k0_pay4, k0_pay2, k0_pay1]

/-- The loads: the value columns, the gate columns, and the whole block of the gradient. -/
theorem ld_value (i : Fin 512) (q : Fin 1024) : View.ld z r0_0 (ix2 i q) = z (ix2 i ⟨q.val, by omega⟩) := by
  refine View.ld_unit_apply_of z _ _ inb_S512x2048_S512x1024_0_0 _ _ fun a => ?_
  match a with
  | ⟨0, _⟩ => exact (Nat.zero_add _).symm
  | ⟨1, _⟩ => exact (Nat.zero_add _).symm

theorem ld_gate (i : Fin 512) (q : Fin 1024) : View.ld z r0_1 (ix2 i q) = z (ix2 i ⟨1024 + q.val, by omega⟩) := by
  refine View.ld_unit_apply_of z _ _ inb_S512x2048_S512x1024_0_1024 _ _ fun a => ?_
  match a with
  | ⟨0, _⟩ => exact (Nat.zero_add _).symm
  | ⟨1, _⟩ => rfl

theorem ld_d : View.ld d r0_2 = d := View.ld_unit_zero (by decide) inb_S512x1024_S512x1024_0_0 d

theorem emb_value (i : Fin 512) (q : Fin 1024) : r0_0.emb (ix2 i q) = ix2 i (⟨q.val, by omega⟩ : Fin 2048) :=
  Rect.emb_eq_of_coords _ _ _ fun a => by
    match a with
    | ⟨0, _⟩ => show i.val = 0 + 1 * i.val; omega
    | ⟨1, _⟩ => show q.val = 0 + 1 * q.val; omega

theorem emb_gate (i : Fin 512) (q : Fin 1024) : r0_1.emb (ix2 i q) = ix2 i (⟨1024 + q.val, by omega⟩ : Fin 2048) :=
  Rect.emb_eq_of_coords _ _ _ fun a => by
    match a with
    | ⟨0, _⟩ => show i.val = 0 + 1 * i.val; omega
    | ⟨1, _⟩ => show 1024 + q.val = 1024 + 1 * q.val; omega

/-- What the body leaves in the result's buffer. -/
theorem out2_eq : out0_2 z d = arr z d := by
  unfold out0_2
  rw [ld_d]
  refine funext fun y => View.canon_apply_of_pieces (arr z d) _ (View.PiecesOf.mem ?_) y (cover0_2 (F := Ideal) _ _ y)
  refine ⟨fun p => ?_, fun p => ?_, trivial⟩
  · obtain ⟨i, q, rfl⟩ : ∃ (i : Fin 512) (q : Fin 1024), p = ix2 i q := ⟨p 0, p 1, eq_ix2 p⟩
    rw [emb_gate]
    exact (pay4_apply _ _ d i q).trans ((toGate_congr rfl (ld_value z i q) (ld_gate z i q)).trans (halves_gate z d i q).symm)
  · obtain ⟨i, q, rfl⟩ : ∃ (i : Fin 512) (q : Fin 1024), p = ix2 i q := ⟨p 0, p 1, eq_ix2 p⟩
    rw [emb_value]
    exact (pay3_apply _ d i q).trans ((congrArg (toValue _) (ld_gate z i q)).trans (halves_value z d i q).symm)

end Body

variable (m : (ℓ : Loc nD τ sig) → Buf (Elt Ideal) ℓ)

/-- The two arguments on a device. -/
def argZ (c : Dev nD) : S8192x2048.Idx → EReal := m ((c : Thread nD τ).loc main_arg0)
def argD (c : Dev nD) : S8192x1024.Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A grid point by its block of rows. -/
def pt (b : Fin 16) : Fin cfg0.N := ⟨b.val, by rw [show cfg0.N = 16 from N_0]; exact b.isLt⟩

theorem exists_pt (t : Fin cfg0.N) : ∃ b, t = pt b := ⟨⟨t.val, lt_of_lt_of_eq t.isLt N_0⟩, rfl⟩

theorem blk0 (c : Dev nD) (b : Fin 16) (i : Fin 512) (p : Fin 2048) :
    iblk m c 0 (pt b) (ix2 i p) = argZ m c (ix2 ⟨b.val * 512 + i.val, by omega⟩ p) := by
  unfold iblk
  rw [View.read_apply]
  show V m c main_arg0 _ = _
  rw [V_main_arg0]
  have hi := index0 (pt b)
  refine congrArg _ (funext fun a => Fin.ext ?_)
  match a with
  | ⟨0, _⟩ => show win0_0.index (pt b) 0 * 512 + 1 * i.val = _; rw [hi.1]; simp [pt]
  | ⟨1, _⟩ => show win0_0.index (pt b) 1 * 2048 + 1 * p.val = _; rw [hi.2]; simp

theorem blk1 (c : Dev nD) (b : Fin 16) (i : Fin 512) (q : Fin 1024) :
    iblk m c 1 (pt b) (ix2 i q) = argD m c (ix2 ⟨b.val * 512 + i.val, by omega⟩ q) := by
  unfold iblk
  rw [View.read_apply]
  show V m c main_arg1 _ = _
  rw [V_main_arg1]
  have hi := index1 (pt b)
  refine congrArg _ (funext fun a => Fin.ext ?_)
  match a with
  | ⟨0, _⟩ => show win0_1.index (pt b) 0 * 512 + 1 * i.val = _; rw [hi.1]; simp [pt]
  | ⟨1, _⟩ => show win0_1.index (pt b) 1 * 1024 + 1 * q.val = _; rw [hi.2]; simp

/-- A block of results is its place of the gradient. -/
theorem arr_eq (c : Dev nD) (b : Fin 16) (i : Fin 512) (p : Fin 2048) :
    arr (iblk m c 0 (pt b)) (iblk m c 1 (pt b)) (ix2 i p)
      = grad (argZ m c) (argD m c) (ix2 ⟨b.val * 512 + i.val, by omega⟩ p) := by
  show halves (N := 512) (iblk m c 0 (pt b)) (iblk m c 1 (pt b)) i p
    = halves (argZ m c) (argD m c) ⟨b.val * 512 + i.val, _⟩ p
  unfold halves
  simp only [blk0, blk1]

theorem flushed2 (c : Dev nD) (t : Fin cfg0.N) :
    (dats m 0 c).flushed 2 t = ((cfg0.win 2).blk t).view.read (Elt Ideal) (grad (argZ m c) (argD m c)) := by
  obtain ⟨b, rfl⟩ := exists_pt t
  show (cfg0.win 2).cut (grid0.coords _) ((dats m 0 c).after 2 _) = _
  rw [after0_2, out2_eq]
  funext j
  rw [View.read_apply]
  obtain ⟨i, p, rfl⟩ : ∃ (i : Fin 512) (p : Fin 2048), j = ix2 i p := ⟨j 0, j 1, eq_ix2 j⟩
  refine (arr_eq m c b i p).trans ?_
  have hi := index2 (pt b)
  refine congrArg (grad (argZ m c) (argD m c)) (a₁ := ix2 ⟨b.val * 512 + i.val, by omega⟩ p) (funext fun a => Fin.ext ?_)
  match a with
  | ⟨0, _⟩ => show b.val * 512 + i.val = win0_2.index (pt b) 0 * 512 + 1 * i.val; rw [hi.1]; simp [pt]
  | ⟨1, _⟩ => show p.val = win0_2.index (pt b) 1 * 2048 + 1 * p.val; rw [hi.2]; omega

/-- The array that the kernel writes. -/
theorem final2 (c : Dev nD) : (dats m 0 c).arrAt 2 cfg0.N = grad (argZ m c) (argD m c) :=
  (dats m 0 c).arrAt_eq_of_cover 2 (grad (argZ m c) (argD m c)) (fun t _ => flushed2 m c t) fun i => by
    have h0 : (i 0 : Nat) < 8192 := (i 0).isLt
    have h1 : (i 1 : Nat) < 2048 := (i 1).isLt
    let b : Fin 16 := ⟨(i 0).val / 512, by omega⟩
    refine ⟨pt b, flush0_2 _, ?_⟩
    have hi := index2 (pt b)
    have hb : (pt b).val = (i 0).val / 512 := rfl
    show i ∈ ((View.whole main_v0).slice (win0_2.rect (pt b))).set
    rw [View.set_slice_whole, Rect.mem_set_unit]
    intro a
    match a with
    | ⟨0, _⟩ =>
      show win0_2.index (pt b) 0 * 512 ≤ (i 0 : Nat) ∧ (i 0 : Nat) < win0_2.index (pt b) 0 * 512 + 512
      rw [hi.1, hb]; omega
    | ⟨1, _⟩ =>
      show win0_2.index (pt b) 1 * 2048 ≤ (i 1 : Nat) ∧ (i 1 : Nat) < win0_2.index (pt b) 1 * 2048 + 2048
      rw [hi.2]; omega

/-! The reference. -/

section Ref
open Cert.Reference18Ideal.Read
variable (Z : S8192x2048.Idx → EReal) (D : S8192x1024.Idx → EReal)

theorem ref_a (n : Fin 8192) (q : Fin 1024) : val_main_v1 (F := Ideal) Z (ix2 n q) = Z (ix2 n ⟨q.val, by omega⟩) := by
  pointwise [val_main_v1, val_main_v0]

theorem ref_b (n : Fin 8192) (q : Fin 1024) : val_main_v2 (F := Ideal) Z (ix2 n q) = Z (ix2 n ⟨1024 + q.val, by omega⟩) := by
  pointwise [val_main_v2, val_main_v0]

theorem ref_sig (n : Fin 8192) (q : Fin 1024) :
    val_main_v8 (F := Ideal) Z (ix2 n q) = Cert.Ffn.sig (Z (ix2 n ⟨1024 + q.val, by omega⟩)) := by
  rw [← ref_b Z n q]
  unfold Cert.Ffn.sig
  pointwise [val_main_v8, val_main_v7, val_main_cst_0, val_main_v6, val_main_v5, val_main_cst, val_main_v4, val_main_v3]

theorem ref_slope (n : Fin 8192) (q : Fin 1024) :
    val_main_v11 (F := Ideal) Z (ix2 n q)
      = Cert.Ffn.sig (Z (ix2 n ⟨1024 + q.val, by omega⟩)) * (1 - Cert.Ffn.sig (Z (ix2 n ⟨1024 + q.val, by omega⟩))) := by
  rw [← ref_sig Z n q]
  pointwise [val_main_v11, val_main_v10, val_main_v9, val_main_cst_1]

/-- The reference's gradients of the value and of the gate columns. -/
theorem ref_value (n : Fin 8192) (q : Fin 1024) :
    val_main_v15 (F := Ideal) Z D (ix2 n q) = toValue (D (ix2 n q)) (Z (ix2 n ⟨1024 + q.val, by omega⟩)) := by
  unfold toValue
  rw [← ref_sig]
  rfl

theorem ref_gate (n : Fin 8192) (q : Fin 1024) :
    val_main_v16 (F := Ideal) Z D (ix2 n q)
      = toGate (D (ix2 n q)) (Z (ix2 n ⟨q.val, by omega⟩)) (Z (ix2 n ⟨1024 + q.val, by omega⟩)) := by
  unfold toGate
  rw [mul_assoc (D (ix2 n q) * _), ← ref_slope, ← ref_a Z n q, mul_comm (D (ix2 n q))]
  rfl

theorem zero_word (i : Cert.Reference18Ideal.S_.Idx) : val_main_cst_2 (F := Ideal) i = (0 : EReal) := Ideal.ofBits_zero_f32
theorem zero_word' (i : Cert.Reference18Ideal.S_.Idx) : val_main_cst_3 (F := Ideal) i = (0 : EReal) := Ideal.ofBits_zero_f32

/-- The reference's two padded halves. -/
theorem pad_gate (n : Fin 8192) (q : Fin 1024) :
    val_main_v17 (F := Ideal) Z D (ix2 n ⟨1024 + q.val, by omega⟩) = val_main_v16 (F := Ideal) Z D (ix2 n q) :=
  pad_apply_of_inside _ _ _ _ _ _ _ _ _ fun a => by
    match a with
    | ⟨0, _⟩ => show n.val = 0 + n.val * (0 + 1); omega
    | ⟨1, _⟩ => show 1024 + q.val = 1024 + q.val * (0 + 1); omega

theorem pad_gate_out (n : Fin 8192) (q : Fin 1024) : val_main_v17 (F := Ideal) Z D (ix2 n ⟨q.val, by omega⟩) = 0 :=
  (pad_apply_of_not_inside _ _ _ _ _ _ _ _ (1 : Fin 2) fun h => by
    have h1 : 1024 ≤ q.val := h.1
    omega).trans (zero_word _)

theorem pad_value (n : Fin 8192) (q : Fin 1024) :
    val_main_v18 (F := Ideal) Z D (ix2 n ⟨q.val, by omega⟩) = val_main_v15 (F := Ideal) Z D (ix2 n q) :=
  pad_apply_of_inside _ _ _ _ _ _ _ _ _ fun a => by
    match a with
    | ⟨0, _⟩ => show n.val = 0 + n.val * (0 + 1); omega
    | ⟨1, _⟩ => show q.val = 0 + q.val * (0 + 1); omega

theorem pad_value_out (n : Fin 8192) (q : Fin 1024) : val_main_v18 (F := Ideal) Z D (ix2 n ⟨1024 + q.val, by omega⟩) = 0 :=
  (pad_apply_of_not_inside _ _ _ _ _ _ _ _ (1 : Fin 2) fun h => by
    have h1 : (1024 + q.val - 0) / (0 + 1) < 1024 := h.2.2
    omega).trans (zero_word' _)

/-- The reference's result is the gradient. -/
theorem ref_grad : val_main_v20 (F := Ideal) Z D = grad Z D := by
  funext y
  obtain ⟨n, p, rfl⟩ : ∃ (n : Fin 8192) (p : Fin 2048), y = ix2 n p := ⟨y 0, y 1, eq_ix2 y⟩
  show val_main_v17 (F := Ideal) Z D (ix2 n p) + val_main_v18 (F := Ideal) Z D (ix2 n p) = halves Z D n p
  by_cases h : p.val < 1024
  · obtain ⟨q, rfl⟩ : ∃ q : Fin 1024, p = ⟨q.val, Nat.lt_of_lt_of_le q.isLt (by decide)⟩ := ⟨⟨p.val, h⟩, rfl⟩
    rw [pad_gate_out, pad_value, halves_value, ref_value, zero_add]
  · obtain ⟨q, rfl⟩ : ∃ q : Fin 1024, p = ⟨1024 + q.val, Nat.add_lt_add_left q.isLt 1024⟩ :=
      ⟨⟨p.val - 1024, by omega⟩, Fin.ext (by show p.val = 1024 + (p.val - 1024); omega)⟩
    rw [pad_gate, pad_value_out, halves_gate, ref_gate, add_zero]

end Ref

/-- The kernel runs and leaves its arguments and the counters as they were; so it does over the extended reals, and so
    does the reference. -/
theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

/-- From arguments that agree, the kernel's result and the reference's are the gradient of the projected columns. -/
theorem algebraic : Cert.algebraic_Kernel18Ideal_Reference18Ideal := by
  intro m ρ m' ρ' _ hagree
  refine ⟨fun c => grad (argZ m c) (argD m c), ?_, ?_⟩
  · refine (θ_run Cert.Kernel18Ideal.defs _ _).mono (fun r h c => ?_) (Cert.Kernel18Ideal.Value.run_blocks m ρ)
    exact ⟨(h c).1.trans (final2 m c), (h c).2⟩
  · refine (θ_run Cert.Reference18Ideal.defs _ _).mono (fun r h c => ?_) (Cert.Reference18Ideal.Value.run (F := Ideal) m' ρ')
    obtain ⟨a0, a1⟩ := hagree c
    refine ⟨(h c).1.trans ?_, (h c).2⟩
    rw [Cert.Reference18Ideal.Read.val_main_v20_eq, a0, a1]
    exact ref_grad _ _

end Cert.GluGate
end
-- ==== Proof.GluGrad.lean ====
module

public import proofs.«01_k».proof.Defs
public import proofs.«01_k».proof.Proof.Gen.Kernel19
public import proofs.«01_k».proof.Proof.Gen.Kernel19.Frame
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Swap
public import Idealize.ShloMosaic.PureOps.Ideal
public import Idealize.ShloMosaic.Lib.Pointwise
public import Idealize.ShloMosaic.Lib.Pipeline.ReadBack

/-! The gradient of the gate's weights in the second mixer: the gate's input, transposed, times the gradient of the
    projected columns. The kernel computes the transposed product in two blocks of 1024 rows; the 8192 tokens are summed
    in four parts that a carried block accumulates. The host's change of the rows' order is over one block of 1024 rows
    and leaves them in place. -/

@[expose] public section
set_option maxRecDepth 16384

noncomputable section
namespace Cert.GluGrad
open Cert.Kernel19Ideal Cert.Kernel19Ideal.Gen Idealize.ShloMosaic Idealize.ShloMosaic.TcCoe Idealize.SL.Sem
open Idealize.ShloMosaic.Pipeline

/-- The gradient, at row `e` and column `p`. -/
def grad (H : S8192x1024.Idx → EReal) (Z : S8192x2048.Idx → EReal) : S1024x2048.Idx → EReal := fun y =>
  ∑ n : Fin 8192, Z (ix2 n (y 1)) * H (ix2 n (y 0))

/-- The array that the kernel writes: the gradient transposed. -/
def raw (H : S8192x1024.Idx → EReal) (Z : S8192x2048.Idx → EReal) : S2048x1024.Idx → EReal := fun y =>
  ∑ n : Fin 8192, Z (ix2 n (y 0)) * H (ix2 n (y 1))

/-- A part of 2048 tokens, of a block of 1024 rows. -/
def part (x : Vec Ideal S2048x1024 .bf16) (d : Vec Ideal S2048x1024 .f32) : Vec Ideal S1024x1024 .f32 := fun y =>
  ∑ n : Fin 2048, x (ix2 n (y 0)) * d (ix2 n (y 1))

theorem part_apply (x : Vec Ideal S2048x1024 .bf16) (d : Vec Ideal S2048x1024 .f32) (i : Fin 1024) (e : Fin 1024) :
    part x d (ix2 i e) = ∑ n : Fin 2048, x (ix2 n i) * d (ix2 n e) := rfl

section Body
variable (x : Vec Ideal S2048x1024 .bf16) (d : Vec Ideal S2048x1024 .f32) (s : Vec Ideal S1024x1024 .f32)

theorem pay1_apply (i : Fin 1024) (e : Fin 1024) : k0_pay1 x d (ix2 i e) = part x d (ix2 i e) := by
  unfold part
  pointwise [k0_pay1]

theorem pay2_eq : k0_pay2 x d = part x d := by
  funext y
  obtain ⟨i, e, rfl⟩ : ∃ (i : Fin 1024) (e : Fin 1024), y = ix2 i e := ⟨y 0, y 1, eq_ix2 y⟩
  rw [← pay1_apply]
  pointwise [k0_pay2]

theorem pay3_eq : k0_pay3 x d s = fun y => s y + part x d y := by
  funext y
  obtain ⟨i, e, rfl⟩ : ∃ (i : Fin 1024) (e : Fin 1024), y = ix2 i e := ⟨y 0, y 1, eq_ix2 y⟩
  rw [← pay1_apply]
  pointwise [k0_pay3]

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16)
  (h5 : a5.IsWhole) (a6 : Memref sig .tc .vmem S1024x1024 .f32) (h6 : a6.IsWhole)

/-- The first part is stored in the carried block. -/
theorem sout_A (hc0 : cond0_0 i) (hc1 : ¬cond0_1 i) (hc2 : ¬cond0_2 i) :
    sout0_A_0 c i a3 h3 a4 h4 a5 h5 a6 h6 hc0 hc1 hc2 x d = part x d := by
  have hcov := scover0_A_0 c i a3 h3 a4 h4 a5 h5 a6 h6 hc0 hc1 hc2 x d
  unfold sout0_A_0
  rw [View.read_writes_eq_canon _ _ _ hcov]
  unfold kernelRun0_A
  dsimp only
  sl_unfold_words
  simp only [View.readAt_eq_ld, h3.read_unread, h4.read_unread]
  rw [View.canon_cons_unit_zero (by decide) inb_S1024x1024_S1024x1024_0_0,
    View.ld_unit_zero (by decide) inb_S2048x1024_S2048x1024_0_0, View.ld_unit_zero (by decide) inb_S2048x1024_S2048x1024_0_0,
    pay2_eq]

/-- A middle part is added to it. -/
theorem sout_B (hc0 : ¬cond0_0 i) (hc1 : cond0_1 i) (hc2 : ¬cond0_2 i) :
    sout0_B_0 c i a3 h3 a4 h4 a5 h5 a6 h6 hc0 hc1 hc2 x d s = fun y => s y + part x d y := by
  have hcov := scover0_B_0 c i a3 h3 a4 h4 a5 h5 a6 h6 hc0 hc1 hc2 x d s
  unfold sout0_B_0
  rw [View.read_writes_eq_canon _ _ _ hcov]
  unfold kernelRun0_B
  dsimp only
  sl_unfold_words
  simp only [View.readAt_eq_ld, h3.read_unread, h4.read_unread, h6.read_unread]
  rw [View.canon_cons_unit_zero (by decide) inb_S1024x1024_S1024x1024_0_0,
    View.ld_unit_zero (by decide) inb_S2048x1024_S2048x1024_0_0, View.ld_unit_zero (by decide) inb_S2048x1024_S2048x1024_0_0,
    View.ld_unit_zero (by decide) inb_S1024x1024_S1024x1024_0_0, pay3_eq]

/-- The last part is added too, and the sum is the result's block. -/
theorem out_C (hc0 : ¬cond0_0 i) (hc1 : cond0_1 i) (hc2 : cond0_2 i) :
    out0_C_2 c i a3 h3 a4 h4 a5 h5 a6 h6 hc0 hc1 hc2 x d s = fun y => s y + part x d y := by
  have hcov := cover0_C_2 c i a3 h3 a4 h4 a5 h5 a6 h6 hc0 hc1 hc2 x d s
  unfold out0_C_2
  rw [View.read_writes_eq_canon _ _ _ hcov]
  unfold kernelRun0_C
  dsimp only
  sl_unfold_words
  simp only [View.readAt_eq_ld, h3.read_unread, h4.read_unread, h6.read_unread]
  rw [View.canon_cons_unit_zero (by decide) inb_S1024x1024_S1024x1024_0_0, View.readCov_eq_canon',
    View.canon_cons_unit_zero (by decide) inb_S1024x1024_S1024x1024_0_0,
    View.ld_unit_zero (by decide) inb_S2048x1024_S2048x1024_0_0, View.ld_unit_zero (by decide) inb_S2048x1024_S2048x1024_0_0,
    View.ld_unit_zero (by decide) inb_S1024x1024_S1024x1024_0_0, pay3_eq]
  exact (congrArg k0_pay4 (View.ld_unit_zero (by decide) inb_S1024x1024_S1024x1024_0_0 (fun y => s y + part x d y))).trans rfl

end Body

variable (m : (ℓ : Loc nD τ sig) → Buf (Elt Ideal) ℓ)

/-- The two arguments on a device. -/
def argH (c : Dev nD) : S8192x1024.Idx → EReal := m ((c : Thread nD τ).loc main_arg0)
def argZ (c : Dev nD) : S8192x2048.Idx → EReal := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- A grid point by its block of rows and its part of the tokens. -/
def pt (b : Fin 2) (s : Fin 4) : Fin cfg0.N := ⟨b.val * 4 + s.val, by rw [show cfg0.N = 8 from N_0]; omega⟩

theorem pt_mod (b : Fin 2) (s : Fin 4) : (pt b s).val % 4 = s.val := by show (b.val * 4 + s.val) % 4 = _; omega
theorem pt_div (b : Fin 2) (s : Fin 4) : (pt b s).val / 4 = b.val := by show (b.val * 4 + s.val) / 4 = _; omega

theorem blk0 (c : Dev nD) (b : Fin 2) (s : Fin 4) (n : Fin 2048) (i : Fin 1024) :
    iblk m c 0 (pt b s) (ix2 n i)
      = argZ m c (ix2 ⟨s.val * 2048 + n.val, by omega⟩ ⟨b.val * 1024 + i.val, by omega⟩) := by
  unfold iblk
  rw [View.read_apply]
  show V m c main_arg1 _ = _
  rw [V_main_arg1]
  have hi := index0 (pt b s)
  rw [pt_mod, pt_div] at hi
  refine congrArg _ (funext fun a => Fin.ext ?_)
  match a with
  | ⟨0, _⟩ => show win0_0.index (pt b s) 0 * 2048 + 1 * n.val = _; rw [hi.1]; simp
  | ⟨1, _⟩ => show win0_0.index (pt b s) 1 * 1024 + 1 * i.val = _; rw [hi.2]; simp

theorem blk1 (c : Dev nD) (b : Fin 2) (s : Fin 4) (n : Fin 2048) (e : Fin 1024) :
    iblk m c 1 (pt b s) (ix2 n e) = argH m c (ix2 ⟨s.val * 2048 + n.val, by omega⟩ e) := by
  unfold iblk
  rw [View.read_apply]
  show V m c main_arg0 _ = _
  rw [V_main_arg0]
  have hi := index1 (pt b s)
  rw [pt_mod] at hi
  refine congrArg _ (funext fun a => Fin.ext ?_)
  match a with
  | ⟨0, _⟩ => show win0_1.index (pt b s) 0 * 2048 + 1 * n.val = _; rw [hi.1]; simp
  | ⟨1, _⟩ => show win0_1.index (pt b s) 1 * 1024 + 1 * e.val = _; rw [hi.2]; simp

/-- A point's part. -/
def con (c : Dev nD) (b : Fin 2) (s : Fin 4) : Vec Ideal S1024x1024 .f32 := part (iblk m c 0 (pt b s)) (iblk m c 1 (pt b s))

/-- The carried block after the first part. -/
theorem acc_zero (c : Dev nD) (b : Fin 2) (y : S1024x1024.Idx) :
    (outsAt0 m c (pt b 0).val (pt b 0).isLt).2 y = con m c b 0 y := by
  have h0 : (pt b 0).val % 4 = 0 := pt_mod b 0
  rw [outsAt0_A m c (pt b 0) h0 (by omega) (by omega)]
  dsimp only
  rw [sout_A]
  rfl

/-- A later part that is not the last is added. -/
theorem acc_succ (c : Dev nD) (b : Fin 2) (s s' : Fin 4) (hs : s'.val = s.val + 1) (h3 : s'.val < 3) (y : S1024x1024.Idx) :
    (outsAt0 m c (pt b s').val (pt b s').isLt).2 y
      = (outsAt0 m c (pt b s).val (pt b s).isLt).2 y + con m c b s' y := by
  have hm := pt_mod b s'
  rw [outsAt0_B m c (pt b s') (by omega) (by omega) (by omega)]
  dsimp only
  rw [sout_B]
  have e : (pt b s').val - 1 = (pt b s).val := by show b.val * 4 + s'.val - 1 = b.val * 4 + s.val; omega
  show (outsAt0 m c ((pt b s').val - 1) _).2 y + _ = _
  congr 3
  simp only [e]

/-- The result's block at a block's last point is the sum of the four parts. -/
theorem out_last (c : Dev nD) (b : Fin 2) (y : S1024x1024.Idx) :
    (outsAt0 m c (pt b 3).val (pt b 3).isLt).1 y = ∑ s, con m c b s y := by
  have hm := pt_mod b 3
  have h3 : (pt b 3).val % 4 = 3 := hm
  rw [outsAt0_C m c (pt b 3) (by omega) (by omega) h3]
  dsimp only
  rw [out_C]
  have e : (pt b 3).val - 1 = (pt b 2).val := by show b.val * 4 + 3 - 1 = b.val * 4 + 2; omega
  show (outsAt0 m c ((pt b 3).val - 1) _).2 y + con m c b 3 y = _
  have e' : (outsAt0 m c ((pt b 3).val - 1) (Nat.lt_of_le_of_lt (Nat.sub_le _ 1) (pt b 3).isLt)).2 y
      = (outsAt0 m c (pt b 2).val (pt b 2).isLt).2 y := by
    congr 2
  rw [e', acc_succ m c b 1 2 rfl (by decide), acc_succ m c b 0 1 rfl (by decide), acc_zero, Fin.sum_univ_four]

theorem sum_con (c : Dev nD) (b : Fin 2) (i : Fin 1024) (e : Fin 1024) :
    (∑ s, con m c b s (ix2 i e)) = raw (argH m c) (argZ m c) (ix2 ⟨b.val * 1024 + i.val, by omega⟩ e) := by
  refine (Finset.sum_congr rfl fun s _ => ?_).trans (Cert.Ffn.sum_parts 4 2048 rfl (fun n =>
    argZ m c (ix2 n ⟨b.val * 1024 + i.val, by omega⟩) * argH m c (ix2 n e)) fun s n => by omega)
  rw [con, part_apply]
  simp only [blk0, blk1]

theorem flushed (c : Dev nD) (t : Fin cfg0.N) (hf : (cfg0.win 2).flush t = true) :
    (dats m 0 c).flushed 2 t
      = ((cfg0.win 2).blk t).view.read (Elt Ideal) (raw (argH m c) (argZ m c)) := by
  have h3 := (flush0_2 t).mp hf
  obtain ⟨b, rfl⟩ : ∃ b, t = pt b 3 :=
    ⟨⟨t.val / 4, by have := lt_of_lt_of_eq t.isLt N_0; omega⟩, Fin.ext (by show t.val = t.val / 4 * 4 + 3; omega)⟩
  show (cfg0.win 2).cut (grid0.coords _) ((dats m 0 c).after 2 _) = _
  rw [after0_2]
  funext j
  rw [View.read_apply]
  obtain ⟨i, e, rfl⟩ : ∃ (i : Fin 1024) (e : Fin 1024), j = ix2 i e := ⟨j 0, j 1, eq_ix2 j⟩
  refine (out_last m c b (ix2 i e)).trans ((sum_con m c b i e).trans ?_)
  have hi := index2 (pt b 3)
  rw [pt_div] at hi
  refine congrArg _ (funext fun a => Fin.ext ?_)
  match a with
  | ⟨0, _⟩ => show b.val * 1024 + i.val = win0_2.index (pt b 3) 0 * 1024 + 1 * i.val; rw [hi.1]; omega
  | ⟨1, _⟩ => show e.val = win0_2.index (pt b 3) 1 * 1024 + 1 * e.val; rw [hi.2]; omega

/-- The array that the kernel writes. -/
theorem final (c : Dev nD) : (dats m 0 c).arrAt 2 cfg0.N = raw (argH m c) (argZ m c) :=
  (dats m 0 c).arrAt_eq_of_cover 2 (raw (argH m c) (argZ m c)) (flushed m c) fun i => by
    have h0 : (i 0 : Nat) < 2048 := (i 0).isLt
    have h1 : (i 1 : Nat) < 1024 := (i 1).isLt
    let b : Fin 2 := ⟨(i 0).val / 1024, by omega⟩
    refine ⟨pt b 3, (flush0_2 _).mpr (pt_mod b 3), ?_⟩
    have hi := index2 (pt b 3)
    have hb : (pt b 3).val / 4 = (i 0).val / 1024 := pt_div b 3
    show i ∈ ((View.whole main_v0).slice (win0_2.rect (pt b 3))).set
    rw [View.set_slice_whole, Rect.mem_set_unit]
    intro a
    match a with
    | ⟨0, _⟩ =>
      show win0_2.index (pt b 3) 0 * 1024 ≤ (i 0 : Nat) ∧ (i 0 : Nat) < win0_2.index (pt b 3) 0 * 1024 + 1024
      rw [hi.1, hb]; omega
    | ⟨1, _⟩ =>
      show win0_2.index (pt b 3) 1 * 1024 ≤ (i 1 : Nat) ∧ (i 1 : Nat) < win0_2.index (pt b 3) 1 * 1024 + 1024
      rw [hi.2]; omega

/-- The program ends with the gradient: the host puts the rows in the plain order, which
    is the one they have, and transposes. -/
theorem run (ρ : Dev nD → PrngReg) : θ_run defs (onTc (τ := τ) (main (F := Ideal))) ⟨m, fun _ => 0, ρ⟩ fun r => ∀ c : Dev nD,
    r.2.mem ((c : Thread nD τ).loc main_v4) = grad (argH m c) (argZ m c) := by
  refine (θ_run defs _ _).mono (fun r h c => ?_) (run_main m ρ)
  refine ((h c).2 main_v4 (by decide)).trans ?_
  have h5 := withArrays_arr spec0 (by decide) c (V0 m c) (fun w => (dats m 0 c).arrAt w cfg0.N) 2
  rw [final] at h5
  funext y
  obtain ⟨e, p, rfl⟩ : ∃ (e : Fin 1024) (p : Fin 2048), y = ix2 e p := ⟨y 0, y 1, eq_ix2 y⟩
  show StableHlo.after hostOps1 (withArrays spec0 c (V0 m c) fun w => (dats m 0 c).arrAt w cfg0.N) main_v4 _ = _
  after_results_simp
  pointwise []
  refine (congrFun h5 (ix2 _ e)).trans ?_
  exact congrArg (fun p => raw (argH m c) (argZ m c) (ix2 p e)) (Fin.ext (Nat.div_add_mod' p.val 1024))

/-- The reference's result is the gradient. -/
theorem ref (H : S8192x1024.Idx → EReal) (Z : S8192x2048.Idx → EReal) :
    Cert.Reference19Ideal.Read.val_main_v5 (F := Ideal) H Z = grad H Z := by
  funext y
  obtain ⟨e, p, rfl⟩ : ∃ (e : Fin 1024) (p : Fin 2048), y = ix2 e p := ⟨y 0, y 1, eq_ix2 y⟩
  have h4 : Cert.Reference19Ideal.Read.val_main_v3 (F := Ideal) H Z (ix2 p e) = ∑ n : Fin 8192, Z (ix2 n p) * H (ix2 n e) := by
    pointwise [Cert.Reference19Ideal.Read.val_main_v3, Cert.Reference19Ideal.Read.val_main_v0]
  have h6 : Cert.Reference19Ideal.Read.val_main_v5 (F := Ideal) H Z (ix2 e p)
      = Cert.Reference19Ideal.Read.val_main_v3 (F := Ideal) H Z (ix2 p e) := by
    pointwise [Cert.Reference19Ideal.Read.val_main_v5, Cert.Reference19Ideal.Read.val_main_v4]
  rw [h6, h4]
  rfl

/-- The kernel runs and leaves its arguments and the counters as they were; so it does over the extended reals, and so
    does the reference. -/
theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

/-- From arguments that agree, the kernel's result and the reference's are the gradient of the weights. -/
theorem algebraic : Cert.algebraic_Kernel19Ideal_Reference19Ideal := by
  intro m ρ m' ρ' _ hagree
  refine ⟨fun c => grad (argH m c) (argZ m c), ?_, ?_⟩
  · exact (θ_run Cert.Kernel19Ideal.defs _ _).mono (fun r h c => ⟨h.1 c, h.2 c⟩)
      (θ_run_and (run m ρ) (Cert.Kernel19Ideal.Gen.unchanged m ρ))
  · refine (θ_run Cert.Reference19Ideal.defs _ _).mono (fun r h c => ?_) (Cert.Reference19Ideal.Value.run (F := Ideal) m' ρ')
    obtain ⟨a0, a1⟩ := hagree c
    refine ⟨(h c).1.trans ?_, (h c).2⟩
    rw [Cert.Reference19Ideal.Read.val_main_v5_eq, a0, a1]
    exact ref _ _

end Cert.GluGrad
end
-- ==== Proof.GluDx.lean ====
module

public import proofs.«01_k».proof.Defs
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.PureOps.Ideal
public import Idealize.ShloMosaic.Lib.Pointwise

/-! The gradient of the argument of the gate's projection in the second mixer: the incoming gradient times the matrix,
    transposed by the host, kept in float32. The host's interleaving of the matrix's rows is over one block of 1024
    rows and leaves them in place. Eight blocks of 1024 rows. -/

@[expose] public section
set_option maxRecDepth 16384

noncomputable section
namespace Cert.GluDx
open Cert.Kernel20Ideal Cert.Kernel20Ideal.Gen Idealize.ShloMosaic Idealize.ShloMosaic.TcCoe Idealize.SL.Sem
open Idealize.ShloMosaic.Pipeline

/-- The gradient, at row `i` and column `e`. -/
def prod (U : S8192x2048.Idx → EReal) (W : S1024x2048.Idx → EReal) : S8192x1024.Idx → EReal := fun y =>
  ∑ k : Fin 2048, U (ix2 (y 0) k) * W (ix2 (y 1) k)

variable (m : (ℓ : Loc nD τ sig) → Buf (Elt Ideal) ℓ)

/-- The two arguments on a device. -/
def argU (c : Dev nD) : S8192x2048.Idx → EReal := m ((c : Thread nD τ).loc main_arg0)
def argW (c : Dev nD) : S1024x2048.Idx → EReal := m ((c : Thread nD τ).loc main_arg1)

/-- The prepared matrix is the transposed one. -/
theorem host1 (c : Dev nD) (k : Fin 2048) (e : Fin 1024) : V m c main_v4 (ix2 k e) = argW m c (ix2 e k) := by
  show StableHlo.after hostOps0 (fun b => m (c, b)) main_v4 _ = _
  after_results_simp
  pointwise []
  exact congrArg (fun k => argW m c (ix2 e k)) (Fin.ext (Nat.div_add_mod' k.val 1024))

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 2048) :
    iblk m c 0 t (ix2 i k) = argU m c (ix2 ⟨t.val * 1024 + i.val, by have := t.isLt; have : cfg0.N = 8 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 2048 + 1 * k.val = _; rw [hi.2]; simp

/-- The block of the right factor is the whole of it. -/
theorem blk1 (c : Dev nD) (t : Fin cfg0.N) (k : Fin 2048) (e : Fin 1024) :
    iblk m c 1 t (ix2 k e) = argW m c (ix2 e k) := by
  rw [← host1]
  unfold iblk
  rw [View.read_apply]
  have hi := index1 t
  refine congrArg (V m c main_v4) (funext fun a => Fin.ext ?_)
  match a with
  | ⟨0, _⟩ => show win0_1.index t 0 * 2048 + 1 * k.val = _; rw [hi.1]; simp
  | ⟨1, _⟩ => show win0_1.index t 1 * 1024 + 1 * e.val = _; rw [hi.2]; simp

/-- A block's product at an index. -/
theorem pay_apply (x : Vec Ideal S1024x2048 .bf16) (w : Vec Ideal S2048x1024 .bf16) (i e : Fin 1024) :
    k0_pay1 x w (ix2 i e) = ∑ k : Fin 2048, x (ix2 i k) * w (ix2 k e) := by
  pointwise [k0_pay1]

/-- What the body leaves in the output's buffer. -/
theorem out_apply (x : Vec Ideal S1024x2048 .bf16) (w : Vec Ideal S2048x1024 .bf16) (i e : Fin 1024) :
    out0_2 x w (ix2 i e) = ∑ k : Fin 2048, x (ix2 i k) * w (ix2 k e) := by
  unfold out0_2
  rw [View.canon_cons_unit_zero (by decide) inb_S1024x1024_S1024x1024_0_0,
    View.ld_unit_zero (by decide) inb_S1024x2048_S1024x2048_0_0 x, View.ld_unit_zero (by decide) inb_S2048x1024_S2048x1024_0_0 w, pay_apply]

theorem flushed (c : Dev nD) (t : Fin cfg0.N) :
    (dats m 0 c).flushed 2 t = ((View.whole main_v5).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 8 := lt_of_lt_of_eq t.isLt N_0
  have he : ((cfg0.win 2).blk t).view.emb (ix2 i e) = ix2 (⟨t.val * 1024 + i.val, by omega⟩ : Fin 8192) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := index2 t
    show i ∈ ((View.whole main_v5).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S8192x2048.Idx → EReal) (W : S1024x2048.Idx → EReal) :
    Cert.Reference20Ideal.Read.val_main_v3 (F := Ideal) U W = prod U W := by
  funext y
  obtain ⟨i, e, rfl⟩ : ∃ (i : Fin 8192) (e : Fin 1024), y = ix2 i e := ⟨y 0, y 1, eq_ix2 y⟩
  unfold prod
  pointwise [Cert.Reference20Ideal.Read.val_main_v3, Cert.Reference20Ideal.Read.val_main_v0]

/-- The kernel runs and leaves its arguments and the counters as they were; so it does over the extended reals, and so
    does the reference. -/
theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

/-- From arguments that agree, the kernel's result and the reference's are the product of the arguments. -/
theorem algebraic : Cert.algebraic_Kernel20Ideal_Reference20Ideal := by
  intro m ρ m' ρ' _ hagree
  refine ⟨fun c => prod (argU m c) (argW m c), ?_, ?_⟩
  · refine (θ_run Cert.Kernel20Ideal.defs _ _).mono (fun r h c => ?_) (Cert.Kernel20Ideal.Value.run_blocks m ρ)
    exact ⟨(h c).1.trans (final m c), (h c).2⟩
  · refine (θ_run Cert.Reference20Ideal.defs _ _).mono (fun r h c => ?_) (Cert.Reference20Ideal.Value.run (F := Ideal) m' ρ')
    obtain ⟨a0, a1⟩ := hagree c
    refine ⟨(h c).1.trans ?_, (h c).2⟩
    rw [Cert.Reference20Ideal.Read.val_main_v3_eq, a0, a1]
    exact ref _ _

end Cert.GluDx
end
-- ==== Proof.MemKv.lean ====
module

public import proofs.«01_k».proof.Defs
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.PureOps.Ideal
public import Idealize.ShloMosaic.Lib.Pointwise

/-! The cross-attention's key and value projection of the memory. Two blocks of 1024 columns; the matrix is transposed
    by the host, and the kernel's product transposes it back. -/

@[expose] public section
set_option maxRecDepth 16384

noncomputable section
namespace Cert.MemKv
open Cert.Kernel21Ideal Cert.Kernel21Ideal.Gen Idealize.ShloMosaic Idealize.ShloMosaic.TcCoe Idealize.SL.Sem
open Idealize.ShloMosaic.Pipeline

/-- The product, at row `i` and column `e`. -/
def prod (U : S1024x1024.Idx → EReal) (W : S1024x2048.Idx → EReal) : S1024x2048.Idx → EReal := fun y =>
  ∑ k : Fin 1024, U (ix2 (y 0) k) * W (ix2 k (y 1))

variable (m : (ℓ : Loc nD τ sig) → Buf (Elt Ideal) ℓ)

/-- The two arguments on a device. -/
def argU (c : Dev nD) : S1024x1024.Idx → EReal := m ((c : Thread nD τ).loc main_arg0)
def argW (c : Dev nD) : S1024x2048.Idx → EReal := m ((c : Thread nD τ).loc main_arg1)

/-- The prepared matrix is the transposed one. -/
theorem host1 (c : Dev nD) (e : Fin 2048) (k : Fin 1024) : V m c main_v1 (ix2 e k) = argW m c (ix2 k e) := by
  show StableHlo.after hostOps0 (fun b => m (c, b)) main_v1 _ = _
  after_results_simp
  pointwise []
  rfl

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- A block of the left factor holds 1024 consecutive rows of it. -/
theorem blk0 (c : Dev nD) (t : Fin cfg0.N) (i : Fin 1024) (k : Fin 1024) :
    iblk m c 0 t (ix2 i k)
      = argU m c (ix2 ⟨t.val / 2 * 1024 + i.val, by have := t.isLt; have : cfg0.N = 2 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 1024 + 1 * k.val = _; rw [hi.2]; simp

/-- A block of the right factor holds 1024 consecutive columns of the matrix, as rows. -/
theorem blk1 (c : Dev nD) (t : Fin cfg0.N) (e : Fin 1024) (k : Fin 1024) :
    iblk m c 1 t (ix2 e k) = argW m c (ix2 k ⟨t.val % 2 * 1024 + e.val, by omega⟩) := by
  rw [← host1]
  unfold iblk
  rw [View.read_apply]
  have hi := index1 t
  refine congrArg (V m c main_v1) (funext fun a => Fin.ext ?_)
  match a with
  | ⟨0, _⟩ => show win0_1.index t 0 * 1024 + 1 * e.val = _; rw [hi.1]; simp
  | ⟨1, _⟩ => show win0_1.index t 1 * 1024 + 1 * k.val = _; rw [hi.2]; simp

/-- A block's product at an index. -/
theorem pay_apply (x : Vec Ideal S1024x1024 .bf16) (w : Vec Ideal S1024x1024 .bf16) (i : Fin 1024) (e : Fin 1024) :
    k0_pay1 x w (ix2 i e) = ∑ k : Fin 1024, x (ix2 i k) * w (ix2 e k) := by
  pointwise [k0_pay1]

/-- What the body leaves in the output's buffer. -/
theorem out_apply (x : Vec Ideal S1024x1024 .bf16) (w : Vec Ideal S1024x1024 .bf16) (i : Fin 1024) (e : Fin 1024) :
    out0_2 x w (ix2 i e) = ∑ k : Fin 1024, x (ix2 i k) * w (ix2 e k) := by
  unfold out0_2
  rw [View.canon_cons_unit_zero (by decide) inb_S1024x1024_S1024x1024_0_0,
    View.ld_unit_zero (by decide) inb_S1024x1024_S1024x1024_0_0 x, View.ld_unit_zero (by decide) inb_S1024x1024_S1024x1024_0_0 w, pay_apply]

theorem flushed (c : Dev nD) (t : Fin cfg0.N) :
    (dats m 0 c).flushed 2 t = ((View.whole main_v2).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 2 := lt_of_lt_of_eq t.isLt N_0
  have he : ((cfg0.win 2).blk t).view.emb (ix2 i e)
      = ix2 (⟨t.val / 2 * 1024 + i.val, by omega⟩ : Fin 1024) (⟨t.val % 2 * 1024 + e.val, by omega⟩ : Fin 2048) := by
    funext a
    refine Fin.ext ?_
    match a with
    | ⟨0, _⟩ => show win0_2.index t 0 * 1024 + 1 * i.val = t.val / 2 * 1024 + i.val; rw [hi.1]; omega
    | ⟨1, _⟩ => show win0_2.index t 1 * 1024 + 1 * e.val = t.val % 2 * 1024 + e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 1024 := (i 0).isLt
    have h1 : (i 1 : Nat) < 2048 := (i 1).isLt
    let t : Fin cfg0.N := ⟨(i 0).val / 1024 * 2 + (i 1).val / 1024, by rw [show cfg0.N = 2 from N_0]; omega⟩
    have hd : t.val / 2 = (i 0).val / 1024 := by show ((i 0).val / 1024 * 2 + (i 1).val / 1024) / 2 = _; omega
    have hm : t.val % 2 = (i 1).val / 1024 := by show ((i 0).val / 1024 * 2 + (i 1).val / 1024) % 2 = _; omega
    refine ⟨t, flush0_2 t, ?_⟩
    have hi := index2 t
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1, hd]; omega
    | ⟨1, _⟩ =>
      show win0_2.index t 1 * 1024 ≤ (i 1 : Nat) ∧ (i 1 : Nat) < win0_2.index t 1 * 1024 + 1024
      rw [hi.2, hm]; omega

/-- The reference's result is the product. -/
theorem ref (U : S1024x1024.Idx → EReal) (W : S1024x2048.Idx → EReal) :
    Cert.Reference21Ideal.Read.val_main_v2 (F := Ideal) U W = prod U W := by
  funext y
  obtain ⟨i, e, rfl⟩ : ∃ (i : Fin 1024) (e : Fin 2048), y = ix2 i e := ⟨y 0, y 1, eq_ix2 y⟩
  unfold prod
  pointwise [Cert.Reference21Ideal.Read.val_main_v2, Cert.Reference21Ideal.Read.val_main_v1, Cert.Reference21Ideal.Read.val_main_v0]

/-- The kernel runs and leaves its arguments and the counters as they were; so it does over the extended reals, and so
    does the reference. -/
theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

/-- From arguments that agree, the kernel's result and the reference's are the product of the arguments. -/
theorem algebraic : Cert.algebraic_Kernel21Ideal_Reference21Ideal := by
  intro m ρ m' ρ' _ hagree
  refine ⟨fun c => prod (argU m c) (argW m c), ?_, ?_⟩
  · refine (θ_run Cert.Kernel21Ideal.defs _ _).mono (fun r h c => ?_) (Cert.Kernel21Ideal.Value.run_blocks m ρ)
    exact ⟨(h c).1.trans (final m c), (h c).2⟩
  · refine (θ_run Cert.Reference21Ideal.defs _ _).mono (fun r h c => ?_) (Cert.Reference21Ideal.Value.run (F := Ideal) m' ρ')
    obtain ⟨a0, a1⟩ := hagree c
    refine ⟨(h c).1.trans ?_, (h c).2⟩
    rw [Cert.Reference21Ideal.Read.val_main_v2_eq, a0, a1]
    exact ref _ _

end Cert.MemKv
end
-- ==== Proof.MemKvGrad.lean ====
module

public import proofs.«01_k».proof.Defs
public import proofs.«01_k».proof.Proof.Gen.Kernel22
public import proofs.«01_k».proof.Proof.Gen.Kernel22.Frame
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import Idealize.ShloMosaic.PureOps.Ideal
public import Idealize.ShloMosaic.Lib.Pointwise
public import Idealize.ShloMosaic.Lib.Pipeline.ReadBack

/-! The gradient of the cross-attention's key and value weights: the memory, transposed, times the gradient of the keys
    and values. The kernel computes the transposed product in two blocks of 1024 rows. -/

@[expose] public section
set_option maxRecDepth 16384

noncomputable section
namespace Cert.MemKvGrad
open Cert.Kernel22Ideal Cert.Kernel22Ideal.Gen Idealize.ShloMosaic Idealize.ShloMosaic.TcCoe Idealize.SL.Sem
open Idealize.ShloMosaic.Pipeline

/-- The gradient, at row `e` and column `p`. -/
def grad (H : S1024x1024.Idx → EReal) (Z : S1024x2048.Idx → EReal) : S1024x2048.Idx → EReal := fun y =>
  ∑ n : Fin 1024, Z (ix2 n (y 1)) * H (ix2 n (y 0))

/-- The array that the kernel writes: the gradient transposed. -/
def raw (H : S1024x1024.Idx → EReal) (Z : S1024x2048.Idx → EReal) : S2048x1024.Idx → EReal := fun y =>
  ∑ n : Fin 1024, Z (ix2 n (y 0)) * H (ix2 n (y 1))

variable (m : (ℓ : Loc nD τ sig) → Buf (Elt Ideal) ℓ)

/-- The two arguments on a device. -/
def argH (c : Dev nD) : S1024x1024.Idx → EReal := m ((c : Thread nD τ).loc main_arg0)
def argZ (c : Dev nD) : S1024x2048.Idx → EReal := m ((c : Thread nD τ).loc main_arg1)

theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive columns of it. -/
theorem blk0 (c : Dev nD) (t : Fin cfg0.N) (n : Fin 1024) (i : Fin 1024) :
    iblk m c 0 t (ix2 n i) = argZ m c (ix2 n ⟨t.val * 1024 + i.val, by have := t.isLt; have : cfg0.N = 2 := N_0; omega⟩) := by
  unfold iblk
  rw [View.read_apply]
  show V m c main_arg1 _ = _
  rw [V_main_arg1]
  have hi := index0 t
  refine congrArg _ (funext fun a => Fin.ext ?_)
  match a with
  | ⟨0, _⟩ => show win0_0.index t 0 * 1024 + 1 * n.val = _; rw [hi.1]; simp
  | ⟨1, _⟩ => show win0_0.index t 1 * 1024 + 1 * i.val = _; rw [hi.2]; simp

/-- The block of the right factor is the whole of it. -/
theorem blk1 (c : Dev nD) (t : Fin cfg0.N) (n : Fin 1024) (e : Fin 1024) :
    iblk m c 1 t (ix2 n e) = argH m c (ix2 n e) := by
  unfold iblk
  rw [View.read_apply]
  show V m c main_arg0 _ = _
  rw [V_main_arg0]
  have hi := index1 t
  refine congrArg _ (funext fun a => Fin.ext ?_)
  match a with
  | ⟨0, _⟩ => show win0_1.index t 0 * 1024 + 1 * n.val = _; rw [hi.1]; simp
  | ⟨1, _⟩ => show win0_1.index t 1 * 1024 + 1 * e.val = _; rw [hi.2]; simp

/-- A block's product at an index. -/
theorem pay_apply (x : Vec Ideal S1024x1024 .f32) (d : Vec Ideal S1024x1024 .bf16) (i e : Fin 1024) :
    k0_pay1 x d (ix2 i e) = ∑ n : Fin 1024, x (ix2 n i) * d (ix2 n e) := by
  pointwise [k0_pay1]

/-- What the body leaves in the output's buffer. -/
theorem out_apply (x : Vec Ideal S1024x1024 .f32) (d : Vec Ideal S1024x1024 .bf16) (i e : Fin 1024) :
    out0_2 x d (ix2 i e) = ∑ n : Fin 1024, x (ix2 n i) * d (ix2 n e) := by
  unfold out0_2
  rw [View.canon_cons_unit_zero (by decide) inb_S1024x1024_S1024x1024_0_0,
    View.ld_unit_zero (by decide) inb_S1024x1024_S1024x1024_0_0 x, View.ld_unit_zero (by decide) inb_S1024x1024_S1024x1024_0_0 d, pay_apply]

theorem flushed (c : Dev nD) (t : Fin cfg0.N) :
    (dats m 0 c).flushed 2 t = ((cfg0.win 2).blk t).view.read (Elt Ideal) (raw (argH m c) (argZ m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 2 := lt_of_lt_of_eq t.isLt N_0
  have he : ((cfg0.win 2).blk t).view.emb (ix2 i e) = ix2 (⟨t.val * 1024 + i.val, by omega⟩ : Fin 2048) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The array that the kernel writes. -/
theorem final (c : Dev nD) : (dats m 0 c).arrAt 2 cfg0.N = raw (argH m c) (argZ m c) :=
  (dats m 0 c).arrAt_eq_of_cover 2 (raw (argH m c) (argZ m c)) (fun t _ => flushed m c t) fun i => by
    have h0 : (i 0 : Nat) < 2048 := (i 0).isLt
    have h1 : (i 1 : Nat) < 1024 := (i 1).isLt
    let t : Fin cfg0.N := ⟨(i 0).val / 1024, by rw [show cfg0.N = 2 from N_0]; omega⟩
    refine ⟨t, flush0_2 t, ?_⟩
    have hi := index2 t
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The program ends with the gradient: the host transposes. -/
theorem run (ρ : Dev nD → PrngReg) : θ_run defs (onTc (τ := τ) (main (F := Ideal))) ⟨m, fun _ => 0, ρ⟩ fun r => ∀ c : Dev nD,
    r.2.mem ((c : Thread nD τ).loc main_v1) = grad (argH m c) (argZ m c) := by
  refine (θ_run defs _ _).mono (fun r h c => ?_) (run_main m ρ)
  refine ((h c).2 main_v1 (by decide)).trans ?_
  have h5 := withArrays_arr spec0 (by decide) c (V0 m c) (fun w => (dats m 0 c).arrAt w cfg0.N) 2
  rw [final] at h5
  funext y
  obtain ⟨e, p, rfl⟩ : ∃ (e : Fin 1024) (p : Fin 2048), y = ix2 e p := ⟨y 0, y 1, eq_ix2 y⟩
  show StableHlo.after hostOps1 (withArrays spec0 c (V0 m c) fun w => (dats m 0 c).arrAt w cfg0.N) main_v1 _ = _
  after_results_simp
  pointwise []
  exact congrFun h5 (ix2 p e)

/-- The reference's result is the gradient. -/
theorem ref (H : S1024x1024.Idx → EReal) (Z : S1024x2048.Idx → EReal) :
    Cert.Reference22Ideal.Read.val_main_v5 (F := Ideal) H Z = grad H Z := by
  funext y
  obtain ⟨e, p, rfl⟩ : ∃ (e : Fin 1024) (p : Fin 2048), y = ix2 e p := ⟨y 0, y 1, eq_ix2 y⟩
  have h4 : Cert.Reference22Ideal.Read.val_main_v3 (F := Ideal) H Z (ix2 p e) = ∑ n : Fin 1024, Z (ix2 n p) * H (ix2 n e) := by
    pointwise [Cert.Reference22Ideal.Read.val_main_v3, Cert.Reference22Ideal.Read.val_main_v0]
  have h6 : Cert.Reference22Ideal.Read.val_main_v5 (F := Ideal) H Z (ix2 e p)
      = Cert.Reference22Ideal.Read.val_main_v3 (F := Ideal) H Z (ix2 p e) := by
    pointwise [Cert.Reference22Ideal.Read.val_main_v5, Cert.Reference22Ideal.Read.val_main_v4]
  rw [h6, h4]
  rfl

/-- The kernel runs and leaves its arguments and the counters as they were; so it does over the extended reals, and so
    does the reference. -/
theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- From arguments that agree, the kernel's result and the reference's are the gradient of the weights. -/
theorem algebraic : Cert.algebraic_Kernel22Ideal_Reference22Ideal := by
  intro m ρ m' ρ' _ hagree
  refine ⟨fun c => grad (argH m c) (argZ m c), ?_, ?_⟩
  · exact (θ_run Cert.Kernel22Ideal.defs _ _).mono (fun r h c => ⟨h.1 c, h.2 c⟩)
      (θ_run_and (run m ρ) (Cert.Kernel22Ideal.Gen.unchanged m ρ))
  · refine (θ_run Cert.Reference22Ideal.defs _ _).mono (fun r h c => ?_) (Cert.Reference22Ideal.Value.run (F := Ideal) m' ρ')
    obtain ⟨a0, a1⟩ := hagree c
    refine ⟨(h c).1.trans ?_, (h c).2⟩
    rw [Cert.Reference22Ideal.Read.val_main_v5_eq, a0, a1]
    exact ref _ _

end Cert.MemKvGrad
end
-- ==== Proof.MemKvDx.lean ====
module

public import proofs.«01_k».proof.Defs
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.PureOps.Ideal
public import Idealize.ShloMosaic.Lib.Pointwise

/-! The gradient of the argument of the cross-attention's key and value projection: the incoming gradient times the
    matrix, transposed by the host. One block. -/

@[expose] public section
set_option maxRecDepth 16384

noncomputable section
namespace Cert.MemKvDx
open Cert.Kernel23Ideal Cert.Kernel23Ideal.Gen Idealize.ShloMosaic Idealize.ShloMosaic.TcCoe Idealize.SL.Sem
open Idealize.ShloMosaic.Pipeline

/-- The gradient, at row `i` and column `e`. -/
def prod (U : S1024x2048.Idx → EReal) (W : S1024x2048.Idx → EReal) : S1024x1024.Idx → EReal := fun y =>
  ∑ k : Fin 2048, U (ix2 (y 0) k) * W (ix2 (y 1) k)

variable (m : (ℓ : Loc nD τ sig) → Buf (Elt Ideal) ℓ)

/-- The two arguments on a device. -/
def argU (c : Dev nD) : S1024x2048.Idx → EReal := m ((c : Thread nD τ).loc main_arg0)
def argW (c : Dev nD) : S1024x2048.Idx → EReal := m ((c : Thread nD τ).loc main_arg1)

/-- The prepared matrix is the transposed one. -/
theorem host1 (c : Dev nD) (k : Fin 2048) (e : Fin 1024) : V m c main_v1 (ix2 k e) = argW m c (ix2 e k) := by
  show StableHlo.after hostOps0 (fun b => m (c, b)) main_v1 _ = _
  after_results_simp
  pointwise []
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A block of the left factor holds 1024 consecutive rows of it. -/
theorem blk0 (c : Dev nD) (t : Fin cfg0.N) (i : Fin 1024) (k : Fin 2048) :
    iblk m c 0 t (ix2 i k) = argU m c (ix2 ⟨t.val * 1024 + i.val, by have := t.isLt; have : cfg0.N = 1 := N_0; omega⟩ k) := by
  unfold iblk
  rw [View.read_apply]
  show V m c main_arg0 _ = _
  rw [V_main_arg0]
  have hi := index0 t
  refine congrArg _ (funext fun a => Fin.ext ?_)
  match a with
  | ⟨0, _⟩ => show win0_0.index t 0 * 1024 + 1 * i.val = _; rw [hi.1]; simp
  | ⟨1, _⟩ => show win0_0.index t 1 * 2048 + 1 * k.val = _; rw [hi.2]; simp

/-- The block of the right factor is the whole of it. -/
theorem blk1 (c : Dev nD) (t : Fin cfg0.N) (k : Fin 2048) (e : Fin 1024) :
    iblk m c 1 t (ix2 k e) = argW m c (ix2 e k) := by
  rw [← host1]
  unfold iblk
  rw [View.read_apply]
  have hi := index1 t
  refine congrArg (V m c main_v1) (funext fun a => Fin.ext ?_)
  match a with
  | ⟨0, _⟩ => show win0_1.index t 0 * 2048 + 1 * k.val = _; rw [hi.1]; simp
  | ⟨1, _⟩ => show win0_1.index t 1 * 1024 + 1 * e.val = _; rw [hi.2]; simp

/-- A block's product at an index. -/
theorem pay_apply (x : Vec Ideal S1024x2048 .f32) (w : Vec Ideal S2048x1024 .bf16) (i e : Fin 1024) :
    k0_pay1 x w (ix2 i e) = ∑ k : Fin 2048, x (ix2 i k) * w (ix2 k e) := by
  pointwise [k0_pay1]

/-- What the body leaves in the output's buffer. -/
theorem out_apply (x : Vec Ideal S1024x2048 .f32) (w : Vec Ideal S2048x1024 .bf16) (i e : Fin 1024) :
    out0_2 x w (ix2 i e) = ∑ k : Fin 2048, x (ix2 i k) * w (ix2 k e) := by
  unfold out0_2
  rw [View.canon_cons_unit_zero (by decide) inb_S1024x1024_S1024x1024_0_0,
    View.ld_unit_zero (by decide) inb_S1024x2048_S1024x2048_0_0 x, View.ld_unit_zero (by decide) inb_S2048x1024_S2048x1024_0_0 w, pay_apply]

theorem flushed (c : Dev nD) (t : Fin cfg0.N) :
    (dats m 0 c).flushed 2 t = ((View.whole main_v2).slice (win0_2.rect t)).read (Elt Ideal) (prod (argU m c) (argW m c)) := by
  show (cfg0.win 2).cut (grid0.coords t) ((dats m 0 c).after 2 t) = _
  rw [after0_2]
  funext j
  rw [View.read_apply]
  obtain ⟨i, e, rfl⟩ : ∃ (i : Fin 1024) (e : Fin 1024), j = ix2 i e := ⟨j 0, j 1, eq_ix2 j⟩
  show out0_2 _ _ (ix2 i e) = _
  rw [out_apply]
  simp only [blk0, blk1]
  have hi := index2 t
  have hN : t.val < 1 := lt_of_lt_of_eq t.isLt N_0
  have he : ((cfg0.win 2).blk t).view.emb (ix2 i e) = ix2 (⟨t.val * 1024 + i.val, by omega⟩ : Fin 1024) e := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * e.val = e.val; rw [hi.2]; omega
  rw [he]
  rfl

/-- The result array is the product. -/
theorem final (c : Dev nD) : (dats m 0 c).arrAt 2 cfg0.N = prod (argU m c) (argW m c) :=
  (dats m 0 c).arrAt_eq_of_cover 2 (prod (argU m c) (argW m c)) (fun t _ => flushed m c t) fun i => by
    have h0 : (i 0 : Nat) < 1024 := (i 0).isLt
    have h1 : (i 1 : Nat) < 1024 := (i 1).isLt
    let t : Fin cfg0.N := ⟨(i 0).val / 1024, by rw [show cfg0.N = 1 from N_0]; omega⟩
    refine ⟨t, flush0_2 t, ?_⟩
    have hi := index2 t
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result is the product. -/
theorem ref (U : S1024x2048.Idx → EReal) (W : S1024x2048.Idx → EReal) :
    Cert.Reference23Ideal.Read.val_main_v3 (F := Ideal) U W = prod U W := by
  funext y
  obtain ⟨i, e, rfl⟩ : ∃ (i : Fin 1024) (e : Fin 1024), y = ix2 i e := ⟨y 0, y 1, eq_ix2 y⟩
  unfold prod
  pointwise [Cert.Reference23Ideal.Read.val_main_v3, Cert.Reference23Ideal.Read.val_main_v2]

/-- The kernel runs and leaves its arguments and the counters as they were; so it does over the extended reals, and so
    does the reference. -/
theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ =>
  (θ_run Cert.Reference23Ideal.defs _ _).mono
    (fun r h => ⟨fun c => (h c).2, Idealize.ShloMosaic.sem_eq_zero_of_no_sems (by decide) r.2⟩)
    (Cert.Reference23Ideal.Value.run (F := Ideal) m ρ)

/-- From arguments that agree, the kernel's result and the reference's are the product of the arguments. -/
theorem algebraic : Cert.algebraic_Kernel23Ideal_Reference23Ideal := by
  intro m ρ m' ρ' _ hagree
  refine ⟨fun c => prod (argU m c) (argW m c), ?_, ?_⟩
  · refine (θ_run Cert.Kernel23Ideal.defs _ _).mono (fun r h c => ?_) (Cert.Kernel23Ideal.Value.run_blocks m ρ)
    exact ⟨(h c).1.trans (final m c), (h c).2⟩
  · refine (θ_run Cert.Reference23Ideal.defs _ _).mono (fun r h c => ?_) (Cert.Reference23Ideal.Value.run (F := Ideal) m' ρ')
    obtain ⟨a0, a1⟩ := hagree c
    refine ⟨(h c).1.trans ?_, (h c).2⟩
    rw [Cert.Reference23Ideal.Read.val_main_v3_eq, a0, a1]
    exact ref _ _

end Cert.MemKvDx
end
-- ==== Proof.LossSum.lean ====
module

public import proofs.«01_k».proof.Defs
public import proofs.«01_k».proof.Proof.Gen.Kernel24Ideal.Frame
public import proofs.«01_k».proof.Proof.Swap
public import Idealize.ShloMosaic.PureOps.Ideal
public import Idealize.ShloMosaic.Lib.Pointwise

/-! The partial sums of the loss head. A grid point cuts its 512 rows of 1024 squares into 64 times 8 tiles of 8 by 128
    and adds the tiles up, one after the other. -/

@[expose] public section
set_option maxRecDepth 16384

noncomputable section
namespace Cert.LossSum
open Cert.Kernel24Ideal Cert.Kernel24Ideal.Gen Idealize.ShloMosaic Idealize.ShloMosaic.TcCoe

/-- Tile number `k` lies inside the rows. -/
theorem fits {k : ℕ} (h : k < 512) : S512x1024.Slices ![8 * (k / 8), 128 * (k % 8)] S8x128 := by
  refine ⟨rfl, fun a => ?_⟩
  match a with
  | ⟨0, _⟩ => show 8 * (k / 8) + 8 ≤ 512; omega
  | ⟨1, _⟩ => show 128 * (k % 8) + 128 ≤ 1024; omega

/-- Tile number `k`, row of tiles by row of tiles. -/
def tile (Q : FVec Ideal S512x1024 .f32) (k : ℕ) (h : k < 512) : FVec Ideal S8x128 .f32 :=
  extractStridedSlice S8x128 ![8 * (k / 8), 128 * (k % 8)] Q (fits h)

/-- `m` tiles from number `k` on, added one after the other to `p`. -/
def addN (Q : FVec Ideal S512x1024 .f32) (k : ℕ) (p : FVec Ideal S8x128 .f32) : (m : ℕ) → k + m ≤ 512 → FVec Ideal S8x128 .f32
  | 0, _ => p
  | m + 1, h => addf (addN Q k p m (by omega)) (tile Q (k + m) (by omega))

/-- An entry of a tile, for any number. -/
def entry (Q : S512x1024.Idx → EReal) (y : S8x128.Idx) (k : ℕ) : EReal := if h : k < 512 then tile Q k h y else 0

theorem addN_apply (Q : FVec Ideal S512x1024 .f32) (k : ℕ) (p : FVec Ideal S8x128 .f32) (y : S8x128.Idx) :
    ∀ (m : ℕ) (h : k + m ≤ 512), addN Q k p m h y = p y + ∑ i ∈ Finset.range m, entry Q y (k + i)
  | 0, _ => by rw [Finset.sum_range_zero, add_zero]; rfl
  | m + 1, h => by
    rw [Finset.sum_range_succ, ← add_assoc, ← addN_apply Q k p y m (by omega), entry, dif_pos (by omega)]
    rfl

/-- The body's terms that add thirty tiles each. -/
def thirty : ℕ → FVec Ideal S512x1024 .f32 → FVec Ideal S8x128 .f32 → FVec Ideal S8x128 .f32
  | 0 => k0_pay11 | 1 => k0_pay12 | 2 => k0_pay13 | 3 => k0_pay14 | 4 => k0_pay15 | 5 => k0_pay16 | 6 => k0_pay17
  | 7 => k0_pay18 | 8 => k0_pay19 | 9 => k0_pay20 | 10 => k0_pay21 | 11 => k0_pay22 | 12 => k0_pay23 | 13 => k0_pay24
  | 14 => k0_pay25 | _ => k0_pay26

theorem thirty_eq (Q : FVec Ideal S512x1024 .f32) (p : FVec Ideal S8x128 .f32) (n : ℕ) (h : n < 16) :
    thirty n Q p = addN Q (9 + 30 * n) p 30 (by omega) := by
  interval_cases n <;> rfl

/-- The first nine tiles, and the terms of thirty after them. -/
def upTo (Q : FVec Ideal S512x1024 .f32) (p : FVec Ideal S8x128 .f32) : ℕ → FVec Ideal S8x128 .f32
  | 0 => p
  | n + 1 => thirty n Q (upTo Q p n)

/-- The sum of all tiles. -/
def parts (Q : S512x1024.Idx → EReal) (y : S8x128.Idx) : EReal := ∑ k ∈ Finset.range 512, entry Q y k

theorem upTo_apply (Q : FVec Ideal S512x1024 .f32) (y : S8x128.Idx) : ∀ n ≤ 16,
    upTo Q (addN Q 0 (broadcast S8x128 (Scalar.ofBits .f32 0x00000000#32)) 9 (by omega)) n y
      = ∑ k ∈ Finset.range (9 + 30 * n), entry Q y k
  | 0, _ => by
    show addN Q 0 _ 9 _ y = _
    rw [addN_apply]
    show Ideal.ofBits .f32 0x00000000#32 + _ = _
    simp only [Ideal.ofBits_zero_f32, zero_add, Nat.mul_zero, Nat.add_zero]
  | n + 1, h => by
    show thirty n Q _ y = _
    rw [thirty_eq _ _ _ (by omega), addN_apply, upTo_apply Q y n (by omega),
      show 9 + 30 * (n + 1) = (9 + 30 * n) + 30 by omega]
    exact (Finset.sum_range_add _ _ _).symm

/-- What the body adds up is the sum of all tiles. -/
theorem chain (x0 : Vec Ideal S512x1024 .bf16) (x1 : Vec Ideal S1x1024 .f32) (x2 x3 : Vec Ideal S512x1024 .f32) :
    k0_pay10 x0 x1 x2 x3
      = addN (k0_pay9 x0 x1 x2 x3) 0 (broadcast S8x128 (Scalar.ofBits .f32 0x00000000#32)) 9 (by omega) := rfl
theorem last_tiles (Q : FVec Ideal S512x1024 .f32) (p : FVec Ideal S8x128 .f32) :
    k0_pay27 Q p = addN Q 489 p 23 (by omega) := rfl
theorem all_tiles (x0 : Vec Ideal S512x1024 .bf16) (x1 : Vec Ideal S1x1024 .f32) (x2 x3 : Vec Ideal S512x1024 .f32) :
    k0_pay27 (k0_pay9 x0 x1 x2 x3) (upTo (k0_pay9 x0 x1 x2 x3) (k0_pay10 x0 x1 x2 x3) 16) = parts (k0_pay9 x0 x1 x2 x3) := by
  funext y
  rw [last_tiles, addN_apply, chain, upTo_apply _ _ 16 le_rfl]
  exact (Finset.sum_range_add _ (9 + 30 * 16) 23).symm

/-- An entry of a tile, by coordinates. -/
theorem entry_apply (Q : S512x1024.Idx → EReal) (a : Fin 8) (b : Fin 128) (r : Fin 64) (s : Fin 8) :
    entry Q (ix2 a b) (r.val * 8 + s.val)
      = Q (ix2 ⟨r.val * 8 + a.val, by omega⟩ ⟨s.val * 128 + b.val, by omega⟩) := by
  rw [entry, dif_pos (by omega)]
  refine congrArg Q (funext fun d => Fin.ext ?_)
  match d with
  | ⟨0, _⟩ => show 8 * ((r.val * 8 + s.val) / 8) + a.val = r.val * 8 + a.val; omega
  | ⟨1, _⟩ => show 128 * ((r.val * 8 + s.val) % 8) + b.val = s.val * 128 + b.val; omega

/-- The sum of all entries of the sum of all tiles is the sum of all entries. -/
theorem sum_tiles (Q : S512x1024.Idx → EReal) : (∑ y, parts Q y) = ∑ i : Fin 512, ∑ j : Fin 1024, Q (ix2 i j) := by
  have hl : ∀ a b, parts Q (ix2 a b) = ∑ r : Fin 64, ∑ s : Fin 8,
      Q (ix2 ⟨r.val * 8 + a.val, by omega⟩ ⟨s.val * 128 + b.val, by omega⟩) := fun a b => by
    unfold parts
    rw [Finset.sum_range, ← Cert.Ffn.sum_parts 64 8 rfl (fun k : Fin 512 => entry Q (ix2 a b) k.val) fun r s => by omega]
    exact Finset.sum_congr rfl fun r _ => Finset.sum_congr rfl fun s _ => entry_apply Q a b r s
  refine (ValueIdx.sum_idx2 (n0 := 8) (n1 := 128) _).trans
    ((Finset.sum_congr rfl fun a _ => Finset.sum_congr rfl fun b _ => hl a b).trans ?_)
  rw [← Cert.Ffn.sum_parts 64 8 rfl (fun i : Fin 512 => ∑ j : Fin 1024, Q (ix2 i j)) fun r a => by omega]
  refine Eq.trans (Finset.sum_congr rfl fun a _ => ?_) Finset.sum_comm
  refine Finset.sum_comm.trans (Finset.sum_congr rfl fun r _ => Finset.sum_comm.trans ?_)
  exact Cert.Ffn.sum_parts 8 128 rfl (fun j : Fin 1024 => Q (ix2 ⟨r.val * 8 + a.val, by omega⟩ j)) fun s b => by omega

end Cert.LossSum
end
-- ==== Proof.LossGrad.lean ====
module

public import proofs.«01_k».proof.Defs
public import proofs.«01_k».proof.Proof.Gen.Kernel24
public import proofs.«01_k».proof.Proof.Gen.Kernel24.Frame
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.NormGrad
public import proofs.«01_k».proof.Proof.LossSum

/-! The loss and the gradients of its head: of the residual stream, of the last block's output through its norm, and of
    that norm's weights. A grid point takes 512 tokens; the loss's partial sums and the weights' gradient stay from point
    to point. -/

@[expose] public section
set_option maxRecDepth 16384

noncomputable section
namespace Cert.LossGrad
open Cert.Kernel24Ideal Cert.Kernel24Ideal.Gen Idealize.ShloMosaic Idealize.ShloMosaic.TcCoe Idealize.SL.Sem
open Idealize.ShloMosaic.Pipeline Cert.Norm
open Cert.NormGrad (wrow col blkW running ld_row canon_row)

/-- The word 2⁻¹⁰ by which the kernel multiplies. -/
def scl : EReal := Ideal.ofBits .f32 0x3A800000#32

/-- The gradient of the loss at every entry: the weighted norm of `Y` plus `X`, less the target, times 2⁻¹⁰. -/
def diffs {n : ℕ} (Y X T : (⟨2, ![n, 1024]⟩ : Shape).Idx → EReal) (w : Fin 1024 → EReal)
    (y : (⟨2, ![n, 1024]⟩ : Shape).Idx) : EReal := (nrm (row Y (y 0)) (y 1) * w (y 1) + X y - T y) * scl

/-- The same without the factor, and squared: the error. -/
def errs {n : ℕ} (Y X T : (⟨2, ![n, 1024]⟩ : Shape).Idx → EReal) (w : Fin 1024 → EReal)
    (y : (⟨2, ![n, 1024]⟩ : Shape).Idx) : EReal := nrm (row Y (y 0)) (y 1) * w (y 1) + X y - T y
def sqs {n : ℕ} (Y X T : (⟨2, ![n, 1024]⟩ : Shape).Idx → EReal) (w : Fin 1024 → EReal)
    (y : (⟨2, ![n, 1024]⟩ : Shape).Idx) : EReal := errs Y X T w y * errs Y X T w y

/-! ### One block -/

section Body
variable (x0 : Vec Ideal S512x1024 .bf16) (x1 s : Vec Ideal S1x1024 .f32) (x2 x3 : Vec Ideal S512x1024 .f32)

theorem pay5_apply (i : Fin 512) : k0_pay5 x0 (ix2 i 0) = inv (row x0 i) := by
  pointwise [k0_pay5, k0_pay4]
  rfl
theorem pay6_apply (i : Fin 512) (j : Fin 1024) : k0_pay6 x0 (ix2 i j) = nrm (row x0 i) j := by
  pointwise [k0_pay6, k0_pay4]
  rw [pay5_apply]
  rfl
theorem pay8_eq : k0_pay8 x0 x1 x2 x3 = diffs x0 x2 x3 (wrow x1) := by
  funext y
  obtain ⟨i, j, rfl⟩ : ∃ (i : Fin 512) (j : Fin 1024), y = ix2 i j := ⟨y 0, y 1, eq_ix2 y⟩
  pointwise [k0_pay8, k0_pay7]
  rw [pay6_apply]
  rfl

/-- The squared errors, and the sum of a point's partial sums and what the point before left. -/
theorem pay9_eq : k0_pay9 x0 x1 x2 x3 = sqs x0 x2 x3 (wrow x1) := by
  funext y
  obtain ⟨i, j, rfl⟩ : ∃ (i : Fin 512) (j : Fin 1024), y = ix2 i j := ⟨y 0, y 1, eq_ix2 y⟩
  pointwise [k0_pay9, k0_pay7]
  rw [pay6_apply]
  rfl
theorem pay1_eq (p q : Vec Ideal S8x128 .f32) : k0_pay1 p q = fun y => q y + p y := by
  funext y
  obtain ⟨i, j, rfl⟩ : ∃ (i : Fin 8) (j : Fin 128), y = ix2 i j := ⟨y 0, y 1, eq_ix2 y⟩
  pointwise [k0_pay1]

/-- The gradient through the norm, and the block's part of the weights' gradient. -/
theorem pay3_eq (D : Vec Ideal S512x1024 .f32) : k0_pay3 (k0_pay5 x0) (k0_pay6 x0) D x1 = dnorms x0 D (wrow x1) := by
  funext y
  obtain ⟨i, j, rfl⟩ : ∃ (i : Fin 512) (j : Fin 1024), y = ix2 i j := ⟨y 0, y 1, eq_ix2 y⟩
  pointwise [k0_pay3]
  simp only [pay6_apply, pay5_apply]
  rfl
theorem pay28_eq (D : Vec Ideal S512x1024 .f32) : k0_pay28 (k0_pay6 x0) D = blkW x0 D := by
  funext y
  obtain ⟨i, j, rfl⟩ : ∃ (i : Fin 1) (j : Fin 1024), y = ix2 i j := ⟨y 0, y 1, eq_ix2 y⟩
  pointwise [k0_pay28]
  simp only [pay6_apply]
  rfl
theorem pay2_eq (p : Vec Ideal S1x1024 .f32) : k0_pay2 p s = fun y => s y + p y := by
  funext y
  obtain ⟨i, j, rfl⟩ : ∃ (i : Fin 1) (j : Fin 1024), y = ix2 i j := ⟨y 0, y 1, eq_ix2 y⟩
  pointwise [k0_pay2]

/-- Loads and stores of a whole block. -/
theorem ld_tok {e : EltTy} (x : Vec Ideal S512x1024 e) :
    View.ld x (Rect.unit ![0, 0] ![512, 1024] inb_S512x1024_S512x1024_0_0) = x :=
  View.ld_unit_zero (by decide) inb_S512x1024_S512x1024_0_0 x
theorem canon_tok {e : EltTy} (x : Vec Ideal S512x1024 e) :
    View.canon [⟨Rect.unit ![0, 0] ![512, 1024] inb_S512x1024_S512x1024_0_0, x⟩] = x :=
  View.canon_cons_unit_zero (by decide) inb_S512x1024_S512x1024_0_0 x _

theorem ld_part (x : Vec Ideal S8x128 .f32) : View.ld x (Rect.unit ![0, 0] ![8, 128] inb_S8x128_S8x128_0_0) = x :=
  View.ld_unit_zero (by decide) inb_S8x128_S8x128_0_0 x
theorem canon_part (x : Vec Ideal S8x128 .f32) :
    View.canon [⟨Rect.unit ![0, 0] ![8, 128] inb_S8x128_S8x128_0_0, x⟩] = x :=
  View.canon_cons_unit_zero (by decide) inb_S8x128_S8x128_0_0 x _

variable (q : Vec Ideal S8x128 .f32) (c : Dev nD) (i : grid0.Coords)
  (a1 : Memref sig .tc .vmem S512x1024 .bf16) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S8x128 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)

/-- What the body leaves of the partial sums: the tiles' sum at the first point, and at a later one the sum with what was
    there. -/
theorem out_A_4 (hc0 : cond0_0 i) (hc1 : ¬cond0_1 i) :
    out0_A_4 c i a1 h1 a2 h2 a3 h3 a4 h4 a5 h5 a6 h6 a7 h7 a8 h8 hc0 hc1 x0 x1 x2 x3 = Cert.LossSum.parts (sqs x0 x2 x3 (wrow x1)) := by
  have hc := cover0_A_4 c i a1 h1 a2 h2 a3 h3 a4 h4 a5 h5 a6 h6 a7 h7 a8 h8 hc0 hc1 x0 x1 x2 x3
  unfold out0_A_4
  rw [View.read_writes_eq_canon _ _ _ hc]
  unfold kernelRun0_A
  dsimp only
  sl_unfold_words
  simp only [View.readAt_eq_ld, h1.read_unread, h2.read_unread, h3.read_unread, h4.read_unread, h5.read_unread,
    ld_tok, ld_row, canon_part]
  rw [← pay9_eq]
  exact Cert.LossSum.all_tiles x0 x1 x2 x3
theorem out_B_4 (hc0 : ¬cond0_0 i) (hc1 : cond0_1 i) :
    out0_B_4 c i a1 h1 a2 h2 a3 h3 a4 h4 a5 h5 a6 h6 a7 h7 a8 h8 hc0 hc1 x0 x1 x2 x3 q s = fun y => q y + Cert.LossSum.parts (sqs x0 x2 x3 (wrow x1)) y := by
  have hc := cover0_B_4 c i a1 h1 a2 h2 a3 h3 a4 h4 a5 h5 a6 h6 a7 h7 a8 h8 hc0 hc1 x0 x1 x2 x3 q s
  unfold out0_B_4
  rw [View.read_writes_eq_canon _ _ _ hc]
  unfold kernelRun0_B
  dsimp only
  sl_unfold_words
  simp only [View.readAt_eq_ld, h1.read_unread, h2.read_unread, h3.read_unread, h4.read_unread, h5.read_unread,
    ld_tok, ld_row, canon_part, ld_part, pay1_eq]
  rw [← pay9_eq, ← Cert.LossSum.all_tiles x0 x1 x2 x3]
  rfl

/-- What the body leaves at the first point in the three gradients' buffers. -/
theorem out_A_5 (hc0 : cond0_0 i) (hc1 : ¬cond0_1 i) :
    out0_A_5 c i a1 h1 a2 h2 a3 h3 a4 h4 a5 h5 a6 h6 a7 h7 a8 h8 hc0 hc1 x0 x1 x2 x3 = diffs x0 x2 x3 (wrow x1) := by
  have hc := cover0_A_5 c i a1 h1 a2 h2 a3 h3 a4 h4 a5 h5 a6 h6 a7 h7 a8 h8 hc0 hc1 x0 x1 x2 x3
  unfold out0_A_5
  rw [View.read_writes_eq_canon _ _ _ hc]
  unfold kernelRun0_A
  dsimp only
  sl_unfold_words
  simp only [View.readAt_eq_ld, h1.read_unread, h2.read_unread, h3.read_unread, h4.read_unread, h8.read_unread,
    ld_tok, ld_row, canon_tok, canon_row, pay8_eq]
theorem out_A_6 (hc0 : cond0_0 i) (hc1 : ¬cond0_1 i) :
    out0_A_6 c i a1 h1 a2 h2 a3 h3 a4 h4 a5 h5 a6 h6 a7 h7 a8 h8 hc0 hc1 x0 x1 x2 x3 = dnorms x0 (diffs x0 x2 x3 (wrow x1)) (wrow x1) := by
  have hc := cover0_A_6 c i a1 h1 a2 h2 a3 h3 a4 h4 a5 h5 a6 h6 a7 h7 a8 h8 hc0 hc1 x0 x1 x2 x3
  unfold out0_A_6
  rw [View.read_writes_eq_canon _ _ _ hc]
  unfold kernelRun0_A
  dsimp only
  sl_unfold_words
  simp only [View.readAt_eq_ld, h1.read_unread, h2.read_unread, h3.read_unread, h4.read_unread, h8.read_unread,
    ld_tok, ld_row, canon_tok, canon_row, pay8_eq, pay3_eq]
theorem out_A_7 (hc0 : cond0_0 i) (hc1 : ¬cond0_1 i) :
    out0_A_7 c i a1 h1 a2 h2 a3 h3 a4 h4 a5 h5 a6 h6 a7 h7 a8 h8 hc0 hc1 x0 x1 x2 x3 = blkW x0 (diffs x0 x2 x3 (wrow x1)) := by
  have hc := cover0_A_7 c i a1 h1 a2 h2 a3 h3 a4 h4 a5 h5 a6 h6 a7 h7 a8 h8 hc0 hc1 x0 x1 x2 x3
  unfold out0_A_7
  rw [View.read_writes_eq_canon _ _ _ hc]
  unfold kernelRun0_A
  dsimp only
  sl_unfold_words
  simp only [View.readAt_eq_ld, h1.read_unread, h2.read_unread, h3.read_unread, h4.read_unread, h8.read_unread,
    ld_tok, ld_row, canon_tok, canon_row, pay8_eq, pay28_eq]

/-- What it leaves there at a later point: the part of the weights' gradient is added to what the row held. -/
theorem out_B_5 (hc0 : ¬cond0_0 i) (hc1 : cond0_1 i) :
    out0_B_5 c i a1 h1 a2 h2 a3 h3 a4 h4 a5 h5 a6 h6 a7 h7 a8 h8 hc0 hc1 x0 x1 x2 x3 q s = diffs x0 x2 x3 (wrow x1) := by
  have hc := cover0_B_5 c i a1 h1 a2 h2 a3 h3 a4 h4 a5 h5 a6 h6 a7 h7 a8 h8 hc0 hc1 x0 x1 x2 x3 q s
  unfold out0_B_5
  rw [View.read_writes_eq_canon _ _ _ hc]
  unfold kernelRun0_B
  dsimp only
  sl_unfold_words
  simp only [View.readAt_eq_ld, h1.read_unread, h2.read_unread, h3.read_unread, h4.read_unread, h8.read_unread,
    ld_tok, ld_row, canon_tok, canon_row, pay8_eq]
theorem out_B_6 (hc0 : ¬cond0_0 i) (hc1 : cond0_1 i) :
    out0_B_6 c i a1 h1 a2 h2 a3 h3 a4 h4 a5 h5 a6 h6 a7 h7 a8 h8 hc0 hc1 x0 x1 x2 x3 q s = dnorms x0 (diffs x0 x2 x3 (wrow x1)) (wrow x1) := by
  have hc := cover0_B_6 c i a1 h1 a2 h2 a3 h3 a4 h4 a5 h5 a6 h6 a7 h7 a8 h8 hc0 hc1 x0 x1 x2 x3 q s
  unfold out0_B_6
  rw [View.read_writes_eq_canon _ _ _ hc]
  unfold kernelRun0_B
  dsimp only
  sl_unfold_words
  simp only [View.readAt_eq_ld, h1.read_unread, h2.read_unread, h3.read_unread, h4.read_unread, h8.read_unread,
    ld_tok, ld_row, canon_tok, canon_row, pay8_eq, pay3_eq]
theorem out_B_7 (hc0 : ¬cond0_0 i) (hc1 : cond0_1 i) :
    out0_B_7 c i a1 h1 a2 h2 a3 h3 a4 h4 a5 h5 a6 h6 a7 h7 a8 h8 hc0 hc1 x0 x1 x2 x3 q s = fun y => s y + blkW x0 (diffs x0 x2 x3 (wrow x1)) y := by
  have hc := cover0_B_7 c i a1 h1 a2 h2 a3 h3 a4 h4 a5 h5 a6 h6 a7 h7 a8 h8 hc0 hc1 x0 x1 x2 x3 q s
  unfold out0_B_7
  rw [View.read_writes_eq_canon _ _ _ hc]
  unfold kernelRun0_B
  dsimp only
  sl_unfold_words
  simp only [View.readAt_eq_ld, h1.read_unread, h2.read_unread, h3.read_unread, h4.read_unread, h8.read_unread,
    ld_tok, ld_row, canon_tok, canon_row, pay8_eq, pay28_eq, pay2_eq]

end Body

/-! ### The arrays -/

variable (m : (ℓ : Loc nD τ sig) → Buf (Elt Ideal) ℓ)

/-- The arguments on a device: the last block's output and its norm's weights, the residual stream and the target. -/
def argY (c : Dev nD) : S8192x1024.Idx → EReal := m ((c : Thread nD τ).loc main_arg0)
def argW (c : Dev nD) : S1024.Idx → EReal := m ((c : Thread nD τ).loc main_arg1)
def argX (c : Dev nD) : S8192x1024.Idx → EReal := m ((c : Thread nD τ).loc main_arg2)
def argT (c : Dev nD) : S8192x1024.Idx → EReal := m ((c : Thread nD τ).loc main_arg3)

theorem index_tok : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_5.index t 0 = t.val ∧ win0_5.index t 1 = 0)
    ∧ (win0_6.index t 0 = t.val ∧ win0_6.index t 1 = 0) :=
  (by decide +kernel : ∀ t : Fin grid0.N, _)
theorem index_part : ∀ t : Fin cfg0.N, win0_4.index t 0 = 0 ∧ win0_4.index t 1 = 0 :=
  (by decide +kernel : ∀ t : Fin grid0.N, _)
theorem index_row : ∀ t : Fin cfg0.N, (win0_1.index t 0 = 0 ∧ win0_1.index t 1 = 0) ∧ (win0_7.index t 0 = 0 ∧ win0_7.index t 1 = 0) :=
  (by decide +kernel : ∀ t : Fin grid0.N, _)

/-- The token that row `i` of a point's block holds. -/
def tok (t : Fin cfg0.N) (i : Fin 512) : Fin 8192 := ⟨t.val * 512 + i.val, by have : t.val < 16 := lt_of_lt_of_eq t.isLt N_0; omega⟩

/-- A point's blocks of the three token arrays hold its tokens' rows; the weights come whole. -/
theorem blk0 (c : Dev nD) (t : Fin cfg0.N) (i : Fin 512) : row (iblk m c 0 t) i = row (argY m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 512 + 1 * i.val = t.val * 512 + i.val; rw [hi.1]; omega
  | ⟨1, _⟩ => show win0_0.index t 1 * 1024 + 1 * j.val = j.val; rw [hi.2]; omega
theorem blk2 (c : Dev nD) (t : Fin cfg0.N) (i : Fin 512) : row (iblk m c 2 t) i = row (argX m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 512 + 1 * i.val = t.val * 512 + i.val; rw [hi.1]; omega
  | ⟨1, _⟩ => show win0_2.index t 1 * 1024 + 1 * j.val = j.val; rw [hi.2]; omega
theorem blk3 (c : Dev nD) (t : Fin cfg0.N) (i : Fin 512) : row (iblk m c 3 t) i = row (argT m c) (tok t i) := by
  funext j
  unfold row iblk
  rw [View.read_apply]
  show V m c main_arg3 _ = _
  rw [V_main_arg3]
  have hi := (index_tok t).2.2.1
  refine congrArg _ (funext fun a => Fin.ext ?_)
  match a with
  | ⟨0, _⟩ => show win0_3.index t 0 * 512 + 1 * i.val = t.val * 512 + i.val; rw [hi.1]; omega
  | ⟨1, _⟩ => show win0_3.index t 1 * 1024 + 1 * j.val = j.val; rw [hi.2]; omega
theorem blk1 (c : Dev nD) (t : Fin cfg0.N) : wrow (iblk m c 1 t) = col (argW m c) := by
  funext j
  unfold wrow iblk
  rw [View.read_apply]
  show V m c main_v0 _ = _
  after_results_simp
  have hi := (index_row t).1
  refine Cert.NormGrad.as_row _ _ _ ?_
  show win0_1.index t 1 * 1024 + 1 * j.val = j.val; rw [hi.2]; omega

/-- A point's block of squared errors. -/
def blkQ (c : Dev nD) (t : Fin cfg0.N) : S512x1024.Idx → EReal :=
  sqs (iblk m c 0 t) (iblk m c 2 t) (iblk m c 3 t) (wrow (iblk m c 1 t))
theorem blkQ_apply (c : Dev nD) (t : Fin cfg0.N) (i : Fin 512) (j : Fin 1024) :
    blkQ m c t (ix2 i j) = sqs (argY m c) (argX m c) (argT m c) (col (argW m c)) (ix2 (tok t i) j) := by
  have e : errs (iblk m c 0 t) (iblk m c 2 t) (iblk m c 3 t) (wrow (iblk m c 1 t)) (ix2 i j)
      = errs (argY m c) (argX m c) (argT m c) (col (argW m c)) (ix2 (tok t i) j) := by
    show nrm (row (iblk m c 0 t) i) j * wrow (iblk m c 1 t) j + row (iblk m c 2 t) i j - row (iblk m c 3 t) i j = _
    rw [blk0, blk1, blk2, blk3]
    rfl
  show errs _ _ _ _ (ix2 i j) * errs _ _ _ _ (ix2 i j) = _
  rw [e]
  rfl

/-- The partial sums after the last point, and the loss: half the sum of the squared errors, over the width. -/
def point (s : Fin 16) : Fin cfg0.N := ⟨s.val, by rw [show cfg0.N = 16 from N_0]; exact s.isLt⟩
def resP (c : Dev nD) : S8x128.Idx → EReal := fun y => ∑ s : Fin 16, Cert.LossSum.parts (blkQ m c (point s)) y
def total (Q : S8192x1024.Idx → EReal) : EReal := (∑ n : Fin 8192, ∑ j : Fin 1024, Q (ix2 n j)) * ((1 / 2048 : ℝ) : EReal)
def resL (c : Dev nD) : S_.Idx → EReal := fun _ => total (sqs (argY m c) (argX m c) (argT m c) (col (argW m c)))

theorem sum_resP (c : Dev nD) : (∑ y, resP m c y)
    = ∑ n : Fin 8192, ∑ j : Fin 1024, sqs (argY m c) (argX m c) (argT m c) (col (argW m c)) (ix2 n j) := by
  unfold resP
  rw [Finset.sum_comm]
  refine (Finset.sum_congr rfl fun s _ => (Cert.LossSum.sum_tiles _).trans (Finset.sum_congr rfl fun i _ =>
    Finset.sum_congr rfl fun j _ => blkQ_apply m c (point s) i j)).trans ?_
  exact Cert.Ffn.sum_parts 16 512 rfl (fun n => ∑ j : Fin 1024,
    sqs (argY m c) (argX m c) (argT m c) (col (argW m c)) (ix2 n j)) fun s i => by omega

/-- The three gradients. -/
def resD (c : Dev nD) : S8192x1024.Idx → EReal := diffs (argY m c) (argX m c) (argT m c) (col (argW m c))
def resY (c : Dev nD) : S8192x1024.Idx → EReal := dnorms (argY m c) (resD m c) (col (argW m c))
def resW (c : Dev nD) : S1x1024.Idx → EReal := blkW (argY m c) (resD m c)

/-- A point's block of the first gradient. -/
def blkD (c : Dev nD) (t : Fin cfg0.N) : S512x1024.Idx → EReal :=
  diffs (iblk m c 0 t) (iblk m c 2 t) (iblk m c 3 t) (wrow (iblk m c 1 t))
theorem row_blkD (c : Dev nD) (t : Fin cfg0.N) (i : Fin 512) : row (blkD m c t) i = row (resD m c) (tok t i) := by
  funext j
  show (nrm (row (iblk m c 0 t) i) j * wrow (iblk m c 1 t) j + row (iblk m c 2 t) i j - row (iblk m c 3 t) i j) * scl = _
  rw [blk0, blk1, blk2, blk3]
  rfl

/-- What a point leaves of the two gradients of tokens. -/
theorem outs5 (c : Dev nD) (t : Fin cfg0.N) (i : Fin 512) (j : Fin 1024) :
    (outsAt0 m c t.val t.isLt).2.1 (ix2 i j) = resD m c (ix2 (tok t i) j) := by
  refine Eq.trans ?_ (congrFun (row_blkD m c t i) j)
  have hN : t.val < 16 := lt_of_lt_of_eq t.isLt N_0
  by_cases h : t.val = 0
  · rw [outsAt0_A m c t (by omega) (by omega)]
    dsimp only
    rw [out_A_5]
    rfl
  · rw [outsAt0_B m c t (by omega) (by omega)]
    dsimp only
    rw [out_B_5]
    rfl
theorem outs6 (c : Dev nD) (t : Fin cfg0.N) (i : Fin 512) (j : Fin 1024) :
    (outsAt0 m c t.val t.isLt).2.2.1 (ix2 i j) = resY m c (ix2 (tok t i) j) := by
  have e : (outsAt0 m c t.val t.isLt).2.2.1 = dnorms (iblk m c 0 t) (blkD m c t) (wrow (iblk m c 1 t)) := by
    have hN : t.val < 16 := lt_of_lt_of_eq t.isLt N_0
    by_cases h : t.val = 0
    · rw [outsAt0_A m c t (by omega) (by omega)]
      dsimp only
      rw [out_A_6]
      rfl
    · rw [outsAt0_B m c t (by omega) (by omega)]
      dsimp only
      rw [out_B_6]
      rfl
  rw [e]
  show dnorm (row (iblk m c 0 t) i) (row (blkD m c t) i) (wrow (iblk m c 1 t)) j = _
  rw [blk0, blk1, row_blkD]
  rfl

/-- In the partial sums it leaves its own at the first point, and at a later one the sum with what the point before left. -/
theorem part_zero (c : Dev nD) (h : 0 < cfg0.N) : (outsAt0 m c 0 h).1 = Cert.LossSum.parts (blkQ m c ⟨0, h⟩) := by
  have e := outsAt0_A m c ⟨0, h⟩ (Nat.zero_mod _) (Nat.not_succ_le_zero 0)
  rw [out_A_4] at e
  rw [show outsAt0 m c 0 h = _ from e]
  rfl
theorem part_succ (c : Dev nD) (n : ℕ) (h : n + 1 < cfg0.N) (h' : n < cfg0.N) :
    (outsAt0 m c (n + 1) h).1 = fun y => (outsAt0 m c n h').1 y + Cert.LossSum.parts (blkQ m c ⟨n + 1, h⟩) y := by
  have hN : n + 1 < 16 := lt_of_lt_of_eq h N_0
  have e := outsAt0_B m c ⟨n + 1, h⟩ (by show ¬(n + 1) % 16 = 0; omega) (Nat.succ_le_succ (Nat.zero_le n))
  rw [out_B_4] at e
  rw [show outsAt0 m c (n + 1) h = _ from e]
  rfl
theorem part_last (c : Dev nD) (h : 15 < cfg0.N) : (outsAt0 m c 15 h).1 = resP m c := by
  funext y
  exact running (fun n hn => (outsAt0 m c n hn).1 y) (fun n hn => Cert.LossSum.parts (blkQ m c ⟨n, hn⟩) y)
    (fun h => congrFun (part_zero m c h) y) (fun n h h' => congrFun (part_succ m c n h h') y) 15 h

/-- In the row of the weights' gradient it leaves its own part at the first point, and at a later one the sum with what
    the point before left. -/
theorem outs_zero (c : Dev nD) (h : 0 < cfg0.N) :
    (outsAt0 m c 0 h).2.2.2 = blkW (iblk m c 0 ⟨0, h⟩) (blkD m c ⟨0, h⟩) := by
  have e := outsAt0_A m c ⟨0, h⟩ (Nat.zero_mod _) (Nat.not_succ_le_zero 0)
  rw [out_A_7] at e
  rw [show outsAt0 m c 0 h = _ from e]
  rfl
theorem outs_succ (c : Dev nD) (n : ℕ) (h : n + 1 < cfg0.N) (h' : n < cfg0.N) :
    (outsAt0 m c (n + 1) h).2.2.2
      = fun y => (outsAt0 m c n h').2.2.2 y + blkW (iblk m c 0 ⟨n + 1, h⟩) (blkD m c ⟨n + 1, h⟩) y := by
  have hN : n + 1 < 16 := lt_of_lt_of_eq h N_0
  have e := outsAt0_B m c ⟨n + 1, h⟩ (by show ¬(n + 1) % 16 = 0; omega) (Nat.succ_le_succ (Nat.zero_le n))
  rw [out_B_7] at e
  rw [show outsAt0 m c (n + 1) h = _ from e]
  rfl

/-- The row of the weights' gradient after the last point. -/
theorem last (c : Dev nD) (h : 15 < cfg0.N) : (outsAt0 m c 15 h).2.2.2 = resW m c := by
  funext y
  refine (running (fun n hn => (outsAt0 m c n hn).2.2.2 y) (fun n hn => blkW (iblk m c 0 ⟨n, hn⟩) (blkD m c ⟨n, hn⟩) y)
    (fun h => congrFun (outs_zero m c h) y) (fun n h h' => congrFun (outs_succ m c n h h') y) 15 h).trans ?_
  refine (Finset.sum_congr rfl fun s _ => ?_).trans (Cert.Ffn.sum_parts 16 512 rfl (fun n =>
    row (resD m c) n (y 1) * nrm (row (argY m c) n) (y 1)) fun s n => by omega)
  unfold blkW dweight
  simp only [blk0, row_blkD]
  rfl

/-- The last point. -/
def p15 : Fin cfg0.N := ⟨15, by rw [show cfg0.N = 16 from N_0]; omega⟩
theorem p15_mod : p15.val % 16 = 15 := rfl

/-- The gradient of the residual stream, block by block and whole. -/
theorem flushed5 (c : Dev nD) (t : Fin cfg0.N) :
    (dats m 0 c).flushed 5 t = ((View.whole main_v1_1).slice (win0_5.rect t)).read (Elt Ideal) (resD m c) := by
  show (cfg0.win 5).cut (grid0.coords t) ((dats m 0 c).after 5 t) = _
  rw [after0_5]
  funext y
  rw [View.read_apply]
  obtain ⟨i, j, rfl⟩ : ∃ (i : Fin 512) (j : Fin 1024), y = ix2 i j := ⟨y 0, y 1, eq_ix2 y⟩
  show (outsAt0 m c t.val t.isLt).2.1 (ix2 i j) = _
  rw [outs5]
  have hi := (index_tok t).2.2.2.1
  have he : ((cfg0.win 5).blk t).view.emb (ix2 i j) = ix2 (tok t i) j := by
    funext a
    refine Fin.ext ?_
    match a with
    | ⟨0, _⟩ => show win0_5.index t 0 * 512 + 1 * i.val = t.val * 512 + i.val; rw [hi.1]; omega
    | ⟨1, _⟩ => show win0_5.index t 1 * 1024 + 1 * j.val = j.val; rw [hi.2]; omega
  rw [he]
  rfl
theorem final5 (c : Dev nD) : (dats m 0 c).arrAt 5 cfg0.N = resD m c :=
  (dats m 0 c).arrAt_eq_of_cover 5 (resD m c) (fun t _ => flushed5 m c t) fun i => by
    have h0 : (i 0 : Nat) < 8192 := (i 0).isLt
    have h1 : (i 1 : Nat) < 1024 := (i 1).isLt
    let t : Fin cfg0.N := ⟨(i 0).val / 512, by rw [show cfg0.N = 16 from N_0]; omega⟩
    refine ⟨t, flush0_5 t, ?_⟩
    have hi := (index_tok t).2.2.2.1
    show i ∈ ((View.whole main_v1_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; show (i 0).val / 512 * 512 ≤ _ ∧ _ < (i 0).val / 512 * 512 + 512; omega
    | ⟨1, _⟩ =>
      show win0_5.index t 1 * 1024 ≤ (i 1 : Nat) ∧ (i 1 : Nat) < win0_5.index t 1 * 1024 + 1024
      rw [hi.2]; omega

/-- The gradient of the last block's output, block by block and whole. -/
theorem flushed6 (c : Dev nD) (t : Fin cfg0.N) :
    (dats m 0 c).flushed 6 t = ((View.whole main_v1_2).slice (win0_6.rect t)).read (Elt Ideal) (resY m c) := by
  show (cfg0.win 6).cut (grid0.coords t) ((dats m 0 c).after 6 t) = _
  rw [after0_6]
  funext y
  rw [View.read_apply]
  obtain ⟨i, j, rfl⟩ : ∃ (i : Fin 512) (j : Fin 1024), y = ix2 i j := ⟨y 0, y 1, eq_ix2 y⟩
  show (outsAt0 m c t.val t.isLt).2.2.1 (ix2 i j) = _
  rw [outs6]
  have hi := (index_tok t).2.2.2.2
  have he : ((cfg0.win 6).blk t).view.emb (ix2 i j) = ix2 (tok t i) j := by
    funext a
    refine Fin.ext ?_
    match a with
    | ⟨0, _⟩ => show win0_6.index t 0 * 512 + 1 * i.val = t.val * 512 + i.val; rw [hi.1]; omega
    | ⟨1, _⟩ => show win0_6.index t 1 * 1024 + 1 * j.val = j.val; rw [hi.2]; omega
  rw [he]
  rfl
theorem final6 (c : Dev nD) : (dats m 0 c).arrAt 6 cfg0.N = resY m c :=
  (dats m 0 c).arrAt_eq_of_cover 6 (resY m c) (fun t _ => flushed6 m c t) fun i => by
    have h0 : (i 0 : Nat) < 8192 := (i 0).isLt
    have h1 : (i 1 : Nat) < 1024 := (i 1).isLt
    let t : Fin cfg0.N := ⟨(i 0).val / 512, by rw [show cfg0.N = 16 from N_0]; omega⟩
    refine ⟨t, flush0_6 t, ?_⟩
    have hi := (index_tok t).2.2.2.2
    show i ∈ ((View.whole main_v1_2).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [hi.1]; show (i 0).val / 512 * 512 ≤ _ ∧ _ < (i 0).val / 512 * 512 + 512; omega
    | ⟨1, _⟩ =>
      show win0_6.index t 1 * 1024 ≤ (i 1 : Nat) ∧ (i 1 : Nat) < win0_6.index t 1 * 1024 + 1024
      rw [hi.2]; omega

/-- The partial sums. -/
theorem flushed4 (c : Dev nD) (t : Fin cfg0.N) (hf : (cfg0.win 4).flush t = true) :
    (dats m 0 c).flushed 4 t = ((cfg0.win 4).blk t).view.read (Elt Ideal) (resP m c) := by
  have h3 := (flush0_4 t).mp hf
  obtain rfl : t = p15 := Fin.ext (by have := lt_of_lt_of_eq t.isLt N_0; show t.val = 15; omega)
  show (cfg0.win 4).cut (grid0.coords _) ((dats m 0 c).after 4 _) = _
  rw [after0_4]
  funext j
  rw [View.read_apply]
  obtain ⟨i, e, rfl⟩ : ∃ (i : Fin 8) (e : Fin 128), j = ix2 i e := ⟨j 0, j 1, eq_ix2 j⟩
  refine (congrFun (part_last m c p15.isLt) (ix2 i e)).trans ?_
  have hi := index_part p15
  refine congrArg (resP m c) (funext fun a => Fin.ext ?_)
  match a with
  | ⟨0, _⟩ => show i.val = win0_4.index p15 0 * 8 + 1 * i.val; rw [hi.1]; omega
  | ⟨1, _⟩ => show e.val = win0_4.index p15 1 * 128 + 1 * e.val; rw [hi.2]; omega
theorem final4 (c : Dev nD) : (dats m 0 c).arrAt 4 cfg0.N = resP m c :=
  (dats m 0 c).arrAt_eq_of_cover 4 (resP m c) (flushed4 m c) fun i => by
    have h0 : (i 0 : Nat) < 8 := (i 0).isLt
    have h1 : (i 1 : Nat) < 128 := (i 1).isLt
    refine ⟨p15, (flush0_4 _).mpr p15_mod, ?_⟩
    have hi := index_part p15
    show i ∈ ((View.whole main_v1_0).slice (win0_4.rect p15)).set
    rw [View.set_slice_whole, Rect.mem_set_unit]
    intro a
    match a with
    | ⟨0, _⟩ =>
      show win0_4.index p15 0 * 8 ≤ (i 0 : Nat) ∧ (i 0 : Nat) < win0_4.index p15 0 * 8 + 8
      rw [hi.1]; omega
    | ⟨1, _⟩ =>
      show win0_4.index p15 1 * 128 ≤ (i 1 : Nat) ∧ (i 1 : Nat) < win0_4.index p15 1 * 128 + 128
      rw [hi.2]; omega

/-- The norm's weights' gradient. -/
theorem flushed7 (c : Dev nD) (t : Fin cfg0.N) (hf : (cfg0.win 7).flush t = true) :
    (dats m 0 c).flushed 7 t = ((cfg0.win 7).blk t).view.read (Elt Ideal) (resW m c) := by
  have h3 := (flush0_7 t).mp hf
  obtain rfl : t = p15 := Fin.ext (by have := lt_of_lt_of_eq t.isLt N_0; show t.val = 15; omega)
  show (cfg0.win 7).cut (grid0.coords _) ((dats m 0 c).after 7 _) = _
  rw [after0_7]
  funext j
  rw [View.read_apply]
  obtain ⟨i, e, rfl⟩ : ∃ (i : Fin 1) (e : Fin 1024), j = ix2 i e := ⟨j 0, j 1, eq_ix2 j⟩
  refine (congrFun (last m c p15.isLt) (ix2 i e)).trans ?_
  have hi := (index_row p15).2
  refine congrArg (resW m c) (funext fun a => Fin.ext ?_)
  match a with
  | ⟨0, _⟩ => show i.val = win0_7.index p15 0 * 1 + 1 * i.val; rw [hi.1]; omega
  | ⟨1, _⟩ => show e.val = win0_7.index p15 1 * 1024 + 1 * e.val; rw [hi.2]; omega
theorem final7 (c : Dev nD) : (dats m 0 c).arrAt 7 cfg0.N = resW m c :=
  (dats m 0 c).arrAt_eq_of_cover 7 (resW m c) (flushed7 m c) fun i => by
    have h0 : (i 0 : Nat) < 1 := (i 0).isLt
    have h1 : (i 1 : Nat) < 1024 := (i 1).isLt
    refine ⟨p15, (flush0_7 _).mpr p15_mod, ?_⟩
    have hi := (index_row p15).2
    show i ∈ ((View.whole main_v1_3).slice (win0_7.rect p15)).set
    rw [View.set_slice_whole, Rect.mem_set_unit]
    intro a
    match a with
    | ⟨0, _⟩ =>
      show win0_7.index p15 0 * 1 ≤ (i 0 : Nat) ∧ (i 0 : Nat) < win0_7.index p15 0 * 1 + 1
      rw [hi.1]; omega
    | ⟨1, _⟩ =>
      show win0_7.index p15 1 * 1024 ≤ (i 1 : Nat) ∧ (i 1 : Nat) < win0_7.index p15 1 * 1024 + 1024
      rw [hi.2]; omega

/-- The program ends with the loss and the three gradients: the host adds the partial sums up and multiplies by 2⁻¹¹. -/
theorem loss_word : Ideal.ofBits .f32 0x3A000000#32 = ((1 / 2048 : ℝ) : EReal) := by
  simp [Ideal.ofBits, Ideal.ieee, -EReal.coe_mul]; norm_num
theorem run (ρ : Dev nD → PrngReg) : θ_run defs (onTc (τ := τ) (main (F := Ideal))) ⟨m, fun _ => 0, ρ⟩ fun r => ∀ c : Dev nD,
    r.2.mem ((c : Thread nD τ).loc main_v3) = resL m c ∧ r.2.mem ((c : Thread nD τ).loc main_v1_1) = resD m c
    ∧ r.2.mem ((c : Thread nD τ).loc main_v1_2) = resY m c ∧ r.2.mem ((c : Thread nD τ).loc main_v1_3) = resW m c := by
  refine (θ_run defs _ _).mono (fun r h c => ⟨?_, ((h c).1 5).trans (final5 m c), ((h c).1 6).trans (final6 m c),
    ((h c).1 7).trans (final7 m c)⟩) (run_main m ρ)
  refine ((h c).2 main_v3 (by decide)).trans ?_
  have h5 := withArrays_arr spec0 (by decide) c (V0 m c) (fun w => (dats m 0 c).arrAt w cfg0.N) 4
  rw [final4] at h5
  funext y
  show StableHlo.after hostOps1 (withArrays spec0 c (V0 m c) fun w => (dats m 0 c).arrAt w cfg0.N) main_v3 _ = _
  after_results_simp
  refine Eq.trans (congrArg (Ideal.ofBits .f32 0x3A000000#32 * ·)
    (Ideal.hostReduceAdd_total reducesTo_S8x128_S_d0_1 (fun b => b.elim0) _ _ y)) ?_
  show Ideal.ofBits .f32 0x3A000000#32 * (Ideal.ofBits .f32 0x00000000#32 + ∑ i, _) = _
  rw [loss_word, Ideal.ofBits_zero_f32, zero_add, mul_comm]
  exact (congrArg (fun f : S8x128.Idx → EReal => (∑ i, f i) * ((1 / 2048 : ℝ) : EReal)) h5).trans
    (congrArg (· * ((1 / 2048 : ℝ) : EReal)) (sum_resP m c))

/-! ### The reference -/

section Ref
open Cert.Reference24Ideal.Read
variable (x0 : S8192x1024.Idx → EReal) (x1 : S1024.Idx → EReal) (x2 x3 : S8192x1024.Idx → EReal)

/-- A half over the width, times twice a number, is 2⁻¹⁰ times it. -/
theorem scale (z : EReal) : Ideal.div (Ideal.ofBits .f32 0x3F000000#32) (Ideal.ofBits .f32 0x44800000#32)
    * (Ideal.ofBits .f32 0x40000000#32 * z) = z * scl := by
  have hh : Ideal.ofBits .f32 0x3F000000#32 = ((1 / 2 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hs : scl = ((1 / 1024 : ℝ) : EReal) := by
    simp [scl, Ideal.ofBits, Ideal.ieee, -EReal.coe_mul]; norm_num
  rw [hh, h2, hs, show Ideal.ofBits .f32 0x44800000#32 = ((1024 : ℝ) : EReal) from width_eq, Cert.Own.div_coe _ _ (by norm_num),
    ← EReal.coe_mul, ← mul_assoc, ← EReal.coe_mul, mul_comm]
  congr 2
  norm_num

/-- The gradient of the residual stream. -/
theorem ref_d : val_main_v32 (F := Ideal) x0 x1 x2 x3 = diffs x0 x2 x3 (col x1) := by
  funext y
  obtain ⟨i, j, rfl⟩ : ∃ (i : Fin 8192) (j : Fin 1024), y = ix2 i j := ⟨y 0, y 1, eq_ix2 y⟩
  pointwise [val_main_v32, val_main_v31, val_main_v30, val_main_v29, val_main_v28, val_main_v27, val_main_v21, val_main_v20,
    val_main_v18, val_main_v17, val_main_v16, val_main_v15, val_main_v14, val_main_v13, val_main_v12, val_main_v8, val_main_v7,
    val_main_v6, val_main_v5, val_main_v4, val_main_v3, val_main_v2, val_main_v1, val_main_v0, val_main_cst, val_main_cst_0,
    val_main_cst_1, val_main_cst_3, val_main_cst_8, val_main_cst_9, val_main_cst_10]
  rw [scale, add_comm (x2 _)]
  rfl

/-- The loss. -/
theorem ref_sq (i : Fin 8192) (j : Fin 1024) : val_main_v19 (F := Ideal) x0 x1 x2 x3 (ix2 i j) = sqs x0 x2 x3 (col x1) (ix2 i j) := by
  have e : val_main_v18 (F := Ideal) x0 x1 x2 x3 (ix2 i j) = errs x0 x2 x3 (col x1) (ix2 i j) := by
    pointwise [val_main_v18, val_main_v17, val_main_v16, val_main_v15, val_main_v14, val_main_v13, val_main_v12, val_main_v8,
      val_main_v7, val_main_v6, val_main_v5, val_main_v4, val_main_v3, val_main_v2, val_main_v1, val_main_v0, val_main_cst,
      val_main_cst_0, val_main_cst_1]
    rw [add_comm (x2 _)]
    rfl
  show val_main_v18 (F := Ideal) x0 x1 x2 x3 (ix2 i j) * val_main_v18 (F := Ideal) x0 x1 x2 x3 (ix2 i j) = _
  rw [e]
  rfl
theorem ref_mean (i : Fin 8192) : val_main_v24 (F := Ideal) x0 x1 x2 x3 (ix1 i)
    = (∑ j : Fin 1024, sqs x0 x2 x3 (col x1) (ix2 i j)) * ((1024⁻¹ : ℝ) : EReal) := by
  have e : val_main_v22 (F := Ideal) x0 x1 x2 x3 (ix1 i) = ∑ j : Fin 1024, sqs x0 x2 x3 (col x1) (ix2 i j) := by
    rw [val_main_v22_apply]
    show Ideal.ofBits .f32 0x00000000#32 + _ = _
    rw [Ideal.ofBits_zero_f32, zero_add]
    refine Finset.sum_congr rfl fun j _ => Eq.trans (congrArg _ ?_) (ref_sq x0 x1 x2 x3 i j)
    exact eq_ix2 _
  show Ideal.div (val_main_v22 (F := Ideal) x0 x1 x2 x3 (ix1 i)) (Ideal.ofBits .f32 0x44800000#32) = _
  rw [e, show Ideal.ofBits .f32 0x44800000#32 = ((1024 : ℝ) : EReal) from width_eq, Cert.Own.div_coe _ _ (by norm_num)]
theorem ref_l : val_main_v26 (F := Ideal) x0 x1 x2 x3 = fun _ => total (sqs x0 x2 x3 (col x1)) := by
  have hh : Ideal.ofBits .f32 0x3F000000#32 = ((1 / 2 : ℝ) : EReal) := by
    simp [Ideal.ofBits, Ideal.ieee, -EReal.coe_mul]; norm_num
  funext y
  show Ideal.ofBits .f32 0x3F000000#32 * val_main_v25 (F := Ideal) x0 x1 x2 x3 y = _
  rw [val_main_v25_apply, hh]
  show _ * (Ideal.ofBits .f32 0x00000000#32 + _) = _
  rw [Ideal.ofBits_zero_f32, zero_add]
  refine Eq.trans (congrArg (((1 / 2 : ℝ) : EReal) * ·) ((sum_idx1 (n0 := 8192) _).trans
    ((Finset.sum_congr rfl fun i _ => ref_mean x0 x1 x2 x3 i).trans (Cert.Own.sum_mul_coe _ _ (by norm_num))))) ?_
  show _ * (_ * _) = total _
  unfold total
  rw [mul_left_comm, ← EReal.coe_mul]
  congr 2
  norm_num

/-- From there on the reference's terms are those of the first of two norms. -/
theorem ref_norm : val_main_v52 (F := Ideal) x0 x1 x2 x3
    = Cert.Reference8Ideal.Read.val_main_v36 (F := Ideal) x0 x1 (val_main_v32 (F := Ideal) x0 x1 x2 x3) := rfl
theorem ref_wnorm : val_main_v54 (F := Ideal) x0 x1 x2 x3
    = Cert.Reference8Ideal.Read.val_main_v75 (F := Ideal) x0 (val_main_v32 (F := Ideal) x0 x1 x2 x3) := rfl

theorem ref_y : val_main_v53 (F := Ideal) x0 x1 x2 x3 = dnorms x0 (diffs x0 x2 x3 (col x1)) (col x1) := by
  show val_main_v52 (F := Ideal) x0 x1 x2 x3 = _
  rw [ref_norm, ref_d]
  funext y
  obtain ⟨i, j, rfl⟩ : ∃ (i : Fin 8192) (j : Fin 1024), y = ix2 i j := ⟨y 0, y 1, eq_ix2 y⟩
  exact Cert.NormGrad.ref_norm _ _ _ i j
theorem ref_w : val_main_v54 (F := Ideal) x0 x1 x2 x3 = blkW x0 (diffs x0 x2 x3 (col x1)) := by
  rw [ref_wnorm, ref_d]
  exact Cert.NormGrad.ref_weight _ _

end Ref

/-! ### The claims -/

/-- The kernel runs and leaves its arguments and the counters as they were; so it does over the extended reals, and so
    does the reference. -/
theorem frame_p : Cert.quiescent_Kernel24 := fun m ρ _ => Cert.Kernel24.Gen.frame m ρ
theorem frame_pi : Cert.quiescent_Kernel24Ideal := fun m ρ _ => Cert.Kernel24Ideal.Gen.frame m ρ
theorem frame_ri : Cert.quiescent_Reference24Ideal := fun m ρ _ =>
  (θ_run Cert.Reference24Ideal.defs _ _).mono
    (fun r h => ⟨fun c => (h c).2.2.2.2, Idealize.ShloMosaic.sem_eq_zero_of_no_sems (by decide) r.2⟩)
    (Cert.Reference24Ideal.Value.run (F := Ideal) m ρ)

/-- From arguments that agree, the kernel's results and the reference's are the loss and the three gradients. -/
theorem algebraic : Cert.algebraic_Kernel24Ideal_Reference24Ideal := by
  intro m ρ m' ρ' _ hagree
  refine ⟨resL m, resD m, resY m, resW m, ?_, ?_⟩
  · refine (θ_run Cert.Kernel24Ideal.defs _ _).mono (fun r h c => ?_)
      (θ_run_and (run m ρ) (Cert.Kernel24Ideal.Gen.unchanged m ρ))
    have hc := h.1 c
    exact ⟨hc.1, hc.2.1, hc.2.2.1, hc.2.2.2, h.2 c⟩
  · refine (θ_run Cert.Reference24Ideal.defs _ _).mono (fun r h c => ?_) (Cert.Reference24Ideal.Value.run (F := Ideal) m' ρ')
    obtain ⟨a0, a1, a2, a3⟩ := hagree c
    have hc := h c
    refine ⟨hc.1.trans ?_, hc.2.1.trans ?_, hc.2.2.1.trans ?_, hc.2.2.2.1.trans ?_, hc.2.2.2.2⟩
    · rw [Cert.Reference24Ideal.Read.val_main_v26_eq, a0, a1, a2, a3]
      exact ref_l _ _ _ _
    · rw [Cert.Reference24Ideal.Read.val_main_v32_eq, a0, a1, a2, a3]
      exact ref_d _ _ _ _
    · rw [Cert.Reference24Ideal.Read.val_main_v53_eq, a0, a1, a2, a3]
      exact ref_y _ _ _ _
    · rw [Cert.Reference24Ideal.Read.val_main_v54_eq, a0, a1, a2, a3]
      exact ref_w _ _ _ _

end Cert.LossGrad
end
-- ==== Proof.NormPreGrad.lean ====
module

public import proofs.«01_k».proof.Defs
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.NormGrad

/-! The gradient of one norm, added to the running gradient, and the gradient of its weights. A grid point takes 1024
    tokens; the weights' gradient is one row that stays from point to point. -/

@[expose] public section
set_option maxRecDepth 16384

noncomputable section
namespace Cert.NormPreGrad
open Cert.Kernel25Ideal Cert.Kernel25Ideal.Gen Idealize.ShloMosaic Idealize.ShloMosaic.TcCoe Idealize.SL.Sem
open Idealize.ShloMosaic.Pipeline Cert.Norm
open Cert.NormGrad (wrow blkW blkX col sumX running ld_sq ld_row canon_sq canon_row)

/-! ### One block -/

section Body
variable (x0 x3 : Vec Ideal S1024x1024 .f32) (x2 : Vec Ideal S1024x1024 .bf16) (x1 s : Vec Ideal S1x1024 .f32)

/-- The body's terms are those of the first of two norms. -/
theorem pay4_eq : k0_pay4 x2 x0 = blkW x0 x2 := Cert.NormGrad.pay4_eq x0 x2
theorem pay5_eq : k0_pay5 x2 x0 s = fun y => s y + blkW x0 x2 y := Cert.NormGrad.pay5_eq x0 x2 s
theorem pay6_eq : k0_pay6 x2 x0 x1 x3 = blkX x0 x3 x2 x1 := Cert.NormGrad.pay6_eq x0 x3 x2 x1

variable (c : Dev nD) (i : grid0.Coords)
  (a1 : Memref sig .tc .vmem S1024x1024 .f32) (h1 : a1.IsWhole) (a2 : Memref sig .tc .vmem S1x1024 .f32) (h2 : a2.IsWhole)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1x1024 .f32) (h6 : a6.IsWhole)

/-- What the body leaves at the first point: the gradient of the block, and its part of the weights' gradient. -/
theorem out_A (hc0 : cond0_0 i) (hc1 : ¬cond0_1 i) :
    out0_A_4 c i a1 h1 a2 h2 a3 h3 a4 h4 a5 h5 a6 h6 hc0 hc1 x0 x1 x2 x3 = blkX x0 x3 x2 x1
    ∧ out0_A_5 c i a1 h1 a2 h2 a3 h3 a4 h4 a5 h5 a6 h6 hc0 hc1 x0 x1 x2 x3 = blkW x0 x2 := by
  have c4 := cover0_A_4 c i a1 h1 a2 h2 a3 h3 a4 h4 a5 h5 a6 h6 hc0 hc1 x0 x1 x2 x3
  have c5 := cover0_A_5 c i a1 h1 a2 h2 a3 h3 a4 h4 a5 h5 a6 h6 hc0 hc1 x0 x1 x2 x3
  unfold out0_A_4 out0_A_5
  rw [View.read_writes_eq_canon _ _ _ c4, View.read_writes_eq_canon _ _ _ c5]
  unfold kernelRun0_A
  dsimp only
  sl_unfold_words
  simp only [View.readAt_eq_ld, h1.read_unread, h2.read_unread, h3.read_unread, h4.read_unread,
    ld_sq, ld_row, canon_sq, canon_row, pay6_eq, pay4_eq, and_self]

/-- What it leaves at a later point: the part of the weights' gradient is added to what the row held. -/
theorem out_B (hc0 : ¬cond0_0 i) (hc1 : cond0_1 i) :
    out0_B_4 c i a1 h1 a2 h2 a3 h3 a4 h4 a5 h5 a6 h6 hc0 hc1 x0 x1 x2 x3 s = blkX x0 x3 x2 x1
    ∧ out0_B_5 c i a1 h1 a2 h2 a3 h3 a4 h4 a5 h5 a6 h6 hc0 hc1 x0 x1 x2 x3 s = fun y => s y + blkW x0 x2 y := by
  have c4 := cover0_B_4 c i a1 h1 a2 h2 a3 h3 a4 h4 a5 h5 a6 h6 hc0 hc1 x0 x1 x2 x3 s
  have c5 := cover0_B_5 c i a1 h1 a2 h2 a3 h3 a4 h4 a5 h5 a6 h6 hc0 hc1 x0 x1 x2 x3 s
  unfold out0_B_4 out0_B_5
  rw [View.read_writes_eq_canon _ _ _ c4, View.read_writes_eq_canon _ _ _ c5]
  unfold kernelRun0_B
  dsimp only
  sl_unfold_words
  simp only [View.readAt_eq_ld, h1.read_unread, h2.read_unread, h3.read_unread, h4.read_unread, h6.read_unread,
    ld_sq, ld_row, canon_sq, canon_row, pay6_eq, pay5_eq, and_self]

end Body

/-! ### The arrays -/

variable (m : (ℓ : Loc nD τ sig) → Buf (Elt Ideal) ℓ)

/-- The arguments on a device: the norm's input and its weights, the incoming gradient and the running gradient. -/
def argX (c : Dev nD) : S8192x1024.Idx → EReal := m ((c : Thread nD τ).loc main_arg0)
def argV (c : Dev nD) : S1024.Idx → EReal := m ((c : Thread nD τ).loc main_arg1)
def argG (c : Dev nD) : S8192x1024.Idx → EReal := m ((c : Thread nD τ).loc main_arg2)
def argD (c : Dev nD) : S8192x1024.Idx → EReal := m ((c : Thread nD τ).loc main_arg3)

theorem index_tok : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0) :=
  (by decide +kernel : ∀ t : Fin grid0.N, _)
theorem index_row : ∀ t : Fin cfg0.N, (win0_1.index t 0 = 0 ∧ win0_1.index t 1 = 0) ∧ (win0_5.index t 0 = 0 ∧ win0_5.index t 1 = 0) :=
  (by decide +kernel : ∀ t : Fin grid0.N, _)

/-- The token that row `i` of a point's block is. -/
def tok (t : Fin cfg0.N) (i : Fin 1024) : Fin 8192 := ⟨t.val * 1024 + i.val, by
  have h : t.val < 8 := lt_of_lt_of_eq t.isLt N_0; omega⟩

/-- A point's blocks of the three token arrays, and the weights' rows. -/
theorem blkA0 (c : Dev nD) (t : Fin cfg0.N) (i : Fin 1024) : row (iblk m c 0 t) i = row (argX m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blkA2 (c : Dev nD) (t : Fin cfg0.N) (i : Fin 1024) : row (iblk m c 2 t) i = row (argG m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 1024 + 1 * i.val = t.val * 1024 + i.val; rw [hi.1]; omega
  | ⟨1, _⟩ => show win0_2.index t 1 * 1024 + 1 * j.val = j.val; rw [hi.2]; omega
theorem blkA3 (c : Dev nD) (t : Fin cfg0.N) (i : Fin 1024) : row (iblk m c 3 t) i = row (argD m c) (tok t i) := by
  funext j
  unfold row iblk
  rw [View.read_apply]
  show V m c main_arg3 _ = _
  rw [V_main_arg3]
  have hi := (index_tok t).2.2.1
  refine congrArg _ (funext fun a => Fin.ext ?_)
  match a with
  | ⟨0, _⟩ => show win0_3.index t 0 * 1024 + 1 * i.val = t.val * 1024 + i.val; rw [hi.1]; omega
  | ⟨1, _⟩ => show win0_3.index t 1 * 1024 + 1 * j.val = j.val; rw [hi.2]; omega

theorem blkA1 (c : Dev nD) (t : Fin cfg0.N) : wrow (iblk m c 1 t) = col (argV m c) := by
  funext j
  unfold wrow iblk
  rw [View.read_apply]
  show V m c main_v0 _ = _
  after_results_simp
  have hi := (index_row t).1
  refine Cert.NormGrad.as_row _ _ _ ?_
  show win0_1.index t 1 * 1024 + 1 * j.val = j.val; rw [hi.2]; omega

/-- The two results. -/
def resX (c : Dev nD) : S8192x1024.Idx → EReal := sumX (argX m c) (argV m c) (argG m c) (argD m c)
def resV (c : Dev nD) : S1x1024.Idx → EReal := blkW (argX m c) (argG m c)

/-- A point's gradients are those of its tokens. -/
theorem blk_resX (c : Dev nD) (t : Fin cfg0.N) (i j : Fin 1024) :
    blkX (iblk m c 0 t) (iblk m c 3 t) (iblk m c 2 t) (iblk m c 1 t) (ix2 i j) = resX m c (ix2 (tok t i) j) := by
  show dnorm (row (iblk m c 0 t) i) (row (iblk m c 2 t) i) (wrow (iblk m c 1 t)) j + row (iblk m c 3 t) i j = _
  rw [blkA0, blkA1, blkA2, blkA3]
  rfl

/-- What a point leaves: the gradient of its block. -/
theorem outs (c : Dev nD) (t : Fin cfg0.N) :
    (outsAt0 m c t.val t.isLt).1 = blkX (iblk m c 0 t) (iblk m c 3 t) (iblk m c 2 t) (iblk m c 1 t) := by
  have hN : t.val < 8 := lt_of_lt_of_eq t.isLt N_0
  by_cases h : t.val = 0
  · rw [outsAt0_A m c t (by omega) (by omega)]
    dsimp only
    rw [(out_A ..).1]
  · rw [outsAt0_B m c t (by omega) (by omega)]
    dsimp only
    rw [(out_B ..).1]

/-- In the row of the weights' gradient it leaves its own part at the first point, and at a later one the sum with what
    the point before left. -/
theorem outs_zero (c : Dev nD) (h : 0 < cfg0.N) : (outsAt0 m c 0 h).2 = blkW (iblk m c 0 ⟨0, h⟩) (iblk m c 2 ⟨0, h⟩) := by
  have e := outsAt0_A m c ⟨0, h⟩ (Nat.zero_mod _) (Nat.not_succ_le_zero 0)
  rw [(out_A ..).2] at e
  rw [show outsAt0 m c 0 h = _ from e]

theorem outs_succ (c : Dev nD) (n : ℕ) (h : n + 1 < cfg0.N) (h' : n < cfg0.N) :
    (outsAt0 m c (n + 1) h).2 = fun y => (outsAt0 m c n h').2 y + blkW (iblk m c 0 ⟨n + 1, h⟩) (iblk m c 2 ⟨n + 1, h⟩) y := by
  have hN : n + 1 < 8 := lt_of_lt_of_eq h N_0
  have e := outsAt0_B m c ⟨n + 1, h⟩ (by show ¬(n + 1) % 8 = 0; omega) (Nat.succ_le_succ (Nat.zero_le n))
  rw [(out_B ..).2] at e
  rw [show outsAt0 m c (n + 1) h = _ from e]
  rfl

/-- The row of the weights' gradient after the last point. -/
theorem last (c : Dev nD) (h : 7 < cfg0.N) : (outsAt0 m c 7 h).2 = resV m c := by
  funext y
  refine (running (fun n hn => (outsAt0 m c n hn).2 y) (fun n hn => blkW (iblk m c 0 ⟨n, hn⟩) (iblk m c 2 ⟨n, hn⟩) y)
    (fun h => congrFun (outs_zero m c h) y) (fun n h h' => congrFun (outs_succ m c n h h') y) 7 h).trans ?_
  refine (Finset.sum_congr rfl fun s _ => ?_).trans (Cert.Ffn.sum_parts 8 1024 rfl (fun n =>
    row (argG m c) n (y 1) * nrm (row (argX m c) n) (y 1)) fun s n => by omega)
  unfold blkW dweight
  simp only [blkA0, blkA2]
  rfl

/-- The last point. -/
def p7 : Fin cfg0.N := ⟨7, by rw [show cfg0.N = 8 from N_0]; omega⟩
theorem p7_mod : p7.val % 8 = 7 := rfl

/-- The gradient of the norm, block by block and whole. -/
theorem flushed4 (c : Dev nD) (t : Fin cfg0.N) (_hf : (cfg0.win 4).flush t = true) :
    (dats m 0 c).flushed 4 t = ((cfg0.win 4).blk t).view.read (Elt Ideal) (resX m c) := by
  show (cfg0.win 4).cut (grid0.coords _) ((dats m 0 c).after 4 _) = _
  rw [after0_4]
  funext j
  rw [View.read_apply]
  obtain ⟨i, e, rfl⟩ : ∃ (i : Fin 1024) (e : Fin 1024), j = ix2 i e := ⟨j 0, j 1, eq_ix2 j⟩
  refine (congrFun (outs m c t) (ix2 i e)).trans ?_
  have hi := (index_tok t).2.2.2
  refine (blk_resX m c t i e).trans (congrArg _ (funext fun a => Fin.ext ?_))
  match a with
  | ⟨0, _⟩ => show t.val * 1024 + i.val = win0_4.index t 0 * 1024 + 1 * i.val; rw [hi.1]; omega
  | ⟨1, _⟩ => show e.val = win0_4.index t 1 * 1024 + 1 * e.val; rw [hi.2]; omega
theorem final4 (c : Dev nD) : (dats m 0 c).arrAt 4 cfg0.N = resX m c :=
  (dats m 0 c).arrAt_eq_of_cover 4 (resX m c) (flushed4 m c) fun i => by
    have h0 : (i 0 : Nat) < 8192 := (i 0).isLt
    have h1 : (i 1 : Nat) < 1024 := (i 1).isLt
    have hN : (i 0).val / 1024 < cfg0.N := by rw [show cfg0.N = 8 from N_0]; omega
    refine ⟨⟨(i 0).val / 1024, hN⟩, flush0_4 _, ?_⟩
    have hi := (index_tok ⟨(i 0).val / 1024, hN⟩).2.2.2
    show i ∈ ((View.whole main_v1_0).slice (win0_4.rect ⟨(i 0).val / 1024, hN⟩)).set
    rw [View.set_slice_whole, Rect.mem_set_unit]
    intro a
    match a with
    | ⟨0, _⟩ =>
      show win0_4.index ⟨(i 0).val / 1024, hN⟩ 0 * 1024 ≤ (i 0 : Nat)
        ∧ (i 0 : Nat) < win0_4.index ⟨(i 0).val / 1024, hN⟩ 0 * 1024 + 1024
      rw [hi.1]
      show (i 0).val / 1024 * 1024 ≤ (i 0).val ∧ (i 0).val < (i 0).val / 1024 * 1024 + 1024
      omega
    | ⟨1, _⟩ =>
      show win0_4.index ⟨(i 0).val / 1024, hN⟩ 1 * 1024 ≤ (i 1 : Nat)
        ∧ (i 1 : Nat) < win0_4.index ⟨(i 0).val / 1024, hN⟩ 1 * 1024 + 1024
      rw [hi.2]; omega

/-- The norm's weights' gradient. -/
theorem flushed5 (c : Dev nD) (t : Fin cfg0.N) (hf : (cfg0.win 5).flush t = true) :
    (dats m 0 c).flushed 5 t = ((cfg0.win 5).blk t).view.read (Elt Ideal) (resV m c) := by
  have h3 := (flush0_5 t).mp hf
  obtain rfl : t = p7 := Fin.ext (by have := lt_of_lt_of_eq t.isLt N_0; show t.val = 7; omega)
  show (cfg0.win 5).cut (grid0.coords _) ((dats m 0 c).after 5 _) = _
  rw [after0_5]
  funext j
  rw [View.read_apply]
  obtain ⟨i, e, rfl⟩ : ∃ (i : Fin 1) (e : Fin 1024), j = ix2 i e := ⟨j 0, j 1, eq_ix2 j⟩
  refine (congrFun (last m c p7.isLt) (ix2 i e)).trans ?_
  have hi := (index_row p7).2
  refine congrArg (resV m c) (funext fun a => Fin.ext ?_)
  match a with
  | ⟨0, _⟩ => show i.val = win0_5.index p7 0 * 1 + 1 * i.val; rw [hi.1]; omega
  | ⟨1, _⟩ => show e.val = win0_5.index p7 1 * 1024 + 1 * e.val; rw [hi.2]; omega
theorem final5 (c : Dev nD) : (dats m 0 c).arrAt 5 cfg0.N = resV m c :=
  (dats m 0 c).arrAt_eq_of_cover 5 (resV m c) (flushed5 m c) fun i => by
    have h0 : (i 0 : Nat) < 1 := (i 0).isLt
    have h1 : (i 1 : Nat) < 1024 := (i 1).isLt
    refine ⟨p7, (flush0_5 _).mpr p7_mod, ?_⟩
    have hi := (index_row p7).2
    show i ∈ ((View.whole main_v1_1).slice (win0_5.rect p7)).set
    rw [View.set_slice_whole, Rect.mem_set_unit]
    intro a
    match a with
    | ⟨0, _⟩ =>
      show win0_5.index p7 0 * 1 ≤ (i 0 : Nat) ∧ (i 0 : Nat) < win0_5.index p7 0 * 1 + 1
      rw [hi.1]; omega
    | ⟨1, _⟩ =>
      show win0_5.index p7 1 * 1024 ≤ (i 1 : Nat) ∧ (i 1 : Nat) < win0_5.index p7 1 * 1024 + 1024
      rw [hi.2]; omega

/-! ### The reference -/

/-- The reference's terms are those of the first of two norms. -/
theorem ref_x (x0 : S8192x1024.Idx → EReal) (x1 : S1024.Idx → EReal) (x2 x3 : S8192x1024.Idx → EReal) :
    Cert.Reference25Ideal.Read.val_main_v37 (F := Ideal) x0 x1 x2 x3 = sumX x0 x1 x2 x3 := Cert.NormGrad.ref_x x0 x1 x2 x3
theorem ref_weight (x0 x2 : S8192x1024.Idx → EReal) :
    Cert.Reference25Ideal.Read.val_main_v38 (F := Ideal) x0 x2 = blkW x0 x2 := Cert.NormGrad.ref_weight x0 x2

/-! ### The claims -/

/-- The kernel runs and leaves its arguments and the counters as they were; so it does over the extended reals, and so
    does the reference. -/
theorem frame_p : Cert.quiescent_Kernel25 := fun m ρ _ => Cert.Kernel25.Gen.frame m ρ
theorem frame_pi : Cert.quiescent_Kernel25Ideal := fun m ρ _ => Cert.Kernel25Ideal.Gen.frame m ρ
theorem frame_ri : Cert.quiescent_Reference25Ideal := fun m ρ _ =>
  (θ_run Cert.Reference25Ideal.defs _ _).mono
    (fun r h => ⟨fun c => (h c).2.2, Idealize.ShloMosaic.sem_eq_zero_of_no_sems (by decide) r.2⟩)
    (Cert.Reference25Ideal.Value.run (F := Ideal) m ρ)

/-- From arguments that agree, the kernel's results and the reference's are the two gradients. -/
theorem algebraic : Cert.algebraic_Kernel25Ideal_Reference25Ideal := by
  intro m ρ m' ρ' _ hagree
  refine ⟨resX m, resV m, ?_, ?_⟩
  · refine (θ_run Cert.Kernel25Ideal.defs _ _).mono (fun r h c => ?_) (Cert.Kernel25Ideal.Value.run_blocks m ρ)
    have hc := h c
    exact ⟨hc.1.trans (final4 m c), hc.2.1.trans (final5 m c), hc.2.2⟩
  · refine (θ_run Cert.Reference25Ideal.defs _ _).mono (fun r h c => ?_) (Cert.Reference25Ideal.Value.run (F := Ideal) m' ρ')
    obtain ⟨a0, a1, a2, a3⟩ := hagree c
    have hc := h c
    refine ⟨hc.1.trans ?_, hc.2.1.trans ?_, hc.2.2⟩
    · rw [Cert.Reference25Ideal.Read.val_main_v37_eq, a0, a1, a2, a3]
      exact ref_x _ _ _ _
    · rw [Cert.Reference25Ideal.Read.val_main_v38_eq, a0, a2]
      exact ref_weight _ _

end Cert.NormPreGrad
end
-- ==== Proof.NormMemGrad.lean ====
module

public import proofs.«01_k».proof.Defs
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.NormGrad

/-! The gradient of the memory's norm and the gradient of its weights, in one grid point. -/

@[expose] public section
set_option maxRecDepth 16384

noncomputable section
namespace Cert.NormMemGrad
open Cert.Kernel26Ideal Cert.Kernel26Ideal.Gen Idealize.ShloMosaic Idealize.ShloMosaic.TcCoe Idealize.SL.Sem
open Idealize.ShloMosaic.Pipeline Cert.Norm
open Cert.NormGrad (wrow col blkW ld_sq ld_row canon_sq canon_row)

section Body
variable (x0 : Vec Ideal S1024x1024 .f32) (x2 : Vec Ideal S1024x1024 .bf16) (x1 : Vec Ideal S1x1024 .f32)

/-- The body's terms are those of the first of two norms, with no running gradient to add. -/
theorem pay2_apply (i : Fin 1024) : k0_pay2 x0 (ix2 i 0) = inv (row x0 i) := Cert.NormGrad.pay2_apply x0 i
theorem pay3_apply (i j : Fin 1024) : k0_pay3 x0 (ix2 i j) = nrm (row x0 i) j := Cert.NormGrad.pay3_apply x0 i j
theorem pay4_eq : k0_pay4 x2 x0 = blkW x0 x2 := Cert.NormGrad.pay4_eq x0 x2
theorem pay6_eq : k0_pay6 x2 x0 x1 = dnorms x0 x2 (wrow x1) := by
  funext y
  obtain ⟨i, j, rfl⟩ : ∃ (i j : Fin 1024), y = ix2 i j := ⟨y 0, y 1, eq_ix2 y⟩
  pointwise [k0_pay6, k0_pay1]
  simp only [pay3_apply, pay2_apply]
  rfl

variable (c : Dev nD) (i : grid0.Coords)
  (a1 : Memref sig .tc .vmem S1024x1024 .f32) (h1 : a1.IsWhole) (a2 : Memref sig .tc .vmem S1x1024 .f32) (h2 : a2.IsWhole)
  (a3 : Memref sig .tc .vmem S1024x1024 .bf16) (h3 : a3.IsWhole) (a4 : Memref sig .tc .vmem S1024x1024 .bf16) (h4 : a4.IsWhole)
  (a5 : Memref sig .tc .vmem S1x1024 .f32) (h5 : a5.IsWhole)

/-- What the body leaves: the gradient of the block and that of the weights. -/
theorem out_A (hc0 : cond0_0 i) (hc1 : ¬cond0_1 i) :
    out0_A_3 c i a1 h1 a2 h2 a3 h3 a4 h4 a5 h5 hc0 hc1 x0 x1 x2 = dnorms x0 x2 (wrow x1)
    ∧ out0_A_4 c i a1 h1 a2 h2 a3 h3 a4 h4 a5 h5 hc0 hc1 x0 x1 x2 = blkW x0 x2 := by
  have c3 := cover0_A_3 c i a1 h1 a2 h2 a3 h3 a4 h4 a5 h5 hc0 hc1 x0 x1 x2
  have c4 := cover0_A_4 c i a1 h1 a2 h2 a3 h3 a4 h4 a5 h5 hc0 hc1 x0 x1 x2
  unfold out0_A_3 out0_A_4
  rw [View.read_writes_eq_canon _ _ _ c3, View.read_writes_eq_canon _ _ _ c4]
  unfold kernelRun0_A
  dsimp only
  sl_unfold_words
  simp only [View.readAt_eq_ld, h1.read_unread, h2.read_unread, h3.read_unread,
    ld_sq, ld_row, canon_sq, canon_row, pay6_eq, pay4_eq, and_self]

end Body

variable (m : (ℓ : Loc nD τ sig) → Buf (Elt Ideal) ℓ)

/-- The arguments on a device: the memory, its norm's weights and the incoming gradient. -/
def argX (c : Dev nD) : S1024x1024.Idx → EReal := m ((c : Thread nD τ).loc main_arg0)
def argW (c : Dev nD) : S1024.Idx → EReal := m ((c : Thread nD τ).loc main_arg1)
def argG (c : Dev nD) : S1024x1024.Idx → EReal := m ((c : Thread nD τ).loc main_arg2)

theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, _)

/-- The blocks are the whole arrays. -/
theorem blk0 (c : Dev nD) (t : Fin cfg0.N) : iblk m c 0 t = argX m c := by
  funext y
  obtain ⟨i, j, rfl⟩ : ∃ (i j : Fin 1024), y = ix2 i j := ⟨y 0, y 1, eq_ix2 y⟩
  unfold iblk
  rw [View.read_apply]
  show V m c main_arg0 _ = _
  rw [V_main_arg0]
  have hi := index t
  refine congrArg _ (funext fun a => Fin.ext ?_)
  match a with
  | ⟨0, _⟩ => show win0_0.index t 0 * 1024 + 1 * i.val = i.val; rw [hi.1.1]; omega
  | ⟨1, _⟩ => show win0_0.index t 1 * 1024 + 1 * j.val = j.val; rw [hi.1.2]; omega
theorem blk1 (c : Dev nD) (t : Fin cfg0.N) : wrow (iblk m c 1 t) = col (argW m c) := by
  funext j
  unfold wrow iblk
  rw [View.read_apply]
  show V m c main_v0 _ = _
  after_results_simp
  have hi := (index t).2.1
  refine Cert.NormGrad.as_row _ _ _ ?_
  show win0_1.index t 1 * 1024 + 1 * j.val = j.val; rw [hi.2]; omega
theorem blk2 (c : Dev nD) (t : Fin cfg0.N) : iblk m c 2 t = argG m c := by
  funext y
  obtain ⟨i, j, rfl⟩ : ∃ (i j : Fin 1024), y = ix2 i j := ⟨y 0, y 1, eq_ix2 y⟩
  unfold iblk
  rw [View.read_apply]
  show V m c main_arg2 _ = _
  rw [V_main_arg2]
  have hi := index t
  refine congrArg _ (funext fun a => Fin.ext ?_)
  match a with
  | ⟨0, _⟩ => show win0_2.index t 0 * 1024 + 1 * i.val = i.val; rw [hi.2.2.1.1]; omega
  | ⟨1, _⟩ => show win0_2.index t 1 * 1024 + 1 * j.val = j.val; rw [hi.2.2.1.2]; omega

/-- The two results. -/
def resX (c : Dev nD) : S1024x1024.Idx → EReal := dnorms (argX m c) (argG m c) (col (argW m c))
def resW (c : Dev nD) : S1x1024.Idx → EReal := blkW (argX m c) (argG m c)

/-- What the point leaves is the two results. -/
theorem outs (c : Dev nD) (t : Fin cfg0.N) : outsAt0 m c t = (resX m c, resW m c) := by
  unfold outsAt0
  rw [(out_A ..).1, (out_A ..).2, blk0, blk1, blk2]
  rfl

/-- The gradient of the memory, block by block and whole. -/
theorem flushed3 (c : Dev nD) (t : Fin cfg0.N) :
    (dats m 0 c).flushed 3 t = ((View.whole main_v1_0).slice (win0_3.rect t)).read (Elt Ideal) (resX m c) := by
  show (cfg0.win 3).cut (grid0.coords t) ((dats m 0 c).after 3 t) = _
  rw [after0_3, outs]
  funext y
  rw [View.read_apply]
  obtain ⟨i, j, rfl⟩ : ∃ (i : Fin 1024) (j : Fin 1024), y = ix2 i j := ⟨y 0, y 1, eq_ix2 y⟩
  have hi := index t
  have he : ((cfg0.win 3).blk t).view.emb (ix2 i j) = ix2 i j := by
    funext a
    refine Fin.ext ?_
    match a with
    | ⟨0, _⟩ => show win0_3.index t 0 * 1024 + 1 * i.val = i.val; rw [hi.2.2.2.1.1]; omega
    | ⟨1, _⟩ => show win0_3.index t 1 * 1024 + 1 * j.val = j.val; rw [hi.2.2.2.1.2]; omega
  rw [he]
  rfl
theorem final3 (c : Dev nD) : (dats m 0 c).arrAt 3 cfg0.N = resX m c :=
  (dats m 0 c).arrAt_eq_of_cover 3 (resX m c) (fun t _ => flushed3 m c t) fun i => by
    have h0 : (i 0 : Nat) < 1024 := (i 0).isLt
    have h1 : (i 1 : Nat) < 1024 := (i 1).isLt
    let t : Fin cfg0.N := ⟨0, by rw [show cfg0.N = 1 from N_0]; omega⟩
    refine ⟨t, flush0_3 t, ?_⟩
    have hi := index t
    show i ∈ ((View.whole main_v1_0).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.2.2.2.1.1]; omega
    | ⟨1, _⟩ =>
      show win0_3.index t 1 * 1024 ≤ (i 1 : Nat) ∧ (i 1 : Nat) < win0_3.index t 1 * 1024 + 1024
      rw [hi.2.2.2.1.2]; omega

/-- The weights' gradient, block by block and whole. -/
theorem flushed4 (c : Dev nD) (t : Fin cfg0.N) :
    (dats m 0 c).flushed 4 t = ((View.whole main_v1_1).slice (win0_4.rect t)).read (Elt Ideal) (resW m c) := by
  show (cfg0.win 4).cut (grid0.coords t) ((dats m 0 c).after 4 t) = _
  rw [after0_4, outs]
  funext y
  rw [View.read_apply]
  obtain ⟨i, j, rfl⟩ : ∃ (i : Fin 1) (j : Fin 1024), y = ix2 i j := ⟨y 0, y 1, eq_ix2 y⟩
  have hi := index t
  have he : ((cfg0.win 4).blk t).view.emb (ix2 i j) = ix2 i j := by
    funext a
    refine Fin.ext ?_
    match a with
    | ⟨0, _⟩ => show win0_4.index t 0 * 1 + 1 * i.val = i.val; rw [hi.2.2.2.2.1]; omega
    | ⟨1, _⟩ => show win0_4.index t 1 * 1024 + 1 * j.val = j.val; rw [hi.2.2.2.2.2]; omega
  rw [he]
  rfl
theorem final4 (c : Dev nD) : (dats m 0 c).arrAt 4 cfg0.N = resW m c :=
  (dats m 0 c).arrAt_eq_of_cover 4 (resW m c) (fun t _ => flushed4 m c t) fun i => by
    have h0 : (i 0 : Nat) < 1 := (i 0).isLt
    have h1 : (i 1 : Nat) < 1024 := (i 1).isLt
    let t : Fin cfg0.N := ⟨0, by rw [show cfg0.N = 1 from N_0]; omega⟩
    refine ⟨t, flush0_4 t, ?_⟩
    have hi := index t
    show i ∈ ((View.whole main_v1_1).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [hi.2.2.2.2.1]; omega
    | ⟨1, _⟩ =>
      show win0_4.index t 1 * 1024 ≤ (i 1 : Nat) ∧ (i 1 : Nat) < win0_4.index t 1 * 1024 + 1024
      rw [hi.2.2.2.2.2]; omega

/-! ### The reference -/

section Ref
open Cert.Reference26Ideal.Read
variable (x0 : S1024x1024.Idx → EReal) (x1 : S1024.Idx → EReal) (x2 : S1024x1024.Idx → EReal)

theorem ref_msq (i : Fin 1024) : val_main_v6 (F := Ideal) x0 (ix2 i 0) = msq (row x0 i) := by
  pointwise [val_main_v6, val_main_v5, val_main_cst_1, val_main_v4, val_main_v3, val_main_cst_0, val_main_v2, val_main_v1,
    val_main_cst, val_main_v0]
  rfl
theorem ref_inv (i : Fin 1024) : val_main_v7 (F := Ideal) x0 (ix2 i 0) = inv (row x0 i) := by
  pointwise [val_main_v7]
  rw [ref_msq]
  rfl

/-- The gradient that reaches the mean of the squares. -/
theorem ref_mean (i : Fin 1024) :
    val_main_v30 (F := Ideal) x0 x1 x2 (ix2 i 0) = dmean (row x0 i) (row x2 i) (col x1) := by
  pointwise [val_main_v30, val_main_v29, val_main_cst_6, val_main_v28, val_main_v25, val_main_v24, val_main_cst_5, val_main_v23,
    val_main_v21, val_main_v20, val_main_v16, val_main_v13, val_main_v10, val_main_v9, val_main_cst_2, val_main_v8]
  simp only [ref_msq, ref_inv]
  rfl

theorem ref_norm (i : Fin 1024) (j : Fin 1024) :
    val_main_v36 (F := Ideal) x0 x1 x2 (ix2 i j) = dnorm (row x0 i) (row x2 i) (col x1) j := by
  refine Eq.trans ?_ (dnormTerms_eq _ _ _ _)
  pointwise [val_main_v36, val_main_v35, val_main_v34, val_main_v33, val_main_v32, val_main_v31, val_main_cst_7, val_main_v27,
    val_main_v26, val_main_v21, val_main_v20, val_main_v16, val_main_v13]
  simp only [ref_mean, ref_inv, Fin.sum_univ_one]
  rfl

/-- The weights' gradient. -/
theorem ref_weight : val_main_v38 (F := Ideal) x0 x2 = blkW x0 x2 := by
  funext y
  obtain ⟨i, j, rfl⟩ : ∃ (i : Fin 1) (j : Fin 1024), y = ix2 i j := ⟨y 0, y 1, eq_ix2 y⟩
  pointwise [val_main_v38, val_main_v22, val_main_cst_4, val_main_v19, val_main_v18, val_main_cst_3, val_main_v17, val_main_v16,
    val_main_v12, val_main_v11]
  simp only [ref_inv, Fin.sum_univ_one]
  exact Finset.sum_congr rfl fun n _ => mul_comm _ _

/-- The gradient of the memory. -/
theorem ref_x : val_main_v37 (F := Ideal) x0 x1 x2 = dnorms x0 x2 (col x1) := by
  funext y
  obtain ⟨i, j, rfl⟩ : ∃ (i j : Fin 1024), y = ix2 i j := ⟨y 0, y 1, eq_ix2 y⟩
  exact ref_norm x0 x1 x2 i j

end Ref

/-! ### The claims -/

/-- The kernel runs and leaves its arguments and the counters as they were; so it does over the extended reals, and so
    does the reference. -/
theorem frame_p : Cert.quiescent_Kernel26 := fun m ρ _ => Cert.Kernel26.Gen.frame m ρ
theorem frame_pi : Cert.quiescent_Kernel26Ideal := fun m ρ _ => Cert.Kernel26Ideal.Gen.frame m ρ
theorem frame_ri : Cert.quiescent_Reference26Ideal := fun m ρ _ =>
  (θ_run Cert.Reference26Ideal.defs _ _).mono
    (fun r h => ⟨fun c => (h c).2.2, Idealize.ShloMosaic.sem_eq_zero_of_no_sems (by decide) r.2⟩)
    (Cert.Reference26Ideal.Value.run (F := Ideal) m ρ)

/-- From arguments that agree, the kernel's results and the reference's are the two gradients. -/
theorem algebraic : Cert.algebraic_Kernel26Ideal_Reference26Ideal := by
  intro m ρ m' ρ' _ hagree
  refine ⟨resX m, resW m, ?_, ?_⟩
  · refine (θ_run Cert.Kernel26Ideal.defs _ _).mono (fun r h c => ?_) (Cert.Kernel26Ideal.Value.run_blocks m ρ)
    have hc := h c
    exact ⟨hc.1.trans (final3 m c), hc.2.1.trans (final4 m c), hc.2.2⟩
  · refine (θ_run Cert.Reference26Ideal.defs _ _).mono (fun r h c => ?_) (Cert.Reference26Ideal.Value.run (F := Ideal) m' ρ')
    obtain ⟨a0, a1, a2⟩ := hagree c
    have hc := h c
    refine ⟨hc.1.trans ?_, hc.2.1.trans ?_, hc.2.2⟩
    · rw [Cert.Reference26Ideal.Read.val_main_v37_eq, a0, a1, a2]
      exact ref_x _ _ _
    · rw [Cert.Reference26Ideal.Read.val_main_v38_eq, a0, a2]
      exact ref_weight _ _

end Cert.NormMemGrad
end
-- ==== Proof.NormPre.lean ====
module

public import proofs.«01_k».proof.Defs
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.NormGrad

/-! The norm before the first mixer. A grid point takes 1024 tokens. -/

@[expose] public section
set_option maxRecDepth 16384

noncomputable section
namespace Cert.NormPre
open Cert.Kernel28Ideal Cert.Kernel28Ideal.Gen Idealize.ShloMosaic Idealize.ShloMosaic.TcCoe Idealize.SL.Sem
open Idealize.ShloMosaic.Pipeline Cert.Norm
open Cert.NormGrad (wrow col ld_sq ld_row canon_sq)

/-- The rows of an array, each normalised and weighted. -/
def norms {n : ℕ} (X : (⟨2, ![n, 1024]⟩ : Shape).Idx → EReal) (w : Fin 1024 → EReal)
    (y : (⟨2, ![n, 1024]⟩ : Shape).Idx) : EReal := nrm (row X (y 0)) (y 1) * w (y 1)

/-- The body's result is the weighted norm of the block. -/
theorem pay_eq (x : Vec Ideal S1024x1024 .f32) (w : Vec Ideal S1x1024 .f32) : k0_pay1 x w = norms x (wrow w) := by
  funext y
  obtain ⟨i, j, rfl⟩ : ∃ (i j : Fin 1024), y = ix2 i j := ⟨y 0, y 1, eq_ix2 y⟩
  pointwise [k0_pay1]
  rfl

variable (m : (ℓ : Loc nD τ sig) → Buf (Elt Ideal) ℓ)

/-- The two arguments on a device. -/
def argX (c : Dev nD) : S8192x1024.Idx → EReal := m ((c : Thread nD τ).loc main_arg0)
def argW (c : Dev nD) : S1024.Idx → EReal := m ((c : Thread nD τ).loc main_arg1)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The token that row `i` of a point's block holds. -/
def tok (t : Fin cfg0.N) (i : Fin 1024) : Fin 8192 := ⟨t.val * 1024 + i.val, by have : t.val < 8 := lt_of_lt_of_eq t.isLt N_0; omega⟩

/-- A point's block of the input holds its tokens' rows; the weights come whole. -/
theorem blk0 (c : Dev nD) (t : Fin cfg0.N) (i : Fin 1024) : row (iblk m c 0 t) i = row (argX m c) (tok t i) := by
  funext j
  unfold row iblk
  rw [View.read_apply]
  show V m c main_arg0 _ = _
  rw [V_main_arg0]
  have hi := (index t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blk1 (c : Dev nD) (t : Fin cfg0.N) : wrow (iblk m c 1 t) = col (argW m c) := by
  funext j
  unfold wrow iblk
  rw [View.read_apply]
  show V m c main_v0 _ = _
  after_results_simp
  have hi := (index t).2.1
  refine Cert.NormGrad.as_row _ _ _ ?_
  show win0_1.index t 1 * 1024 + 1 * j.val = j.val; rw [hi.2]; omega

/-- The result. -/
def res (c : Dev nD) : S8192x1024.Idx → EReal := norms (argX m c) (col (argW m c))

/-- What a point leaves: the norms of its tokens. -/
theorem out_apply (c : Dev nD) (t : Fin cfg0.N) (i j : Fin 1024) :
    out0_2 (iblk m c 0 t) (iblk m c 1 t) (ix2 i j) = res m c (ix2 (tok t i) j) := by
  unfold out0_2
  rw [canon_sq, ld_sq, ld_row, pay_eq]
  show nrm (row (iblk m c 0 t) i) j * wrow (iblk m c 1 t) j = _
  rw [blk0, blk1]
  rfl

/-- The result, block by block and whole. -/
theorem flushed2 (c : Dev nD) (t : Fin cfg0.N) :
    (dats m 0 c).flushed 2 t = ((View.whole main_v1).slice (win0_2.rect t)).read (Elt Ideal) (res m c) := by
  show (cfg0.win 2).cut (grid0.coords t) ((dats m 0 c).after 2 t) = _
  rw [after0_2]
  funext y
  rw [View.read_apply]
  obtain ⟨i, j, rfl⟩ : ∃ (i j : Fin 1024), y = ix2 i j := ⟨y 0, y 1, eq_ix2 y⟩
  show out0_2 _ _ (ix2 i j) = _
  rw [out_apply]
  have hi := (index t).2.2
  have he : ((cfg0.win 2).blk t).view.emb (ix2 i j) = ix2 (tok t i) j := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * j.val = j.val; rw [hi.2]; omega
  rw [he]
  rfl
theorem final2 (c : Dev nD) : (dats m 0 c).arrAt 2 cfg0.N = res m c :=
  (dats m 0 c).arrAt_eq_of_cover 2 (res m c) (fun t _ => flushed2 m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_2 t, ?_⟩
    have hi := (index t).2.2
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result, before and after the cast, is the weighted norm. -/
theorem ref_f32 (X : S8192x1024.Idx → EReal) (w : S1024.Idx → EReal) :
    Cert.Reference28Ideal.Read.val_main_v12 (F := Ideal) X w = norms X (col w) := by
  funext y
  obtain ⟨i, j, rfl⟩ : ∃ (i : Fin 8192) (j : Fin 1024), y = ix2 i j := ⟨y 0, y 1, eq_ix2 y⟩
  open Cert.Reference28Ideal.Read in
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl
theorem ref (X : S8192x1024.Idx → EReal) (w : S1024.Idx → EReal) :
    Cert.Reference28Ideal.Read.val_main_v13 (F := Ideal) X w = norms X (col w) := ref_f32 X w

/-- The kernel runs and leaves its arguments and the counters as they were; so it does over the extended reals, and so
    does the reference. -/
theorem frame_p : Cert.quiescent_Kernel28 := fun m ρ _ => Cert.Kernel28.Gen.frame m ρ
theorem frame_pi : Cert.quiescent_Kernel28Ideal := fun m ρ _ => Cert.Kernel28Ideal.Gen.frame m ρ
theorem frame_ri : Cert.quiescent_Reference28Ideal := fun m ρ _ =>
  (θ_run Cert.Reference28Ideal.defs _ _).mono
    (fun r h => ⟨fun c => (h c).2, Idealize.ShloMosaic.sem_eq_zero_of_no_sems (by decide) r.2⟩)
    (Cert.Reference28Ideal.Value.run (F := Ideal) m ρ)

/-- From arguments that agree, the kernel's result and the reference's are the weighted norms. -/
theorem algebraic : Cert.algebraic_Kernel28Ideal_Reference28Ideal := by
  intro m ρ m' ρ' _ hagree
  refine ⟨res m, ?_, ?_⟩
  · refine (θ_run Cert.Kernel28Ideal.defs _ _).mono (fun r h c => ?_) (Cert.Kernel28Ideal.Value.run_blocks m ρ)
    exact ⟨(h c).1.trans (final2 m c), (h c).2⟩
  · refine (θ_run Cert.Reference28Ideal.defs _ _).mono (fun r h c => ?_) (Cert.Reference28Ideal.Value.run (F := Ideal) m' ρ')
    obtain ⟨a0, a1⟩ := hagree c
    refine ⟨(h c).1.trans ?_, (h c).2⟩
    rw [Cert.Reference28Ideal.Read.val_main_v13_eq, a0, a1]
    exact ref _ _

end Cert.NormPre
end
-- ==== Proof.NormPair.lean ====
module

public import proofs.«01_k».proof.Defs
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.NormPre

/-! The norm after the second mixer, added to the residual stream, and the next norm of the sum. A grid point takes 1024
    tokens. -/

@[expose] public section
set_option maxRecDepth 16384

noncomputable section
namespace Cert.NormPair
open Cert.Kernel27Ideal Cert.Kernel27Ideal.Gen Idealize.ShloMosaic Idealize.ShloMosaic.TcCoe Idealize.SL.Sem
open Idealize.ShloMosaic.Pipeline Cert.Norm
open Cert.NormGrad (wrow col ld_sq ld_row canon_sq)
open Cert.NormPre (norms)

/-- An array plus the weighted norm of another. -/
def sumN {n : ℕ} (X Y : (⟨2, ![n, 1024]⟩ : Shape).Idx → EReal) (w : Fin 1024 → EReal)
    (y : (⟨2, ![n, 1024]⟩ : Shape).Idx) : EReal := X y + norms Y w y

/-- The body's first result is the sum; its second is the weighted norm of the sum. -/
theorem pay1_eq (u : Vec Ideal S1024x1024 .bf16) (w : Vec Ideal S1x1024 .f32) (x : Vec Ideal S1024x1024 .f32) :
    k0_pay1 u w x = sumN x u (wrow w) := by
  funext y
  obtain ⟨i, j, rfl⟩ : ∃ (i j : Fin 1024), y = ix2 i j := ⟨y 0, y 1, eq_ix2 y⟩
  pointwise [k0_pay1]
  exact add_comm _ _
theorem pay2_eq (u : Vec Ideal S1024x1024 .bf16) (w : Vec Ideal S1x1024 .f32) (x : Vec Ideal S1024x1024 .f32)
    (v : Vec Ideal S1x1024 .f32) : k0_pay2 u w x v = norms (sumN x u (wrow w)) (wrow v) := by
  rw [← pay1_eq]
  exact Cert.NormPre.pay_eq _ v

variable (m : (ℓ : Loc nD τ sig) → Buf (Elt Ideal) ℓ)

/-- The arguments on a device: the mixer's output and its norm's weights, the residual stream, the next norm's weights. -/
def argU (c : Dev nD) : S8192x1024.Idx → EReal := m ((c : Thread nD τ).loc main_arg0)
def argW (c : Dev nD) : S1024.Idx → EReal := m ((c : Thread nD τ).loc main_arg1)
def argX (c : Dev nD) : S8192x1024.Idx → EReal := m ((c : Thread nD τ).loc main_arg2)
def argV (c : Dev nD) : S1024.Idx → EReal := m ((c : Thread nD τ).loc main_arg3)

theorem index_tok : ∀ t : Fin cfg0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, _)
theorem index_row : ∀ t : Fin cfg0.N, (win0_1.index t 0 = 0 ∧ win0_1.index t 1 = 0) ∧ (win0_3.index t 0 = 0 ∧ win0_3.index t 1 = 0) :=
  (by decide +kernel : ∀ t : Fin grid0.N, _)

/-- The token that row `i` of a point's block holds. -/
def tok (t : Fin cfg0.N) (i : Fin 1024) : Fin 8192 := ⟨t.val * 1024 + i.val, by have : t.val < 8 := lt_of_lt_of_eq t.isLt N_0; omega⟩

/-- A point's blocks of the two token arrays hold its tokens' rows; the weights come whole. -/
theorem blk0 (c : Dev nD) (t : Fin cfg0.N) (i : Fin 1024) : row (iblk m c 0 t) i = row (argU m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blk2 (c : Dev nD) (t : Fin cfg0.N) (i : Fin 1024) : row (iblk m c 2 t) i = row (argX m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 1024 + 1 * i.val = t.val * 1024 + i.val; rw [hi.1]; omega
  | ⟨1, _⟩ => show win0_2.index t 1 * 1024 + 1 * j.val = j.val; rw [hi.2]; omega
theorem blk1 (c : Dev nD) (t : Fin cfg0.N) : wrow (iblk m c 1 t) = col (argW m c) := by
  funext j
  unfold wrow iblk
  rw [View.read_apply]
  show V m c main_v0 _ = _
  after_results_simp
  have hi := (index_row t).1
  refine Cert.NormGrad.as_row _ _ _ ?_
  show win0_1.index t 1 * 1024 + 1 * j.val = j.val; rw [hi.2]; omega
theorem blk3 (c : Dev nD) (t : Fin cfg0.N) : wrow (iblk m c 3 t) = col (argV m c) := by
  funext j
  unfold wrow iblk
  rw [View.read_apply]
  show V m c main_v1 _ = _
  after_results_simp
  have hi := (index_row t).2
  refine Cert.NormGrad.as_row _ _ _ ?_
  show win0_3.index t 1 * 1024 + 1 * j.val = j.val; rw [hi.2]; omega

/-- The two results. -/
def resX (c : Dev nD) : S8192x1024.Idx → EReal := sumN (argX m c) (argU m c) (col (argW m c))
def resN (c : Dev nD) : S8192x1024.Idx → EReal := norms (resX m c) (col (argV m c))

/-- What a point leaves: the sums of its tokens and their norms. -/
theorem row_sum (c : Dev nD) (t : Fin cfg0.N) (i : Fin 1024) :
    row (sumN (iblk m c 2 t) (iblk m c 0 t) (wrow (iblk m c 1 t))) i = row (resX m c) (tok t i) := by
  funext j
  show row (iblk m c 2 t) i j + nrm (row (iblk m c 0 t) i) j * wrow (iblk m c 1 t) j = _
  rw [blk0, blk1, blk2]
  rfl
theorem out4_apply (c : Dev nD) (t : Fin cfg0.N) (i j : Fin 1024) :
    out0_4 (iblk m c 0 t) (iblk m c 1 t) (iblk m c 2 t) (iblk m c 3 t) (ix2 i j) = resX m c (ix2 (tok t i) j) := by
  unfold out0_4
  rw [canon_sq, ld_sq, ld_sq, ld_row, pay1_eq]
  exact congrFun (row_sum m c t i) j
theorem out5_apply (c : Dev nD) (t : Fin cfg0.N) (i j : Fin 1024) :
    out0_5 (iblk m c 0 t) (iblk m c 1 t) (iblk m c 2 t) (iblk m c 3 t) (ix2 i j) = resN m c (ix2 (tok t i) j) := by
  unfold out0_5
  rw [canon_sq, ld_sq, ld_sq, ld_row, ld_row, pay2_eq]
  show nrm (row (sumN (iblk m c 2 t) (iblk m c 0 t) (wrow (iblk m c 1 t))) i) j * wrow (iblk m c 3 t) j = _
  rw [row_sum, blk3]
  rfl

/-- The sum, block by block and whole. -/
theorem flushed4 (c : Dev nD) (t : Fin cfg0.N) :
    (dats m 0 c).flushed 4 t = ((View.whole main_v2_0).slice (win0_4.rect t)).read (Elt Ideal) (resX m c) := by
  show (cfg0.win 4).cut (grid0.coords t) ((dats m 0 c).after 4 t) = _
  rw [after0_4]
  funext y
  rw [View.read_apply]
  obtain ⟨i, j, rfl⟩ : ∃ (i j : Fin 1024), y = ix2 i j := ⟨y 0, y 1, eq_ix2 y⟩
  show out0_4 _ _ _ _ (ix2 i j) = _
  rw [out4_apply]
  have hi := (index_tok t).2.2.1
  have he : ((cfg0.win 4).blk t).view.emb (ix2 i j) = ix2 (tok t i) j := by
    funext a
    refine Fin.ext ?_
    match a with
    | ⟨0, _⟩ => show win0_4.index t 0 * 1024 + 1 * i.val = t.val * 1024 + i.val; rw [hi.1]; omega
    | ⟨1, _⟩ => show win0_4.index t 1 * 1024 + 1 * j.val = j.val; rw [hi.2]; omega
  rw [he]
  rfl
theorem final4 (c : Dev nD) : (dats m 0 c).arrAt 4 cfg0.N = resX m c :=
  (dats m 0 c).arrAt_eq_of_cover 4 (resX m c) (fun t _ => flushed4 m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_4 t, ?_⟩
    have hi := (index_tok t).2.2.1
    show i ∈ ((View.whole main_v2_0).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [hi.1]; show (i 0).val / 1024 * 1024 ≤ _ ∧ _ < (i 0).val / 1024 * 1024 + 1024; omega
    | ⟨1, _⟩ =>
      show win0_4.index t 1 * 1024 ≤ (i 1 : Nat) ∧ (i 1 : Nat) < win0_4.index t 1 * 1024 + 1024
      rw [hi.2]; omega

/-- The norm of the sum, block by block and whole. -/
theorem flushed5 (c : Dev nD) (t : Fin cfg0.N) :
    (dats m 0 c).flushed 5 t = ((View.whole main_v2_1).slice (win0_5.rect t)).read (Elt Ideal) (resN m c) := by
  show (cfg0.win 5).cut (grid0.coords t) ((dats m 0 c).after 5 t) = _
  rw [after0_5]
  funext y
  rw [View.read_apply]
  obtain ⟨i, j, rfl⟩ : ∃ (i j : Fin 1024), y = ix2 i j := ⟨y 0, y 1, eq_ix2 y⟩
  show out0_5 _ _ _ _ (ix2 i j) = _
  rw [out5_apply]
  have hi := (index_tok t).2.2.2
  have he : ((cfg0.win 5).blk t).view.emb (ix2 i j) = ix2 (tok t i) j := by
    funext a
    refine Fin.ext ?_
    match a with
    | ⟨0, _⟩ => show win0_5.index t 0 * 1024 + 1 * i.val = t.val * 1024 + i.val; rw [hi.1]; omega
    | ⟨1, _⟩ => show win0_5.index t 1 * 1024 + 1 * j.val = j.val; rw [hi.2]; omega
  rw [he]
  rfl
theorem final5 (c : Dev nD) : (dats m 0 c).arrAt 5 cfg0.N = resN m c :=
  (dats m 0 c).arrAt_eq_of_cover 5 (resN m c) (fun t _ => flushed5 m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_5 t, ?_⟩
    have hi := (index_tok t).2.2.2
    show i ∈ ((View.whole main_v2_1).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [hi.1]; show (i 0).val / 1024 * 1024 ≤ _ ∧ _ < (i 0).val / 1024 * 1024 + 1024; omega
    | ⟨1, _⟩ =>
      show win0_5.index t 1 * 1024 ≤ (i 1 : Nat) ∧ (i 1 : Nat) < win0_5.index t 1 * 1024 + 1024
      rw [hi.2]; omega

/-- The reference's first result is the sum; its second is the weighted norm of the sum. -/
theorem ref_x (U : S8192x1024.Idx → EReal) (w : S1024.Idx → EReal) (X : S8192x1024.Idx → EReal) :
    Cert.Reference27Ideal.Read.val_main_v14 (F := Ideal) U w X = sumN X U (col w) := by
  unfold sumN
  rw [← Cert.NormPre.ref_f32]
  rfl
theorem ref_n (U : S8192x1024.Idx → EReal) (w : S1024.Idx → EReal) (X : S8192x1024.Idx → EReal) (v : S1024.Idx → EReal) :
    Cert.Reference27Ideal.Read.val_main_v28 (F := Ideal) U w X v = norms (sumN X U (col w)) (col v) := by
  rw [← ref_x]
  exact Cert.NormPre.ref_f32 _ v

/-- The kernel runs and leaves its arguments and the counters as they were; so it does over the extended reals, and so
    does the reference. -/
theorem frame_p : Cert.quiescent_Kernel27 := fun m ρ _ => Cert.Kernel27.Gen.frame m ρ
theorem frame_pi : Cert.quiescent_Kernel27Ideal := fun m ρ _ => Cert.Kernel27Ideal.Gen.frame m ρ
theorem frame_ri : Cert.quiescent_Reference27Ideal := fun m ρ _ =>
  (θ_run Cert.Reference27Ideal.defs _ _).mono
    (fun r h => ⟨fun c => (h c).2.2, Idealize.ShloMosaic.sem_eq_zero_of_no_sems (by decide) r.2⟩)
    (Cert.Reference27Ideal.Value.run (F := Ideal) m ρ)

/-- From arguments that agree, the kernel's results and the reference's are the sum and its norm. -/
theorem algebraic : Cert.algebraic_Kernel27Ideal_Reference27Ideal := by
  intro m ρ m' ρ' _ hagree
  refine ⟨resX m, resN m, ?_, ?_⟩
  · refine (θ_run Cert.Kernel27Ideal.defs _ _).mono (fun r h c => ?_) (Cert.Kernel27Ideal.Value.run_blocks m ρ)
    have hc := h c
    exact ⟨hc.1.trans (final4 m c), hc.2.1.trans (final5 m c), hc.2.2⟩
  · refine (θ_run Cert.Reference27Ideal.defs _ _).mono (fun r h c => ?_) (Cert.Reference27Ideal.Value.run (F := Ideal) m' ρ')
    obtain ⟨a0, a1, a2, a3⟩ := hagree c
    have hc := h c
    refine ⟨hc.1.trans ?_, hc.2.1.trans ?_, hc.2.2⟩
    · rw [Cert.Reference27Ideal.Read.val_main_v14_eq, a0, a1, a2]
      exact ref_x _ _ _
    · rw [Cert.Reference27Ideal.Read.val_main_v28_eq, a0, a1, a2, a3]
      exact ref_n _ _ _ _

end Cert.NormPair
end
-- ==== Proof.NormMem.lean ====
module

public import proofs.«01_k».proof.Defs
public import proofs.«01_k».proof.Proof.Gen.Kernel29
public import proofs.«01_k».proof.Proof.Gen.Kernel29.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.NormPre

/-! The norm of the memory, in one grid point. -/

@[expose] public section
set_option maxRecDepth 16384

noncomputable section
namespace Cert.NormMem
open Cert.Kernel29Ideal Cert.Kernel29Ideal.Gen Idealize.ShloMosaic Idealize.ShloMosaic.TcCoe Idealize.SL.Sem
open Idealize.ShloMosaic.Pipeline Cert.Norm
open Cert.NormGrad (wrow col ld_sq ld_row canon_sq)
open Cert.NormPre (norms)

/-- The body's term is that of the norm of the tokens. -/
theorem pay_eq (x : Vec Ideal S1024x1024 .f32) (w : Vec Ideal S1x1024 .f32) : k0_pay1 x w = norms x (wrow w) :=
  Cert.NormPre.pay_eq x w

variable (m : (ℓ : Loc nD τ sig) → Buf (Elt Ideal) ℓ)

/-- The two arguments on a device. -/
def argX (c : Dev nD) : S1024x1024.Idx → EReal := m ((c : Thread nD τ).loc main_arg0)
def argW (c : Dev nD) : S1024.Idx → EReal := m ((c : Thread nD τ).loc main_arg1)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The token that row `i` of a point's block holds. -/
def tok (t : Fin cfg0.N) (i : Fin 1024) : Fin 1024 := ⟨t.val * 1024 + i.val, by have : t.val < 1 := lt_of_lt_of_eq t.isLt N_0; omega⟩

/-- A point's block of the input holds its tokens' rows; the weights come whole. -/
theorem blk0 (c : Dev nD) (t : Fin cfg0.N) (i : Fin 1024) : row (iblk m c 0 t) i = row (argX m c) (tok t i) := by
  funext j
  unfold row iblk
  rw [View.read_apply]
  show V m c main_arg0 _ = _
  rw [V_main_arg0]
  have hi := (index t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blk1 (c : Dev nD) (t : Fin cfg0.N) : wrow (iblk m c 1 t) = col (argW m c) := by
  funext j
  unfold wrow iblk
  rw [View.read_apply]
  show V m c main_v0 _ = _
  after_results_simp
  have hi := (index t).2.1
  refine Cert.NormGrad.as_row _ _ _ ?_
  show win0_1.index t 1 * 1024 + 1 * j.val = j.val; rw [hi.2]; omega

/-- The result. -/
def res (c : Dev nD) : S1024x1024.Idx → EReal := norms (argX m c) (col (argW m c))

/-- What a point leaves: the norms of its tokens. -/
theorem out_apply (c : Dev nD) (t : Fin cfg0.N) (i j : Fin 1024) :
    out0_2 (iblk m c 0 t) (iblk m c 1 t) (ix2 i j) = res m c (ix2 (tok t i) j) := by
  unfold out0_2
  rw [canon_sq, ld_sq, ld_row, pay_eq]
  show nrm (row (iblk m c 0 t) i) j * wrow (iblk m c 1 t) j = _
  rw [blk0, blk1]
  rfl

/-- The result, block by block and whole. -/
theorem flushed2 (c : Dev nD) (t : Fin cfg0.N) :
    (dats m 0 c).flushed 2 t = ((View.whole main_v1).slice (win0_2.rect t)).read (Elt Ideal) (res m c) := by
  show (cfg0.win 2).cut (grid0.coords t) ((dats m 0 c).after 2 t) = _
  rw [after0_2]
  funext y
  rw [View.read_apply]
  obtain ⟨i, j, rfl⟩ : ∃ (i j : Fin 1024), y = ix2 i j := ⟨y 0, y 1, eq_ix2 y⟩
  show out0_2 _ _ (ix2 i j) = _
  rw [out_apply]
  have hi := (index t).2.2
  have he : ((cfg0.win 2).blk t).view.emb (ix2 i j) = ix2 (tok t i) j := by
    funext a
    refine Fin.ext ?_
    match a with
    | ⟨0, _⟩ => show win0_2.index t 0 * 1024 + 1 * i.val = t.val * 1024 + i.val; rw [hi.1]; omega
    | ⟨1, _⟩ => show win0_2.index t 1 * 1024 + 1 * j.val = j.val; rw [hi.2]; omega
  rw [he]
  rfl
theorem final2 (c : Dev nD) : (dats m 0 c).arrAt 2 cfg0.N = res m c :=
  (dats m 0 c).arrAt_eq_of_cover 2 (res m c) (fun t _ => flushed2 m c t) fun i => by
    have h0 : (i 0 : Nat) < 1024 := (i 0).isLt
    have h1 : (i 1 : Nat) < 1024 := (i 1).isLt
    let t : Fin cfg0.N := ⟨(i 0).val / 1024, by rw [show cfg0.N = 1 from N_0]; omega⟩
    refine ⟨t, flush0_2 t, ?_⟩
    have hi := (index t).2.2
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; show (i 0).val / 1024 * 1024 ≤ _ ∧ _ < (i 0).val / 1024 * 1024 + 1024; omega
    | ⟨1, _⟩ =>
      show win0_2.index t 1 * 1024 ≤ (i 1 : Nat) ∧ (i 1 : Nat) < win0_2.index t 1 * 1024 + 1024
      rw [hi.2]; omega

/-- The reference's result, before and after the cast, is the weighted norm. -/
theorem ref_f32 (X : S1024x1024.Idx → EReal) (w : S1024.Idx → EReal) :
    Cert.Reference29Ideal.Read.val_main_v12 (F := Ideal) X w = norms X (col w) := by
  funext y
  obtain ⟨i, j, rfl⟩ : ∃ (i : Fin 1024) (j : Fin 1024), y = ix2 i j := ⟨y 0, y 1, eq_ix2 y⟩
  open Cert.Reference29Ideal.Read in
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl
theorem ref (X : S1024x1024.Idx → EReal) (w : S1024.Idx → EReal) :
    Cert.Reference29Ideal.Read.val_main_v13 (F := Ideal) X w = norms X (col w) := ref_f32 X w

/-- The kernel runs and leaves its arguments and the counters as they were; so it does over the extended reals, and so
    does the reference. -/
theorem frame_p : Cert.quiescent_Kernel29 := fun m ρ _ => Cert.Kernel29.Gen.frame m ρ
theorem frame_pi : Cert.quiescent_Kernel29Ideal := fun m ρ _ => Cert.Kernel29Ideal.Gen.frame m ρ
theorem frame_ri : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run (F := Ideal) m ρ)

/-- From arguments that agree, the kernel's result and the reference's are the weighted norms. -/
theorem algebraic : Cert.algebraic_Kernel29Ideal_Reference29Ideal := by
  intro m ρ m' ρ' _ hagree
  refine ⟨res m, ?_, ?_⟩
  · refine (θ_run Cert.Kernel29Ideal.defs _ _).mono (fun r h c => ?_) (Cert.Kernel29Ideal.Value.run_blocks m ρ)
    exact ⟨(h c).1.trans (final2 m c), (h c).2⟩
  · refine (θ_run Cert.Reference29Ideal.defs _ _).mono (fun r h c => ?_) (Cert.Reference29Ideal.Value.run (F := Ideal) m' ρ')
    obtain ⟨a0, a1⟩ := hagree c
    refine ⟨(h c).1.trans ?_, (h c).2⟩
    rw [Cert.Reference29Ideal.Read.val_main_v13_eq, a0, a1]
    exact ref _ _

end Cert.NormMem
end
-- ==== Proof.NormFfnPair.lean ====
module

public import proofs.«01_k».proof.Defs
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.NormPair

/-! The norm after the first layer's feed-forward block, added to the residual stream, and the next layer's first norm of
    the sum. It is the call of `NormPair.lean` with the second result in f32; the body's terms and the reference's are the
    same. -/

@[expose] public section
set_option maxRecDepth 16384

noncomputable section
namespace Cert.NormFfnPair
open Cert.Kernel30Ideal Cert.Kernel30Ideal.Gen Idealize.ShloMosaic Idealize.ShloMosaic.TcCoe Idealize.SL.Sem
open Idealize.ShloMosaic.Pipeline Cert.Norm
open Cert.NormGrad (wrow col ld_sq ld_row canon_sq)
open Cert.NormPre (norms)
open Cert.NormPair (sumN)

/-- The body's first result is the sum; its second is the weighted norm of the sum. -/
theorem pay1_eq (u : Vec Ideal S1024x1024 .bf16) (w : Vec Ideal S1x1024 .f32) (x : Vec Ideal S1024x1024 .f32) :
    k0_pay1 u w x = sumN x u (wrow w) := Cert.NormPair.pay1_eq u w x
theorem pay2_eq (u : Vec Ideal S1024x1024 .bf16) (w : Vec Ideal S1x1024 .f32) (x : Vec Ideal S1024x1024 .f32)
    (v : Vec Ideal S1x1024 .f32) : k0_pay2 u w x v = norms (sumN x u (wrow w)) (wrow v) := Cert.NormPair.pay2_eq u w x v

variable (m : (ℓ : Loc nD τ sig) → Buf (Elt Ideal) ℓ)

/-- The arguments on a device: the block's output and its norm's weights, the residual stream, the next norm's weights. -/
def argU (c : Dev nD) : S8192x1024.Idx → EReal := m ((c : Thread nD τ).loc main_arg0)
def argW (c : Dev nD) : S1024.Idx → EReal := m ((c : Thread nD τ).loc main_arg1)
def argX (c : Dev nD) : S8192x1024.Idx → EReal := m ((c : Thread nD τ).loc main_arg2)
def argV (c : Dev nD) : S1024.Idx → EReal := m ((c : Thread nD τ).loc main_arg3)

theorem index_tok : ∀ t : Fin cfg0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, _)
theorem index_row : ∀ t : Fin cfg0.N, (win0_1.index t 0 = 0 ∧ win0_1.index t 1 = 0) ∧ (win0_3.index t 0 = 0 ∧ win0_3.index t 1 = 0) :=
  (by decide +kernel : ∀ t : Fin grid0.N, _)

/-- The token that row `i` of a point's block holds. -/
def tok (t : Fin cfg0.N) (i : Fin 1024) : Fin 8192 := ⟨t.val * 1024 + i.val, by have : t.val < 8 := lt_of_lt_of_eq t.isLt N_0; omega⟩

/-- A point's blocks of the two token arrays hold its tokens' rows; the weights come whole. -/
theorem blk0 (c : Dev nD) (t : Fin cfg0.N) (i : Fin 1024) : row (iblk m c 0 t) i = row (argU m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blk2 (c : Dev nD) (t : Fin cfg0.N) (i : Fin 1024) : row (iblk m c 2 t) i = row (argX m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 1024 + 1 * i.val = t.val * 1024 + i.val; rw [hi.1]; omega
  | ⟨1, _⟩ => show win0_2.index t 1 * 1024 + 1 * j.val = j.val; rw [hi.2]; omega
theorem blk1 (c : Dev nD) (t : Fin cfg0.N) : wrow (iblk m c 1 t) = col (argW m c) := by
  funext j
  unfold wrow iblk
  rw [View.read_apply]
  show V m c main_v0 _ = _
  after_results_simp
  have hi := (index_row t).1
  refine Cert.NormGrad.as_row _ _ _ ?_
  show win0_1.index t 1 * 1024 + 1 * j.val = j.val; rw [hi.2]; omega
theorem blk3 (c : Dev nD) (t : Fin cfg0.N) : wrow (iblk m c 3 t) = col (argV m c) := by
  funext j
  unfold wrow iblk
  rw [View.read_apply]
  show V m c main_v1 _ = _
  after_results_simp
  have hi := (index_row t).2
  refine Cert.NormGrad.as_row _ _ _ ?_
  show win0_3.index t 1 * 1024 + 1 * j.val = j.val; rw [hi.2]; omega

/-- The two results. -/
def resX (c : Dev nD) : S8192x1024.Idx → EReal := sumN (argX m c) (argU m c) (col (argW m c))
def resN (c : Dev nD) : S8192x1024.Idx → EReal := norms (resX m c) (col (argV m c))

/-- What a point leaves: the sums of its tokens and their norms. -/
theorem row_sum (c : Dev nD) (t : Fin cfg0.N) (i : Fin 1024) :
    row (sumN (iblk m c 2 t) (iblk m c 0 t) (wrow (iblk m c 1 t))) i = row (resX m c) (tok t i) := by
  funext j
  show row (iblk m c 2 t) i j + nrm (row (iblk m c 0 t) i) j * wrow (iblk m c 1 t) j = _
  rw [blk0, blk1, blk2]
  rfl
theorem out4_apply (c : Dev nD) (t : Fin cfg0.N) (i j : Fin 1024) :
    out0_4 (iblk m c 0 t) (iblk m c 1 t) (iblk m c 2 t) (iblk m c 3 t) (ix2 i j) = resX m c (ix2 (tok t i) j) := by
  unfold out0_4
  rw [canon_sq, ld_sq, ld_sq, ld_row, pay1_eq]
  exact congrFun (row_sum m c t i) j
theorem out5_apply (c : Dev nD) (t : Fin cfg0.N) (i j : Fin 1024) :
    out0_5 (iblk m c 0 t) (iblk m c 1 t) (iblk m c 2 t) (iblk m c 3 t) (ix2 i j) = resN m c (ix2 (tok t i) j) := by
  unfold out0_5
  rw [canon_sq, ld_sq, ld_sq, ld_row, ld_row, pay2_eq]
  show nrm (row (sumN (iblk m c 2 t) (iblk m c 0 t) (wrow (iblk m c 1 t))) i) j * wrow (iblk m c 3 t) j = _
  rw [row_sum, blk3]
  rfl

/-- The sum, block by block and whole. -/
theorem flushed4 (c : Dev nD) (t : Fin cfg0.N) :
    (dats m 0 c).flushed 4 t = ((View.whole main_v2_0).slice (win0_4.rect t)).read (Elt Ideal) (resX m c) := by
  show (cfg0.win 4).cut (grid0.coords t) ((dats m 0 c).after 4 t) = _
  rw [after0_4]
  funext y
  rw [View.read_apply]
  obtain ⟨i, j, rfl⟩ : ∃ (i j : Fin 1024), y = ix2 i j := ⟨y 0, y 1, eq_ix2 y⟩
  show out0_4 _ _ _ _ (ix2 i j) = _
  rw [out4_apply]
  have hi := (index_tok t).2.2.1
  have he : ((cfg0.win 4).blk t).view.emb (ix2 i j) = ix2 (tok t i) j := by
    funext a
    refine Fin.ext ?_
    match a with
    | ⟨0, _⟩ => show win0_4.index t 0 * 1024 + 1 * i.val = t.val * 1024 + i.val; rw [hi.1]; omega
    | ⟨1, _⟩ => show win0_4.index t 1 * 1024 + 1 * j.val = j.val; rw [hi.2]; omega
  rw [he]
  rfl
theorem final4 (c : Dev nD) : (dats m 0 c).arrAt 4 cfg0.N = resX m c :=
  (dats m 0 c).arrAt_eq_of_cover 4 (resX m c) (fun t _ => flushed4 m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_4 t, ?_⟩
    have hi := (index_tok t).2.2.1
    show i ∈ ((View.whole main_v2_0).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [hi.1]; show (i 0).val / 1024 * 1024 ≤ _ ∧ _ < (i 0).val / 1024 * 1024 + 1024; omega
    | ⟨1, _⟩ =>
      show win0_4.index t 1 * 1024 ≤ (i 1 : Nat) ∧ (i 1 : Nat) < win0_4.index t 1 * 1024 + 1024
      rw [hi.2]; omega

/-- The norm of the sum, block by block and whole. -/
theorem flushed5 (c : Dev nD) (t : Fin cfg0.N) :
    (dats m 0 c).flushed 5 t = ((View.whole main_v2_1).slice (win0_5.rect t)).read (Elt Ideal) (resN m c) := by
  show (cfg0.win 5).cut (grid0.coords t) ((dats m 0 c).after 5 t) = _
  rw [after0_5]
  funext y
  rw [View.read_apply]
  obtain ⟨i, j, rfl⟩ : ∃ (i j : Fin 1024), y = ix2 i j := ⟨y 0, y 1, eq_ix2 y⟩
  show out0_5 _ _ _ _ (ix2 i j) = _
  rw [out5_apply]
  have hi := (index_tok t).2.2.2
  have he : ((cfg0.win 5).blk t).view.emb (ix2 i j) = ix2 (tok t i) j := by
    funext a
    refine Fin.ext ?_
    match a with
    | ⟨0, _⟩ => show win0_5.index t 0 * 1024 + 1 * i.val = t.val * 1024 + i.val; rw [hi.1]; omega
    | ⟨1, _⟩ => show win0_5.index t 1 * 1024 + 1 * j.val = j.val; rw [hi.2]; omega
  rw [he]
  rfl
theorem final5 (c : Dev nD) : (dats m 0 c).arrAt 5 cfg0.N = resN m c :=
  (dats m 0 c).arrAt_eq_of_cover 5 (resN m c) (fun t _ => flushed5 m c t) fun i => by
    have h0 : (i 0 : Nat) < 8192 := (i 0).isLt
    have h1 : (i 1 : Nat) < 1024 := (i 1).isLt
    let t : Fin cfg0.N := ⟨(i 0).val / 1024, by rw [show cfg0.N = 8 from N_0]; omega⟩
    refine ⟨t, flush0_5 t, ?_⟩
    have hi := (index_tok t).2.2.2
    show i ∈ ((View.whole main_v2_1).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [hi.1]; show (i 0).val / 1024 * 1024 ≤ _ ∧ _ < (i 0).val / 1024 * 1024 + 1024; omega
    | ⟨1, _⟩ =>
      show win0_5.index t 1 * 1024 ≤ (i 1 : Nat) ∧ (i 1 : Nat) < win0_5.index t 1 * 1024 + 1024
      rw [hi.2]; omega

/-- The reference's first result is the sum; its second is the weighted norm of the sum. -/
theorem ref_x (U : S8192x1024.Idx → EReal) (w : S1024.Idx → EReal) (X : S8192x1024.Idx → EReal) :
    Cert.Reference30Ideal.Read.val_main_v14 (F := Ideal) U w X = sumN X U (col w) := Cert.NormPair.ref_x U w X
theorem ref_n (U : S8192x1024.Idx → EReal) (w : S1024.Idx → EReal) (X : S8192x1024.Idx → EReal) (v : S1024.Idx → EReal) :
    Cert.Reference30Ideal.Read.val_main_v27 (F := Ideal) U w X v = norms (sumN X U (col w)) (col v) :=
  Cert.NormPair.ref_n U w X v

/-- The kernel runs and leaves its arguments and the counters as they were; so it does over the extended reals, and so
    does the reference. -/
theorem frame_p : Cert.quiescent_Kernel30 := fun m ρ _ => Cert.Kernel30.Gen.frame m ρ
theorem frame_pi : Cert.quiescent_Kernel30Ideal := fun m ρ _ => Cert.Kernel30Ideal.Gen.frame m ρ
theorem frame_ri : Cert.quiescent_Reference30Ideal := fun m ρ _ =>
  (θ_run Cert.Reference30Ideal.defs _ _).mono
    (fun r h => ⟨fun c => (h c).2.2, Idealize.ShloMosaic.sem_eq_zero_of_no_sems (by decide) r.2⟩)
    (Cert.Reference30Ideal.Value.run (F := Ideal) m ρ)

/-- From arguments that agree, the kernel's results and the reference's are the sum and its norm. -/
theorem algebraic : Cert.algebraic_Kernel30Ideal_Reference30Ideal := by
  intro m ρ m' ρ' _ hagree
  refine ⟨resX m, resN m, ?_, ?_⟩
  · refine (θ_run Cert.Kernel30Ideal.defs _ _).mono (fun r h c => ?_) (Cert.Kernel30Ideal.Value.run_blocks m ρ)
    have hc := h c
    exact ⟨hc.1.trans (final4 m c), hc.2.1.trans (final5 m c), hc.2.2⟩
  · refine (θ_run Cert.Reference30Ideal.defs _ _).mono (fun r h c => ?_) (Cert.Reference30Ideal.Value.run (F := Ideal) m' ρ')
    obtain ⟨a0, a1, a2, a3⟩ := hagree c
    have hc := h c
    refine ⟨hc.1.trans ?_, hc.2.1.trans ?_, hc.2.2⟩
    · rw [Cert.Reference30Ideal.Read.val_main_v14_eq, a0, a1, a2]
      exact ref_x _ _ _
    · rw [Cert.Reference30Ideal.Read.val_main_v27_eq, a0, a1, a2, a3]
      exact ref_n _ _ _ _

end Cert.NormFfnPair
end
-- ==== Proof.NormMixGrad.lean ====
module

public import proofs.«01_k».proof.Defs
public import proofs.«01_k».proof.Proof.Gen.Kernel31
public import proofs.«01_k».proof.Proof.Gen.Kernel31.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.NormGrad

/-! The gradients of the second layer's first norm and of the first layer's last, in one call. It is the call of
    `NormGrad.lean` with an incoming gradient in f32; the body's terms and the reference's are the same. -/

@[expose] public section
set_option maxRecDepth 16384

noncomputable section
namespace Cert.NormMixGrad
open Cert.Kernel31Ideal Cert.Kernel31Ideal.Gen Idealize.ShloMosaic Idealize.ShloMosaic.TcCoe Idealize.SL.Sem
open Idealize.ShloMosaic.Pipeline Cert.Norm
open Cert.NormGrad (wrow col blkX blkW sumX running as_row ld_sq ld_row canon_sq canon_row)

/-! ### One block -/

section Body
variable (x0 x2 x3 : Vec Ideal S1024x1024 .f32) (x4 : Vec Ideal S1024x1024 .bf16) (x1 x5 s s' : Vec Ideal S1x1024 .f32)

/-- The body's terms. -/
theorem pay9_eq : k0_pay9 x2 x0 = blkW x0 x2 := Cert.NormGrad.pay4_eq x0 x2
theorem pay10_eq : k0_pay10 x2 x0 s = fun y => s y + blkW x0 x2 y := Cert.NormGrad.pay5_eq x0 x2 s
theorem pay11_eq : k0_pay11 x2 x0 x1 x3 = blkX x0 x3 x2 x1 := Cert.NormGrad.pay6_eq x0 x3 x2 x1
theorem pay4_eq (D : Vec Ideal S1024x1024 .f32) : k0_pay4 D x4 = blkW x4 D := Cert.NormGrad.pay10_eq x4 D
theorem pay5_eq (D : Vec Ideal S1024x1024 .f32) : k0_pay5 D x4 s = fun y => s y + blkW x4 D y := Cert.NormGrad.pay11_eq x4 s D
theorem pay6_eq (D : Vec Ideal S1024x1024 .f32) : k0_pay6 D x4 x5 = dnorms x4 D (wrow x5) := Cert.NormGrad.pay12_eq x4 x5 D

variable (c : Dev nD) (i : grid0.Coords)
  (a1 : Memref sig .tc .vmem S1024x1024 .f32) (h1 : a1.IsWhole) (a2 : Memref sig .tc .vmem S1x1024 .f32) (h2 : a2.IsWhole)
  (a3 : Memref sig .tc .vmem S1024x1024 .f32) (h3 : a3.IsWhole) (a4 : Memref sig .tc .vmem S1024x1024 .f32) (h4 : a4.IsWhole)
  (a5 : Memref sig .tc .vmem S1024x1024 .bf16) (h5 : a5.IsWhole) (a6 : Memref sig .tc .vmem S1x1024 .f32) (h6 : a6.IsWhole)
  (a7 : Memref sig .tc .vmem S1024x1024 .f32) (h7 : a7.IsWhole) (a8 : Memref sig .tc .vmem S1x1024 .f32) (h8 : a8.IsWhole)
  (a9 : Memref sig .tc .vmem S1024x1024 .bf16) (h9 : a9.IsWhole) (a10 : Memref sig .tc .vmem S1x1024 .f32) (h10 : a10.IsWhole)

set_option maxHeartbeats 1000000 in
/-- What the body leaves at the first point: the two gradients of the block, and its part of the weights' gradients. -/
theorem out_A (hc0 : cond0_0 i) (hc1 : ¬cond0_1 i) (hc2 : cond0_2 i) (hc3 : ¬cond0_3 i) :
    out0_A_6 c i a1 h1 a2 h2 a3 h3 a4 h4 a5 h5 a6 h6 a7 h7 a8 h8 a9 h9 a10 h10 hc0 hc1 hc2 hc3 x0 x1 x2 x3 x4 x5
        = blkX x0 x3 x2 x1
    ∧ out0_A_7 c i a1 h1 a2 h2 a3 h3 a4 h4 a5 h5 a6 h6 a7 h7 a8 h8 a9 h9 a10 h10 hc0 hc1 hc2 hc3 x0 x1 x2 x3 x4 x5
        = blkW x0 x2
    ∧ out0_A_8 c i a1 h1 a2 h2 a3 h3 a4 h4 a5 h5 a6 h6 a7 h7 a8 h8 a9 h9 a10 h10 hc0 hc1 hc2 hc3 x0 x1 x2 x3 x4 x5
        = dnorms x4 (blkX x0 x3 x2 x1) (wrow x5)
    ∧ out0_A_9 c i a1 h1 a2 h2 a3 h3 a4 h4 a5 h5 a6 h6 a7 h7 a8 h8 a9 h9 a10 h10 hc0 hc1 hc2 hc3 x0 x1 x2 x3 x4 x5
        = blkW x4 (blkX x0 x3 x2 x1) := by
  have c6 := cover0_A_6 c i a1 h1 a2 h2 a3 h3 a4 h4 a5 h5 a6 h6 a7 h7 a8 h8 a9 h9 a10 h10 hc0 hc1 hc2 hc3 x0 x1 x2 x3 x4 x5
  have c7 := cover0_A_7 c i a1 h1 a2 h2 a3 h3 a4 h4 a5 h5 a6 h6 a7 h7 a8 h8 a9 h9 a10 h10 hc0 hc1 hc2 hc3 x0 x1 x2 x3 x4 x5
  have c8 := cover0_A_8 c i a1 h1 a2 h2 a3 h3 a4 h4 a5 h5 a6 h6 a7 h7 a8 h8 a9 h9 a10 h10 hc0 hc1 hc2 hc3 x0 x1 x2 x3 x4 x5
  have c9 := cover0_A_9 c i a1 h1 a2 h2 a3 h3 a4 h4 a5 h5 a6 h6 a7 h7 a8 h8 a9 h9 a10 h10 hc0 hc1 hc2 hc3 x0 x1 x2 x3 x4 x5
  unfold out0_A_6 out0_A_7 out0_A_8 out0_A_9
  rw [View.read_writes_eq_canon _ _ _ c6, View.read_writes_eq_canon _ _ _ c7, View.read_writes_eq_canon _ _ _ c8,
    View.read_writes_eq_canon _ _ _ c9]
  unfold kernelRun0_A
  dsimp only
  sl_unfold_words
  simp only [View.readAt_eq_ld, h1.read_unread, h2.read_unread, h3.read_unread, h4.read_unread, h5.read_unread, h6.read_unread,
    ld_sq, ld_row, canon_sq, canon_row, pay11_eq, pay9_eq, pay6_eq, pay4_eq, and_self]

/-- What it leaves at a later point: the parts of the weights' gradients are added to what the blocks held. -/
theorem out_B (hc0 : ¬cond0_0 i) (hc1 : cond0_1 i) (hc2 : ¬cond0_2 i) (hc3 : cond0_3 i) :
    out0_B_6 c i a1 h1 a2 h2 a3 h3 a4 h4 a5 h5 a6 h6 a7 h7 a8 h8 a9 h9 a10 h10 hc0 hc1 hc2 hc3 x0 x1 x2 x3 x4 x5 s s'
        = blkX x0 x3 x2 x1
    ∧ out0_B_7 c i a1 h1 a2 h2 a3 h3 a4 h4 a5 h5 a6 h6 a7 h7 a8 h8 a9 h9 a10 h10 hc0 hc1 hc2 hc3 x0 x1 x2 x3 x4 x5 s s'
        = (fun y => s y + blkW x0 x2 y)
    ∧ out0_B_8 c i a1 h1 a2 h2 a3 h3 a4 h4 a5 h5 a6 h6 a7 h7 a8 h8 a9 h9 a10 h10 hc0 hc1 hc2 hc3 x0 x1 x2 x3 x4 x5 s s'
        = dnorms x4 (blkX x0 x3 x2 x1) (wrow x5)
    ∧ out0_B_9 c i a1 h1 a2 h2 a3 h3 a4 h4 a5 h5 a6 h6 a7 h7 a8 h8 a9 h9 a10 h10 hc0 hc1 hc2 hc3 x0 x1 x2 x3 x4 x5 s s'
        = fun y => s' y + blkW x4 (blkX x0 x3 x2 x1) y := by
  have c6 := cover0_B_6 c i a1 h1 a2 h2 a3 h3 a4 h4 a5 h5 a6 h6 a7 h7 a8 h8 a9 h9 a10 h10 hc0 hc1 hc2 hc3 x0 x1 x2 x3 x4 x5 s s'
  have c7 := cover0_B_7 c i a1 h1 a2 h2 a3 h3 a4 h4 a5 h5 a6 h6 a7 h7 a8 h8 a9 h9 a10 h10 hc0 hc1 hc2 hc3 x0 x1 x2 x3 x4 x5 s s'
  have c8 := cover0_B_8 c i a1 h1 a2 h2 a3 h3 a4 h4 a5 h5 a6 h6 a7 h7 a8 h8 a9 h9 a10 h10 hc0 hc1 hc2 hc3 x0 x1 x2 x3 x4 x5 s s'
  have c9 := cover0_B_9 c i a1 h1 a2 h2 a3 h3 a4 h4 a5 h5 a6 h6 a7 h7 a8 h8 a9 h9 a10 h10 hc0 hc1 hc2 hc3 x0 x1 x2 x3 x4 x5 s s'
  unfold out0_B_6 out0_B_7 out0_B_8 out0_B_9
  rw [View.read_writes_eq_canon _ _ _ c6, View.read_writes_eq_canon _ _ _ c7, View.read_writes_eq_canon _ _ _ c8,
    View.read_writes_eq_canon _ _ _ c9]
  unfold kernelRun0_B
  dsimp only
  sl_unfold_words
  simp only [View.readAt_eq_ld, h1.read_unread, h2.read_unread, h3.read_unread, h4.read_unread, h5.read_unread, h6.read_unread,
    h8.read_unread, h10.read_unread, ld_sq, ld_row, canon_sq, canon_row, pay11_eq, pay10_eq, pay6_eq, pay5_eq, and_self]

end Body

/-! ### The arrays -/

variable (m : (ℓ : Loc nD τ sig) → Buf (Elt Ideal) ℓ)

/-- The arguments on a device: each norm's input, the incoming gradient, the running gradient, and the two weights. -/
def argX (c : Dev nD) : S8192x1024.Idx → EReal := m ((c : Thread nD τ).loc main_arg0)
def argV (c : Dev nD) : S1024.Idx → EReal := m ((c : Thread nD τ).loc main_arg1)
def argG (c : Dev nD) : S8192x1024.Idx → EReal := m ((c : Thread nD τ).loc main_arg2)
def argD (c : Dev nD) : S8192x1024.Idx → EReal := m ((c : Thread nD τ).loc main_arg3)
def argY (c : Dev nD) : S8192x1024.Idx → EReal := m ((c : Thread nD τ).loc main_arg4)
def argW (c : Dev nD) : S1024.Idx → EReal := m ((c : Thread nD τ).loc main_arg5)

theorem index_tok : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_6.index t 0 = t.val ∧ win0_6.index t 1 = 0) ∧ (win0_8.index t 0 = t.val ∧ win0_8.index t 1 = 0) :=
  (by decide +kernel : ∀ t : Fin grid0.N, _)
theorem index_row : ∀ t : Fin cfg0.N, (win0_1.index t 0 = 0 ∧ win0_1.index t 1 = 0) ∧ (win0_5.index t 0 = 0 ∧ win0_5.index t 1 = 0)
    ∧ (win0_7.index t 0 = 0 ∧ win0_7.index t 1 = 0) ∧ (win0_9.index t 0 = 0 ∧ win0_9.index t 1 = 0) :=
  (by decide +kernel : ∀ t : Fin grid0.N, _)

/-- The token that row `i` of a point's block is. -/
def tok (t : Fin cfg0.N) (i : Fin 1024) : Fin 8192 := ⟨t.val * 1024 + i.val, by
  have h : t.val < 8 := lt_of_lt_of_eq t.isLt N_0; omega⟩

/-- A point's blocks of the four token arrays, and the weights' rows. -/
theorem blkA0 (c : Dev nD) (t : Fin cfg0.N) (i : Fin 1024) : row (iblk m c 0 t) i = row (argX m c) (tok t i) := by
  funext j
  unfold row iblk
  rw [View.read_apply]
  show V m c main_arg0 _ = _
  rw [V_main_arg0]
  have hi := (index_tok t).1
  refine congrArg _ (funext fun a => Fin.ext ?_)
  match a with
  | ⟨0, _⟩ => show win0_0.index t 0 * 1024 + 1 * i.val = t.val * 1024 + i.val; rw [hi.1]; omega
  | ⟨1, _⟩ => show win0_0.index t 1 * 1024 + 1 * j.val = j.val; rw [hi.2]; omega
theorem blkA2 (c : Dev nD) (t : Fin cfg0.N) (i : Fin 1024) : row (iblk m c 2 t) i = row (argG m c) (tok t i) := by
  funext j
  unfold row iblk
  rw [View.read_apply]
  show V m c main_arg2 _ = _
  rw [V_main_arg2]
  have hi := (index_tok t).2.1
  refine congrArg _ (funext fun a => Fin.ext ?_)
  match a with
  | ⟨0, _⟩ => show win0_2.index t 0 * 1024 + 1 * i.val = t.val * 1024 + i.val; rw [hi.1]; omega
  | ⟨1, _⟩ => show win0_2.index t 1 * 1024 + 1 * j.val = j.val; rw [hi.2]; omega
theorem blkA3 (c : Dev nD) (t : Fin cfg0.N) (i : Fin 1024) : row (iblk m c 3 t) i = row (argD m c) (tok t i) := by
  funext j
  unfold row iblk
  rw [View.read_apply]
  show V m c main_arg3 _ = _
  rw [V_main_arg3]
  have hi := (index_tok t).2.2.1
  refine congrArg _ (funext fun a => Fin.ext ?_)
  match a with
  | ⟨0, _⟩ => show win0_3.index t 0 * 1024 + 1 * i.val = t.val * 1024 + i.val; rw [hi.1]; omega
  | ⟨1, _⟩ => show win0_3.index t 1 * 1024 + 1 * j.val = j.val; rw [hi.2]; omega
theorem blkA4 (c : Dev nD) (t : Fin cfg0.N) (i : Fin 1024) : row (iblk m c 4 t) i = row (argY m c) (tok t i) := by
  funext j
  unfold row iblk
  rw [View.read_apply]
  show V m c main_arg4 _ = _
  rw [V_main_arg4]
  have hi := (index_tok t).2.2.2.1
  refine congrArg _ (funext fun a => Fin.ext ?_)
  match a with
  | ⟨0, _⟩ => show win0_4.index t 0 * 1024 + 1 * i.val = t.val * 1024 + i.val; rw [hi.1]; omega
  | ⟨1, _⟩ => show win0_4.index t 1 * 1024 + 1 * j.val = j.val; rw [hi.2]; omega

theorem blkA1 (c : Dev nD) (t : Fin cfg0.N) : wrow (iblk m c 1 t) = col (argV m c) := by
  funext j
  unfold wrow iblk
  rw [View.read_apply]
  show V m c main_v0 _ = _
  after_results_simp
  have hi := (index_row t).1
  refine as_row _ _ _ ?_
  show win0_1.index t 1 * 1024 + 1 * j.val = j.val; rw [hi.2]; omega
theorem blkA5 (c : Dev nD) (t : Fin cfg0.N) : wrow (iblk m c 5 t) = col (argW m c) := by
  funext j
  unfold wrow iblk
  rw [View.read_apply]
  show V m c main_v1 _ = _
  after_results_simp
  have hi := (index_row t).2.1
  refine as_row _ _ _ ?_
  show win0_5.index t 1 * 1024 + 1 * j.val = j.val; rw [hi.2]; omega

/-- A point's sum of the first norm's gradient and the running gradient. -/
def sumBlk (c : Dev nD) (t : Fin cfg0.N) : Vec Ideal S1024x1024 .f32 :=
  blkX (iblk m c 0 t) (iblk m c 3 t) (iblk m c 2 t) (iblk m c 1 t)

theorem sumBlk_row (c : Dev nD) (t : Fin cfg0.N) (i : Fin 1024) :
    row (sumBlk m c t) i = row (sumX (argX m c) (argV m c) (argG m c) (argD m c)) (tok t i) := by
  funext j
  show dnorm (row (iblk m c 0 t) i) (row (iblk m c 2 t) i) (wrow (iblk m c 1 t)) j + row (iblk m c 3 t) i j = _
  rw [blkA0, blkA1, blkA2, blkA3]
  rfl

/-- What a point leaves in the four buffers: the two gradients of its block; and in the rows of the weights' gradients its
    own parts at the first point, and at a later one the sums with what the point before left. -/
theorem outs (c : Dev nD) (t : Fin cfg0.N) :
    (outsAt0 m c t.val t.isLt).1 = sumBlk m c t
    ∧ (outsAt0 m c t.val t.isLt).2.2.1 = dnorms (iblk m c 4 t) (sumBlk m c t) (wrow (iblk m c 5 t)) := by
  have hN : t.val < 8 := lt_of_lt_of_eq t.isLt N_0
  by_cases h : t.val = 0
  · rw [outsAt0_A m c t (by omega) (by omega) (by omega) (by omega)]
    dsimp only
    rw [(out_A ..).1, (out_A ..).2.2.1]
    exact ⟨rfl, rfl⟩
  · rw [outsAt0_B m c t (by omega) (by omega) (by omega) (by omega)]
    dsimp only
    rw [(out_B ..).1, (out_B ..).2.2.1]
    exact ⟨rfl, rfl⟩

theorem outs_zero (c : Dev nD) (h : 0 < cfg0.N) :
    (outsAt0 m c 0 h).2.1 = blkW (iblk m c 0 ⟨0, h⟩) (iblk m c 2 ⟨0, h⟩)
    ∧ (outsAt0 m c 0 h).2.2.2 = blkW (iblk m c 4 ⟨0, h⟩) (sumBlk m c ⟨0, h⟩) := by
  have e := outsAt0_A m c ⟨0, h⟩ (Nat.zero_mod _) (Nat.not_succ_le_zero 0) (Nat.zero_mod _) (Nat.not_succ_le_zero 0)
  rw [(out_A ..).2.1, (out_A ..).2.2.2] at e
  rw [show outsAt0 m c 0 h = _ from e]
  exact ⟨rfl, rfl⟩

theorem outs_succ (c : Dev nD) (n : ℕ) (h : n + 1 < cfg0.N) (h' : n < cfg0.N) :
    (outsAt0 m c (n + 1) h).2.1 = (fun y => (outsAt0 m c n h').2.1 y + blkW (iblk m c 0 ⟨n + 1, h⟩) (iblk m c 2 ⟨n + 1, h⟩) y)
    ∧ (outsAt0 m c (n + 1) h).2.2.2
      = fun y => (outsAt0 m c n h').2.2.2 y + blkW (iblk m c 4 ⟨n + 1, h⟩) (sumBlk m c ⟨n + 1, h⟩) y := by
  have hN : n + 1 < 8 := lt_of_lt_of_eq h N_0
  have hm : ¬(n + 1) % 8 = 0 := by omega
  have e := outsAt0_B m c ⟨n + 1, h⟩ hm (Nat.succ_le_succ (Nat.zero_le n)) hm (Nat.succ_le_succ (Nat.zero_le n))
  rw [(out_B ..).2.1, (out_B ..).2.2.2] at e
  rw [show outsAt0 m c (n + 1) h = _ from e]
  exact ⟨rfl, rfl⟩

/-- The eight blocks' parts of a weight's gradient make up the whole. -/
theorem sum_blkW (c : Dev nD) (X G : S8192x1024.Idx → EReal) (x g : Fin cfg0.N → S1024x1024.Idx → EReal)
    (hx : ∀ t i, row (x t) i = row X (tok t i)) (hg : ∀ t i, row (g t) i = row G (tok t i)) (y : S1x1024.Idx) :
    (∑ s : Fin 8, blkW (x ⟨s.val, by rw [show cfg0.N = 8 from N_0]; exact s.isLt⟩)
      (g ⟨s.val, by rw [show cfg0.N = 8 from N_0]; exact s.isLt⟩) y) = blkW X G y := by
  refine (Finset.sum_congr rfl fun s _ => ?_).trans (Cert.Ffn.sum_parts 8 1024 rfl (fun n =>
    row G n (y 1) * nrm (row X n) (y 1)) fun s n => by omega)
  unfold blkW dweight
  simp only [hx, hg]
  rfl

/-- The rows of the weights' gradients after the last point. -/
theorem last (c : Dev nD) (h : 7 < cfg0.N) :
    (outsAt0 m c 7 h).2.1 = blkW (argX m c) (argG m c)
    ∧ (outsAt0 m c 7 h).2.2.2 = blkW (argY m c) (sumX (argX m c) (argV m c) (argG m c) (argD m c)) := by
  constructor
  · funext y
    refine (running (fun n hn => (outsAt0 m c n hn).2.1 y) (fun n hn => blkW (iblk m c 0 ⟨n, hn⟩) (iblk m c 2 ⟨n, hn⟩) y)
      (fun h => congrFun (outs_zero m c h).1 y) (fun n h h' => congrFun (outs_succ m c n h h').1 y) 7 h).trans ?_
    exact sum_blkW c _ _ (fun t => iblk m c 0 t) (fun t => iblk m c 2 t) (blkA0 m c) (blkA2 m c) y
  · funext y
    refine (running (fun n hn => (outsAt0 m c n hn).2.2.2 y) (fun n hn => blkW (iblk m c 4 ⟨n, hn⟩) (sumBlk m c ⟨n, hn⟩) y)
      (fun h => congrFun (outs_zero m c h).2 y) (fun n h h' => congrFun (outs_succ m c n h h').2 y) 7 h).trans ?_
    exact sum_blkW c _ _ (fun t => iblk m c 4 t) (fun t => sumBlk m c t) (blkA4 m c) (sumBlk_row m c) y

/-- The four results. -/
def resX (c : Dev nD) : S8192x1024.Idx → EReal := sumX (argX m c) (argV m c) (argG m c) (argD m c)
def resV (c : Dev nD) : S1x1024.Idx → EReal := blkW (argX m c) (argG m c)
def resY (c : Dev nD) : S8192x1024.Idx → EReal := dnorms (argY m c) (resX m c) (col (argW m c))
def resW (c : Dev nD) : S1x1024.Idx → EReal := blkW (argY m c) (resX m c)

/-- The last point. -/
def p7 : Fin cfg0.N := ⟨7, by rw [show cfg0.N = 8 from N_0]; omega⟩
theorem p7_mod : p7.val % 8 = 7 := rfl

theorem blk_resX (c : Dev nD) (t : Fin cfg0.N) (i e : Fin 1024) : sumBlk m c t (ix2 i e) = resX m c (ix2 (tok t i) e) :=
  congrFun (sumBlk_row m c t i) e
theorem blk_resY (c : Dev nD) (t : Fin cfg0.N) (i e : Fin 1024) :
    dnorms (iblk m c 4 t) (sumBlk m c t) (wrow (iblk m c 5 t)) (ix2 i e) = resY m c (ix2 (tok t i) e) := by
  show dnorm (row (iblk m c 4 t) i) (row (sumBlk m c t) i) (wrow (iblk m c 5 t)) e = _
  rw [blkA4, blkA5, sumBlk_row]
  rfl

/-- The gradient of the first norm, block by block and whole. -/
theorem flushed6 (c : Dev nD) (t : Fin cfg0.N) (_hf : (cfg0.win 6).flush t = true) :
    (dats m 0 c).flushed 6 t = ((cfg0.win 6).blk t).view.read (Elt Ideal) (resX m c) := by
  show (cfg0.win 6).cut (grid0.coords _) ((dats m 0 c).after 6 _) = _
  rw [after0_6]
  funext j
  rw [View.read_apply]
  obtain ⟨i, e, rfl⟩ : ∃ (i : Fin 1024) (e : Fin 1024), j = ix2 i e := ⟨j 0, j 1, eq_ix2 j⟩
  refine (congrFun (outs m c t).1 (ix2 i e)).trans ?_
  have hi := (index_tok t).2.2.2.2.1
  refine (blk_resX m c t i e).trans (congrArg _ (funext fun a => Fin.ext ?_))
  match a with
  | ⟨0, _⟩ => show t.val * 1024 + i.val = win0_6.index t 0 * 1024 + 1 * i.val; rw [hi.1]; omega
  | ⟨1, _⟩ => show e.val = win0_6.index t 1 * 1024 + 1 * e.val; rw [hi.2]; omega
theorem final6 (c : Dev nD) : (dats m 0 c).arrAt 6 cfg0.N = resX m c :=
  (dats m 0 c).arrAt_eq_of_cover 6 (resX m c) (flushed6 m c) fun i => by
    have h0 : (i 0 : Nat) < 8192 := (i 0).isLt
    have h1 : (i 1 : Nat) < 1024 := (i 1).isLt
    have hN : (i 0).val / 1024 < cfg0.N := by rw [show cfg0.N = 8 from N_0]; omega
    refine ⟨⟨(i 0).val / 1024, hN⟩, flush0_6 _, ?_⟩
    have hi := (index_tok ⟨(i 0).val / 1024, hN⟩).2.2.2.2.1
    show i ∈ ((View.whole main_v2_0).slice (win0_6.rect ⟨(i 0).val / 1024, hN⟩)).set
    rw [View.set_slice_whole, Rect.mem_set_unit]
    intro a
    match a with
    | ⟨0, _⟩ =>
      show win0_6.index ⟨(i 0).val / 1024, hN⟩ 0 * 1024 ≤ (i 0 : Nat)
        ∧ (i 0 : Nat) < win0_6.index ⟨(i 0).val / 1024, hN⟩ 0 * 1024 + 1024
      rw [hi.1]
      show (i 0).val / 1024 * 1024 ≤ (i 0).val ∧ (i 0).val < (i 0).val / 1024 * 1024 + 1024
      omega
    | ⟨1, _⟩ =>
      show win0_6.index ⟨(i 0).val / 1024, hN⟩ 1 * 1024 ≤ (i 1 : Nat)
        ∧ (i 1 : Nat) < win0_6.index ⟨(i 0).val / 1024, hN⟩ 1 * 1024 + 1024
      rw [hi.2]; omega

/-- The gradient of the second norm, block by block and whole. -/
theorem flushed8 (c : Dev nD) (t : Fin cfg0.N) (_hf : (cfg0.win 8).flush t = true) :
    (dats m 0 c).flushed 8 t = ((cfg0.win 8).blk t).view.read (Elt Ideal) (resY m c) := by
  show (cfg0.win 8).cut (grid0.coords _) ((dats m 0 c).after 8 _) = _
  rw [after0_8]
  funext j
  rw [View.read_apply]
  obtain ⟨i, e, rfl⟩ : ∃ (i : Fin 1024) (e : Fin 1024), j = ix2 i e := ⟨j 0, j 1, eq_ix2 j⟩
  refine (congrFun (outs m c t).2 (ix2 i e)).trans ?_
  have hi := (index_tok t).2.2.2.2.2
  refine (blk_resY m c t i e).trans (congrArg _ (funext fun a => Fin.ext ?_))
  match a with
  | ⟨0, _⟩ => show t.val * 1024 + i.val = win0_8.index t 0 * 1024 + 1 * i.val; rw [hi.1]; omega
  | ⟨1, _⟩ => show e.val = win0_8.index t 1 * 1024 + 1 * e.val; rw [hi.2]; omega
theorem final8 (c : Dev nD) : (dats m 0 c).arrAt 8 cfg0.N = resY m c :=
  (dats m 0 c).arrAt_eq_of_cover 8 (resY m c) (flushed8 m c) fun i => by
    have h0 : (i 0 : Nat) < 8192 := (i 0).isLt
    have h1 : (i 1 : Nat) < 1024 := (i 1).isLt
    have hN : (i 0).val / 1024 < cfg0.N := by rw [show cfg0.N = 8 from N_0]; omega
    refine ⟨⟨(i 0).val / 1024, hN⟩, flush0_8 _, ?_⟩
    have hi := (index_tok ⟨(i 0).val / 1024, hN⟩).2.2.2.2.2
    show i ∈ ((View.whole main_v2_2).slice (win0_8.rect ⟨(i 0).val / 1024, hN⟩)).set
    rw [View.set_slice_whole, Rect.mem_set_unit]
    intro a
    match a with
    | ⟨0, _⟩ =>
      show win0_8.index ⟨(i 0).val / 1024, hN⟩ 0 * 1024 ≤ (i 0 : Nat)
        ∧ (i 0 : Nat) < win0_8.index ⟨(i 0).val / 1024, hN⟩ 0 * 1024 + 1024
      rw [hi.1]
      show (i 0).val / 1024 * 1024 ≤ (i 0).val ∧ (i 0).val < (i 0).val / 1024 * 1024 + 1024
      omega
    | ⟨1, _⟩ =>
      show win0_8.index ⟨(i 0).val / 1024, hN⟩ 1 * 1024 ≤ (i 1 : Nat)
        ∧ (i 1 : Nat) < win0_8.index ⟨(i 0).val / 1024, hN⟩ 1 * 1024 + 1024
      rw [hi.2]; omega

/-- The first norm's weights' gradient. -/
theorem flushed7 (c : Dev nD) (t : Fin cfg0.N) (hf : (cfg0.win 7).flush t = true) :
    (dats m 0 c).flushed 7 t = ((cfg0.win 7).blk t).view.read (Elt Ideal) (resV m c) := by
  have h3 := (flush0_7 t).mp hf
  obtain rfl : t = p7 := Fin.ext (by have := lt_of_lt_of_eq t.isLt N_0; show t.val = 7; omega)
  show (cfg0.win 7).cut (grid0.coords _) ((dats m 0 c).after 7 _) = _
  rw [after0_7]
  funext j
  rw [View.read_apply]
  obtain ⟨i, e, rfl⟩ : ∃ (i : Fin 1) (e : Fin 1024), j = ix2 i e := ⟨j 0, j 1, eq_ix2 j⟩
  refine (congrFun (last m c p7.isLt).1 (ix2 i e)).trans ?_
  have hi := (index_row p7).2.2.1
  refine congrArg (resV m c) (funext fun a => Fin.ext ?_)
  match a with
  | ⟨0, _⟩ => show i.val = win0_7.index p7 0 * 1 + 1 * i.val; rw [hi.1]; omega
  | ⟨1, _⟩ => show e.val = win0_7.index p7 1 * 1024 + 1 * e.val; rw [hi.2]; omega
theorem final7 (c : Dev nD) : (dats m 0 c).arrAt 7 cfg0.N = resV m c :=
  (dats m 0 c).arrAt_eq_of_cover 7 (resV m c) (flushed7 m c) fun i => by
    have h0 : (i 0 : Nat) < 1 := (i 0).isLt
    have h1 : (i 1 : Nat) < 1024 := (i 1).isLt
    refine ⟨p7, (flush0_7 _).mpr p7_mod, ?_⟩
    have hi := (index_row p7).2.2.1
    show i ∈ ((View.whole main_v2_1).slice (win0_7.rect p7)).set
    rw [View.set_slice_whole, Rect.mem_set_unit]
    intro a
    match a with
    | ⟨0, _⟩ =>
      show win0_7.index p7 0 * 1 ≤ (i 0 : Nat) ∧ (i 0 : Nat) < win0_7.index p7 0 * 1 + 1
      rw [hi.1]; omega
    | ⟨1, _⟩ =>
      show win0_7.index p7 1 * 1024 ≤ (i 1 : Nat) ∧ (i 1 : Nat) < win0_7.index p7 1 * 1024 + 1024
      rw [hi.2]; omega

/-- The second norm's weights' gradient. -/
theorem flushed9 (c : Dev nD) (t : Fin cfg0.N) (hf : (cfg0.win 9).flush t = true) :
    (dats m 0 c).flushed 9 t = ((cfg0.win 9).blk t).view.read (Elt Ideal) (resW m c) := by
  have h3 := (flush0_9 t).mp hf
  obtain rfl : t = p7 := Fin.ext (by have := lt_of_lt_of_eq t.isLt N_0; show t.val = 7; omega)
  show (cfg0.win 9).cut (grid0.coords _) ((dats m 0 c).after 9 _) = _
  rw [after0_9]
  funext j
  rw [View.read_apply]
  obtain ⟨i, e, rfl⟩ : ∃ (i : Fin 1) (e : Fin 1024), j = ix2 i e := ⟨j 0, j 1, eq_ix2 j⟩
  refine (congrFun (last m c p7.isLt).2 (ix2 i e)).trans ?_
  have hi := (index_row p7).2.2.2
  refine congrArg (resW m c) (funext fun a => Fin.ext ?_)
  match a with
  | ⟨0, _⟩ => show i.val = win0_9.index p7 0 * 1 + 1 * i.val; rw [hi.1]; omega
  | ⟨1, _⟩ => show e.val = win0_9.index p7 1 * 1024 + 1 * e.val; rw [hi.2]; omega
theorem final9 (c : Dev nD) : (dats m 0 c).arrAt 9 cfg0.N = resW m c :=
  (dats m 0 c).arrAt_eq_of_cover 9 (resW m c) (flushed9 m c) fun i => by
    have h0 : (i 0 : Nat) < 1 := (i 0).isLt
    have h1 : (i 1 : Nat) < 1024 := (i 1).isLt
    refine ⟨p7, (flush0_9 _).mpr p7_mod, ?_⟩
    have hi := (index_row p7).2.2.2
    show i ∈ ((View.whole main_v2_3).slice (win0_9.rect p7)).set
    rw [View.set_slice_whole, Rect.mem_set_unit]
    intro a
    match a with
    | ⟨0, _⟩ =>
      show win0_9.index p7 0 * 1 ≤ (i 0 : Nat) ∧ (i 0 : Nat) < win0_9.index p7 0 * 1 + 1
      rw [hi.1]; omega
    | ⟨1, _⟩ =>
      show win0_9.index p7 1 * 1024 ≤ (i 1 : Nat) ∧ (i 1 : Nat) < win0_9.index p7 1 * 1024 + 1024
      rw [hi.2]; omega

/-! ### The reference -/

section Ref
open Cert.Reference31Ideal.Read
variable (x0 : S8192x1024.Idx → EReal) (x1 : S1024.Idx → EReal) (x2 x3 x4 : S8192x1024.Idx → EReal) (x5 : S1024.Idx → EReal)

theorem ref_weight : val_main_v74 (F := Ideal) x0 x2 = blkW x0 x2 := Cert.NormGrad.ref_weight x0 x2
theorem ref_x : val_main_v36 (F := Ideal) x0 x1 x2 x3 = sumX x0 x1 x2 x3 := Cert.NormGrad.ref_x x0 x1 x2 x3
theorem ref_y : val_main_v75 (F := Ideal) x0 x1 x2 x3 x4 x5 = dnorms x4 (sumX x0 x1 x2 x3) (col x5) :=
  Cert.NormGrad.ref_y x0 x1 x2 x3 x4 x5
theorem ref_w : val_main_v76 (F := Ideal) x0 x1 x2 x3 x4 = blkW x4 (sumX x0 x1 x2 x3) := Cert.NormGrad.ref_w x0 x1 x2 x3 x4

end Ref

/-! ### The claims -/

/-- The kernel runs and leaves its arguments and the counters as they were; so it does over the extended reals, and so
    does the reference. -/
theorem frame_p : Cert.quiescent_Kernel31 := fun m ρ _ => Cert.Kernel31.Gen.frame m ρ
theorem frame_pi : Cert.quiescent_Kernel31Ideal := fun m ρ _ => Cert.Kernel31Ideal.Gen.frame m ρ
theorem frame_ri : Cert.quiescent_Reference31Ideal := fun m ρ _ =>
  (θ_run Cert.Reference31Ideal.defs _ _).mono
    (fun r h => ⟨fun c => (h c).2.2.2.2, Idealize.ShloMosaic.sem_eq_zero_of_no_sems (by decide) r.2⟩)
    (Cert.Reference31Ideal.Value.run (F := Ideal) m ρ)

/-- From arguments that agree, the kernel's results and the reference's are the two gradients and those of the weights. -/
theorem algebraic : Cert.algebraic_Kernel31Ideal_Reference31Ideal := by
  intro m ρ m' ρ' _ hagree
  refine ⟨resX m, resV m, resY m, resW m, ?_, ?_⟩
  · refine (θ_run Cert.Kernel31Ideal.defs _ _).mono (fun r h c => ?_) (Cert.Kernel31Ideal.Value.run_blocks m ρ)
    have hc := h c
    exact ⟨hc.1.trans (final6 m c), hc.2.1.trans (final7 m c), hc.2.2.1.trans (final8 m c), hc.2.2.2.1.trans (final9 m c),
      hc.2.2.2.2⟩
  · refine (θ_run Cert.Reference31Ideal.defs _ _).mono (fun r h c => ?_) (Cert.Reference31Ideal.Value.run (F := Ideal) m' ρ')
    obtain ⟨a0, a1, a2, a3, a4, a5⟩ := hagree c
    have hc := h c
    refine ⟨hc.1.trans ?_, hc.2.1.trans ?_, hc.2.2.1.trans ?_, hc.2.2.2.1.trans ?_, hc.2.2.2.2⟩
    · rw [Cert.Reference31Ideal.Read.val_main_v36_eq, a0, a1, a2, a3]
      exact ref_x _ _ _ _
    · rw [Cert.Reference31Ideal.Read.val_main_v74_eq, a0, a2]
      exact ref_weight _ _
    · rw [Cert.Reference31Ideal.Read.val_main_v75_eq, a0, a1, a2, a3, a4, a5]
      exact ref_y _ _ _ _ _ _
    · rw [Cert.Reference31Ideal.Read.val_main_v76_eq, a0, a1, a2, a3, a4]
      exact ref_w _ _ _ _ _

end Cert.NormMixGrad
end
-- ==== Proof.Adam.lean ====
module

public import proofs.«01_k».proof.Defs
public import proofs.«01_k».proof.Proof.Gen.Kernel32
public import proofs.«01_k».proof.Proof.Gen.Kernel32.Frame
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Reference32Ideal.Read
public import Idealize.ShloMosaic.PureOps.Ideal
public import Idealize.ShloMosaic.Lib.Pointwise
public import Idealize.ShloMosaic.Lib.Pipeline.ReadBack
public import Idealize.ShloMosaic.Lib.Pipeline.Value

/-! One AdamW step of a device's part of the feed-forward block's input weights, both layers. The call takes the weights as
    2048 rows, 256 of them in a grid point, and computes entry by entry; the rows are cut from the two layers before the
    call and put together after it. -/

@[expose] public section
set_option maxRecDepth 16384

noncomputable section
namespace Cert.Adam
open Cert.Kernel32Ideal Cert.Kernel32Ideal.Gen Idealize.ShloMosaic Idealize.ShloMosaic.TcCoe Idealize.SL.Sem
open Idealize.ShloMosaic.Pipeline

/-- The step of one entry: the two moments, and the change of the weight. -/
def stepM (g u : EReal) : EReal := Ideal.ofBits .f32 0x3F666666#32 * u + Ideal.ofBits .f32 0x3DCCCCCD#32 * g
def stepV (g u : EReal) : EReal := Ideal.ofBits .f32 0x3F7FBE77#32 * u + Ideal.ofBits .f32 0x3A83126F#32 * (g * g)
def stepD (w g u v : EReal) : EReal :=
  Ideal.ofBits .f32 0xBA83126F#32 * (Ideal.div (Ideal.div (stepM g u) (Ideal.ofBits .f32 0x3F26BD02#32))
    (Ideal.sqrt (Ideal.div (stepV g v) (Ideal.ofBits .f32 0x3C231ACC#32)) + Ideal.ofBits .f32 0x322BCC77#32)
    + Ideal.ofBits .f32 0x3C23D70A#32 * w)

/-- The step of arrays of any shape, entry by entry. -/
def arrM {s : Shape} (G U : s.Idx → EReal) : s.Idx → EReal := fun y => stepM (G y) (U y)
def arrV {s : Shape} (G U : s.Idx → EReal) : s.Idx → EReal := fun y => stepV (G y) (U y)
def arrD {s : Shape} (W G U V : s.Idx → EReal) : s.Idx → EReal := fun y => stepD (W y) (G y) (U y) (V y)

/-- Equal entries have equal steps. -/
theorem congr_stepM {g g' u u' : EReal} (hg : g = g') (hu : u = u') : stepM g u = stepM g' u' := by rw [hg, hu]
theorem congr_stepV {g g' v v' : EReal} (hg : g = g') (hv : v = v') : stepV g v = stepV g' v' := by rw [hg, hv]
theorem congr_stepD {w w' g g' u u' v v' : EReal} (hw : w = w') (hg : g = g') (hu : u = u') (hv : v = v') :
    stepD w g u v = stepD w' g' u' v' := by rw [hw, hg, hu, hv]

/-- The body's three terms are the step of its blocks. -/
theorem pay_m (g u : Vec Ideal S256x704 .f32) : k0_pay2 g u = arrM g u := by
  funext y
  obtain ⟨i, j, rfl⟩ : ∃ (i : Fin 256) (j : Fin 704), y = ix2 i j := ⟨y 0, y 1, eq_ix2 y⟩
  pointwise [k0_pay2, k0_pay1]
  rfl
theorem pay_v (g u : Vec Ideal S256x704 .f32) : k0_pay3 g u = arrV g u := by
  funext y
  obtain ⟨i, j, rfl⟩ : ∃ (i : Fin 256) (j : Fin 704), y = ix2 i j := ⟨y 0, y 1, eq_ix2 y⟩
  pointwise [k0_pay3, k0_pay1]
  rfl
theorem pay_d (g u v w : Vec Ideal S256x704 .f32) : k0_pay4 g u v w = arrD w g u v := by
  funext y
  obtain ⟨i, j, rfl⟩ : ∃ (i : Fin 256) (j : Fin 704), y = ix2 i j := ⟨y 0, y 1, eq_ix2 y⟩
  pointwise [k0_pay4, k0_pay3, k0_pay2, k0_pay1]
  rfl

/-- Loads and stores of a whole block. -/
theorem ld_blk (x : Vec Ideal S256x704 .f32) : View.ld x (Rect.unit ![0, 0] ![256, 704] inb_S256x704_S256x704_0_0) = x :=
  View.ld_unit_zero (by decide) inb_S256x704_S256x704_0_0 x
theorem canon_blk (x : Vec Ideal S256x704 .f32) :
    View.canon [⟨Rect.unit ![0, 0] ![256, 704] inb_S256x704_S256x704_0_0, x⟩] = x :=
  View.canon_cons_unit_zero (by decide) inb_S256x704_S256x704_0_0 x _

/-- What the body leaves of its blocks. -/
theorem out4_eq (w g u v : Vec Ideal S256x704 .f32) : out0_4 w g u v = arrD w g u v := by
  unfold out0_4
  refine (canon_blk _).trans ?_
  rw [show View.ld w r0_0 = w from ld_blk w, show View.ld g r0_0 = g from ld_blk g, show View.ld u r0_0 = u from ld_blk u,
    show View.ld v r0_0 = v from ld_blk v, pay_d]
theorem out5_eq (w g u v : Vec Ideal S256x704 .f32) : out0_5 w g u v = arrM g u := by
  unfold out0_5
  refine (canon_blk _).trans ?_
  rw [show View.ld g r0_0 = g from ld_blk g, show View.ld u r0_0 = u from ld_blk u, pay_m]
theorem out6_eq (w g u v : Vec Ideal S256x704 .f32) : out0_6 w g u v = arrV g v := by
  unfold out0_6
  refine (canon_blk _).trans ?_
  rw [show View.ld g r0_0 = g from ld_blk g, show View.ld v r0_0 = v from ld_blk v, pay_v]

variable (m : (ℓ : Loc nD τ sig) → Buf (Elt Ideal) ℓ)

/-- The arguments on a device, and the same as rows. -/
def argW (c : Dev nD) : S2x1024x704.Idx → EReal := m ((c : Thread nD τ).loc main_arg0)
def argG (c : Dev nD) : S2x1024x704.Idx → EReal := m ((c : Thread nD τ).loc main_arg1)
def argU (c : Dev nD) : S2x1024x704.Idx → EReal := m ((c : Thread nD τ).loc main_arg2)
def argV (c : Dev nD) : S2x1024x704.Idx → EReal := m ((c : Thread nD τ).loc main_arg3)
def rows (x : S2x1024x704.Idx → EReal) : S2048x704.Idx → EReal := shapeCast S2048x704 x shapeCasts_S2x1024x704_S2048x704

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, _)

/-- The row that row `i` of a point's block holds. -/
def at_ (t : Fin cfg0.N) (i : Fin 256) : Fin 2048 := ⟨t.val * 256 + i.val, by have : t.val < 8 := lt_of_lt_of_eq t.isLt N_0; omega⟩

/-- A point's blocks hold its rows. -/
theorem blk0 (c : Dev nD) (t : Fin cfg0.N) (i : Fin 256) (j : Fin 704) :
    iblk m c 0 t (ix2 i j) = rows (argW m c) (ix2 (at_ t i) j) := by
  unfold iblk
  rw [View.read_apply]
  show V0 m c main_v0 _ = _
  after_results_simp
  have hi := (index t).1
  refine congrArg (rows (argW m c)) (funext fun a => Fin.ext ?_)
  match a with
  | ⟨0, _⟩ => show win0_0.index t 0 * 256 + 1 * i.val = t.val * 256 + i.val; rw [hi.1]; omega
  | ⟨1, _⟩ => show win0_0.index t 1 * 704 + 1 * j.val = j.val; rw [hi.2]; omega
theorem blk1 (c : Dev nD) (t : Fin cfg0.N) (i : Fin 256) (j : Fin 704) :
    iblk m c 1 t (ix2 i j) = rows (argG m c) (ix2 (at_ t i) j) := by
  unfold iblk
  rw [View.read_apply]
  show V0 m c main_v1 _ = _
  after_results_simp
  have hi := (index t).2.1
  refine congrArg (rows (argG m c)) (funext fun a => Fin.ext ?_)
  match a with
  | ⟨0, _⟩ => show win0_1.index t 0 * 256 + 1 * i.val = t.val * 256 + i.val; rw [hi.1]; omega
  | ⟨1, _⟩ => show win0_1.index t 1 * 704 + 1 * j.val = j.val; rw [hi.2]; omega
theorem blk2 (c : Dev nD) (t : Fin cfg0.N) (i : Fin 256) (j : Fin 704) :
    iblk m c 2 t (ix2 i j) = rows (argU m c) (ix2 (at_ t i) j) := by
  unfold iblk
  rw [View.read_apply]
  show V0 m c main_v2 _ = _
  after_results_simp
  have hi := (index t).2.2.1
  refine congrArg (rows (argU m c)) (funext fun a => Fin.ext ?_)
  match a with
  | ⟨0, _⟩ => show win0_2.index t 0 * 256 + 1 * i.val = t.val * 256 + i.val; rw [hi.1]; omega
  | ⟨1, _⟩ => show win0_2.index t 1 * 704 + 1 * j.val = j.val; rw [hi.2]; omega
theorem blk3 (c : Dev nD) (t : Fin cfg0.N) (i : Fin 256) (j : Fin 704) :
    iblk m c 3 t (ix2 i j) = rows (argV m c) (ix2 (at_ t i) j) := by
  unfold iblk
  rw [View.read_apply]
  show V0 m c main_v3 _ = _
  after_results_simp
  have hi := (index t).2.2.2.1
  refine congrArg (rows (argV m c)) (funext fun a => Fin.ext ?_)
  match a with
  | ⟨0, _⟩ => show win0_3.index t 0 * 256 + 1 * i.val = t.val * 256 + i.val; rw [hi.1]; omega
  | ⟨1, _⟩ => show win0_3.index t 1 * 704 + 1 * j.val = j.val; rw [hi.2]; omega

/-- The three results as rows. -/
def resD (c : Dev nD) : S2048x704.Idx → EReal := arrD (rows (argW m c)) (rows (argG m c)) (rows (argU m c)) (rows (argV m c))
def resM (c : Dev nD) : S2048x704.Idx → EReal := arrM (rows (argG m c)) (rows (argU m c))
def resV (c : Dev nD) : S2048x704.Idx → EReal := arrV (rows (argG m c)) (rows (argV m c))

/-- What a point leaves: the step of its rows. -/
theorem out4_apply (c : Dev nD) (t : Fin cfg0.N) (i : Fin 256) (j : Fin 704) :
    (dats m 0 c).after 4 t (ix2 i j) = resD m c (ix2 (at_ t i) j) := by
  rw [after0_4, out4_eq]
  exact congr_stepD (blk0 m c t i j) (blk1 m c t i j) (blk2 m c t i j) (blk3 m c t i j)
theorem out5_apply (c : Dev nD) (t : Fin cfg0.N) (i : Fin 256) (j : Fin 704) :
    (dats m 0 c).after 5 t (ix2 i j) = resM m c (ix2 (at_ t i) j) := by
  rw [after0_5, out5_eq]
  exact congr_stepM (blk1 m c t i j) (blk2 m c t i j)
theorem out6_apply (c : Dev nD) (t : Fin cfg0.N) (i : Fin 256) (j : Fin 704) :
    (dats m 0 c).after 6 t (ix2 i j) = resV m c (ix2 (at_ t i) j) := by
  rw [after0_6, out6_eq]
  exact congr_stepV (blk1 m c t i j) (blk3 m c t i j)

/-- The change of the weights, block by block and whole. -/
theorem flushed4 (c : Dev nD) (t : Fin cfg0.N) :
    (dats m 0 c).flushed 4 t = ((View.whole main_v4_0).slice (win0_4.rect t)).read (Elt Ideal) (resD m c) := by
  show (cfg0.win 4).cut (grid0.coords t) ((dats m 0 c).after 4 t) = _
  funext y
  rw [View.read_apply]
  obtain ⟨i, j, rfl⟩ : ∃ (i : Fin 256) (j : Fin 704), y = ix2 i j := ⟨y 0, y 1, eq_ix2 y⟩
  refine (out4_apply m c t i j).trans ?_
  have hi := (index t).2.2.2.2.1
  refine congrArg (resD m c) (funext fun a => Fin.ext ?_)
  match a with
  | ⟨0, _⟩ => show t.val * 256 + i.val = win0_4.index t 0 * 256 + 1 * i.val; rw [hi.1]; omega
  | ⟨1, _⟩ => show j.val = win0_4.index t 1 * 704 + 1 * j.val; rw [hi.2]; omega
theorem final4 (c : Dev nD) : (dats m 0 c).arrAt 4 cfg0.N = resD m c :=
  (dats m 0 c).arrAt_eq_of_cover 4 (resD m c) (fun t _ => flushed4 m c t) fun i => by
    have h0 : (i 0 : Nat) < 2048 := (i 0).isLt
    have h1 : (i 1 : Nat) < 704 := (i 1).isLt
    let t : Fin cfg0.N := ⟨(i 0).val / 256, by rw [show cfg0.N = 8 from N_0]; omega⟩
    refine ⟨t, flush0_4 t, ?_⟩
    have hi := (index t).2.2.2.2.1
    show i ∈ ((View.whole main_v4_0).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]; show (i 0).val / 256 * 256 ≤ _ ∧ _ < (i 0).val / 256 * 256 + 256; omega
    | ⟨1, _⟩ =>
      show win0_4.index t 1 * 704 ≤ (i 1 : Nat) ∧ (i 1 : Nat) < win0_4.index t 1 * 704 + 704
      rw [hi.2]; omega

/-- The first moment, block by block and whole. -/
theorem flushed5 (c : Dev nD) (t : Fin cfg0.N) :
    (dats m 0 c).flushed 5 t = ((View.whole main_v4_1).slice (win0_5.rect t)).read (Elt Ideal) (resM m c) := by
  show (cfg0.win 5).cut (grid0.coords t) ((dats m 0 c).after 5 t) = _
  funext y
  rw [View.read_apply]
  obtain ⟨i, j, rfl⟩ : ∃ (i : Fin 256) (j : Fin 704), y = ix2 i j := ⟨y 0, y 1, eq_ix2 y⟩
  refine (out5_apply m c t i j).trans ?_
  have hi := (index t).2.2.2.2.2.1
  refine congrArg (resM m c) (funext fun a => Fin.ext ?_)
  match a with
  | ⟨0, _⟩ => show t.val * 256 + i.val = win0_5.index t 0 * 256 + 1 * i.val; rw [hi.1]; omega
  | ⟨1, _⟩ => show j.val = win0_5.index t 1 * 704 + 1 * j.val; rw [hi.2]; omega
theorem final5 (c : Dev nD) : (dats m 0 c).arrAt 5 cfg0.N = resM m c :=
  (dats m 0 c).arrAt_eq_of_cover 5 (resM m c) (fun t _ => flushed5 m c t) fun i => by
    have h0 : (i 0 : Nat) < 2048 := (i 0).isLt
    have h1 : (i 1 : Nat) < 704 := (i 1).isLt
    let t : Fin cfg0.N := ⟨(i 0).val / 256, by rw [show cfg0.N = 8 from N_0]; omega⟩
    refine ⟨t, flush0_5 t, ?_⟩
    have hi := (index t).2.2.2.2.2.1
    show i ∈ ((View.whole main_v4_1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [hi.1]; show (i 0).val / 256 * 256 ≤ _ ∧ _ < (i 0).val / 256 * 256 + 256; omega
    | ⟨1, _⟩ =>
      show win0_5.index t 1 * 704 ≤ (i 1 : Nat) ∧ (i 1 : Nat) < win0_5.index t 1 * 704 + 704
      rw [hi.2]; omega

/-- The second moment, block by block and whole. -/
theorem flushed6 (c : Dev nD) (t : Fin cfg0.N) :
    (dats m 0 c).flushed 6 t = ((View.whole main_v4_2).slice (win0_6.rect t)).read (Elt Ideal) (resV m c) := by
  show (cfg0.win 6).cut (grid0.coords t) ((dats m 0 c).after 6 t) = _
  funext y
  rw [View.read_apply]
  obtain ⟨i, j, rfl⟩ : ∃ (i : Fin 256) (j : Fin 704), y = ix2 i j := ⟨y 0, y 1, eq_ix2 y⟩
  refine (out6_apply m c t i j).trans ?_
  have hi := (index t).2.2.2.2.2.2
  refine congrArg (resV m c) (funext fun a => Fin.ext ?_)
  match a with
  | ⟨0, _⟩ => show t.val * 256 + i.val = win0_6.index t 0 * 256 + 1 * i.val; rw [hi.1]; omega
  | ⟨1, _⟩ => show j.val = win0_6.index t 1 * 704 + 1 * j.val; rw [hi.2]; omega
theorem final6 (c : Dev nD) : (dats m 0 c).arrAt 6 cfg0.N = resV m c :=
  (dats m 0 c).arrAt_eq_of_cover 6 (resV m c) (fun t _ => flushed6 m c t) fun i => by
    have h0 : (i 0 : Nat) < 2048 := (i 0).isLt
    have h1 : (i 1 : Nat) < 704 := (i 1).isLt
    let t : Fin cfg0.N := ⟨(i 0).val / 256, by rw [show cfg0.N = 8 from N_0]; omega⟩
    refine ⟨t, flush0_6 t, ?_⟩
    have hi := (index t).2.2.2.2.2.2
    show i ∈ ((View.whole main_v4_2).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [hi.1]; show (i 0).val / 256 * 256 ≤ _ ∧ _ < (i 0).val / 256 * 256 + 256; omega
    | ⟨1, _⟩ =>
      show win0_6.index t 1 * 704 ≤ (i 1 : Nat) ∧ (i 1 : Nat) < win0_6.index t 1 * 704 + 704
      rw [hi.2]; omega

/-- Rows made of an array, put together again. -/
theorem back (x : S2x1024x704.Idx → EReal) : shapeCast S2x1024x704 (rows x) shapeCasts_S2048x704_S2x1024x704 = x :=
  shapeCast_shapeCast x _ _
theorem back_d (c : Dev nD) : shapeCast S2x1024x704 (resD m c) shapeCasts_S2048x704_S2x1024x704
    = arrD (argW m c) (argG m c) (argU m c) (argV m c) := by
  show arrD (shapeCast S2x1024x704 (rows (argW m c)) _) (shapeCast S2x1024x704 (rows (argG m c)) _)
    (shapeCast S2x1024x704 (rows (argU m c)) _) (shapeCast S2x1024x704 (rows (argV m c)) _) = _
  rw [back, back, back, back]
theorem back_m (c : Dev nD) : shapeCast S2x1024x704 (resM m c) shapeCasts_S2048x704_S2x1024x704 = arrM (argG m c) (argU m c) := by
  show arrM (shapeCast S2x1024x704 (rows (argG m c)) _) (shapeCast S2x1024x704 (rows (argU m c)) _) = _
  rw [back, back]
theorem back_v (c : Dev nD) : shapeCast S2x1024x704 (resV m c) shapeCasts_S2048x704_S2x1024x704 = arrV (argG m c) (argV m c) := by
  show arrV (shapeCast S2x1024x704 (rows (argG m c)) _) (shapeCast S2x1024x704 (rows (argV m c)) _) = _
  rw [back, back]

/-- The program ends with the three results in the shape of the weights. -/
theorem run (ρ : Dev nD → PrngReg) : θ_run defs (onTc (τ := τ) (main (F := Ideal))) ⟨m, fun _ => 0, ρ⟩ fun r => ∀ c : Dev nD,
    r.2.mem ((c : Thread nD τ).loc main_v5) = arrD (argW m c) (argG m c) (argU m c) (argV m c)
    ∧ r.2.mem ((c : Thread nD τ).loc main_v6) = arrM (argG m c) (argU m c)
    ∧ r.2.mem ((c : Thread nD τ).loc main_v7) = arrV (argG m c) (argV m c) := by
  refine (θ_run defs _ _).mono (fun r h c => ⟨((h c).2 main_v5 (by decide)).trans ?_, ((h c).2 main_v6 (by decide)).trans ?_,
    ((h c).2 main_v7 (by decide)).trans ?_⟩) (run_main m ρ)
  · have e := withArrays_arr spec0 (by decide) c (V0 m c) (fun w => (dats m 0 c).arrAt w cfg0.N) 4
    rw [final4] at e
    show StableHlo.after hostOps1 (withArrays spec0 c (V0 m c) fun w => (dats m 0 c).arrAt w cfg0.N) main_v5 = _
    after_results_simp
    exact (congrArg (fun x : S2048x704.Idx → EReal => shapeCast S2x1024x704 x shapeCasts_S2048x704_S2x1024x704) e).trans
      (back_d m c)
  · have e := withArrays_arr spec0 (by decide) c (V0 m c) (fun w => (dats m 0 c).arrAt w cfg0.N) 5
    rw [final5] at e
    show StableHlo.after hostOps1 (withArrays spec0 c (V0 m c) fun w => (dats m 0 c).arrAt w cfg0.N) main_v6 = _
    after_results_simp
    exact (congrArg (fun x : S2048x704.Idx → EReal => shapeCast S2x1024x704 x shapeCasts_S2048x704_S2x1024x704) e).trans
      (back_m m c)
  · have e := withArrays_arr spec0 (by decide) c (V0 m c) (fun w => (dats m 0 c).arrAt w cfg0.N) 6
    rw [final6] at e
    show StableHlo.after hostOps1 (withArrays spec0 c (V0 m c) fun w => (dats m 0 c).arrAt w cfg0.N) main_v7 = _
    after_results_simp
    exact (congrArg (fun x : S2048x704.Idx → EReal => shapeCast S2x1024x704 x shapeCasts_S2048x704_S2x1024x704) e).trans
      (back_v m c)

/-- The reference's three results are the step. -/
theorem ref_m (G U : S2x1024x704.Idx → EReal) : Cert.Reference32Ideal.Read.val_main_v4 (F := Ideal) G U = arrM G U := rfl
theorem ref_v (G V : S2x1024x704.Idx → EReal) : Cert.Reference32Ideal.Read.val_main_v10 (F := Ideal) G V = arrV G V := rfl
theorem ref_d (W G U V : S2x1024x704.Idx → EReal) : Cert.Reference32Ideal.Read.val_main_v23 (F := Ideal) W G U V = arrD W G U V := rfl

/-- The kernel runs and leaves its arguments and the counters as they were; so it does over the extended reals, and so
    does the reference. -/
theorem frame_p : Cert.quiescent_Kernel32 := fun m ρ _ => Cert.Kernel32.Gen.frame m ρ
theorem frame_pi : Cert.quiescent_Kernel32Ideal := fun m ρ _ => Cert.Kernel32Ideal.Gen.frame m ρ
theorem frame_ri : Cert.quiescent_Reference32Ideal := fun m ρ _ =>
  (θ_run Cert.Reference32Ideal.defs _ _).mono
    (fun r h => ⟨fun c => (h c).2.2.2, Idealize.ShloMosaic.sem_eq_zero_of_no_sems (by decide) r.2⟩)
    (Cert.Reference32Ideal.Value.run (F := Ideal) m ρ)

/-- From arguments that agree, the kernel's results and the reference's are the step's change of the weights and moments. -/
theorem algebraic : Cert.algebraic_Kernel32Ideal_Reference32Ideal := by
  intro m ρ m' ρ' _ hagree
  refine ⟨fun c => arrD (argW m c) (argG m c) (argU m c) (argV m c), fun c => arrM (argG m c) (argU m c),
    fun c => arrV (argG m c) (argV m c), ?_, ?_⟩
  · refine (θ_run Cert.Kernel32Ideal.defs _ _).mono (fun r h c => ?_)
      (θ_run_and (run m ρ) (Cert.Kernel32Ideal.Gen.unchanged m ρ))
    have hc := h.1 c
    exact ⟨hc.1, hc.2.1, hc.2.2, h.2 c⟩
  · refine (θ_run Cert.Reference32Ideal.defs _ _).mono (fun r h c => ?_) (Cert.Reference32Ideal.Value.run (F := Ideal) m' ρ')
    obtain ⟨a0, a1, a2, a3⟩ := hagree c
    have hc := h c
    refine ⟨hc.1.trans ?_, hc.2.1.trans ?_, hc.2.2.1.trans ?_, hc.2.2.2⟩
    · rw [Cert.Reference32Ideal.Read.val_main_v23_eq, a0, a1, a2, a3]
      exact ref_d _ _ _ _
    · rw [Cert.Reference32Ideal.Read.val_main_v4_eq, a1, a2]
      exact ref_m _ _
    · rw [Cert.Reference32Ideal.Read.val_main_v10_eq, a1, a3]
      exact ref_v _ _

end Cert.Adam
end
-- ==== Proof.RowSum.lean ====
module

public import proofs.«01_k».proof.Defs
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.PureOps.Ideal
public import Idealize.ShloMosaic.Lib.Pointwise
public import Idealize.ShloMosaic.Lib.Pipeline.ReadBack
public import Idealize.ShloMosaic.Lib.Pipeline.Value

/-! The sum of the eight devices' parts of the gradient of the feed-forward block's input weights. The call takes them whole,
    in one grid point, and adds them one after another. -/

@[expose] public section
set_option maxRecDepth 16384

noncomputable section
namespace Cert.RowSum
open Cert.Kernel33Ideal Cert.Kernel33Ideal.Gen Idealize.ShloMosaic Idealize.ShloMosaic.TcCoe Idealize.SL.Sem
open Idealize.ShloMosaic.Pipeline

/-- The sum of the eight parts, entry by entry. -/
def total (x : S8x704x1024.Idx → EReal) (y : S704x1024.Idx) : EReal := ∑ k : Fin 8, x (ix3 k (y 0) (y 1))

/-- A load of one part. -/
theorem ld_part (x : Vec Ideal S8x704x1024 .bf16) (k : Fin 8) (inb) (i : Fin 704) (j : Fin 1024) :
    View.ld x (Rect.unit ![k.val, 0, 0] ![1, 704, 1024] inb) (ix3 0 i j) = x (ix3 k i j) := by
  refine congrArg x (funext fun a => Fin.ext ?_)
  match a with
  | ⟨0, _⟩ => show k.val + 1 * 0 = k.val; omega
  | ⟨1, _⟩ => show 0 + 1 * i.val = i.val; omega
  | ⟨2, _⟩ => show 0 + 1 * j.val = j.val; omega

/-- The body's term adds the parts it is given. -/
theorem pay_apply (a b c d e f g h : Vec Ideal S1x704x1024 .bf16) (i : Fin 704) (j : Fin 1024) :
    k0_pay1 a b c d e f g h (ix2 i j) = a (ix3 0 i j) + b (ix3 0 i j) + c (ix3 0 i j) + d (ix3 0 i j) + e (ix3 0 i j)
      + f (ix3 0 i j) + g (ix3 0 i j) + h (ix3 0 i j) := by
  pointwise [k0_pay1]

/-- What the body leaves of the parts is their sum. -/
theorem out_eq (x : Vec Ideal S8x704x1024 .bf16) : out0_1 x = total x := by
  unfold out0_1
  refine (View.canon_cons_unit_zero (by decide) inb_S704x1024_S704x1024_0_0 _ _).trans (funext fun y => ?_)
  obtain ⟨i, j, rfl⟩ : ∃ (i : Fin 704) (j : Fin 1024), y = ix2 i j := ⟨y 0, y 1, eq_ix2 y⟩
  refine (pay_apply _ _ _ _ _ _ _ _ i j).trans (Eq.trans ?_ (Fin.sum_univ_eight fun k => x (ix3 k i j)).symm)
  exact congrArg₂ (· + ·) (congrArg₂ (· + ·) (congrArg₂ (· + ·) (congrArg₂ (· + ·) (congrArg₂ (· + ·) (congrArg₂ (· + ·)
    (congrArg₂ (· + ·) (ld_part x 0 _ i j) (ld_part x 1 _ i j)) (ld_part x 2 _ i j)) (ld_part x 3 _ i j)) (ld_part x 4 _ i j))
    (ld_part x 5 _ i j)) (ld_part x 6 _ i j)) (ld_part x 7 _ i j)

variable (m : (ℓ : Loc nD τ sig) → Buf (Elt Ideal) ℓ)

/-- The parts on a device. -/
def arg (c : Dev nD) : S8x704x1024.Idx → EReal := m ((c : Thread nD τ).loc main_arg0)

theorem index : ∀ t : Fin cfg0.N, (win0_0.index t 0 = 0 ∧ win0_0.index t 1 = 0 ∧ win0_0.index t 2 = 0)
    ∧ (win0_1.index t 0 = 0 ∧ win0_1.index t 1 = 0) :=
  (by decide +kernel : ∀ t : Fin grid0.N, _)

/-- The point's block is the array. -/
theorem blk (c : Dev nD) (t : Fin cfg0.N) : iblk m c 0 t = arg m c := by
  funext y
  obtain ⟨k, i, j, rfl⟩ : ∃ (k : Fin 8) (i : Fin 704) (j : Fin 1024), y = ix3 k i j := ⟨y 0, y 1, y 2, eq_ix3 y⟩
  unfold iblk
  rw [View.read_apply]
  show V m c main_arg0 _ = _
  rw [V_main_arg0]
  have hi := (index t).1
  refine congrArg (arg m c) (funext fun a => Fin.ext ?_)
  match a with
  | ⟨0, _⟩ => show win0_0.index t 0 * 8 + 1 * k.val = k.val; rw [hi.1]; omega
  | ⟨1, _⟩ => show win0_0.index t 1 * 704 + 1 * i.val = i.val; rw [hi.2.1]; omega
  | ⟨2, _⟩ => show win0_0.index t 2 * 1024 + 1 * j.val = j.val; rw [hi.2.2]; omega

/-- The result. -/
theorem flushed (c : Dev nD) (t : Fin cfg0.N) :
    (dats m 0 c).flushed 1 t = ((View.whole main_v0).slice (win0_1.rect t)).read (Elt Ideal) (total (arg m c)) := by
  show (cfg0.win 1).cut (grid0.coords t) ((dats m 0 c).after 1 t) = _
  rw [after0_1, out_eq, blk]
  funext y
  rw [View.read_apply]
  obtain ⟨i, j, rfl⟩ : ∃ (i : Fin 704) (j : Fin 1024), y = ix2 i j := ⟨y 0, y 1, eq_ix2 y⟩
  have hi := (index t).2
  refine congrArg (total (arg m c)) (funext fun a => Fin.ext ?_)
  match a with
  | ⟨0, _⟩ => show i.val = win0_1.index t 0 * 704 + 1 * i.val; rw [hi.1]; omega
  | ⟨1, _⟩ => show j.val = win0_1.index t 1 * 1024 + 1 * j.val; rw [hi.2]; omega
theorem final (c : Dev nD) : (dats m 0 c).arrAt 1 cfg0.N = total (arg m c) :=
  (dats m 0 c).arrAt_eq_of_cover 1 (total (arg m c)) (fun t _ => flushed m c t) fun i => by
    have h0 : (i 0 : Nat) < 704 := (i 0).isLt
    have h1 : (i 1 : Nat) < 1024 := (i 1).isLt
    let t : Fin cfg0.N := ⟨0, by rw [show cfg0.N = 1 from N_0]; omega⟩
    refine ⟨t, flush0_1 t, ?_⟩
    have hi := (index t).2
    show i ∈ ((View.whole main_v0).slice (win0_1.rect t)).set
    rw [View.set_slice_whole, Rect.mem_set_unit]
    intro a
    match a with
    | ⟨0, _⟩ =>
      show win0_1.index t 0 * 704 ≤ (i 0 : Nat) ∧ (i 0 : Nat) < win0_1.index t 0 * 704 + 704
      rw [hi.1]; omega
    | ⟨1, _⟩ =>
      show win0_1.index t 1 * 1024 ≤ (i 1 : Nat) ∧ (i 1 : Nat) < win0_1.index t 1 * 1024 + 1024
      rw [hi.2]; omega

/-- The reference's result is the sum. -/
theorem ref (x : S8x704x1024.Idx → EReal) : Cert.Reference33Ideal.Read.val_main_v1 (F := Ideal) x = total x := by
  funext y
  obtain ⟨i, j, rfl⟩ : ∃ (i : Fin 704) (j : Fin 1024), y = ix2 i j := ⟨y 0, y 1, eq_ix2 y⟩
  open Cert.Reference33Ideal.Read in
  pointwise [val_main_v1, val_main_v0, val_main_cst]
  rfl

/-- The kernel runs and leaves its argument and the counters as they were; so it does over the extended reals, and so
    does the reference. -/
theorem frame_p : Cert.quiescent_Kernel33 := fun m ρ _ => Cert.Kernel33.Gen.frame m ρ
theorem frame_pi : Cert.quiescent_Kernel33Ideal := fun m ρ _ => Cert.Kernel33Ideal.Gen.frame m ρ
theorem frame_ri : Cert.quiescent_Reference33Ideal := fun m ρ _ =>
  (θ_run Cert.Reference33Ideal.defs _ _).mono
    (fun r h => ⟨fun c => (h c).2, Idealize.ShloMosaic.sem_eq_zero_of_no_sems (by decide) r.2⟩)
    (Cert.Reference33Ideal.Value.run (F := Ideal) m ρ)

/-- From arguments that agree, the kernel's result and the reference's are the sum. -/
theorem algebraic : Cert.algebraic_Kernel33Ideal_Reference33Ideal := by
  intro m ρ m' ρ' _ hagree
  refine ⟨fun c => total (arg m c), ?_, ?_⟩
  · refine (θ_run Cert.Kernel33Ideal.defs _ _).mono (fun r h c => ?_) (Cert.Kernel33Ideal.Value.run_blocks m ρ)
    exact ⟨(h c).1.trans (final m c), (h c).2⟩
  · refine (θ_run Cert.Reference33Ideal.defs _ _).mono (fun r h c => ?_) (Cert.Reference33Ideal.Value.run (F := Ideal) m' ρ')
    have a0 := hagree c
    refine ⟨(h c).1.trans ?_, (h c).2⟩
    rw [Cert.Reference33Ideal.Read.val_main_v1_eq, a0]
    exact ref _

end Cert.RowSum
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_gate
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Attention
public import proofs.«01_k».proof.Proof.FfnIn
public import proofs.«01_k».proof.Proof.FfnOut
public import proofs.«01_k».proof.Proof.FfnGateGrad
public import proofs.«01_k».proof.Proof.FfnOutGrad
public import proofs.«01_k».proof.Proof.FfnInGrad
public import proofs.«01_k».proof.Proof.FfnInDx
public import proofs.«01_k».proof.Proof.NormGrad
public import proofs.«01_k».proof.Proof.SquareOut
public import proofs.«01_k».proof.Proof.SquareDx
public import proofs.«01_k».proof.Proof.SquareGrad
public import proofs.«01_k».proof.Proof.XattnFwd
public import proofs.«01_k».proof.Proof.MixIn
public import proofs.«01_k».proof.Proof.MixInGrad
public import proofs.«01_k».proof.Proof.MixInDx
public import proofs.«01_k».proof.Proof.MixOutDx
public import proofs.«01_k».proof.Proof.GluIn
public import proofs.«01_k».proof.Proof.GluGate
public import proofs.«01_k».proof.Proof.GluGrad
public import proofs.«01_k».proof.Proof.GluDx
public import proofs.«01_k».proof.Proof.MemKv
public import proofs.«01_k».proof.Proof.MemKvGrad
public import proofs.«01_k».proof.Proof.MemKvDx
public import proofs.«01_k».proof.Proof.LossSum
public import proofs.«01_k».proof.Proof.LossGrad
public import proofs.«01_k».proof.Proof.NormPreGrad
public import proofs.«01_k».proof.Proof.NormMemGrad
public import proofs.«01_k».proof.Proof.NormPair
public import proofs.«01_k».proof.Proof.NormPre
public import proofs.«01_k».proof.Proof.NormMem
public import proofs.«01_k».proof.Proof.NormFfnPair
public import proofs.«01_k».proof.Proof.NormMixGrad
public import proofs.«01_k».proof.Proof.Adam
public import proofs.«01_k».proof.Proof.RowSum
public import Idealize.ShloMosaic.Adequacy
public import Idealize.ShloMosaic.Init

@[expose] public section

noncomputable section

namespace Cert.Proof

open Idealize.ShloMosaic Idealize.SL.Sem Cert.Kernel

/-- All the claims, program by program: the facts, the frames, then `preserves` and `algebraic` of each. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Kernel24.Gen.facts,
    Cert.Kernel24Ideal.Gen.facts, Cert.Reference24Ideal.Gen.facts, Cert.Kernel25.Gen.facts,
    Cert.Kernel25Ideal.Gen.facts, Cert.Reference25Ideal.Gen.facts, Cert.Kernel26.Gen.facts,
    Cert.Kernel26Ideal.Gen.facts, Cert.Reference26Ideal.Gen.facts, Cert.Kernel27.Gen.facts,
    Cert.Kernel27Ideal.Gen.facts, Cert.Reference27Ideal.Gen.facts, Cert.Kernel28.Gen.facts,
    Cert.Kernel28Ideal.Gen.facts, Cert.Reference28Ideal.Gen.facts, Cert.Kernel29.Gen.facts,
    Cert.Kernel29Ideal.Gen.facts, Cert.Reference29Ideal.Gen.facts, Cert.Kernel30.Gen.facts,
    Cert.Kernel30Ideal.Gen.facts, Cert.Reference30Ideal.Gen.facts, Cert.Kernel31.Gen.facts,
    Cert.Kernel31Ideal.Gen.facts, Cert.Reference31Ideal.Gen.facts, Cert.Kernel32.Gen.facts,
    Cert.Kernel32Ideal.Gen.facts, Cert.Reference32Ideal.Gen.facts, Cert.Kernel33.Gen.facts,
    Cert.Kernel33Ideal.Gen.facts, Cert.Reference33Ideal.Gen.facts,
    Cert.Own.preFacts, Cert.Pre_finite_gate.Gen.facts, XattnFwd.preFacts,
    frame_p, frame_pi, frame_pi_pre, frame_ri, frame_ri_pre, FfnIn.frame_p, FfnIn.frame_pi, FfnIn.frame_ri,
    FfnOut.frame_p, FfnOut.frame_pi, FfnOut.frame_ri, FfnGateGrad.frame_p, FfnGateGrad.frame_pi,
    FfnGateGrad.frame_pi_pre, FfnGateGrad.frame_ri, FfnGateGrad.frame_ri_pre, FfnOutGrad.frame_p,
    FfnOutGrad.frame_pi, FfnOutGrad.frame_ri, FfnInGrad.frame_p, FfnInGrad.frame_pi, FfnInGrad.frame_ri,
    FfnInDx.frame_p, FfnInDx.frame_pi, FfnInDx.frame_ri, NormGrad.frame_p, NormGrad.frame_pi, NormGrad.frame_ri,
    SquareOut.frame_p, SquareOut.frame_pi, SquareOut.frame_ri, SquareDx.frame_p, SquareDx.frame_pi, SquareDx.frame_ri,
    SquareGrad.frame_p, SquareGrad.frame_pi, SquareGrad.frame_ri, XattnFwd.frame_p, XattnFwd.frame_pi,
    XattnFwd.frame_pi_pre, XattnFwd.frame_ri, XattnFwd.frame_ri_pre,
    MixIn.frame_p, MixIn.frame_pi, MixIn.frame_ri, MixInGrad.frame_p, MixInGrad.frame_pi, MixInGrad.frame_ri,
    MixInDx.frame_p, MixInDx.frame_pi, MixInDx.frame_ri, MixOutDx.frame_p, MixOutDx.frame_pi, MixOutDx.frame_ri,
    GluIn.frame_p, GluIn.frame_pi, GluIn.frame_ri, GluGate.frame_p, GluGate.frame_pi, GluGate.frame_ri,
    GluGrad.frame_p, GluGrad.frame_pi, GluGrad.frame_ri, GluDx.frame_p, GluDx.frame_pi, GluDx.frame_ri, MemKv.frame_p,
    MemKv.frame_pi, MemKv.frame_ri, MemKvGrad.frame_p, MemKvGrad.frame_pi, MemKvGrad.frame_ri, MemKvDx.frame_p,
    MemKvDx.frame_pi, MemKvDx.frame_ri,
    LossGrad.frame_p, LossGrad.frame_pi, LossGrad.frame_ri,
    NormPreGrad.frame_p, NormPreGrad.frame_pi, NormPreGrad.frame_ri,
    NormMemGrad.frame_p, NormMemGrad.frame_pi, NormMemGrad.frame_ri,
    NormPair.frame_p, NormPair.frame_pi, NormPair.frame_ri,
    NormPre.frame_p, NormPre.frame_pi, NormPre.frame_ri,
    NormMem.frame_p, NormMem.frame_pi, NormMem.frame_ri,
    NormFfnPair.frame_p, NormFfnPair.frame_pi, NormFfnPair.frame_ri,
    NormMixGrad.frame_p, NormMixGrad.frame_pi, NormMixGrad.frame_ri,
    Adam.frame_p, Adam.frame_pi, Adam.frame_ri,
    RowSum.frame_p, RowSum.frame_pi, RowSum.frame_ri,
    trivial, algebraic, trivial, FfnIn.algebraic, trivial, FfnOut.algebraic, trivial, FfnGateGrad.algebraic,
    trivial, FfnOutGrad.algebraic, trivial, FfnInGrad.algebraic, trivial, FfnInDx.algebraic, trivial,
    NormGrad.algebraic, trivial, SquareOut.algebraic, trivial, SquareDx.algebraic, trivial, SquareGrad.algebraic,
    trivial, XattnFwd.algebraic,
    trivial, MixIn.algebraic, trivial, MixInGrad.algebraic, trivial, MixInDx.algebraic, trivial, MixOutDx.algebraic,
    trivial, GluIn.algebraic, trivial, GluGate.algebraic, trivial, GluGrad.algebraic, trivial, GluDx.algebraic,
    trivial, MemKv.algebraic, trivial, MemKvGrad.algebraic, trivial, MemKvDx.algebraic, trivial,
    LossGrad.algebraic, trivial,
    NormPreGrad.algebraic, trivial,
    NormMemGrad.algebraic, trivial,
    NormPair.algebraic, trivial,
    NormPre.algebraic, trivial,
    NormMem.algebraic, trivial,
    NormFfnPair.algebraic, trivial,
    NormMixGrad.algebraic, trivial,
    Adam.algebraic, trivial,
    RowSum.algebraic⟩

end Cert.Proof

end
